-- ==== Defs.lean ====
def Pre_NpKernel (m : (ℓ : Loc Cert.NpKernel.nD Cert.NpKernel.τ Cert.NpKernel.sig) → Buf (Elt Bits) ℓ) : Prop :=
  True

def Pre_NpKernelIdeal (m : (ℓ : Loc Cert.NpKernelIdeal.nD Cert.NpKernelIdeal.τ Cert.NpKernelIdeal.sig) → Buf (Elt Ideal) ℓ) : Prop :=
  True

def Pre_NpReferenceIdeal (m : (ℓ : Loc Cert.NpReferenceIdeal.nD Cert.NpReferenceIdeal.τ Cert.NpReferenceIdeal.sig) → Buf (Elt Ideal) ℓ) : Prop :=
  True

def Pre_MxKernel (m : (ℓ : Loc Cert.MxKernel.nD Cert.MxKernel.τ Cert.MxKernel.sig) → Buf (Elt Bits) ℓ) : Prop :=
  True

def Pre_MxKernelIdeal (m : (ℓ : Loc Cert.MxKernelIdeal.nD Cert.MxKernelIdeal.τ Cert.MxKernelIdeal.sig) → Buf (Elt Ideal) ℓ) : Prop :=
  True

def Pre_MxReferenceIdeal (m : (ℓ : Loc Cert.MxReferenceIdeal.nD Cert.MxReferenceIdeal.τ Cert.MxReferenceIdeal.sig) → Buf (Elt Ideal) ℓ) : Prop :=
  True

def Pre_WaKernel (m : (ℓ : Loc Cert.WaKernel.nD Cert.WaKernel.τ Cert.WaKernel.sig) → Buf (Elt Bits) ℓ) : Prop :=
  True

def Pre_WaKernelIdeal (m : (ℓ : Loc Cert.WaKernelIdeal.nD Cert.WaKernelIdeal.τ Cert.WaKernelIdeal.sig) → Buf (Elt Ideal) ℓ) : Prop :=
  True

def Pre_WaKernelIdeal_finite [hPre_finite : Cert.Pre_finite.Facts] (m : (ℓ : Loc Cert.WaKernelIdeal.nD Cert.WaKernelIdeal.τ Cert.WaKernelIdeal.sig) → Buf (Elt Ideal) ℓ) : Prop :=
  ∀ c : Dev Cert.WaKernelIdeal.nD,
    (Cert.Pre_finite.fn (F := Ideal) (m ((c.tc : Thread Cert.WaKernelIdeal.nD Cert.WaKernelIdeal.τ).loc Cert.WaKernelIdeal.main_arg0)) (m ((c.tc : Thread Cert.WaKernelIdeal.nD Cert.WaKernelIdeal.τ).loc Cert.WaKernelIdeal.main_arg1)) (m ((c.tc : Thread Cert.WaKernelIdeal.nD Cert.WaKernelIdeal.τ).loc Cert.WaKernelIdeal.main_arg2)) (m ((c.tc : Thread Cert.WaKernelIdeal.nD Cert.WaKernelIdeal.τ).loc Cert.WaKernelIdeal.main_arg3))).1 = (fun _ => 1#1)
    ∧ (Cert.Pre_finite.fn (F := Ideal) (m ((c.tc : Thread Cert.WaKernelIdeal.nD Cert.WaKernelIdeal.τ).loc Cert.WaKernelIdeal.main_arg0)) (m ((c.tc : Thread Cert.WaKernelIdeal.nD Cert.WaKernelIdeal.τ).loc Cert.WaKernelIdeal.main_arg1)) (m ((c.tc : Thread Cert.WaKernelIdeal.nD Cert.WaKernelIdeal.τ).loc Cert.WaKernelIdeal.main_arg2)) (m ((c.tc : Thread Cert.WaKernelIdeal.nD Cert.WaKernelIdeal.τ).loc Cert.WaKernelIdeal.main_arg3))).2.1 = (fun _ => 1#1)
    ∧ (Cert.Pre_finite.fn (F := Ideal) (m ((c.tc : Thread Cert.WaKernelIdeal.nD Cert.WaKernelIdeal.τ).loc Cert.WaKernelIdeal.main_arg0)) (m ((c.tc : Thread Cert.WaKernelIdeal.nD Cert.WaKernelIdeal.τ).loc Cert.WaKernelIdeal.main_arg1)) (m ((c.tc : Thread Cert.WaKernelIdeal.nD Cert.WaKernelIdeal.τ).loc Cert.WaKernelIdeal.main_arg2)) (m ((c.tc : Thread Cert.WaKernelIdeal.nD Cert.WaKernelIdeal.τ).loc Cert.WaKernelIdeal.main_arg3))).2.2.1 = (fun _ => 1#1)
    ∧ (Cert.Pre_finite.fn (F := Ideal) (m ((c.tc : Thread Cert.WaKernelIdeal.nD Cert.WaKernelIdeal.τ).loc Cert.WaKernelIdeal.main_arg0)) (m ((c.tc : Thread Cert.WaKernelIdeal.nD Cert.WaKernelIdeal.τ).loc Cert.WaKernelIdeal.main_arg1)) (m ((c.tc : Thread Cert.WaKernelIdeal.nD Cert.WaKernelIdeal.τ).loc Cert.WaKernelIdeal.main_arg2)) (m ((c.tc : Thread Cert.WaKernelIdeal.nD Cert.WaKernelIdeal.τ).loc Cert.WaKernelIdeal.main_arg3))).2.2.2 = (fun _ => 1#1)

def Pre_WaReferenceIdeal (m : (ℓ : Loc Cert.WaReferenceIdeal.nD Cert.WaReferenceIdeal.τ Cert.WaReferenceIdeal.sig) → Buf (Elt Ideal) ℓ) : Prop :=
  True

def Pre_WaReferenceIdeal_finite [hPre_finite : Cert.Pre_finite.Facts] (m : (ℓ : Loc Cert.WaReferenceIdeal.nD Cert.WaReferenceIdeal.τ Cert.WaReferenceIdeal.sig) → Buf (Elt Ideal) ℓ) : Prop :=
  ∀ c : Dev Cert.WaReferenceIdeal.nD,
    (Cert.Pre_finite.fn (F := Ideal) (m ((c.tc : Thread Cert.WaReferenceIdeal.nD Cert.WaReferenceIdeal.τ).loc Cert.WaReferenceIdeal.main_arg0)) (m ((c.tc : Thread Cert.WaReferenceIdeal.nD Cert.WaReferenceIdeal.τ).loc Cert.WaReferenceIdeal.main_arg1)) (m ((c.tc : Thread Cert.WaReferenceIdeal.nD Cert.WaReferenceIdeal.τ).loc Cert.WaReferenceIdeal.main_arg2)) (m ((c.tc : Thread Cert.WaReferenceIdeal.nD Cert.WaReferenceIdeal.τ).loc Cert.WaReferenceIdeal.main_arg3))).1 = (fun _ => 1#1)
    ∧ (Cert.Pre_finite.fn (F := Ideal) (m ((c.tc : Thread Cert.WaReferenceIdeal.nD Cert.WaReferenceIdeal.τ).loc Cert.WaReferenceIdeal.main_arg0)) (m ((c.tc : Thread Cert.WaReferenceIdeal.nD Cert.WaReferenceIdeal.τ).loc Cert.WaReferenceIdeal.main_arg1)) (m ((c.tc : Thread Cert.WaReferenceIdeal.nD Cert.WaReferenceIdeal.τ).loc Cert.WaReferenceIdeal.main_arg2)) (m ((c.tc : Thread Cert.WaReferenceIdeal.nD Cert.WaReferenceIdeal.τ).loc Cert.WaReferenceIdeal.main_arg3))).2.1 = (fun _ => 1#1)
    ∧ (Cert.Pre_finite.fn (F := Ideal) (m ((c.tc : Thread Cert.WaReferenceIdeal.nD Cert.WaReferenceIdeal.τ).loc Cert.WaReferenceIdeal.main_arg0)) (m ((c.tc : Thread Cert.WaReferenceIdeal.nD Cert.WaReferenceIdeal.τ).loc Cert.WaReferenceIdeal.main_arg1)) (m ((c.tc : Thread Cert.WaReferenceIdeal.nD Cert.WaReferenceIdeal.τ).loc Cert.WaReferenceIdeal.main_arg2)) (m ((c.tc : Thread Cert.WaReferenceIdeal.nD Cert.WaReferenceIdeal.τ).loc Cert.WaReferenceIdeal.main_arg3))).2.2.1 = (fun _ => 1#1)
    ∧ (Cert.Pre_finite.fn (F := Ideal) (m ((c.tc : Thread Cert.WaReferenceIdeal.nD Cert.WaReferenceIdeal.τ).loc Cert.WaReferenceIdeal.main_arg0)) (m ((c.tc : Thread Cert.WaReferenceIdeal.nD Cert.WaReferenceIdeal.τ).loc Cert.WaReferenceIdeal.main_arg1)) (m ((c.tc : Thread Cert.WaReferenceIdeal.nD Cert.WaReferenceIdeal.τ).loc Cert.WaReferenceIdeal.main_arg2)) (m ((c.tc : Thread Cert.WaReferenceIdeal.nD Cert.WaReferenceIdeal.τ).loc Cert.WaReferenceIdeal.main_arg3))).2.2.2 = (fun _ => 1#1)

def Pre_NsKernel (m : (ℓ : Loc Cert.NsKernel.nD Cert.NsKernel.τ Cert.NsKernel.sig) → Buf (Elt Bits) ℓ) : Prop :=
  True

def Pre_NsKernelIdeal (m : (ℓ : Loc Cert.NsKernelIdeal.nD Cert.NsKernelIdeal.τ Cert.NsKernelIdeal.sig) → Buf (Elt Ideal) ℓ) : Prop :=
  True

def Pre_NsReferenceIdeal (m : (ℓ : Loc Cert.NsReferenceIdeal.nD Cert.NsReferenceIdeal.τ Cert.NsReferenceIdeal.sig) → Buf (Elt Ideal) ℓ) : Prop :=
  True

def Pre_MsKernel (m : (ℓ : Loc Cert.MsKernel.nD Cert.MsKernel.τ Cert.MsKernel.sig) → Buf (Elt Bits) ℓ) : Prop :=
  True

def Pre_MsKernelIdeal (m : (ℓ : Loc Cert.MsKernelIdeal.nD Cert.MsKernelIdeal.τ Cert.MsKernelIdeal.sig) → Buf (Elt Ideal) ℓ) : Prop :=
  True

def Pre_MsReferenceIdeal (m : (ℓ : Loc Cert.MsReferenceIdeal.nD Cert.MsReferenceIdeal.τ Cert.MsReferenceIdeal.sig) → Buf (Elt Ideal) ℓ) : Prop :=
  True

def Pre_WsKernel (m : (ℓ : Loc Cert.WsKernel.nD Cert.WsKernel.τ Cert.WsKernel.sig) → Buf (Elt Bits) ℓ) : Prop :=
  True

def Pre_WsKernelIdeal (m : (ℓ : Loc Cert.WsKernelIdeal.nD Cert.WsKernelIdeal.τ Cert.WsKernelIdeal.sig) → Buf (Elt Ideal) ℓ) : Prop :=
  True

def Pre_WsKernelIdeal_finite_sample [hPre_finite_sample : Cert.Pre_finite_sample.Facts] (m : (ℓ : Loc Cert.WsKernelIdeal.nD Cert.WsKernelIdeal.τ Cert.WsKernelIdeal.sig) → Buf (Elt Ideal) ℓ) : Prop :=
  ∀ c : Dev Cert.WsKernelIdeal.nD,
    (Cert.Pre_finite_sample.fn (F := Ideal) (m ((c.tc : Thread Cert.WsKernelIdeal.nD Cert.WsKernelIdeal.τ).loc Cert.WsKernelIdeal.main_arg0)) (m ((c.tc : Thread Cert.WsKernelIdeal.nD Cert.WsKernelIdeal.τ).loc Cert.WsKernelIdeal.main_arg1)) (m ((c.tc : Thread Cert.WsKernelIdeal.nD Cert.WsKernelIdeal.τ).loc Cert.WsKernelIdeal.main_arg2)) (m ((c.tc : Thread Cert.WsKernelIdeal.nD Cert.WsKernelIdeal.τ).loc Cert.WsKernelIdeal.main_arg3))).1 = (fun _ => 1#1)
    ∧ (Cert.Pre_finite_sample.fn (F := Ideal) (m ((c.tc : Thread Cert.WsKernelIdeal.nD Cert.WsKernelIdeal.τ).loc Cert.WsKernelIdeal.main_arg0)) (m ((c.tc : Thread Cert.WsKernelIdeal.nD Cert.WsKernelIdeal.τ).loc Cert.WsKernelIdeal.main_arg1)) (m ((c.tc : Thread Cert.WsKernelIdeal.nD Cert.WsKernelIdeal.τ).loc Cert.WsKernelIdeal.main_arg2)) (m ((c.tc : Thread Cert.WsKernelIdeal.nD Cert.WsKernelIdeal.τ).loc Cert.WsKernelIdeal.main_arg3))).2.1 = (fun _ => 1#1)
    ∧ (Cert.Pre_finite_sample.fn (F := Ideal) (m ((c.tc : Thread Cert.WsKernelIdeal.nD Cert.WsKernelIdeal.τ).loc Cert.WsKernelIdeal.main_arg0)) (m ((c.tc : Thread Cert.WsKernelIdeal.nD Cert.WsKernelIdeal.τ).loc Cert.WsKernelIdeal.main_arg1)) (m ((c.tc : Thread Cert.WsKernelIdeal.nD Cert.WsKernelIdeal.τ).loc Cert.WsKernelIdeal.main_arg2)) (m ((c.tc : Thread Cert.WsKernelIdeal.nD Cert.WsKernelIdeal.τ).loc Cert.WsKernelIdeal.main_arg3))).2.2.1 = (fun _ => 1#1)
    ∧ (Cert.Pre_finite_sample.fn (F := Ideal) (m ((c.tc : Thread Cert.WsKernelIdeal.nD Cert.WsKernelIdeal.τ).loc Cert.WsKernelIdeal.main_arg0)) (m ((c.tc : Thread Cert.WsKernelIdeal.nD Cert.WsKernelIdeal.τ).loc Cert.WsKernelIdeal.main_arg1)) (m ((c.tc : Thread Cert.WsKernelIdeal.nD Cert.WsKernelIdeal.τ).loc Cert.WsKernelIdeal.main_arg2)) (m ((c.tc : Thread Cert.WsKernelIdeal.nD Cert.WsKernelIdeal.τ).loc Cert.WsKernelIdeal.main_arg3))).2.2.2 = (fun _ => 1#1)

def Pre_WsReferenceIdeal (m : (ℓ : Loc Cert.WsReferenceIdeal.nD Cert.WsReferenceIdeal.τ Cert.WsReferenceIdeal.sig) → Buf (Elt Ideal) ℓ) : Prop :=
  True

def Pre_WsReferenceIdeal_finite_sample [hPre_finite_sample : Cert.Pre_finite_sample.Facts] (m : (ℓ : Loc Cert.WsReferenceIdeal.nD Cert.WsReferenceIdeal.τ Cert.WsReferenceIdeal.sig) → Buf (Elt Ideal) ℓ) : Prop :=
  ∀ c : Dev Cert.WsReferenceIdeal.nD,
    (Cert.Pre_finite_sample.fn (F := Ideal) (m ((c.tc : Thread Cert.WsReferenceIdeal.nD Cert.WsReferenceIdeal.τ).loc Cert.WsReferenceIdeal.main_arg0)) (m ((c.tc : Thread Cert.WsReferenceIdeal.nD Cert.WsReferenceIdeal.τ).loc Cert.WsReferenceIdeal.main_arg1)) (m ((c.tc : Thread Cert.WsReferenceIdeal.nD Cert.WsReferenceIdeal.τ).loc Cert.WsReferenceIdeal.main_arg2)) (m ((c.tc : Thread Cert.WsReferenceIdeal.nD Cert.WsReferenceIdeal.τ).loc Cert.WsReferenceIdeal.main_arg3))).1 = (fun _ => 1#1)
    ∧ (Cert.Pre_finite_sample.fn (F := Ideal) (m ((c.tc : Thread Cert.WsReferenceIdeal.nD Cert.WsReferenceIdeal.τ).loc Cert.WsReferenceIdeal.main_arg0)) (m ((c.tc : Thread Cert.WsReferenceIdeal.nD Cert.WsReferenceIdeal.τ).loc Cert.WsReferenceIdeal.main_arg1)) (m ((c.tc : Thread Cert.WsReferenceIdeal.nD Cert.WsReferenceIdeal.τ).loc Cert.WsReferenceIdeal.main_arg2)) (m ((c.tc : Thread Cert.WsReferenceIdeal.nD Cert.WsReferenceIdeal.τ).loc Cert.WsReferenceIdeal.main_arg3))).2.1 = (fun _ => 1#1)
    ∧ (Cert.Pre_finite_sample.fn (F := Ideal) (m ((c.tc : Thread Cert.WsReferenceIdeal.nD Cert.WsReferenceIdeal.τ).loc Cert.WsReferenceIdeal.main_arg0)) (m ((c.tc : Thread Cert.WsReferenceIdeal.nD Cert.WsReferenceIdeal.τ).loc Cert.WsReferenceIdeal.main_arg1)) (m ((c.tc : Thread Cert.WsReferenceIdeal.nD Cert.WsReferenceIdeal.τ).loc Cert.WsReferenceIdeal.main_arg2)) (m ((c.tc : Thread Cert.WsReferenceIdeal.nD Cert.WsReferenceIdeal.τ).loc Cert.WsReferenceIdeal.main_arg3))).2.2.1 = (fun _ => 1#1)
    ∧ (Cert.Pre_finite_sample.fn (F := Ideal) (m ((c.tc : Thread Cert.WsReferenceIdeal.nD Cert.WsReferenceIdeal.τ).loc Cert.WsReferenceIdeal.main_arg0)) (m ((c.tc : Thread Cert.WsReferenceIdeal.nD Cert.WsReferenceIdeal.τ).loc Cert.WsReferenceIdeal.main_arg1)) (m ((c.tc : Thread Cert.WsReferenceIdeal.nD Cert.WsReferenceIdeal.τ).loc Cert.WsReferenceIdeal.main_arg2)) (m ((c.tc : Thread Cert.WsReferenceIdeal.nD Cert.WsReferenceIdeal.τ).loc Cert.WsReferenceIdeal.main_arg3))).2.2.2 = (fun _ => 1#1)

def quiescent_NpKernel [hNpKernel : Cert.NpKernel.Facts] : Prop :=
  ∀ (m : (ℓ : Loc Cert.NpKernel.nD Cert.NpKernel.τ Cert.NpKernel.sig) → Buf (Elt Bits) ℓ) (g : Dev Cert.NpKernel.nD → PrngReg), Pre_NpKernel m →
    θ_run (Cert.NpKernel.defs (F := Bits)) (onTc (τ := Cert.NpKernel.τ) (Cert.NpKernel.main (F := Bits))) ⟨m, fun _ => 0, g⟩ (fun r => (∀ c : Dev Cert.NpKernel.nD,
      r.2.mem ((c.tc : Thread Cert.NpKernel.nD Cert.NpKernel.τ).loc Cert.NpKernel.main_arg0) = m ((c.tc : Thread Cert.NpKernel.nD Cert.NpKernel.τ).loc Cert.NpKernel.main_arg0)
      ∧ r.2.mem ((c.tc : Thread Cert.NpKernel.nD Cert.NpKernel.τ).loc Cert.NpKernel.main_arg1) = m ((c.tc : Thread Cert.NpKernel.nD Cert.NpKernel.τ).loc Cert.NpKernel.main_arg1)
      ∧ r.2.mem ((c.tc : Thread Cert.NpKernel.nD Cert.NpKernel.τ).loc Cert.NpKernel.main_arg2) = m ((c.tc : Thread Cert.NpKernel.nD Cert.NpKernel.τ).loc Cert.NpKernel.main_arg2))
      ∧ r.2.sem = fun _ => 0)

def quiescent_NpKernelIdeal [hNpKernelIdeal : Cert.NpKernelIdeal.Facts] : Prop :=
  ∀ (m : (ℓ : Loc Cert.NpKernelIdeal.nD Cert.NpKernelIdeal.τ Cert.NpKernelIdeal.sig) → Buf (Elt Ideal) ℓ) (g : Dev Cert.NpKernelIdeal.nD → PrngReg), Pre_NpKernelIdeal m →
    θ_run (Cert.NpKernelIdeal.defs (F := Ideal)) (onTc (τ := Cert.NpKernelIdeal.τ) (Cert.NpKernelIdeal.main (F := Ideal))) ⟨m, fun _ => 0, g⟩ (fun r => (∀ c : Dev Cert.NpKernelIdeal.nD,
      r.2.mem ((c.tc : Thread Cert.NpKernelIdeal.nD Cert.NpKernelIdeal.τ).loc Cert.NpKernelIdeal.main_arg0) = m ((c.tc : Thread Cert.NpKernelIdeal.nD Cert.NpKernelIdeal.τ).loc Cert.NpKernelIdeal.main_arg0)
      ∧ r.2.mem ((c.tc : Thread Cert.NpKernelIdeal.nD Cert.NpKernelIdeal.τ).loc Cert.NpKernelIdeal.main_arg1) = m ((c.tc : Thread Cert.NpKernelIdeal.nD Cert.NpKernelIdeal.τ).loc Cert.NpKernelIdeal.main_arg1)
      ∧ r.2.mem ((c.tc : Thread Cert.NpKernelIdeal.nD Cert.NpKernelIdeal.τ).loc Cert.NpKernelIdeal.main_arg2) = m ((c.tc : Thread Cert.NpKernelIdeal.nD Cert.NpKernelIdeal.τ).loc Cert.NpKernelIdeal.main_arg2))
      ∧ r.2.sem = fun _ => 0)

def quiescent_NpReferenceIdeal [hNpReferenceIdeal : Cert.NpReferenceIdeal.Facts] : Prop :=
  ∀ (m : (ℓ : Loc Cert.NpReferenceIdeal.nD Cert.NpReferenceIdeal.τ Cert.NpReferenceIdeal.sig) → Buf (Elt Ideal) ℓ) (g : Dev Cert.NpReferenceIdeal.nD → PrngReg), Pre_NpReferenceIdeal m →
    θ_run (Cert.NpReferenceIdeal.defs (F := Ideal)) (onTc (τ := Cert.NpReferenceIdeal.τ) (Cert.NpReferenceIdeal.main (F := Ideal))) ⟨m, fun _ => 0, g⟩ (fun r => (∀ c : Dev Cert.NpReferenceIdeal.nD,
      r.2.mem ((c.tc : Thread Cert.NpReferenceIdeal.nD Cert.NpReferenceIdeal.τ).loc Cert.NpReferenceIdeal.main_arg0) = m ((c.tc : Thread Cert.NpReferenceIdeal.nD Cert.NpReferenceIdeal.τ).loc Cert.NpReferenceIdeal.main_arg0)
      ∧ r.2.mem ((c.tc : Thread Cert.NpReferenceIdeal.nD Cert.NpReferenceIdeal.τ).loc Cert.NpReferenceIdeal.main_arg1) = m ((c.tc : Thread Cert.NpReferenceIdeal.nD Cert.NpReferenceIdeal.τ).loc Cert.NpReferenceIdeal.main_arg1)
      ∧ r.2.mem ((c.tc : Thread Cert.NpReferenceIdeal.nD Cert.NpReferenceIdeal.τ).loc Cert.NpReferenceIdeal.main_arg2) = m ((c.tc : Thread Cert.NpReferenceIdeal.nD Cert.NpReferenceIdeal.τ).loc Cert.NpReferenceIdeal.main_arg2))
      ∧ r.2.sem = fun _ => 0)

def quiescent_MxKernel [hMxKernel : Cert.MxKernel.Facts] : Prop :=
  ∀ (m : (ℓ : Loc Cert.MxKernel.nD Cert.MxKernel.τ Cert.MxKernel.sig) → Buf (Elt Bits) ℓ) (g : Dev Cert.MxKernel.nD → PrngReg), Pre_MxKernel m →
    θ_run (Cert.MxKernel.defs (F := Bits)) (onTc (τ := Cert.MxKernel.τ) (Cert.MxKernel.main (F := Bits))) ⟨m, fun _ => 0, g⟩ (fun r => (∀ c : Dev Cert.MxKernel.nD,
      r.2.mem ((c.tc : Thread Cert.MxKernel.nD Cert.MxKernel.τ).loc Cert.MxKernel.main_arg0) = m ((c.tc : Thread Cert.MxKernel.nD Cert.MxKernel.τ).loc Cert.MxKernel.main_arg0)
      ∧ r.2.mem ((c.tc : Thread Cert.MxKernel.nD Cert.MxKernel.τ).loc Cert.MxKernel.main_arg1) = m ((c.tc : Thread Cert.MxKernel.nD Cert.MxKernel.τ).loc Cert.MxKernel.main_arg1)
      ∧ r.2.mem ((c.tc : Thread Cert.MxKernel.nD Cert.MxKernel.τ).loc Cert.MxKernel.main_arg2) = m ((c.tc : Thread Cert.MxKernel.nD Cert.MxKernel.τ).loc Cert.MxKernel.main_arg2)
      ∧ r.2.mem ((c.tc : Thread Cert.MxKernel.nD Cert.MxKernel.τ).loc Cert.MxKernel.main_arg3) = m ((c.tc : Thread Cert.MxKernel.nD Cert.MxKernel.τ).loc Cert.MxKernel.main_arg3)
      ∧ r.2.mem ((c.tc : Thread Cert.MxKernel.nD Cert.MxKernel.τ).loc Cert.MxKernel.main_arg4) = m ((c.tc : Thread Cert.MxKernel.nD Cert.MxKernel.τ).loc Cert.MxKernel.main_arg4)
      ∧ r.2.mem ((c.tc : Thread Cert.MxKernel.nD Cert.MxKernel.τ).loc Cert.MxKernel.main_arg5) = m ((c.tc : Thread Cert.MxKernel.nD Cert.MxKernel.τ).loc Cert.MxKernel.main_arg5)
      ∧ r.2.mem ((c.tc : Thread Cert.MxKernel.nD Cert.MxKernel.τ).loc Cert.MxKernel.main_arg6) = m ((c.tc : Thread Cert.MxKernel.nD Cert.MxKernel.τ).loc Cert.MxKernel.main_arg6)
      ∧ r.2.mem ((c.tc : Thread Cert.MxKernel.nD Cert.MxKernel.τ).loc Cert.MxKernel.main_arg7) = m ((c.tc : Thread Cert.MxKernel.nD Cert.MxKernel.τ).loc Cert.MxKernel.main_arg7))
      ∧ r.2.sem = fun _ => 0)

def quiescent_MxKernelIdeal [hMxKernelIdeal : Cert.MxKernelIdeal.Facts] : Prop :=
  ∀ (m : (ℓ : Loc Cert.MxKernelIdeal.nD Cert.MxKernelIdeal.τ Cert.MxKernelIdeal.sig) → Buf (Elt Ideal) ℓ) (g : Dev Cert.MxKernelIdeal.nD → PrngReg), Pre_MxKernelIdeal m →
    θ_run (Cert.MxKernelIdeal.defs (F := Ideal)) (onTc (τ := Cert.MxKernelIdeal.τ) (Cert.MxKernelIdeal.main (F := Ideal))) ⟨m, fun _ => 0, g⟩ (fun r => (∀ c : Dev Cert.MxKernelIdeal.nD,
      r.2.mem ((c.tc : Thread Cert.MxKernelIdeal.nD Cert.MxKernelIdeal.τ).loc Cert.MxKernelIdeal.main_arg0) = m ((c.tc : Thread Cert.MxKernelIdeal.nD Cert.MxKernelIdeal.τ).loc Cert.MxKernelIdeal.main_arg0)
      ∧ r.2.mem ((c.tc : Thread Cert.MxKernelIdeal.nD Cert.MxKernelIdeal.τ).loc Cert.MxKernelIdeal.main_arg1) = m ((c.tc : Thread Cert.MxKernelIdeal.nD Cert.MxKernelIdeal.τ).loc Cert.MxKernelIdeal.main_arg1)
      ∧ r.2.mem ((c.tc : Thread Cert.MxKernelIdeal.nD Cert.MxKernelIdeal.τ).loc Cert.MxKernelIdeal.main_arg2) = m ((c.tc : Thread Cert.MxKernelIdeal.nD Cert.MxKernelIdeal.τ).loc Cert.MxKernelIdeal.main_arg2)
      ∧ r.2.mem ((c.tc : Thread Cert.MxKernelIdeal.nD Cert.MxKernelIdeal.τ).loc Cert.MxKernelIdeal.main_arg3) = m ((c.tc : Thread Cert.MxKernelIdeal.nD Cert.MxKernelIdeal.τ).loc Cert.MxKernelIdeal.main_arg3)
      ∧ r.2.mem ((c.tc : Thread Cert.MxKernelIdeal.nD Cert.MxKernelIdeal.τ).loc Cert.MxKernelIdeal.main_arg4) = m ((c.tc : Thread Cert.MxKernelIdeal.nD Cert.MxKernelIdeal.τ).loc Cert.MxKernelIdeal.main_arg4)
      ∧ r.2.mem ((c.tc : Thread Cert.MxKernelIdeal.nD Cert.MxKernelIdeal.τ).loc Cert.MxKernelIdeal.main_arg5) = m ((c.tc : Thread Cert.MxKernelIdeal.nD Cert.MxKernelIdeal.τ).loc Cert.MxKernelIdeal.main_arg5)
      ∧ r.2.mem ((c.tc : Thread Cert.MxKernelIdeal.nD Cert.MxKernelIdeal.τ).loc Cert.MxKernelIdeal.main_arg6) = m ((c.tc : Thread Cert.MxKernelIdeal.nD Cert.MxKernelIdeal.τ).loc Cert.MxKernelIdeal.main_arg6)
      ∧ r.2.mem ((c.tc : Thread Cert.MxKernelIdeal.nD Cert.MxKernelIdeal.τ).loc Cert.MxKernelIdeal.main_arg7) = m ((c.tc : Thread Cert.MxKernelIdeal.nD Cert.MxKernelIdeal.τ).loc Cert.MxKernelIdeal.main_arg7))
      ∧ r.2.sem = fun _ => 0)

def quiescent_MxReferenceIdeal [hMxReferenceIdeal : Cert.MxReferenceIdeal.Facts] : Prop :=
  ∀ (m : (ℓ : Loc Cert.MxReferenceIdeal.nD Cert.MxReferenceIdeal.τ Cert.MxReferenceIdeal.sig) → Buf (Elt Ideal) ℓ) (g : Dev Cert.MxReferenceIdeal.nD → PrngReg), Pre_MxReferenceIdeal m →
    θ_run (Cert.MxReferenceIdeal.defs (F := Ideal)) (onTc (τ := Cert.MxReferenceIdeal.τ) (Cert.MxReferenceIdeal.main (F := Ideal))) ⟨m, fun _ => 0, g⟩ (fun r => (∀ c : Dev Cert.MxReferenceIdeal.nD,
      r.2.mem ((c.tc : Thread Cert.MxReferenceIdeal.nD Cert.MxReferenceIdeal.τ).loc Cert.MxReferenceIdeal.main_arg0) = m ((c.tc : Thread Cert.MxReferenceIdeal.nD Cert.MxReferenceIdeal.τ).loc Cert.MxReferenceIdeal.main_arg0)
      ∧ r.2.mem ((c.tc : Thread Cert.MxReferenceIdeal.nD Cert.MxReferenceIdeal.τ).loc Cert.MxReferenceIdeal.main_arg1) = m ((c.tc : Thread Cert.MxReferenceIdeal.nD Cert.MxReferenceIdeal.τ).loc Cert.MxReferenceIdeal.main_arg1)
      ∧ r.2.mem ((c.tc : Thread Cert.MxReferenceIdeal.nD Cert.MxReferenceIdeal.τ).loc Cert.MxReferenceIdeal.main_arg2) = m ((c.tc : Thread Cert.MxReferenceIdeal.nD Cert.MxReferenceIdeal.τ).loc Cert.MxReferenceIdeal.main_arg2)
      ∧ r.2.mem ((c.tc : Thread Cert.MxReferenceIdeal.nD Cert.MxReferenceIdeal.τ).loc Cert.MxReferenceIdeal.main_arg3) = m ((c.tc : Thread Cert.MxReferenceIdeal.nD Cert.MxReferenceIdeal.τ).loc Cert.MxReferenceIdeal.main_arg3)
      ∧ r.2.mem ((c.tc : Thread Cert.MxReferenceIdeal.nD Cert.MxReferenceIdeal.τ).loc Cert.MxReferenceIdeal.main_arg4) = m ((c.tc : Thread Cert.MxReferenceIdeal.nD Cert.MxReferenceIdeal.τ).loc Cert.MxReferenceIdeal.main_arg4)
      ∧ r.2.mem ((c.tc : Thread Cert.MxReferenceIdeal.nD Cert.MxReferenceIdeal.τ).loc Cert.MxReferenceIdeal.main_arg5) = m ((c.tc : Thread Cert.MxReferenceIdeal.nD Cert.MxReferenceIdeal.τ).loc Cert.MxReferenceIdeal.main_arg5)
      ∧ r.2.mem ((c.tc : Thread Cert.MxReferenceIdeal.nD Cert.MxReferenceIdeal.τ).loc Cert.MxReferenceIdeal.main_arg6) = m ((c.tc : Thread Cert.MxReferenceIdeal.nD Cert.MxReferenceIdeal.τ).loc Cert.MxReferenceIdeal.main_arg6)
      ∧ r.2.mem ((c.tc : Thread Cert.MxReferenceIdeal.nD Cert.MxReferenceIdeal.τ).loc Cert.MxReferenceIdeal.main_arg7) = m ((c.tc : Thread Cert.MxReferenceIdeal.nD Cert.MxReferenceIdeal.τ).loc Cert.MxReferenceIdeal.main_arg7))
      ∧ r.2.sem = fun _ => 0)

def quiescent_WaKernel [hWaKernel : Cert.WaKernel.Facts] : Prop :=
  ∀ (m : (ℓ : Loc Cert.WaKernel.nD Cert.WaKernel.τ Cert.WaKernel.sig) → Buf (Elt Bits) ℓ) (g : Dev Cert.WaKernel.nD → PrngReg), Pre_WaKernel m →
    θ_run (Cert.WaKernel.defs (F := Bits)) (onTc (τ := Cert.WaKernel.τ) (Cert.WaKernel.main (F := Bits))) ⟨m, fun _ => 0, g⟩ (fun r => (∀ c : Dev Cert.WaKernel.nD,
      r.2.mem ((c.tc : Thread Cert.WaKernel.nD Cert.WaKernel.τ).loc Cert.WaKernel.main_arg0) = m ((c.tc : Thread Cert.WaKernel.nD Cert.WaKernel.τ).loc Cert.WaKernel.main_arg0)
      ∧ r.2.mem ((c.tc : Thread Cert.WaKernel.nD Cert.WaKernel.τ).loc Cert.WaKernel.main_arg1) = m ((c.tc : Thread Cert.WaKernel.nD Cert.WaKernel.τ).loc Cert.WaKernel.main_arg1)
      ∧ r.2.mem ((c.tc : Thread Cert.WaKernel.nD Cert.WaKernel.τ).loc Cert.WaKernel.main_arg2) = m ((c.tc : Thread Cert.WaKernel.nD Cert.WaKernel.τ).loc Cert.WaKernel.main_arg2)
      ∧ r.2.mem ((c.tc : Thread Cert.WaKernel.nD Cert.WaKernel.τ).loc Cert.WaKernel.main_arg3) = m ((c.tc : Thread Cert.WaKernel.nD Cert.WaKernel.τ).loc Cert.WaKernel.main_arg3))
      ∧ r.2.sem = fun _ => 0)

def quiescent_WaKernelIdeal [hWaKernelIdeal : Cert.WaKernelIdeal.Facts] : Prop :=
  ∀ (m : (ℓ : Loc Cert.WaKernelIdeal.nD Cert.WaKernelIdeal.τ Cert.WaKernelIdeal.sig) → Buf (Elt Ideal) ℓ) (g : Dev Cert.WaKernelIdeal.nD → PrngReg), Pre_WaKernelIdeal m →
    θ_run (Cert.WaKernelIdeal.defs (F := Ideal)) (onTc (τ := Cert.WaKernelIdeal.τ) (Cert.WaKernelIdeal.main (F := Ideal))) ⟨m, fun _ => 0, g⟩ (fun r => (∀ c : Dev Cert.WaKernelIdeal.nD,
      r.2.mem ((c.tc : Thread Cert.WaKernelIdeal.nD Cert.WaKernelIdeal.τ).loc Cert.WaKernelIdeal.main_arg0) = m ((c.tc : Thread Cert.WaKernelIdeal.nD Cert.WaKernelIdeal.τ).loc Cert.WaKernelIdeal.main_arg0)
      ∧ r.2.mem ((c.tc : Thread Cert.WaKernelIdeal.nD Cert.WaKernelIdeal.τ).loc Cert.WaKernelIdeal.main_arg1) = m ((c.tc : Thread Cert.WaKernelIdeal.nD Cert.WaKernelIdeal.τ).loc Cert.WaKernelIdeal.main_arg1)
      ∧ r.2.mem ((c.tc : Thread Cert.WaKernelIdeal.nD Cert.WaKernelIdeal.τ).loc Cert.WaKernelIdeal.main_arg2) = m ((c.tc : Thread Cert.WaKernelIdeal.nD Cert.WaKernelIdeal.τ).loc Cert.WaKernelIdeal.main_arg2)
      ∧ r.2.mem ((c.tc : Thread Cert.WaKernelIdeal.nD Cert.WaKernelIdeal.τ).loc Cert.WaKernelIdeal.main_arg3) = m ((c.tc : Thread Cert.WaKernelIdeal.nD Cert.WaKernelIdeal.τ).loc Cert.WaKernelIdeal.main_arg3))
      ∧ r.2.sem = fun _ => 0)

def quiescent_WaKernelIdeal_pre_finite [hWaKernelIdeal : Cert.WaKernelIdeal.Facts] [hPre_finite : Cert.Pre_finite.Facts] : Prop :=
  ∀ (m : (ℓ : Loc Cert.WaKernelIdeal.nD Cert.WaKernelIdeal.τ Cert.WaKernelIdeal.sig) → Buf (Elt Ideal) ℓ) (g : Dev Cert.WaKernelIdeal.nD → PrngReg), Pre_WaKernelIdeal_finite m →
    θ_run (Cert.WaKernelIdeal.defs (F := Ideal)) (onTc (τ := Cert.WaKernelIdeal.τ) (Cert.WaKernelIdeal.main (F := Ideal))) ⟨m, fun _ => 0, g⟩ (fun r => (∀ c : Dev Cert.WaKernelIdeal.nD,
      r.2.mem ((c.tc : Thread Cert.WaKernelIdeal.nD Cert.WaKernelIdeal.τ).loc Cert.WaKernelIdeal.main_arg0) = m ((c.tc : Thread Cert.WaKernelIdeal.nD Cert.WaKernelIdeal.τ).loc Cert.WaKernelIdeal.main_arg0)
      ∧ r.2.mem ((c.tc : Thread Cert.WaKernelIdeal.nD Cert.WaKernelIdeal.τ).loc Cert.WaKernelIdeal.main_arg1) = m ((c.tc : Thread Cert.WaKernelIdeal.nD Cert.WaKernelIdeal.τ).loc Cert.WaKernelIdeal.main_arg1)
      ∧ r.2.mem ((c.tc : Thread Cert.WaKernelIdeal.nD Cert.WaKernelIdeal.τ).loc Cert.WaKernelIdeal.main_arg2) = m ((c.tc : Thread Cert.WaKernelIdeal.nD Cert.WaKernelIdeal.τ).loc Cert.WaKernelIdeal.main_arg2)
      ∧ r.2.mem ((c.tc : Thread Cert.WaKernelIdeal.nD Cert.WaKernelIdeal.τ).loc Cert.WaKernelIdeal.main_arg3) = m ((c.tc : Thread Cert.WaKernelIdeal.nD Cert.WaKernelIdeal.τ).loc Cert.WaKernelIdeal.main_arg3))
      ∧ r.2.sem = fun _ => 0)

def quiescent_WaReferenceIdeal [hWaReferenceIdeal : Cert.WaReferenceIdeal.Facts] : Prop :=
  ∀ (m : (ℓ : Loc Cert.WaReferenceIdeal.nD Cert.WaReferenceIdeal.τ Cert.WaReferenceIdeal.sig) → Buf (Elt Ideal) ℓ) (g : Dev Cert.WaReferenceIdeal.nD → PrngReg), Pre_WaReferenceIdeal m →
    θ_run (Cert.WaReferenceIdeal.defs (F := Ideal)) (onTc (τ := Cert.WaReferenceIdeal.τ) (Cert.WaReferenceIdeal.main (F := Ideal))) ⟨m, fun _ => 0, g⟩ (fun r => (∀ c : Dev Cert.WaReferenceIdeal.nD,
      r.2.mem ((c.tc : Thread Cert.WaReferenceIdeal.nD Cert.WaReferenceIdeal.τ).loc Cert.WaReferenceIdeal.main_arg0) = m ((c.tc : Thread Cert.WaReferenceIdeal.nD Cert.WaReferenceIdeal.τ).loc Cert.WaReferenceIdeal.main_arg0)
      ∧ r.2.mem ((c.tc : Thread Cert.WaReferenceIdeal.nD Cert.WaReferenceIdeal.τ).loc Cert.WaReferenceIdeal.main_arg1) = m ((c.tc : Thread Cert.WaReferenceIdeal.nD Cert.WaReferenceIdeal.τ).loc Cert.WaReferenceIdeal.main_arg1)
      ∧ r.2.mem ((c.tc : Thread Cert.WaReferenceIdeal.nD Cert.WaReferenceIdeal.τ).loc Cert.WaReferenceIdeal.main_arg2) = m ((c.tc : Thread Cert.WaReferenceIdeal.nD Cert.WaReferenceIdeal.τ).loc Cert.WaReferenceIdeal.main_arg2)
      ∧ r.2.mem ((c.tc : Thread Cert.WaReferenceIdeal.nD Cert.WaReferenceIdeal.τ).loc Cert.WaReferenceIdeal.main_arg3) = m ((c.tc : Thread Cert.WaReferenceIdeal.nD Cert.WaReferenceIdeal.τ).loc Cert.WaReferenceIdeal.main_arg3))
      ∧ r.2.sem = fun _ => 0)

def quiescent_WaReferenceIdeal_pre_finite [hWaReferenceIdeal : Cert.WaReferenceIdeal.Facts] [hPre_finite : Cert.Pre_finite.Facts] : Prop :=
  ∀ (m : (ℓ : Loc Cert.WaReferenceIdeal.nD Cert.WaReferenceIdeal.τ Cert.WaReferenceIdeal.sig) → Buf (Elt Ideal) ℓ) (g : Dev Cert.WaReferenceIdeal.nD → PrngReg), Pre_WaReferenceIdeal_finite m →
    θ_run (Cert.WaReferenceIdeal.defs (F := Ideal)) (onTc (τ := Cert.WaReferenceIdeal.τ) (Cert.WaReferenceIdeal.main (F := Ideal))) ⟨m, fun _ => 0, g⟩ (fun r => (∀ c : Dev Cert.WaReferenceIdeal.nD,
      r.2.mem ((c.tc : Thread Cert.WaReferenceIdeal.nD Cert.WaReferenceIdeal.τ).loc Cert.WaReferenceIdeal.main_arg0) = m ((c.tc : Thread Cert.WaReferenceIdeal.nD Cert.WaReferenceIdeal.τ).loc Cert.WaReferenceIdeal.main_arg0)
      ∧ r.2.mem ((c.tc : Thread Cert.WaReferenceIdeal.nD Cert.WaReferenceIdeal.τ).loc Cert.WaReferenceIdeal.main_arg1) = m ((c.tc : Thread Cert.WaReferenceIdeal.nD Cert.WaReferenceIdeal.τ).loc Cert.WaReferenceIdeal.main_arg1)
      ∧ r.2.mem ((c.tc : Thread Cert.WaReferenceIdeal.nD Cert.WaReferenceIdeal.τ).loc Cert.WaReferenceIdeal.main_arg2) = m ((c.tc : Thread Cert.WaReferenceIdeal.nD Cert.WaReferenceIdeal.τ).loc Cert.WaReferenceIdeal.main_arg2)
      ∧ r.2.mem ((c.tc : Thread Cert.WaReferenceIdeal.nD Cert.WaReferenceIdeal.τ).loc Cert.WaReferenceIdeal.main_arg3) = m ((c.tc : Thread Cert.WaReferenceIdeal.nD Cert.WaReferenceIdeal.τ).loc Cert.WaReferenceIdeal.main_arg3))
      ∧ r.2.sem = fun _ => 0)

def quiescent_NsKernel [hNsKernel : Cert.NsKernel.Facts] : Prop :=
  ∀ (m : (ℓ : Loc Cert.NsKernel.nD Cert.NsKernel.τ Cert.NsKernel.sig) → Buf (Elt Bits) ℓ) (g : Dev Cert.NsKernel.nD → PrngReg), Pre_NsKernel m →
    θ_run (Cert.NsKernel.defs (F := Bits)) (onTc (τ := Cert.NsKernel.τ) (Cert.NsKernel.main (F := Bits))) ⟨m, fun _ => 0, g⟩ (fun r => (∀ c : Dev Cert.NsKernel.nD,
      r.2.mem ((c.tc : Thread Cert.NsKernel.nD Cert.NsKernel.τ).loc Cert.NsKernel.main_arg0) = m ((c.tc : Thread Cert.NsKernel.nD Cert.NsKernel.τ).loc Cert.NsKernel.main_arg0)
      ∧ r.2.mem ((c.tc : Thread Cert.NsKernel.nD Cert.NsKernel.τ).loc Cert.NsKernel.main_arg1) = m ((c.tc : Thread Cert.NsKernel.nD Cert.NsKernel.τ).loc Cert.NsKernel.main_arg1)
      ∧ r.2.mem ((c.tc : Thread Cert.NsKernel.nD Cert.NsKernel.τ).loc Cert.NsKernel.main_arg2) = m ((c.tc : Thread Cert.NsKernel.nD Cert.NsKernel.τ).loc Cert.NsKernel.main_arg2))
      ∧ r.2.sem = fun _ => 0)

def quiescent_NsKernelIdeal [hNsKernelIdeal : Cert.NsKernelIdeal.Facts] : Prop :=
  ∀ (m : (ℓ : Loc Cert.NsKernelIdeal.nD Cert.NsKernelIdeal.τ Cert.NsKernelIdeal.sig) → Buf (Elt Ideal) ℓ) (g : Dev Cert.NsKernelIdeal.nD → PrngReg), Pre_NsKernelIdeal m →
    θ_run (Cert.NsKernelIdeal.defs (F := Ideal)) (onTc (τ := Cert.NsKernelIdeal.τ) (Cert.NsKernelIdeal.main (F := Ideal))) ⟨m, fun _ => 0, g⟩ (fun r => (∀ c : Dev Cert.NsKernelIdeal.nD,
      r.2.mem ((c.tc : Thread Cert.NsKernelIdeal.nD Cert.NsKernelIdeal.τ).loc Cert.NsKernelIdeal.main_arg0) = m ((c.tc : Thread Cert.NsKernelIdeal.nD Cert.NsKernelIdeal.τ).loc Cert.NsKernelIdeal.main_arg0)
      ∧ r.2.mem ((c.tc : Thread Cert.NsKernelIdeal.nD Cert.NsKernelIdeal.τ).loc Cert.NsKernelIdeal.main_arg1) = m ((c.tc : Thread Cert.NsKernelIdeal.nD Cert.NsKernelIdeal.τ).loc Cert.NsKernelIdeal.main_arg1)
      ∧ r.2.mem ((c.tc : Thread Cert.NsKernelIdeal.nD Cert.NsKernelIdeal.τ).loc Cert.NsKernelIdeal.main_arg2) = m ((c.tc : Thread Cert.NsKernelIdeal.nD Cert.NsKernelIdeal.τ).loc Cert.NsKernelIdeal.main_arg2))
      ∧ r.2.sem = fun _ => 0)

def quiescent_NsReferenceIdeal [hNsReferenceIdeal : Cert.NsReferenceIdeal.Facts] : Prop :=
  ∀ (m : (ℓ : Loc Cert.NsReferenceIdeal.nD Cert.NsReferenceIdeal.τ Cert.NsReferenceIdeal.sig) → Buf (Elt Ideal) ℓ) (g : Dev Cert.NsReferenceIdeal.nD → PrngReg), Pre_NsReferenceIdeal m →
    θ_run (Cert.NsReferenceIdeal.defs (F := Ideal)) (onTc (τ := Cert.NsReferenceIdeal.τ) (Cert.NsReferenceIdeal.main (F := Ideal))) ⟨m, fun _ => 0, g⟩ (fun r => (∀ c : Dev Cert.NsReferenceIdeal.nD,
      r.2.mem ((c.tc : Thread Cert.NsReferenceIdeal.nD Cert.NsReferenceIdeal.τ).loc Cert.NsReferenceIdeal.main_arg0) = m ((c.tc : Thread Cert.NsReferenceIdeal.nD Cert.NsReferenceIdeal.τ).loc Cert.NsReferenceIdeal.main_arg0)
      ∧ r.2.mem ((c.tc : Thread Cert.NsReferenceIdeal.nD Cert.NsReferenceIdeal.τ).loc Cert.NsReferenceIdeal.main_arg1) = m ((c.tc : Thread Cert.NsReferenceIdeal.nD Cert.NsReferenceIdeal.τ).loc Cert.NsReferenceIdeal.main_arg1)
      ∧ r.2.mem ((c.tc : Thread Cert.NsReferenceIdeal.nD Cert.NsReferenceIdeal.τ).loc Cert.NsReferenceIdeal.main_arg2) = m ((c.tc : Thread Cert.NsReferenceIdeal.nD Cert.NsReferenceIdeal.τ).loc Cert.NsReferenceIdeal.main_arg2))
      ∧ r.2.sem = fun _ => 0)

def quiescent_MsKernel [hMsKernel : Cert.MsKernel.Facts] : Prop :=
  ∀ (m : (ℓ : Loc Cert.MsKernel.nD Cert.MsKernel.τ Cert.MsKernel.sig) → Buf (Elt Bits) ℓ) (g : Dev Cert.MsKernel.nD → PrngReg), Pre_MsKernel m →
    θ_run (Cert.MsKernel.defs (F := Bits)) (onTc (τ := Cert.MsKernel.τ) (Cert.MsKernel.main (F := Bits))) ⟨m, fun _ => 0, g⟩ (fun r => (∀ c : Dev Cert.MsKernel.nD,
      r.2.mem ((c.tc : Thread Cert.MsKernel.nD Cert.MsKernel.τ).loc Cert.MsKernel.main_arg0) = m ((c.tc : Thread Cert.MsKernel.nD Cert.MsKernel.τ).loc Cert.MsKernel.main_arg0)
      ∧ r.2.mem ((c.tc : Thread Cert.MsKernel.nD Cert.MsKernel.τ).loc Cert.MsKernel.main_arg1) = m ((c.tc : Thread Cert.MsKernel.nD Cert.MsKernel.τ).loc Cert.MsKernel.main_arg1)
      ∧ r.2.mem ((c.tc : Thread Cert.MsKernel.nD Cert.MsKernel.τ).loc Cert.MsKernel.main_arg2) = m ((c.tc : Thread Cert.MsKernel.nD Cert.MsKernel.τ).loc Cert.MsKernel.main_arg2)
      ∧ r.2.mem ((c.tc : Thread Cert.MsKernel.nD Cert.MsKernel.τ).loc Cert.MsKernel.main_arg3) = m ((c.tc : Thread Cert.MsKernel.nD Cert.MsKernel.τ).loc Cert.MsKernel.main_arg3)
      ∧ r.2.mem ((c.tc : Thread Cert.MsKernel.nD Cert.MsKernel.τ).loc Cert.MsKernel.main_arg4) = m ((c.tc : Thread Cert.MsKernel.nD Cert.MsKernel.τ).loc Cert.MsKernel.main_arg4)
      ∧ r.2.mem ((c.tc : Thread Cert.MsKernel.nD Cert.MsKernel.τ).loc Cert.MsKernel.main_arg5) = m ((c.tc : Thread Cert.MsKernel.nD Cert.MsKernel.τ).loc Cert.MsKernel.main_arg5)
      ∧ r.2.mem ((c.tc : Thread Cert.MsKernel.nD Cert.MsKernel.τ).loc Cert.MsKernel.main_arg6) = m ((c.tc : Thread Cert.MsKernel.nD Cert.MsKernel.τ).loc Cert.MsKernel.main_arg6)
      ∧ r.2.mem ((c.tc : Thread Cert.MsKernel.nD Cert.MsKernel.τ).loc Cert.MsKernel.main_arg7) = m ((c.tc : Thread Cert.MsKernel.nD Cert.MsKernel.τ).loc Cert.MsKernel.main_arg7))
      ∧ r.2.sem = fun _ => 0)

def quiescent_MsKernelIdeal [hMsKernelIdeal : Cert.MsKernelIdeal.Facts] : Prop :=
  ∀ (m : (ℓ : Loc Cert.MsKernelIdeal.nD Cert.MsKernelIdeal.τ Cert.MsKernelIdeal.sig) → Buf (Elt Ideal) ℓ) (g : Dev Cert.MsKernelIdeal.nD → PrngReg), Pre_MsKernelIdeal m →
    θ_run (Cert.MsKernelIdeal.defs (F := Ideal)) (onTc (τ := Cert.MsKernelIdeal.τ) (Cert.MsKernelIdeal.main (F := Ideal))) ⟨m, fun _ => 0, g⟩ (fun r => (∀ c : Dev Cert.MsKernelIdeal.nD,
      r.2.mem ((c.tc : Thread Cert.MsKernelIdeal.nD Cert.MsKernelIdeal.τ).loc Cert.MsKernelIdeal.main_arg0) = m ((c.tc : Thread Cert.MsKernelIdeal.nD Cert.MsKernelIdeal.τ).loc Cert.MsKernelIdeal.main_arg0)
      ∧ r.2.mem ((c.tc : Thread Cert.MsKernelIdeal.nD Cert.MsKernelIdeal.τ).loc Cert.MsKernelIdeal.main_arg1) = m ((c.tc : Thread Cert.MsKernelIdeal.nD Cert.MsKernelIdeal.τ).loc Cert.MsKernelIdeal.main_arg1)
      ∧ r.2.mem ((c.tc : Thread Cert.MsKernelIdeal.nD Cert.MsKernelIdeal.τ).loc Cert.MsKernelIdeal.main_arg2) = m ((c.tc : Thread Cert.MsKernelIdeal.nD Cert.MsKernelIdeal.τ).loc Cert.MsKernelIdeal.main_arg2)
      ∧ r.2.mem ((c.tc : Thread Cert.MsKernelIdeal.nD Cert.MsKernelIdeal.τ).loc Cert.MsKernelIdeal.main_arg3) = m ((c.tc : Thread Cert.MsKernelIdeal.nD Cert.MsKernelIdeal.τ).loc Cert.MsKernelIdeal.main_arg3)
      ∧ r.2.mem ((c.tc : Thread Cert.MsKernelIdeal.nD Cert.MsKernelIdeal.τ).loc Cert.MsKernelIdeal.main_arg4) = m ((c.tc : Thread Cert.MsKernelIdeal.nD Cert.MsKernelIdeal.τ).loc Cert.MsKernelIdeal.main_arg4)
      ∧ r.2.mem ((c.tc : Thread Cert.MsKernelIdeal.nD Cert.MsKernelIdeal.τ).loc Cert.MsKernelIdeal.main_arg5) = m ((c.tc : Thread Cert.MsKernelIdeal.nD Cert.MsKernelIdeal.τ).loc Cert.MsKernelIdeal.main_arg5)
      ∧ r.2.mem ((c.tc : Thread Cert.MsKernelIdeal.nD Cert.MsKernelIdeal.τ).loc Cert.MsKernelIdeal.main_arg6) = m ((c.tc : Thread Cert.MsKernelIdeal.nD Cert.MsKernelIdeal.τ).loc Cert.MsKernelIdeal.main_arg6)
      ∧ r.2.mem ((c.tc : Thread Cert.MsKernelIdeal.nD Cert.MsKernelIdeal.τ).loc Cert.MsKernelIdeal.main_arg7) = m ((c.tc : Thread Cert.MsKernelIdeal.nD Cert.MsKernelIdeal.τ).loc Cert.MsKernelIdeal.main_arg7))
      ∧ r.2.sem = fun _ => 0)

def quiescent_MsReferenceIdeal [hMsReferenceIdeal : Cert.MsReferenceIdeal.Facts] : Prop :=
  ∀ (m : (ℓ : Loc Cert.MsReferenceIdeal.nD Cert.MsReferenceIdeal.τ Cert.MsReferenceIdeal.sig) → Buf (Elt Ideal) ℓ) (g : Dev Cert.MsReferenceIdeal.nD → PrngReg), Pre_MsReferenceIdeal m →
    θ_run (Cert.MsReferenceIdeal.defs (F := Ideal)) (onTc (τ := Cert.MsReferenceIdeal.τ) (Cert.MsReferenceIdeal.main (F := Ideal))) ⟨m, fun _ => 0, g⟩ (fun r => (∀ c : Dev Cert.MsReferenceIdeal.nD,
      r.2.mem ((c.tc : Thread Cert.MsReferenceIdeal.nD Cert.MsReferenceIdeal.τ).loc Cert.MsReferenceIdeal.main_arg0) = m ((c.tc : Thread Cert.MsReferenceIdeal.nD Cert.MsReferenceIdeal.τ).loc Cert.MsReferenceIdeal.main_arg0)
      ∧ r.2.mem ((c.tc : Thread Cert.MsReferenceIdeal.nD Cert.MsReferenceIdeal.τ).loc Cert.MsReferenceIdeal.main_arg1) = m ((c.tc : Thread Cert.MsReferenceIdeal.nD Cert.MsReferenceIdeal.τ).loc Cert.MsReferenceIdeal.main_arg1)
      ∧ r.2.mem ((c.tc : Thread Cert.MsReferenceIdeal.nD Cert.MsReferenceIdeal.τ).loc Cert.MsReferenceIdeal.main_arg2) = m ((c.tc : Thread Cert.MsReferenceIdeal.nD Cert.MsReferenceIdeal.τ).loc Cert.MsReferenceIdeal.main_arg2)
      ∧ r.2.mem ((c.tc : Thread Cert.MsReferenceIdeal.nD Cert.MsReferenceIdeal.τ).loc Cert.MsReferenceIdeal.main_arg3) = m ((c.tc : Thread Cert.MsReferenceIdeal.nD Cert.MsReferenceIdeal.τ).loc Cert.MsReferenceIdeal.main_arg3)
      ∧ r.2.mem ((c.tc : Thread Cert.MsReferenceIdeal.nD Cert.MsReferenceIdeal.τ).loc Cert.MsReferenceIdeal.main_arg4) = m ((c.tc : Thread Cert.MsReferenceIdeal.nD Cert.MsReferenceIdeal.τ).loc Cert.MsReferenceIdeal.main_arg4)
      ∧ r.2.mem ((c.tc : Thread Cert.MsReferenceIdeal.nD Cert.MsReferenceIdeal.τ).loc Cert.MsReferenceIdeal.main_arg5) = m ((c.tc : Thread Cert.MsReferenceIdeal.nD Cert.MsReferenceIdeal.τ).loc Cert.MsReferenceIdeal.main_arg5)
      ∧ r.2.mem ((c.tc : Thread Cert.MsReferenceIdeal.nD Cert.MsReferenceIdeal.τ).loc Cert.MsReferenceIdeal.main_arg6) = m ((c.tc : Thread Cert.MsReferenceIdeal.nD Cert.MsReferenceIdeal.τ).loc Cert.MsReferenceIdeal.main_arg6)
      ∧ r.2.mem ((c.tc : Thread Cert.MsReferenceIdeal.nD Cert.MsReferenceIdeal.τ).loc Cert.MsReferenceIdeal.main_arg7) = m ((c.tc : Thread Cert.MsReferenceIdeal.nD Cert.MsReferenceIdeal.τ).loc Cert.MsReferenceIdeal.main_arg7))
      ∧ r.2.sem = fun _ => 0)

def quiescent_WsKernel [hWsKernel : Cert.WsKernel.Facts] : Prop :=
  ∀ (m : (ℓ : Loc Cert.WsKernel.nD Cert.WsKernel.τ Cert.WsKernel.sig) → Buf (Elt Bits) ℓ) (g : Dev Cert.WsKernel.nD → PrngReg), Pre_WsKernel m →
    θ_run (Cert.WsKernel.defs (F := Bits)) (onTc (τ := Cert.WsKernel.τ) (Cert.WsKernel.main (F := Bits))) ⟨m, fun _ => 0, g⟩ (fun r => (∀ c : Dev Cert.WsKernel.nD,
      r.2.mem ((c.tc : Thread Cert.WsKernel.nD Cert.WsKernel.τ).loc Cert.WsKernel.main_arg0) = m ((c.tc : Thread Cert.WsKernel.nD Cert.WsKernel.τ).loc Cert.WsKernel.main_arg0)
      ∧ r.2.mem ((c.tc : Thread Cert.WsKernel.nD Cert.WsKernel.τ).loc Cert.WsKernel.main_arg1) = m ((c.tc : Thread Cert.WsKernel.nD Cert.WsKernel.τ).loc Cert.WsKernel.main_arg1)
      ∧ r.2.mem ((c.tc : Thread Cert.WsKernel.nD Cert.WsKernel.τ).loc Cert.WsKernel.main_arg2) = m ((c.tc : Thread Cert.WsKernel.nD Cert.WsKernel.τ).loc Cert.WsKernel.main_arg2)
      ∧ r.2.mem ((c.tc : Thread Cert.WsKernel.nD Cert.WsKernel.τ).loc Cert.WsKernel.main_arg3) = m ((c.tc : Thread Cert.WsKernel.nD Cert.WsKernel.τ).loc Cert.WsKernel.main_arg3))
      ∧ r.2.sem = fun _ => 0)

def quiescent_WsKernelIdeal [hWsKernelIdeal : Cert.WsKernelIdeal.Facts] : Prop :=
  ∀ (m : (ℓ : Loc Cert.WsKernelIdeal.nD Cert.WsKernelIdeal.τ Cert.WsKernelIdeal.sig) → Buf (Elt Ideal) ℓ) (g : Dev Cert.WsKernelIdeal.nD → PrngReg), Pre_WsKernelIdeal m →
    θ_run (Cert.WsKernelIdeal.defs (F := Ideal)) (onTc (τ := Cert.WsKernelIdeal.τ) (Cert.WsKernelIdeal.main (F := Ideal))) ⟨m, fun _ => 0, g⟩ (fun r => (∀ c : Dev Cert.WsKernelIdeal.nD,
      r.2.mem ((c.tc : Thread Cert.WsKernelIdeal.nD Cert.WsKernelIdeal.τ).loc Cert.WsKernelIdeal.main_arg0) = m ((c.tc : Thread Cert.WsKernelIdeal.nD Cert.WsKernelIdeal.τ).loc Cert.WsKernelIdeal.main_arg0)
      ∧ r.2.mem ((c.tc : Thread Cert.WsKernelIdeal.nD Cert.WsKernelIdeal.τ).loc Cert.WsKernelIdeal.main_arg1) = m ((c.tc : Thread Cert.WsKernelIdeal.nD Cert.WsKernelIdeal.τ).loc Cert.WsKernelIdeal.main_arg1)
      ∧ r.2.mem ((c.tc : Thread Cert.WsKernelIdeal.nD Cert.WsKernelIdeal.τ).loc Cert.WsKernelIdeal.main_arg2) = m ((c.tc : Thread Cert.WsKernelIdeal.nD Cert.WsKernelIdeal.τ).loc Cert.WsKernelIdeal.main_arg2)
      ∧ r.2.mem ((c.tc : Thread Cert.WsKernelIdeal.nD Cert.WsKernelIdeal.τ).loc Cert.WsKernelIdeal.main_arg3) = m ((c.tc : Thread Cert.WsKernelIdeal.nD Cert.WsKernelIdeal.τ).loc Cert.WsKernelIdeal.main_arg3))
      ∧ r.2.sem = fun _ => 0)

def quiescent_WsKernelIdeal_pre_finite_sample [hWsKernelIdeal : Cert.WsKernelIdeal.Facts] [hPre_finite_sample : Cert.Pre_finite_sample.Facts] : Prop :=
  ∀ (m : (ℓ : Loc Cert.WsKernelIdeal.nD Cert.WsKernelIdeal.τ Cert.WsKernelIdeal.sig) → Buf (Elt Ideal) ℓ) (g : Dev Cert.WsKernelIdeal.nD → PrngReg), Pre_WsKernelIdeal_finite_sample m →
    θ_run (Cert.WsKernelIdeal.defs (F := Ideal)) (onTc (τ := Cert.WsKernelIdeal.τ) (Cert.WsKernelIdeal.main (F := Ideal))) ⟨m, fun _ => 0, g⟩ (fun r => (∀ c : Dev Cert.WsKernelIdeal.nD,
      r.2.mem ((c.tc : Thread Cert.WsKernelIdeal.nD Cert.WsKernelIdeal.τ).loc Cert.WsKernelIdeal.main_arg0) = m ((c.tc : Thread Cert.WsKernelIdeal.nD Cert.WsKernelIdeal.τ).loc Cert.WsKernelIdeal.main_arg0)
      ∧ r.2.mem ((c.tc : Thread Cert.WsKernelIdeal.nD Cert.WsKernelIdeal.τ).loc Cert.WsKernelIdeal.main_arg1) = m ((c.tc : Thread Cert.WsKernelIdeal.nD Cert.WsKernelIdeal.τ).loc Cert.WsKernelIdeal.main_arg1)
      ∧ r.2.mem ((c.tc : Thread Cert.WsKernelIdeal.nD Cert.WsKernelIdeal.τ).loc Cert.WsKernelIdeal.main_arg2) = m ((c.tc : Thread Cert.WsKernelIdeal.nD Cert.WsKernelIdeal.τ).loc Cert.WsKernelIdeal.main_arg2)
      ∧ r.2.mem ((c.tc : Thread Cert.WsKernelIdeal.nD Cert.WsKernelIdeal.τ).loc Cert.WsKernelIdeal.main_arg3) = m ((c.tc : Thread Cert.WsKernelIdeal.nD Cert.WsKernelIdeal.τ).loc Cert.WsKernelIdeal.main_arg3))
      ∧ r.2.sem = fun _ => 0)

def quiescent_WsReferenceIdeal [hWsReferenceIdeal : Cert.WsReferenceIdeal.Facts] : Prop :=
  ∀ (m : (ℓ : Loc Cert.WsReferenceIdeal.nD Cert.WsReferenceIdeal.τ Cert.WsReferenceIdeal.sig) → Buf (Elt Ideal) ℓ) (g : Dev Cert.WsReferenceIdeal.nD → PrngReg), Pre_WsReferenceIdeal m →
    θ_run (Cert.WsReferenceIdeal.defs (F := Ideal)) (onTc (τ := Cert.WsReferenceIdeal.τ) (Cert.WsReferenceIdeal.main (F := Ideal))) ⟨m, fun _ => 0, g⟩ (fun r => (∀ c : Dev Cert.WsReferenceIdeal.nD,
      r.2.mem ((c.tc : Thread Cert.WsReferenceIdeal.nD Cert.WsReferenceIdeal.τ).loc Cert.WsReferenceIdeal.main_arg0) = m ((c.tc : Thread Cert.WsReferenceIdeal.nD Cert.WsReferenceIdeal.τ).loc Cert.WsReferenceIdeal.main_arg0)
      ∧ r.2.mem ((c.tc : Thread Cert.WsReferenceIdeal.nD Cert.WsReferenceIdeal.τ).loc Cert.WsReferenceIdeal.main_arg1) = m ((c.tc : Thread Cert.WsReferenceIdeal.nD Cert.WsReferenceIdeal.τ).loc Cert.WsReferenceIdeal.main_arg1)
      ∧ r.2.mem ((c.tc : Thread Cert.WsReferenceIdeal.nD Cert.WsReferenceIdeal.τ).loc Cert.WsReferenceIdeal.main_arg2) = m ((c.tc : Thread Cert.WsReferenceIdeal.nD Cert.WsReferenceIdeal.τ).loc Cert.WsReferenceIdeal.main_arg2)
      ∧ r.2.mem ((c.tc : Thread Cert.WsReferenceIdeal.nD Cert.WsReferenceIdeal.τ).loc Cert.WsReferenceIdeal.main_arg3) = m ((c.tc : Thread Cert.WsReferenceIdeal.nD Cert.WsReferenceIdeal.τ).loc Cert.WsReferenceIdeal.main_arg3))
      ∧ r.2.sem = fun _ => 0)

def quiescent_WsReferenceIdeal_pre_finite_sample [hWsReferenceIdeal : Cert.WsReferenceIdeal.Facts] [hPre_finite_sample : Cert.Pre_finite_sample.Facts] : Prop :=
  ∀ (m : (ℓ : Loc Cert.WsReferenceIdeal.nD Cert.WsReferenceIdeal.τ Cert.WsReferenceIdeal.sig) → Buf (Elt Ideal) ℓ) (g : Dev Cert.WsReferenceIdeal.nD → PrngReg), Pre_WsReferenceIdeal_finite_sample m →
    θ_run (Cert.WsReferenceIdeal.defs (F := Ideal)) (onTc (τ := Cert.WsReferenceIdeal.τ) (Cert.WsReferenceIdeal.main (F := Ideal))) ⟨m, fun _ => 0, g⟩ (fun r => (∀ c : Dev Cert.WsReferenceIdeal.nD,
      r.2.mem ((c.tc : Thread Cert.WsReferenceIdeal.nD Cert.WsReferenceIdeal.τ).loc Cert.WsReferenceIdeal.main_arg0) = m ((c.tc : Thread Cert.WsReferenceIdeal.nD Cert.WsReferenceIdeal.τ).loc Cert.WsReferenceIdeal.main_arg0)
      ∧ r.2.mem ((c.tc : Thread Cert.WsReferenceIdeal.nD Cert.WsReferenceIdeal.τ).loc Cert.WsReferenceIdeal.main_arg1) = m ((c.tc : Thread Cert.WsReferenceIdeal.nD Cert.WsReferenceIdeal.τ).loc Cert.WsReferenceIdeal.main_arg1)
      ∧ r.2.mem ((c.tc : Thread Cert.WsReferenceIdeal.nD Cert.WsReferenceIdeal.τ).loc Cert.WsReferenceIdeal.main_arg2) = m ((c.tc : Thread Cert.WsReferenceIdeal.nD Cert.WsReferenceIdeal.τ).loc Cert.WsReferenceIdeal.main_arg2)
      ∧ r.2.mem ((c.tc : Thread Cert.WsReferenceIdeal.nD Cert.WsReferenceIdeal.τ).loc Cert.WsReferenceIdeal.main_arg3) = m ((c.tc : Thread Cert.WsReferenceIdeal.nD Cert.WsReferenceIdeal.τ).loc Cert.WsReferenceIdeal.main_arg3))
      ∧ r.2.sem = fun _ => 0)

def preserves_NpKernel_NpKernelIdeal : Prop :=
  True

def algebraic_NpKernelIdeal_NpReferenceIdeal [hNpKernelIdeal : Cert.NpKernelIdeal.Facts] [hNpReferenceIdeal : Cert.NpReferenceIdeal.Facts] : Prop :=
  ∀ (m : (ℓ : Loc Cert.NpKernelIdeal.nD Cert.NpKernelIdeal.τ Cert.NpKernelIdeal.sig) → Buf (Elt Ideal) ℓ) (g : Dev Cert.NpKernelIdeal.nD → PrngReg)
    (m' : (ℓ : Loc Cert.NpReferenceIdeal.nD Cert.NpReferenceIdeal.τ Cert.NpReferenceIdeal.sig) → Buf (Elt Ideal) ℓ) (g' : Dev Cert.NpReferenceIdeal.nD → PrngReg), Pre_NpKernelIdeal m →
    (∀ c : Dev Cert.NpKernelIdeal.nD,
      m' ((c.tc : Thread Cert.NpReferenceIdeal.nD Cert.NpReferenceIdeal.τ).loc Cert.NpReferenceIdeal.main_arg0) = m ((c.tc : Thread Cert.NpKernelIdeal.nD Cert.NpKernelIdeal.τ).loc Cert.NpKernelIdeal.main_arg0)
      ∧ m' ((c.tc : Thread Cert.NpReferenceIdeal.nD Cert.NpReferenceIdeal.τ).loc Cert.NpReferenceIdeal.main_arg1) = m ((c.tc : Thread Cert.NpKernelIdeal.nD Cert.NpKernelIdeal.τ).loc Cert.NpKernelIdeal.main_arg1)
      ∧ m' ((c.tc : Thread Cert.NpReferenceIdeal.nD Cert.NpReferenceIdeal.τ).loc Cert.NpReferenceIdeal.main_arg2) = m ((c.tc : Thread Cert.NpKernelIdeal.nD Cert.NpKernelIdeal.τ).loc Cert.NpKernelIdeal.main_arg2)) →
    ∃ (v0 : (c : Dev Cert.NpKernelIdeal.nD) → Buf (Elt Ideal) ((c.tc : Thread Cert.NpKernelIdeal.nD Cert.NpKernelIdeal.τ).loc Cert.NpKernelIdeal.main_v16)),
      θ_run (Cert.NpKernelIdeal.defs (F := Ideal)) (onTc (τ := Cert.NpKernelIdeal.τ) (Cert.NpKernelIdeal.main (F := Ideal))) ⟨m, fun _ => 0, g⟩ (fun r => ∀ c : Dev Cert.NpKernelIdeal.nD,
          r.2.mem ((c.tc : Thread Cert.NpKernelIdeal.nD Cert.NpKernelIdeal.τ).loc Cert.NpKernelIdeal.main_v16) = v0 c
          ∧ r.2.mem ((c.tc : Thread Cert.NpKernelIdeal.nD Cert.NpKernelIdeal.τ).loc Cert.NpKernelIdeal.main_arg0) = m ((c.tc : Thread Cert.NpKernelIdeal.nD Cert.NpKernelIdeal.τ).loc Cert.NpKernelIdeal.main_arg0)
          ∧ r.2.mem ((c.tc : Thread Cert.NpKernelIdeal.nD Cert.NpKernelIdeal.τ).loc Cert.NpKernelIdeal.main_arg1) = m ((c.tc : Thread Cert.NpKernelIdeal.nD Cert.NpKernelIdeal.τ).loc Cert.NpKernelIdeal.main_arg1)
          ∧ r.2.mem ((c.tc : Thread Cert.NpKernelIdeal.nD Cert.NpKernelIdeal.τ).loc Cert.NpKernelIdeal.main_arg2) = m ((c.tc : Thread Cert.NpKernelIdeal.nD Cert.NpKernelIdeal.τ).loc Cert.NpKernelIdeal.main_arg2))
      ∧ θ_run (Cert.NpReferenceIdeal.defs (F := Ideal)) (onTc (τ := Cert.NpReferenceIdeal.τ) (Cert.NpReferenceIdeal.main (F := Ideal))) ⟨m', fun _ => 0, g'⟩ (fun r => ∀ c : Dev Cert.NpReferenceIdeal.nD,
          r.2.mem ((c.tc : Thread Cert.NpReferenceIdeal.nD Cert.NpReferenceIdeal.τ).loc Cert.NpReferenceIdeal.main_v29) = v0 c
          ∧ r.2.mem ((c.tc : Thread Cert.NpReferenceIdeal.nD Cert.NpReferenceIdeal.τ).loc Cert.NpReferenceIdeal.main_arg0) = m' ((c.tc : Thread Cert.NpReferenceIdeal.nD Cert.NpReferenceIdeal.τ).loc Cert.NpReferenceIdeal.main_arg0)
          ∧ r.2.mem ((c.tc : Thread Cert.NpReferenceIdeal.nD Cert.NpReferenceIdeal.τ).loc Cert.NpReferenceIdeal.main_arg1) = m' ((c.tc : Thread Cert.NpReferenceIdeal.nD Cert.NpReferenceIdeal.τ).loc Cert.NpReferenceIdeal.main_arg1)
          ∧ r.2.mem ((c.tc : Thread Cert.NpReferenceIdeal.nD Cert.NpReferenceIdeal.τ).loc Cert.NpReferenceIdeal.main_arg2) = m' ((c.tc : Thread Cert.NpReferenceIdeal.nD Cert.NpReferenceIdeal.τ).loc Cert.NpReferenceIdeal.main_arg2))

def preserves_MxKernel_MxKernelIdeal : Prop :=
  True

def algebraic_MxKernelIdeal_MxReferenceIdeal [hMxKernelIdeal : Cert.MxKernelIdeal.Facts] [hMxReferenceIdeal : Cert.MxReferenceIdeal.Facts] : Prop :=
  ∀ (m : (ℓ : Loc Cert.MxKernelIdeal.nD Cert.MxKernelIdeal.τ Cert.MxKernelIdeal.sig) → Buf (Elt Ideal) ℓ) (g : Dev Cert.MxKernelIdeal.nD → PrngReg)
    (m' : (ℓ : Loc Cert.MxReferenceIdeal.nD Cert.MxReferenceIdeal.τ Cert.MxReferenceIdeal.sig) → Buf (Elt Ideal) ℓ) (g' : Dev Cert.MxReferenceIdeal.nD → PrngReg), Pre_MxKernelIdeal m →
    (∀ c : Dev Cert.MxKernelIdeal.nD,
      m' ((c.tc : Thread Cert.MxReferenceIdeal.nD Cert.MxReferenceIdeal.τ).loc Cert.MxReferenceIdeal.main_arg0) = m ((c.tc : Thread Cert.MxKernelIdeal.nD Cert.MxKernelIdeal.τ).loc Cert.MxKernelIdeal.main_arg0)
      ∧ m' ((c.tc : Thread Cert.MxReferenceIdeal.nD Cert.MxReferenceIdeal.τ).loc Cert.MxReferenceIdeal.main_arg1) = m ((c.tc : Thread Cert.MxKernelIdeal.nD Cert.MxKernelIdeal.τ).loc Cert.MxKernelIdeal.main_arg1)
      ∧ m' ((c.tc : Thread Cert.MxReferenceIdeal.nD Cert.MxReferenceIdeal.τ).loc Cert.MxReferenceIdeal.main_arg2) = m ((c.tc : Thread Cert.MxKernelIdeal.nD Cert.MxKernelIdeal.τ).loc Cert.MxKernelIdeal.main_arg2)
      ∧ m' ((c.tc : Thread Cert.MxReferenceIdeal.nD Cert.MxReferenceIdeal.τ).loc Cert.MxReferenceIdeal.main_arg3) = m ((c.tc : Thread Cert.MxKernelIdeal.nD Cert.MxKernelIdeal.τ).loc Cert.MxKernelIdeal.main_arg3)
      ∧ m' ((c.tc : Thread Cert.MxReferenceIdeal.nD Cert.MxReferenceIdeal.τ).loc Cert.MxReferenceIdeal.main_arg4) = m ((c.tc : Thread Cert.MxKernelIdeal.nD Cert.MxKernelIdeal.τ).loc Cert.MxKernelIdeal.main_arg4)
      ∧ m' ((c.tc : Thread Cert.MxReferenceIdeal.nD Cert.MxReferenceIdeal.τ).loc Cert.MxReferenceIdeal.main_arg5) = m ((c.tc : Thread Cert.MxKernelIdeal.nD Cert.MxKernelIdeal.τ).loc Cert.MxKernelIdeal.main_arg5)
      ∧ m' ((c.tc : Thread Cert.MxReferenceIdeal.nD Cert.MxReferenceIdeal.τ).loc Cert.MxReferenceIdeal.main_arg6) = m ((c.tc : Thread Cert.MxKernelIdeal.nD Cert.MxKernelIdeal.τ).loc Cert.MxKernelIdeal.main_arg6)
      ∧ m' ((c.tc : Thread Cert.MxReferenceIdeal.nD Cert.MxReferenceIdeal.τ).loc Cert.MxReferenceIdeal.main_arg7) = m ((c.tc : Thread Cert.MxKernelIdeal.nD Cert.MxKernelIdeal.τ).loc Cert.MxKernelIdeal.main_arg7)) →
    ∃ (v0 : (c : Dev Cert.MxKernelIdeal.nD) → Buf (Elt Ideal) ((c.tc : Thread Cert.MxKernelIdeal.nD Cert.MxKernelIdeal.τ).loc Cert.MxKernelIdeal.main_v11)),
      θ_run (Cert.MxKernelIdeal.defs (F := Ideal)) (onTc (τ := Cert.MxKernelIdeal.τ) (Cert.MxKernelIdeal.main (F := Ideal))) ⟨m, fun _ => 0, g⟩ (fun r => ∀ c : Dev Cert.MxKernelIdeal.nD,
          r.2.mem ((c.tc : Thread Cert.MxKernelIdeal.nD Cert.MxKernelIdeal.τ).loc Cert.MxKernelIdeal.main_v11) = v0 c
          ∧ r.2.mem ((c.tc : Thread Cert.MxKernelIdeal.nD Cert.MxKernelIdeal.τ).loc Cert.MxKernelIdeal.main_arg0) = m ((c.tc : Thread Cert.MxKernelIdeal.nD Cert.MxKernelIdeal.τ).loc Cert.MxKernelIdeal.main_arg0)
          ∧ r.2.mem ((c.tc : Thread Cert.MxKernelIdeal.nD Cert.MxKernelIdeal.τ).loc Cert.MxKernelIdeal.main_arg1) = m ((c.tc : Thread Cert.MxKernelIdeal.nD Cert.MxKernelIdeal.τ).loc Cert.MxKernelIdeal.main_arg1)
          ∧ r.2.mem ((c.tc : Thread Cert.MxKernelIdeal.nD Cert.MxKernelIdeal.τ).loc Cert.MxKernelIdeal.main_arg2) = m ((c.tc : Thread Cert.MxKernelIdeal.nD Cert.MxKernelIdeal.τ).loc Cert.MxKernelIdeal.main_arg2)
          ∧ r.2.mem ((c.tc : Thread Cert.MxKernelIdeal.nD Cert.MxKernelIdeal.τ).loc Cert.MxKernelIdeal.main_arg3) = m ((c.tc : Thread Cert.MxKernelIdeal.nD Cert.MxKernelIdeal.τ).loc Cert.MxKernelIdeal.main_arg3)
          ∧ r.2.mem ((c.tc : Thread Cert.MxKernelIdeal.nD Cert.MxKernelIdeal.τ).loc Cert.MxKernelIdeal.main_arg4) = m ((c.tc : Thread Cert.MxKernelIdeal.nD Cert.MxKernelIdeal.τ).loc Cert.MxKernelIdeal.main_arg4)
          ∧ r.2.mem ((c.tc : Thread Cert.MxKernelIdeal.nD Cert.MxKernelIdeal.τ).loc Cert.MxKernelIdeal.main_arg5) = m ((c.tc : Thread Cert.MxKernelIdeal.nD Cert.MxKernelIdeal.τ).loc Cert.MxKernelIdeal.main_arg5)
          ∧ r.2.mem ((c.tc : Thread Cert.MxKernelIdeal.nD Cert.MxKernelIdeal.τ).loc Cert.MxKernelIdeal.main_arg6) = m ((c.tc : Thread Cert.MxKernelIdeal.nD Cert.MxKernelIdeal.τ).loc Cert.MxKernelIdeal.main_arg6)
          ∧ r.2.mem ((c.tc : Thread Cert.MxKernelIdeal.nD Cert.MxKernelIdeal.τ).loc Cert.MxKernelIdeal.main_arg7) = m ((c.tc : Thread Cert.MxKernelIdeal.nD Cert.MxKernelIdeal.τ).loc Cert.MxKernelIdeal.main_arg7))
      ∧ θ_run (Cert.MxReferenceIdeal.defs (F := Ideal)) (onTc (τ := Cert.MxReferenceIdeal.τ) (Cert.MxReferenceIdeal.main (F := Ideal))) ⟨m', fun _ => 0, g'⟩ (fun r => ∀ c : Dev Cert.MxReferenceIdeal.nD,
          r.2.mem ((c.tc : Thread Cert.MxReferenceIdeal.nD Cert.MxReferenceIdeal.τ).loc Cert.MxReferenceIdeal.main_v46) = v0 c
          ∧ r.2.mem ((c.tc : Thread Cert.MxReferenceIdeal.nD Cert.MxReferenceIdeal.τ).loc Cert.MxReferenceIdeal.main_arg0) = m' ((c.tc : Thread Cert.MxReferenceIdeal.nD Cert.MxReferenceIdeal.τ).loc Cert.MxReferenceIdeal.main_arg0)
          ∧ r.2.mem ((c.tc : Thread Cert.MxReferenceIdeal.nD Cert.MxReferenceIdeal.τ).loc Cert.MxReferenceIdeal.main_arg1) = m' ((c.tc : Thread Cert.MxReferenceIdeal.nD Cert.MxReferenceIdeal.τ).loc Cert.MxReferenceIdeal.main_arg1)
          ∧ r.2.mem ((c.tc : Thread Cert.MxReferenceIdeal.nD Cert.MxReferenceIdeal.τ).loc Cert.MxReferenceIdeal.main_arg2) = m' ((c.tc : Thread Cert.MxReferenceIdeal.nD Cert.MxReferenceIdeal.τ).loc Cert.MxReferenceIdeal.main_arg2)
          ∧ r.2.mem ((c.tc : Thread Cert.MxReferenceIdeal.nD Cert.MxReferenceIdeal.τ).loc Cert.MxReferenceIdeal.main_arg3) = m' ((c.tc : Thread Cert.MxReferenceIdeal.nD Cert.MxReferenceIdeal.τ).loc Cert.MxReferenceIdeal.main_arg3)
          ∧ r.2.mem ((c.tc : Thread Cert.MxReferenceIdeal.nD Cert.MxReferenceIdeal.τ).loc Cert.MxReferenceIdeal.main_arg4) = m' ((c.tc : Thread Cert.MxReferenceIdeal.nD Cert.MxReferenceIdeal.τ).loc Cert.MxReferenceIdeal.main_arg4)
          ∧ r.2.mem ((c.tc : Thread Cert.MxReferenceIdeal.nD Cert.MxReferenceIdeal.τ).loc Cert.MxReferenceIdeal.main_arg5) = m' ((c.tc : Thread Cert.MxReferenceIdeal.nD Cert.MxReferenceIdeal.τ).loc Cert.MxReferenceIdeal.main_arg5)
          ∧ r.2.mem ((c.tc : Thread Cert.MxReferenceIdeal.nD Cert.MxReferenceIdeal.τ).loc Cert.MxReferenceIdeal.main_arg6) = m' ((c.tc : Thread Cert.MxReferenceIdeal.nD Cert.MxReferenceIdeal.τ).loc Cert.MxReferenceIdeal.main_arg6)
          ∧ r.2.mem ((c.tc : Thread Cert.MxReferenceIdeal.nD Cert.MxReferenceIdeal.τ).loc Cert.MxReferenceIdeal.main_arg7) = m' ((c.tc : Thread Cert.MxReferenceIdeal.nD Cert.MxReferenceIdeal.τ).loc Cert.MxReferenceIdeal.main_arg7))

def preserves_WaKernel_WaKernelIdeal : Prop :=
  True

def algebraic_WaKernelIdeal_WaReferenceIdeal_pre_finite [hWaKernelIdeal : Cert.WaKernelIdeal.Facts] [hWaReferenceIdeal : Cert.WaReferenceIdeal.Facts] [hPre_finite : Cert.Pre_finite.Facts] : Prop :=
  ∀ (m : (ℓ : Loc Cert.WaKernelIdeal.nD Cert.WaKernelIdeal.τ Cert.WaKernelIdeal.sig) → Buf (Elt Ideal) ℓ) (g : Dev Cert.WaKernelIdeal.nD → PrngReg)
    (m' : (ℓ : Loc Cert.WaReferenceIdeal.nD Cert.WaReferenceIdeal.τ Cert.WaReferenceIdeal.sig) → Buf (Elt Ideal) ℓ) (g' : Dev Cert.WaReferenceIdeal.nD → PrngReg), Pre_WaKernelIdeal_finite m →
    (∀ c : Dev Cert.WaKernelIdeal.nD,
      m' ((c.tc : Thread Cert.WaReferenceIdeal.nD Cert.WaReferenceIdeal.τ).loc Cert.WaReferenceIdeal.main_arg0) = m ((c.tc : Thread Cert.WaKernelIdeal.nD Cert.WaKernelIdeal.τ).loc Cert.WaKernelIdeal.main_arg0)
      ∧ m' ((c.tc : Thread Cert.WaReferenceIdeal.nD Cert.WaReferenceIdeal.τ).loc Cert.WaReferenceIdeal.main_arg1) = m ((c.tc : Thread Cert.WaKernelIdeal.nD Cert.WaKernelIdeal.τ).loc Cert.WaKernelIdeal.main_arg1)
      ∧ m' ((c.tc : Thread Cert.WaReferenceIdeal.nD Cert.WaReferenceIdeal.τ).loc Cert.WaReferenceIdeal.main_arg2) = m ((c.tc : Thread Cert.WaKernelIdeal.nD Cert.WaKernelIdeal.τ).loc Cert.WaKernelIdeal.main_arg2)
      ∧ m' ((c.tc : Thread Cert.WaReferenceIdeal.nD Cert.WaReferenceIdeal.τ).loc Cert.WaReferenceIdeal.main_arg3) = m ((c.tc : Thread Cert.WaKernelIdeal.nD Cert.WaKernelIdeal.τ).loc Cert.WaKernelIdeal.main_arg3)) →
    ∃ (v0 : (c : Dev Cert.WaKernelIdeal.nD) → Buf (Elt Ideal) ((c.tc : Thread Cert.WaKernelIdeal.nD Cert.WaKernelIdeal.τ).loc Cert.WaKernelIdeal.main_v113)),
      θ_run (Cert.WaKernelIdeal.defs (F := Ideal)) (onTc (τ := Cert.WaKernelIdeal.τ) (Cert.WaKernelIdeal.main (F := Ideal))) ⟨m, fun _ => 0, g⟩ (fun r => ∀ c : Dev Cert.WaKernelIdeal.nD,
          r.2.mem ((c.tc : Thread Cert.WaKernelIdeal.nD Cert.WaKernelIdeal.τ).loc Cert.WaKernelIdeal.main_v113) = v0 c
          ∧ r.2.mem ((c.tc : Thread Cert.WaKernelIdeal.nD Cert.WaKernelIdeal.τ).loc Cert.WaKernelIdeal.main_arg0) = m ((c.tc : Thread Cert.WaKernelIdeal.nD Cert.WaKernelIdeal.τ).loc Cert.WaKernelIdeal.main_arg0)
          ∧ r.2.mem ((c.tc : Thread Cert.WaKernelIdeal.nD Cert.WaKernelIdeal.τ).loc Cert.WaKernelIdeal.main_arg1) = m ((c.tc : Thread Cert.WaKernelIdeal.nD Cert.WaKernelIdeal.τ).loc Cert.WaKernelIdeal.main_arg1)
          ∧ r.2.mem ((c.tc : Thread Cert.WaKernelIdeal.nD Cert.WaKernelIdeal.τ).loc Cert.WaKernelIdeal.main_arg2) = m ((c.tc : Thread Cert.WaKernelIdeal.nD Cert.WaKernelIdeal.τ).loc Cert.WaKernelIdeal.main_arg2)
          ∧ r.2.mem ((c.tc : Thread Cert.WaKernelIdeal.nD Cert.WaKernelIdeal.τ).loc Cert.WaKernelIdeal.main_arg3) = m ((c.tc : Thread Cert.WaKernelIdeal.nD Cert.WaKernelIdeal.τ).loc Cert.WaKernelIdeal.main_arg3))
      ∧ θ_run (Cert.WaReferenceIdeal.defs (F := Ideal)) (onTc (τ := Cert.WaReferenceIdeal.τ) (Cert.WaReferenceIdeal.main (F := Ideal))) ⟨m', fun _ => 0, g'⟩ (fun r => ∀ c : Dev Cert.WaReferenceIdeal.nD,
          r.2.mem ((c.tc : Thread Cert.WaReferenceIdeal.nD Cert.WaReferenceIdeal.τ).loc Cert.WaReferenceIdeal.main_v174) = v0 c
          ∧ r.2.mem ((c.tc : Thread Cert.WaReferenceIdeal.nD Cert.WaReferenceIdeal.τ).loc Cert.WaReferenceIdeal.main_arg0) = m' ((c.tc : Thread Cert.WaReferenceIdeal.nD Cert.WaReferenceIdeal.τ).loc Cert.WaReferenceIdeal.main_arg0)
          ∧ r.2.mem ((c.tc : Thread Cert.WaReferenceIdeal.nD Cert.WaReferenceIdeal.τ).loc Cert.WaReferenceIdeal.main_arg1) = m' ((c.tc : Thread Cert.WaReferenceIdeal.nD Cert.WaReferenceIdeal.τ).loc Cert.WaReferenceIdeal.main_arg1)
          ∧ r.2.mem ((c.tc : Thread Cert.WaReferenceIdeal.nD Cert.WaReferenceIdeal.τ).loc Cert.WaReferenceIdeal.main_arg2) = m' ((c.tc : Thread Cert.WaReferenceIdeal.nD Cert.WaReferenceIdeal.τ).loc Cert.WaReferenceIdeal.main_arg2)
          ∧ r.2.mem ((c.tc : Thread Cert.WaReferenceIdeal.nD Cert.WaReferenceIdeal.τ).loc Cert.WaReferenceIdeal.main_arg3) = m' ((c.tc : Thread Cert.WaReferenceIdeal.nD Cert.WaReferenceIdeal.τ).loc Cert.WaReferenceIdeal.main_arg3))

def preserves_NsKernel_NsKernelIdeal : Prop :=
  True

def algebraic_NsKernelIdeal_NsReferenceIdeal [hNsKernelIdeal : Cert.NsKernelIdeal.Facts] [hNsReferenceIdeal : Cert.NsReferenceIdeal.Facts] : Prop :=
  ∀ (m : (ℓ : Loc Cert.NsKernelIdeal.nD Cert.NsKernelIdeal.τ Cert.NsKernelIdeal.sig) → Buf (Elt Ideal) ℓ) (g : Dev Cert.NsKernelIdeal.nD → PrngReg)
    (m' : (ℓ : Loc Cert.NsReferenceIdeal.nD Cert.NsReferenceIdeal.τ Cert.NsReferenceIdeal.sig) → Buf (Elt Ideal) ℓ) (g' : Dev Cert.NsReferenceIdeal.nD → PrngReg), Pre_NsKernelIdeal m →
    (∀ c : Dev Cert.NsKernelIdeal.nD,
      m' ((c.tc : Thread Cert.NsReferenceIdeal.nD Cert.NsReferenceIdeal.τ).loc Cert.NsReferenceIdeal.main_arg0) = m ((c.tc : Thread Cert.NsKernelIdeal.nD Cert.NsKernelIdeal.τ).loc Cert.NsKernelIdeal.main_arg0)
      ∧ m' ((c.tc : Thread Cert.NsReferenceIdeal.nD Cert.NsReferenceIdeal.τ).loc Cert.NsReferenceIdeal.main_arg1) = m ((c.tc : Thread Cert.NsKernelIdeal.nD Cert.NsKernelIdeal.τ).loc Cert.NsKernelIdeal.main_arg1)
      ∧ m' ((c.tc : Thread Cert.NsReferenceIdeal.nD Cert.NsReferenceIdeal.τ).loc Cert.NsReferenceIdeal.main_arg2) = m ((c.tc : Thread Cert.NsKernelIdeal.nD Cert.NsKernelIdeal.τ).loc Cert.NsKernelIdeal.main_arg2)) →
    ∃ (v0 : (c : Dev Cert.NsKernelIdeal.nD) → Buf (Elt Ideal) ((c.tc : Thread Cert.NsKernelIdeal.nD Cert.NsKernelIdeal.τ).loc Cert.NsKernelIdeal.main_v16)),
      θ_run (Cert.NsKernelIdeal.defs (F := Ideal)) (onTc (τ := Cert.NsKernelIdeal.τ) (Cert.NsKernelIdeal.main (F := Ideal))) ⟨m, fun _ => 0, g⟩ (fun r => ∀ c : Dev Cert.NsKernelIdeal.nD,
          r.2.mem ((c.tc : Thread Cert.NsKernelIdeal.nD Cert.NsKernelIdeal.τ).loc Cert.NsKernelIdeal.main_v16) = v0 c
          ∧ r.2.mem ((c.tc : Thread Cert.NsKernelIdeal.nD Cert.NsKernelIdeal.τ).loc Cert.NsKernelIdeal.main_arg0) = m ((c.tc : Thread Cert.NsKernelIdeal.nD Cert.NsKernelIdeal.τ).loc Cert.NsKernelIdeal.main_arg0)
          ∧ r.2.mem ((c.tc : Thread Cert.NsKernelIdeal.nD Cert.NsKernelIdeal.τ).loc Cert.NsKernelIdeal.main_arg1) = m ((c.tc : Thread Cert.NsKernelIdeal.nD Cert.NsKernelIdeal.τ).loc Cert.NsKernelIdeal.main_arg1)
          ∧ r.2.mem ((c.tc : Thread Cert.NsKernelIdeal.nD Cert.NsKernelIdeal.τ).loc Cert.NsKernelIdeal.main_arg2) = m ((c.tc : Thread Cert.NsKernelIdeal.nD Cert.NsKernelIdeal.τ).loc Cert.NsKernelIdeal.main_arg2))
      ∧ θ_run (Cert.NsReferenceIdeal.defs (F := Ideal)) (onTc (τ := Cert.NsReferenceIdeal.τ) (Cert.NsReferenceIdeal.main (F := Ideal))) ⟨m', fun _ => 0, g'⟩ (fun r => ∀ c : Dev Cert.NsReferenceIdeal.nD,
          r.2.mem ((c.tc : Thread Cert.NsReferenceIdeal.nD Cert.NsReferenceIdeal.τ).loc Cert.NsReferenceIdeal.main_v29) = v0 c
          ∧ r.2.mem ((c.tc : Thread Cert.NsReferenceIdeal.nD Cert.NsReferenceIdeal.τ).loc Cert.NsReferenceIdeal.main_arg0) = m' ((c.tc : Thread Cert.NsReferenceIdeal.nD Cert.NsReferenceIdeal.τ).loc Cert.NsReferenceIdeal.main_arg0)
          ∧ r.2.mem ((c.tc : Thread Cert.NsReferenceIdeal.nD Cert.NsReferenceIdeal.τ).loc Cert.NsReferenceIdeal.main_arg1) = m' ((c.tc : Thread Cert.NsReferenceIdeal.nD Cert.NsReferenceIdeal.τ).loc Cert.NsReferenceIdeal.main_arg1)
          ∧ r.2.mem ((c.tc : Thread Cert.NsReferenceIdeal.nD Cert.NsReferenceIdeal.τ).loc Cert.NsReferenceIdeal.main_arg2) = m' ((c.tc : Thread Cert.NsReferenceIdeal.nD Cert.NsReferenceIdeal.τ).loc Cert.NsReferenceIdeal.main_arg2))

def preserves_MsKernel_MsKernelIdeal : Prop :=
  True

def algebraic_MsKernelIdeal_MsReferenceIdeal [hMsKernelIdeal : Cert.MsKernelIdeal.Facts] [hMsReferenceIdeal : Cert.MsReferenceIdeal.Facts] : Prop :=
  ∀ (m : (ℓ : Loc Cert.MsKernelIdeal.nD Cert.MsKernelIdeal.τ Cert.MsKernelIdeal.sig) → Buf (Elt Ideal) ℓ) (g : Dev Cert.MsKernelIdeal.nD → PrngReg)
    (m' : (ℓ : Loc Cert.MsReferenceIdeal.nD Cert.MsReferenceIdeal.τ Cert.MsReferenceIdeal.sig) → Buf (Elt Ideal) ℓ) (g' : Dev Cert.MsReferenceIdeal.nD → PrngReg), Pre_MsKernelIdeal m →
    (∀ c : Dev Cert.MsKernelIdeal.nD,
      m' ((c.tc : Thread Cert.MsReferenceIdeal.nD Cert.MsReferenceIdeal.τ).loc Cert.MsReferenceIdeal.main_arg0) = m ((c.tc : Thread Cert.MsKernelIdeal.nD Cert.MsKernelIdeal.τ).loc Cert.MsKernelIdeal.main_arg0)
      ∧ m' ((c.tc : Thread Cert.MsReferenceIdeal.nD Cert.MsReferenceIdeal.τ).loc Cert.MsReferenceIdeal.main_arg1) = m ((c.tc : Thread Cert.MsKernelIdeal.nD Cert.MsKernelIdeal.τ).loc Cert.MsKernelIdeal.main_arg1)
      ∧ m' ((c.tc : Thread Cert.MsReferenceIdeal.nD Cert.MsReferenceIdeal.τ).loc Cert.MsReferenceIdeal.main_arg2) = m ((c.tc : Thread Cert.MsKernelIdeal.nD Cert.MsKernelIdeal.τ).loc Cert.MsKernelIdeal.main_arg2)
      ∧ m' ((c.tc : Thread Cert.MsReferenceIdeal.nD Cert.MsReferenceIdeal.τ).loc Cert.MsReferenceIdeal.main_arg3) = m ((c.tc : Thread Cert.MsKernelIdeal.nD Cert.MsKernelIdeal.τ).loc Cert.MsKernelIdeal.main_arg3)
      ∧ m' ((c.tc : Thread Cert.MsReferenceIdeal.nD Cert.MsReferenceIdeal.τ).loc Cert.MsReferenceIdeal.main_arg4) = m ((c.tc : Thread Cert.MsKernelIdeal.nD Cert.MsKernelIdeal.τ).loc Cert.MsKernelIdeal.main_arg4)
      ∧ m' ((c.tc : Thread Cert.MsReferenceIdeal.nD Cert.MsReferenceIdeal.τ).loc Cert.MsReferenceIdeal.main_arg5) = m ((c.tc : Thread Cert.MsKernelIdeal.nD Cert.MsKernelIdeal.τ).loc Cert.MsKernelIdeal.main_arg5)
      ∧ m' ((c.tc : Thread Cert.MsReferenceIdeal.nD Cert.MsReferenceIdeal.τ).loc Cert.MsReferenceIdeal.main_arg6) = m ((c.tc : Thread Cert.MsKernelIdeal.nD Cert.MsKernelIdeal.τ).loc Cert.MsKernelIdeal.main_arg6)
      ∧ m' ((c.tc : Thread Cert.MsReferenceIdeal.nD Cert.MsReferenceIdeal.τ).loc Cert.MsReferenceIdeal.main_arg7) = m ((c.tc : Thread Cert.MsKernelIdeal.nD Cert.MsKernelIdeal.τ).loc Cert.MsKernelIdeal.main_arg7)) →
    ∃ (v0 : (c : Dev Cert.MsKernelIdeal.nD) → Buf (Elt Ideal) ((c.tc : Thread Cert.MsKernelIdeal.nD Cert.MsKernelIdeal.τ).loc Cert.MsKernelIdeal.main_v11)),
      θ_run (Cert.MsKernelIdeal.defs (F := Ideal)) (onTc (τ := Cert.MsKernelIdeal.τ) (Cert.MsKernelIdeal.main (F := Ideal))) ⟨m, fun _ => 0, g⟩ (fun r => ∀ c : Dev Cert.MsKernelIdeal.nD,
          r.2.mem ((c.tc : Thread Cert.MsKernelIdeal.nD Cert.MsKernelIdeal.τ).loc Cert.MsKernelIdeal.main_v11) = v0 c
          ∧ r.2.mem ((c.tc : Thread Cert.MsKernelIdeal.nD Cert.MsKernelIdeal.τ).loc Cert.MsKernelIdeal.main_arg0) = m ((c.tc : Thread Cert.MsKernelIdeal.nD Cert.MsKernelIdeal.τ).loc Cert.MsKernelIdeal.main_arg0)
          ∧ r.2.mem ((c.tc : Thread Cert.MsKernelIdeal.nD Cert.MsKernelIdeal.τ).loc Cert.MsKernelIdeal.main_arg1) = m ((c.tc : Thread Cert.MsKernelIdeal.nD Cert.MsKernelIdeal.τ).loc Cert.MsKernelIdeal.main_arg1)
          ∧ r.2.mem ((c.tc : Thread Cert.MsKernelIdeal.nD Cert.MsKernelIdeal.τ).loc Cert.MsKernelIdeal.main_arg2) = m ((c.tc : Thread Cert.MsKernelIdeal.nD Cert.MsKernelIdeal.τ).loc Cert.MsKernelIdeal.main_arg2)
          ∧ r.2.mem ((c.tc : Thread Cert.MsKernelIdeal.nD Cert.MsKernelIdeal.τ).loc Cert.MsKernelIdeal.main_arg3) = m ((c.tc : Thread Cert.MsKernelIdeal.nD Cert.MsKernelIdeal.τ).loc Cert.MsKernelIdeal.main_arg3)
          ∧ r.2.mem ((c.tc : Thread Cert.MsKernelIdeal.nD Cert.MsKernelIdeal.τ).loc Cert.MsKernelIdeal.main_arg4) = m ((c.tc : Thread Cert.MsKernelIdeal.nD Cert.MsKernelIdeal.τ).loc Cert.MsKernelIdeal.main_arg4)
          ∧ r.2.mem ((c.tc : Thread Cert.MsKernelIdeal.nD Cert.MsKernelIdeal.τ).loc Cert.MsKernelIdeal.main_arg5) = m ((c.tc : Thread Cert.MsKernelIdeal.nD Cert.MsKernelIdeal.τ).loc Cert.MsKernelIdeal.main_arg5)
          ∧ r.2.mem ((c.tc : Thread Cert.MsKernelIdeal.nD Cert.MsKernelIdeal.τ).loc Cert.MsKernelIdeal.main_arg6) = m ((c.tc : Thread Cert.MsKernelIdeal.nD Cert.MsKernelIdeal.τ).loc Cert.MsKernelIdeal.main_arg6)
          ∧ r.2.mem ((c.tc : Thread Cert.MsKernelIdeal.nD Cert.MsKernelIdeal.τ).loc Cert.MsKernelIdeal.main_arg7) = m ((c.tc : Thread Cert.MsKernelIdeal.nD Cert.MsKernelIdeal.τ).loc Cert.MsKernelIdeal.main_arg7))
      ∧ θ_run (Cert.MsReferenceIdeal.defs (F := Ideal)) (onTc (τ := Cert.MsReferenceIdeal.τ) (Cert.MsReferenceIdeal.main (F := Ideal))) ⟨m', fun _ => 0, g'⟩ (fun r => ∀ c : Dev Cert.MsReferenceIdeal.nD,
          r.2.mem ((c.tc : Thread Cert.MsReferenceIdeal.nD Cert.MsReferenceIdeal.τ).loc Cert.MsReferenceIdeal.main_v46) = v0 c
          ∧ r.2.mem ((c.tc : Thread Cert.MsReferenceIdeal.nD Cert.MsReferenceIdeal.τ).loc Cert.MsReferenceIdeal.main_arg0) = m' ((c.tc : Thread Cert.MsReferenceIdeal.nD Cert.MsReferenceIdeal.τ).loc Cert.MsReferenceIdeal.main_arg0)
          ∧ r.2.mem ((c.tc : Thread Cert.MsReferenceIdeal.nD Cert.MsReferenceIdeal.τ).loc Cert.MsReferenceIdeal.main_arg1) = m' ((c.tc : Thread Cert.MsReferenceIdeal.nD Cert.MsReferenceIdeal.τ).loc Cert.MsReferenceIdeal.main_arg1)
          ∧ r.2.mem ((c.tc : Thread Cert.MsReferenceIdeal.nD Cert.MsReferenceIdeal.τ).loc Cert.MsReferenceIdeal.main_arg2) = m' ((c.tc : Thread Cert.MsReferenceIdeal.nD Cert.MsReferenceIdeal.τ).loc Cert.MsReferenceIdeal.main_arg2)
          ∧ r.2.mem ((c.tc : Thread Cert.MsReferenceIdeal.nD Cert.MsReferenceIdeal.τ).loc Cert.MsReferenceIdeal.main_arg3) = m' ((c.tc : Thread Cert.MsReferenceIdeal.nD Cert.MsReferenceIdeal.τ).loc Cert.MsReferenceIdeal.main_arg3)
          ∧ r.2.mem ((c.tc : Thread Cert.MsReferenceIdeal.nD Cert.MsReferenceIdeal.τ).loc Cert.MsReferenceIdeal.main_arg4) = m' ((c.tc : Thread Cert.MsReferenceIdeal.nD Cert.MsReferenceIdeal.τ).loc Cert.MsReferenceIdeal.main_arg4)
          ∧ r.2.mem ((c.tc : Thread Cert.MsReferenceIdeal.nD Cert.MsReferenceIdeal.τ).loc Cert.MsReferenceIdeal.main_arg5) = m' ((c.tc : Thread Cert.MsReferenceIdeal.nD Cert.MsReferenceIdeal.τ).loc Cert.MsReferenceIdeal.main_arg5)
          ∧ r.2.mem ((c.tc : Thread Cert.MsReferenceIdeal.nD Cert.MsReferenceIdeal.τ).loc Cert.MsReferenceIdeal.main_arg6) = m' ((c.tc : Thread Cert.MsReferenceIdeal.nD Cert.MsReferenceIdeal.τ).loc Cert.MsReferenceIdeal.main_arg6)
          ∧ r.2.mem ((c.tc : Thread Cert.MsReferenceIdeal.nD Cert.MsReferenceIdeal.τ).loc Cert.MsReferenceIdeal.main_arg7) = m' ((c.tc : Thread Cert.MsReferenceIdeal.nD Cert.MsReferenceIdeal.τ).loc Cert.MsReferenceIdeal.main_arg7))

def preserves_WsKernel_WsKernelIdeal : Prop :=
  True

def algebraic_WsKernelIdeal_WsReferenceIdeal_pre_finite_sample [hWsKernelIdeal : Cert.WsKernelIdeal.Facts] [hWsReferenceIdeal : Cert.WsReferenceIdeal.Facts] [hPre_finite_sample : Cert.Pre_finite_sample.Facts] : Prop :=
  ∀ (m : (ℓ : Loc Cert.WsKernelIdeal.nD Cert.WsKernelIdeal.τ Cert.WsKernelIdeal.sig) → Buf (Elt Ideal) ℓ) (g : Dev Cert.WsKernelIdeal.nD → PrngReg)
    (m' : (ℓ : Loc Cert.WsReferenceIdeal.nD Cert.WsReferenceIdeal.τ Cert.WsReferenceIdeal.sig) → Buf (Elt Ideal) ℓ) (g' : Dev Cert.WsReferenceIdeal.nD → PrngReg), Pre_WsKernelIdeal_finite_sample m →
    (∀ c : Dev Cert.WsKernelIdeal.nD,
      m' ((c.tc : Thread Cert.WsReferenceIdeal.nD Cert.WsReferenceIdeal.τ).loc Cert.WsReferenceIdeal.main_arg0) = m ((c.tc : Thread Cert.WsKernelIdeal.nD Cert.WsKernelIdeal.τ).loc Cert.WsKernelIdeal.main_arg0)
      ∧ m' ((c.tc : Thread Cert.WsReferenceIdeal.nD Cert.WsReferenceIdeal.τ).loc Cert.WsReferenceIdeal.main_arg1) = m ((c.tc : Thread Cert.WsKernelIdeal.nD Cert.WsKernelIdeal.τ).loc Cert.WsKernelIdeal.main_arg1)
      ∧ m' ((c.tc : Thread Cert.WsReferenceIdeal.nD Cert.WsReferenceIdeal.τ).loc Cert.WsReferenceIdeal.main_arg2) = m ((c.tc : Thread Cert.WsKernelIdeal.nD Cert.WsKernelIdeal.τ).loc Cert.WsKernelIdeal.main_arg2)
      ∧ m' ((c.tc : Thread Cert.WsReferenceIdeal.nD Cert.WsReferenceIdeal.τ).loc Cert.WsReferenceIdeal.main_arg3) = m ((c.tc : Thread Cert.WsKernelIdeal.nD Cert.WsKernelIdeal.τ).loc Cert.WsKernelIdeal.main_arg3)) →
    ∃ (v0 : (c : Dev Cert.WsKernelIdeal.nD) → Buf (Elt Ideal) ((c.tc : Thread Cert.WsKernelIdeal.nD Cert.WsKernelIdeal.τ).loc Cert.WsKernelIdeal.main_v113)),
      θ_run (Cert.WsKernelIdeal.defs (F := Ideal)) (onTc (τ := Cert.WsKernelIdeal.τ) (Cert.WsKernelIdeal.main (F := Ideal))) ⟨m, fun _ => 0, g⟩ (fun r => ∀ c : Dev Cert.WsKernelIdeal.nD,
          r.2.mem ((c.tc : Thread Cert.WsKernelIdeal.nD Cert.WsKernelIdeal.τ).loc Cert.WsKernelIdeal.main_v113) = v0 c
          ∧ r.2.mem ((c.tc : Thread Cert.WsKernelIdeal.nD Cert.WsKernelIdeal.τ).loc Cert.WsKernelIdeal.main_arg0) = m ((c.tc : Thread Cert.WsKernelIdeal.nD Cert.WsKernelIdeal.τ).loc Cert.WsKernelIdeal.main_arg0)
          ∧ r.2.mem ((c.tc : Thread Cert.WsKernelIdeal.nD Cert.WsKernelIdeal.τ).loc Cert.WsKernelIdeal.main_arg1) = m ((c.tc : Thread Cert.WsKernelIdeal.nD Cert.WsKernelIdeal.τ).loc Cert.WsKernelIdeal.main_arg1)
          ∧ r.2.mem ((c.tc : Thread Cert.WsKernelIdeal.nD Cert.WsKernelIdeal.τ).loc Cert.WsKernelIdeal.main_arg2) = m ((c.tc : Thread Cert.WsKernelIdeal.nD Cert.WsKernelIdeal.τ).loc Cert.WsKernelIdeal.main_arg2)
          ∧ r.2.mem ((c.tc : Thread Cert.WsKernelIdeal.nD Cert.WsKernelIdeal.τ).loc Cert.WsKernelIdeal.main_arg3) = m ((c.tc : Thread Cert.WsKernelIdeal.nD Cert.WsKernelIdeal.τ).loc Cert.WsKernelIdeal.main_arg3))
      ∧ θ_run (Cert.WsReferenceIdeal.defs (F := Ideal)) (onTc (τ := Cert.WsReferenceIdeal.τ) (Cert.WsReferenceIdeal.main (F := Ideal))) ⟨m', fun _ => 0, g'⟩ (fun r => ∀ c : Dev Cert.WsReferenceIdeal.nD,
          r.2.mem ((c.tc : Thread Cert.WsReferenceIdeal.nD Cert.WsReferenceIdeal.τ).loc Cert.WsReferenceIdeal.main_v174) = v0 c
          ∧ r.2.mem ((c.tc : Thread Cert.WsReferenceIdeal.nD Cert.WsReferenceIdeal.τ).loc Cert.WsReferenceIdeal.main_arg0) = m' ((c.tc : Thread Cert.WsReferenceIdeal.nD Cert.WsReferenceIdeal.τ).loc Cert.WsReferenceIdeal.main_arg0)
          ∧ r.2.mem ((c.tc : Thread Cert.WsReferenceIdeal.nD Cert.WsReferenceIdeal.τ).loc Cert.WsReferenceIdeal.main_arg1) = m' ((c.tc : Thread Cert.WsReferenceIdeal.nD Cert.WsReferenceIdeal.τ).loc Cert.WsReferenceIdeal.main_arg1)
          ∧ r.2.mem ((c.tc : Thread Cert.WsReferenceIdeal.nD Cert.WsReferenceIdeal.τ).loc Cert.WsReferenceIdeal.main_arg2) = m' ((c.tc : Thread Cert.WsReferenceIdeal.nD Cert.WsReferenceIdeal.τ).loc Cert.WsReferenceIdeal.main_arg2)
          ∧ r.2.mem ((c.tc : Thread Cert.WsReferenceIdeal.nD Cert.WsReferenceIdeal.τ).loc Cert.WsReferenceIdeal.main_arg3) = m' ((c.tc : Thread Cert.WsReferenceIdeal.nD Cert.WsReferenceIdeal.τ).loc Cert.WsReferenceIdeal.main_arg3))

def Claim : Prop :=
  ∃ (hNpKernel : Cert.NpKernel.Facts) (hNpKernelIdeal : Cert.NpKernelIdeal.Facts) (hNpReferenceIdeal : Cert.NpReferenceIdeal.Facts) (hMxKernel : Cert.MxKernel.Facts) (hMxKernelIdeal : Cert.MxKernelIdeal.Facts) (hMxReferenceIdeal : Cert.MxReferenceIdeal.Facts) (hWaKernel : Cert.WaKernel.Facts) (hWaKernelIdeal : Cert.WaKernelIdeal.Facts) (hWaReferenceIdeal : Cert.WaReferenceIdeal.Facts) (hNsKernel : Cert.NsKernel.Facts) (hNsKernelIdeal : Cert.NsKernelIdeal.Facts) (hNsReferenceIdeal : Cert.NsReferenceIdeal.Facts) (hMsKernel : Cert.MsKernel.Facts) (hMsKernelIdeal : Cert.MsKernelIdeal.Facts) (hMsReferenceIdeal : Cert.MsReferenceIdeal.Facts) (hWsKernel : Cert.WsKernel.Facts) (hWsKernelIdeal : Cert.WsKernelIdeal.Facts) (hWsReferenceIdeal : Cert.WsReferenceIdeal.Facts) (hPre_finite : Cert.Pre_finite.Facts) (hPre_finite_sample : Cert.Pre_finite_sample.Facts),
    quiescent_NpKernel (hNpKernel := hNpKernel)
    ∧ quiescent_NpKernelIdeal (hNpKernelIdeal := hNpKernelIdeal)
    ∧ quiescent_NpReferenceIdeal (hNpReferenceIdeal := hNpReferenceIdeal)
    ∧ quiescent_MxKernel (hMxKernel := hMxKernel)
    ∧ quiescent_MxKernelIdeal (hMxKernelIdeal := hMxKernelIdeal)
    ∧ quiescent_MxReferenceIdeal (hMxReferenceIdeal := hMxReferenceIdeal)
    ∧ quiescent_WaKernel (hWaKernel := hWaKernel)
    ∧ quiescent_WaKernelIdeal (hWaKernelIdeal := hWaKernelIdeal)
    ∧ quiescent_WaKernelIdeal_pre_finite (hWaKernelIdeal := hWaKernelIdeal) (hPre_finite := hPre_finite)
    ∧ quiescent_WaReferenceIdeal (hWaReferenceIdeal := hWaReferenceIdeal)
    ∧ quiescent_WaReferenceIdeal_pre_finite (hWaReferenceIdeal := hWaReferenceIdeal) (hPre_finite := hPre_finite)
    ∧ quiescent_NsKernel (hNsKernel := hNsKernel)
    ∧ quiescent_NsKernelIdeal (hNsKernelIdeal := hNsKernelIdeal)
    ∧ quiescent_NsReferenceIdeal (hNsReferenceIdeal := hNsReferenceIdeal)
    ∧ quiescent_MsKernel (hMsKernel := hMsKernel)
    ∧ quiescent_MsKernelIdeal (hMsKernelIdeal := hMsKernelIdeal)
    ∧ quiescent_MsReferenceIdeal (hMsReferenceIdeal := hMsReferenceIdeal)
    ∧ quiescent_WsKernel (hWsKernel := hWsKernel)
    ∧ quiescent_WsKernelIdeal (hWsKernelIdeal := hWsKernelIdeal)
    ∧ quiescent_WsKernelIdeal_pre_finite_sample (hWsKernelIdeal := hWsKernelIdeal) (hPre_finite_sample := hPre_finite_sample)
    ∧ quiescent_WsReferenceIdeal (hWsReferenceIdeal := hWsReferenceIdeal)
    ∧ quiescent_WsReferenceIdeal_pre_finite_sample (hWsReferenceIdeal := hWsReferenceIdeal) (hPre_finite_sample := hPre_finite_sample)
    ∧ preserves_NpKernel_NpKernelIdeal
    ∧ algebraic_NpKernelIdeal_NpReferenceIdeal (hNpKernelIdeal := hNpKernelIdeal) (hNpReferenceIdeal := hNpReferenceIdeal)
    ∧ preserves_MxKernel_MxKernelIdeal
    ∧ algebraic_MxKernelIdeal_MxReferenceIdeal (hMxKernelIdeal := hMxKernelIdeal) (hMxReferenceIdeal := hMxReferenceIdeal)
    ∧ preserves_WaKernel_WaKernelIdeal
    ∧ algebraic_WaKernelIdeal_WaReferenceIdeal_pre_finite (hWaKernelIdeal := hWaKernelIdeal) (hWaReferenceIdeal := hWaReferenceIdeal) (hPre_finite := hPre_finite)
    ∧ preserves_NsKernel_NsKernelIdeal
    ∧ algebraic_NsKernelIdeal_NsReferenceIdeal (hNsKernelIdeal := hNsKernelIdeal) (hNsReferenceIdeal := hNsReferenceIdeal)
    ∧ preserves_MsKernel_MsKernelIdeal
    ∧ algebraic_MsKernelIdeal_MsReferenceIdeal (hMsKernelIdeal := hMsKernelIdeal) (hMsReferenceIdeal := hMsReferenceIdeal)
    ∧ preserves_WsKernel_WsKernelIdeal
    ∧ algebraic_WsKernelIdeal_WsReferenceIdeal_pre_finite_sample (hWsKernelIdeal := hWsKernelIdeal) (hWsReferenceIdeal := hWsReferenceIdeal) (hPre_finite_sample := hPre_finite_sample)
-- ==== Pre_finite.lean ====
abbrev S2x16384x5376 : Shape := ⟨3, ![2, 16384, 5376]⟩
abbrev S16x5376 : Shape := ⟨2, ![16, 5376]⟩
abbrev S32x8 : Shape := ⟨2, ![32, 8]⟩
abbrev S1x8 : Shape := ⟨2, ![1, 8]⟩
abbrev S_ : Shape := ⟨0, ![]⟩

class Facts : Prop where
  bitsLt_bf16_f32 : FTy.bits .bf16 < FTy.bits .f32
  bcast_S_S2x16384x5376 : S_.BroadcastsInDim S2x16384x5376 (![] : Fin 0 → Fin S2x16384x5376.rank)
  bcast_S_S16x5376 : S_.BroadcastsInDim S16x5376 (![] : Fin 0 → Fin S16x5376.rank)
  bcast_S_S32x8 : S_.BroadcastsInDim S32x8 (![] : Fin 0 → Fin S32x8.rank)
  bcast_S_S1x8 : S_.BroadcastsInDim S1x8 (![] : Fin 0 → Fin S1x8.rank)

variable [Facts]

def fn {F : FTy → Type} [FloatOps F] (main_arg0 : FVec F S2x16384x5376 .bf16) (main_arg1 : FVec F S16x5376 .bf16) (main_arg2 : FVec F S32x8 .f32) (main_arg3 : FVec F S1x8 .f32) : IVec S2x16384x5376 1 × IVec S16x5376 1 × IVec S32x8 1 × IVec S1x8 1 :=
  let main_v0 : FVec F S2x16384x5376 .f32 := (extf .f32 · bitsLt_bf16_f32) main_arg0
  let main_v1 : FVec F S2x16384x5376 .f32 := Host.absf main_v0
  let main_cst : FVec F S_ .f32 := constant S_ .f32 0x7F800000#32
  let main_v2 : FVec F S2x16384x5376 .f32 := broadcastInDim S2x16384x5376 ![] bcast_S_S2x16384x5376 main_cst
  let main_v3 : IVec S2x16384x5376 1 := cmpf .olt main_v1 main_v2
  let main_v4 : FVec F S16x5376 .f32 := (extf .f32 · bitsLt_bf16_f32) main_arg1
  let main_v5 : FVec F S16x5376 .f32 := Host.absf main_v4
  let main_cst_0 : FVec F S_ .f32 := constant S_ .f32 0x7F800000#32
  let main_v6 : FVec F S16x5376 .f32 := broadcastInDim S16x5376 ![] bcast_S_S16x5376 main_cst_0
  let main_v7 : IVec S16x5376 1 := cmpf .olt main_v5 main_v6
  let main_v8 : FVec F S32x8 .f32 := Host.absf main_arg2
  let main_cst_1 : FVec F S_ .f32 := constant S_ .f32 0x7F800000#32
  let main_v9 : FVec F S32x8 .f32 := broadcastInDim S32x8 ![] bcast_S_S32x8 main_cst_1
  let main_v10 : IVec S32x8 1 := cmpf .olt main_v8 main_v9
  let main_v11 : FVec F S1x8 .f32 := Host.absf main_arg3
  let main_cst_2 : FVec F S_ .f32 := constant S_ .f32 0x7F800000#32
  let main_v12 : FVec F S1x8 .f32 := broadcastInDim S1x8 ![] bcast_S_S1x8 main_cst_2
  let main_v13 : IVec S1x8 1 := cmpf .olt main_v11 main_v12
  (main_v3, main_v7, main_v10, main_v13)
-- ==== Pre_finite_sample.lean ====
abbrev S16x4096x5376 : Shape := ⟨3, ![16, 4096, 5376]⟩
abbrev S16x5376 : Shape := ⟨2, ![16, 5376]⟩
abbrev S32x8 : Shape := ⟨2, ![32, 8]⟩
abbrev S1x8 : Shape := ⟨2, ![1, 8]⟩
abbrev S_ : Shape := ⟨0, ![]⟩

class Facts : Prop where
  bitsLt_bf16_f32 : FTy.bits .bf16 < FTy.bits .f32
  bcast_S_S16x4096x5376 : S_.BroadcastsInDim S16x4096x5376 (![] : Fin 0 → Fin S16x4096x5376.rank)
  bcast_S_S16x5376 : S_.BroadcastsInDim S16x5376 (![] : Fin 0 → Fin S16x5376.rank)
  bcast_S_S32x8 : S_.BroadcastsInDim S32x8 (![] : Fin 0 → Fin S32x8.rank)
  bcast_S_S1x8 : S_.BroadcastsInDim S1x8 (![] : Fin 0 → Fin S1x8.rank)

variable [Facts]

def fn {F : FTy → Type} [FloatOps F] (main_arg0 : FVec F S16x4096x5376 .bf16) (main_arg1 : FVec F S16x5376 .bf16) (main_arg2 : FVec F S32x8 .f32) (main_arg3 : FVec F S1x8 .f32) : IVec S16x4096x5376 1 × IVec S16x5376 1 × IVec S32x8 1 × IVec S1x8 1 :=
  let main_v0 : FVec F S16x4096x5376 .f32 := (extf .f32 · bitsLt_bf16_f32) main_arg0
  let main_v1 : FVec F S16x4096x5376 .f32 := Host.absf main_v0
  let main_cst : FVec F S_ .f32 := constant S_ .f32 0x7F800000#32
  let main_v2 : FVec F S16x4096x5376 .f32 := broadcastInDim S16x4096x5376 ![] bcast_S_S16x4096x5376 main_cst
  let main_v3 : IVec S16x4096x5376 1 := cmpf .olt main_v1 main_v2
  let main_v4 : FVec F S16x5376 .f32 := (extf .f32 · bitsLt_bf16_f32) main_arg1
  let main_v5 : FVec F S16x5376 .f32 := Host.absf main_v4
  let main_cst_0 : FVec F S_ .f32 := constant S_ .f32 0x7F800000#32
  let main_v6 : FVec F S16x5376 .f32 := broadcastInDim S16x5376 ![] bcast_S_S16x5376 main_cst_0
  let main_v7 : IVec S16x5376 1 := cmpf .olt main_v5 main_v6
  let main_v8 : FVec F S32x8 .f32 := Host.absf main_arg2
  let main_cst_1 : FVec F S_ .f32 := constant S_ .f32 0x7F800000#32
  let main_v9 : FVec F S32x8 .f32 := broadcastInDim S32x8 ![] bcast_S_S32x8 main_cst_1
  let main_v10 : IVec S32x8 1 := cmpf .olt main_v8 main_v9
  let main_v11 : FVec F S1x8 .f32 := Host.absf main_arg3
  let main_cst_2 : FVec F S_ .f32 := constant S_ .f32 0x7F800000#32
  let main_v12 : FVec F S1x8 .f32 := broadcastInDim S1x8 ![] bcast_S_S1x8 main_cst_2
  let main_v13 : IVec S1x8 1 := cmpf .olt main_v11 main_v12
  (main_v3, main_v7, main_v10, main_v13)
-- ==== NpKernel.lean ====
abbrev S2x16384x1024 : Shape := ⟨3, ![2, 16384, 1024]⟩
abbrev S1x1024 : Shape := ⟨2, ![1, 1024]⟩
abbrev S1x1024x5376 : Shape := ⟨3, ![1, 1024, 5376]⟩
abbrev S1024x5376 : Shape := ⟨2, ![1024, 5376]⟩
abbrev S1024x512 : Shape := ⟨2, ![1024, 512]⟩
abbrev S_ : Shape := ⟨0, ![]⟩
abbrev S1024x1536 : Shape := ⟨2, ![1024, 1536]⟩
abbrev S1024x2048 : Shape := ⟨2, ![1024, 2048]⟩
abbrev S1024x256 : Shape := ⟨2, ![1024, 256]⟩
abbrev S32768x1024 : Shape := ⟨2, ![32768, 1024]⟩
abbrev S1024 : Shape := ⟨1, ![1024]⟩
abbrev S32768x5376 : Shape := ⟨2, ![32768, 5376]⟩
abbrev S512x1024 : Shape := ⟨2, ![512, 1024]⟩
abbrev S512x5376 : Shape := ⟨2, ![512, 5376]⟩
abbrev S512 : Shape := ⟨1, ![512]⟩
abbrev S512x1 : Shape := ⟨2, ![512, 1]⟩
abbrev S1024x768 : Shape := ⟨2, ![1024, 768]⟩
abbrev S512x768 : Shape := ⟨2, ![512, 768]⟩

abbrev nBuf : Space → Nat
  | .hbm => 22
  | .vmem => 6
  | .smem => 0
  | _ => 0

abbrev bufTy : (tb : Table) → Fin (tcTables nBuf tb) → BufTy
  | .hbm, ⟨0, _⟩ => ⟨S2x16384x1024, .f32⟩
  | .hbm, ⟨1, _⟩ => ⟨S1x1024, .f32⟩
  | .hbm, ⟨2, _⟩ => ⟨S1x1024x5376, .f32⟩
  | .hbm, ⟨3, _⟩ => ⟨S1024x5376, .f32⟩
  | .hbm, ⟨4, _⟩ => ⟨S1024x512, .f32⟩
  | .hbm, ⟨5, _⟩ => ⟨S_, .f32⟩
  | .hbm, ⟨6, _⟩ => ⟨S1024x512, .f32⟩
  | .hbm, ⟨7, _⟩ => ⟨S1024x512, .f32⟩
  | .hbm, ⟨8, _⟩ => ⟨S1024x1536, .f32⟩
  | .hbm, ⟨9, _⟩ => ⟨S1024x512, .f32⟩
  | .hbm, ⟨10, _⟩ => ⟨S_, .f32⟩
  | .hbm, ⟨11, _⟩ => ⟨S1024x512, .f32⟩
  | .hbm, ⟨12, _⟩ => ⟨S1024x512, .f32⟩
  | .hbm, ⟨13, _⟩ => ⟨S1024x512, .f32⟩
  | .hbm, ⟨14, _⟩ => ⟨S1024x2048, .f32⟩
  | .hbm, ⟨15, _⟩ => ⟨S1024x256, .f32⟩
  | .hbm, ⟨16, _⟩ => ⟨S1024x5376, .f32⟩
  | .hbm, ⟨17, _⟩ => ⟨S32768x1024, .f32⟩
  | .hbm, ⟨18, _⟩ => ⟨S1024, .f32⟩
  | .hbm, ⟨19, _⟩ => ⟨S1x1024, .f32⟩
  | .hbm, ⟨20, _⟩ => ⟨S1024x5376, .bf16⟩
  | .hbm, ⟨21, _⟩ => ⟨S32768x5376, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5376, .bf16⟩
  | .local _ .vmem, ⟨4, _⟩ => ⟨S512x5376, .bf16⟩
  | .local _ .vmem, ⟨5, _⟩ => ⟨S512x5376, .bf16⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5376 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x5376 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== NpKernelIdeal.lean ====
abbrev S2x16384x1024 : Shape := ⟨3, ![2, 16384, 1024]⟩
abbrev S1x1024 : Shape := ⟨2, ![1, 1024]⟩
abbrev S1x1024x5376 : Shape := ⟨3, ![1, 1024, 5376]⟩
abbrev S1024x5376 : Shape := ⟨2, ![1024, 5376]⟩
abbrev S1024x512 : Shape := ⟨2, ![1024, 512]⟩
abbrev S_ : Shape := ⟨0, ![]⟩
abbrev S1024x1536 : Shape := ⟨2, ![1024, 1536]⟩
abbrev S1024x2048 : Shape := ⟨2, ![1024, 2048]⟩
abbrev S1024x256 : Shape := ⟨2, ![1024, 256]⟩
abbrev S32768x1024 : Shape := ⟨2, ![32768, 1024]⟩
abbrev S1024 : Shape := ⟨1, ![1024]⟩
abbrev S32768x5376 : Shape := ⟨2, ![32768, 5376]⟩
abbrev S512x1024 : Shape := ⟨2, ![512, 1024]⟩
abbrev S512x5376 : Shape := ⟨2, ![512, 5376]⟩
abbrev S512 : Shape := ⟨1, ![512]⟩
abbrev S512x1 : Shape := ⟨2, ![512, 1]⟩
abbrev S1024x768 : Shape := ⟨2, ![1024, 768]⟩
abbrev S512x768 : Shape := ⟨2, ![512, 768]⟩

abbrev nBuf : Space → Nat
  | .hbm => 22
  | .vmem => 6
  | .smem => 0
  | _ => 0

abbrev bufTy : (tb : Table) → Fin (tcTables nBuf tb) → BufTy
  | .hbm, ⟨0, _⟩ => ⟨S2x16384x1024, .f32⟩
  | .hbm, ⟨1, _⟩ => ⟨S1x1024, .f32⟩
  | .hbm, ⟨2, _⟩ => ⟨S1x1024x5376, .f32⟩
  | .hbm, ⟨3, _⟩ => ⟨S1024x5376, .f32⟩
  | .hbm, ⟨4, _⟩ => ⟨S1024x512, .f32⟩
  | .hbm, ⟨5, _⟩ => ⟨S_, .f32⟩
  | .hbm, ⟨6, _⟩ => ⟨S1024x512, .f32⟩
  | .hbm, ⟨7, _⟩ => ⟨S1024x512, .f32⟩
  | .hbm, ⟨8, _⟩ => ⟨S1024x1536, .f32⟩
  | .hbm, ⟨9, _⟩ => ⟨S1024x512, .f32⟩
  | .hbm, ⟨10, _⟩ => ⟨S_, .f32⟩
  | .hbm, ⟨11, _⟩ => ⟨S1024x512, .f32⟩
  | .hbm, ⟨12, _⟩ => ⟨S1024x512, .f32⟩
  | .hbm, ⟨13, _⟩ => ⟨S1024x512, .f32⟩
  | .hbm, ⟨14, _⟩ => ⟨S1024x2048, .f32⟩
  | .hbm, ⟨15, _⟩ => ⟨S1024x256, .f32⟩
  | .hbm, ⟨16, _⟩ => ⟨S1024x5376, .f32⟩
  | .hbm, ⟨17, _⟩ => ⟨S32768x1024, .f32⟩
  | .hbm, ⟨18, _⟩ => ⟨S1024, .f32⟩
  | .hbm, ⟨19, _⟩ => ⟨S1x1024, .f32⟩
  | .hbm, ⟨20, _⟩ => ⟨S1024x5376, .bf16⟩
  | .hbm, ⟨21, _⟩ => ⟨S32768x5376, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5376, .bf16⟩
  | .local _ .vmem, ⟨4, _⟩ => ⟨S512x5376, .bf16⟩
  | .local _ .vmem, ⟨5, _⟩ => ⟨S512x5376, .bf16⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5376 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x5376 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== NpReferenceIdeal.lean ====
abbrev S2x16384x1024 : Shape := ⟨3, ![2, 16384, 1024]⟩
abbrev S1x1024 : Shape := ⟨2, ![1, 1024]⟩
abbrev S1x1024x5376 : Shape := ⟨3, ![1, 1024, 5376]⟩
abbrev S1024 : Shape := ⟨1, ![1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S1024x5376 : Shape := ⟨2, ![1024, 5376]⟩
abbrev S2x16384x5376 : Shape := ⟨3, ![2, 16384, 5376]⟩
abbrev S2x16384x512 : Shape := ⟨3, ![2, 16384, 512]⟩
abbrev S2x16384x256 : Shape := ⟨3, ![2, 16384, 256]⟩
abbrev S2x16384x2048 : Shape := ⟨3, ![2, 16384, 2048]⟩
abbrev S32768x5376 : Shape := ⟨2, ![32768, 5376]⟩

abbrev nBuf : Space → Nat
  | .hbm => 38
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S1x1024, .f32⟩
  | .hbm, ⟨2, _⟩ => ⟨S1x1024x5376, .f32⟩
  | .hbm, ⟨3, _⟩ => ⟨S1024, .f32⟩
  | .hbm, ⟨4, _⟩ => ⟨S2x16384x1024, .f32⟩
  | .hbm, ⟨5, _⟩ => ⟨S_, .f32⟩
  | .hbm, ⟨6, _⟩ => ⟨S2x16384, .f32⟩
  | .hbm, ⟨7, _⟩ => ⟨S2x16384x1, .f32⟩
  | .hbm, ⟨8, _⟩ => ⟨S_, .f32⟩
  | .hbm, ⟨9, _⟩ => ⟨S2x16384x1, .f32⟩
  | .hbm, ⟨10, _⟩ => ⟨S2x16384x1, .f32⟩
  | .hbm, ⟨11, _⟩ => ⟨S_, .f32⟩
  | .hbm, ⟨12, _⟩ => ⟨S2x16384x1, .f32⟩
  | .hbm, ⟨13, _⟩ => ⟨S2x16384x1, .f32⟩
  | .hbm, ⟨14, _⟩ => ⟨S2x16384x1, .f32⟩
  | .hbm, ⟨15, _⟩ => ⟨S2x16384x1024, .f32⟩
  | .hbm, ⟨16, _⟩ => ⟨S2x16384x1024, .f32⟩
  | .hbm, ⟨17, _⟩ => ⟨S1x1x1024, .f32⟩
  | .hbm, ⟨18, _⟩ => ⟨S2x16384x1024, .f32⟩
  | .hbm, ⟨19, _⟩ => ⟨S2x16384x1024, .f32⟩
  | .hbm, ⟨20, _⟩ => ⟨S1024x5376, .f32⟩
  | .hbm, ⟨21, _⟩ => ⟨S2x16384x5376, .f32⟩
  | .hbm, ⟨22, _⟩ => ⟨S2x16384x512, .f32⟩
  | .hbm, ⟨23, _⟩ => ⟨S2x16384x1024, .f32⟩
  | .hbm, ⟨24, _⟩ => ⟨S2x16384x512, .f32⟩
  | .hbm, ⟨25, _⟩ => ⟨S2x16384x512, .f32⟩
  | .hbm, ⟨26, _⟩ => ⟨S2x16384x256, .f32⟩
  | .hbm, ⟨27, _⟩ => ⟨S2x16384x512, .f32⟩
  | .hbm, ⟨28, _⟩ => ⟨S2x16384x2048, .f32⟩
  | .hbm, ⟨29, _⟩ => ⟨S_, .f32⟩
  | .hbm, ⟨30, _⟩ => ⟨S2x16384x512, .f32⟩
  | .hbm, ⟨31, _⟩ => ⟨S2x16384x512, .f32⟩
  | .hbm, ⟨32, _⟩ => ⟨S_, .f32⟩
  | .hbm, ⟨33, _⟩ => ⟨S2x16384x512, .f32⟩
  | .hbm, ⟨34, _⟩ => ⟨S2x16384x512, .f32⟩
  | .hbm, ⟨35, _⟩ => ⟨S2x16384x5376, .f32⟩
  | .hbm, ⟨36, _⟩ => ⟨S32768x5376, .f32⟩
  | .hbm, ⟨37, _⟩ => ⟨S32768x5376, .bf16⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_v24 : Ref sig .tc := ⟨.hbm, 31, rfl⟩
abbrev main_cst_3 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩

abbrev nD : Nat := 1
abbrev τ : Topo := Topo.v7x

variable {F : FTy → Type} [FloatOps F]
-- ==== MxKernel.lean ====
abbrev S2x16384x1024 : Shape := ⟨3, ![2, 16384, 1024]⟩
abbrev S2x16384x512 : Shape := ⟨3, ![2, 16384, 512]⟩
abbrev S2x16384x5376 : Shape := ⟨3, ![2, 16384, 5376]⟩
abbrev S1x512x1024 : Shape := ⟨3, ![1, 512, 1024]⟩
abbrev S1x1024x1024 : Shape := ⟨3, ![1, 1024, 1024]⟩
abbrev S1024 : Shape := ⟨1, ![1024]⟩
abbrev S32768x1024 : Shape := ⟨2, ![32768, 1024]⟩
abbrev S32768x512 : Shape := ⟨2, ![32768, 512]⟩
abbrev S32768x5376 : Shape := ⟨2, ![32768, 5376]⟩
abbrev S512x1024 : Shape := ⟨2, ![512, 1024]⟩
abbrev S1024x1024 : Shape := ⟨2, ![1024, 1024]⟩
abbrev S1x1024 : Shape := ⟨2, ![1, 1024]⟩
abbrev S512x512 : Shape := ⟨2, ![512, 512]⟩
abbrev S512 : Shape := ⟨1, ![512]⟩
abbrev S512x1 : Shape := ⟨2, ![512, 1]⟩

abbrev nBuf : Space → Nat
  | .hbm => 20
  | .vmem => 20
  | .smem => 0
  | _ => 0

abbrev bufTy : (tb : Table) → Fin (tcTables nBuf tb) → BufTy
  | .hbm, ⟨0, _⟩ => ⟨S2x16384x1024, .f32⟩
  | .hbm, ⟨1, _⟩ => ⟨S2x16384x512, .bf16⟩
  | .hbm, ⟨2, _⟩ => ⟨S2x16384x512, .bf16⟩
  | .hbm, ⟨3, _⟩ => ⟨S2x16384x5376, .bf16⟩
  | .hbm, ⟨4, _⟩ => ⟨S1x512x1024, .f32⟩
  | .hbm, ⟨5, _⟩ => ⟨S1x512x1024, .f32⟩
  | .hbm, ⟨6, _⟩ => ⟨S1x1024x1024, .f32⟩
  | .hbm, ⟨7, _⟩ => ⟨S1024, .f32⟩
  | .hbm, ⟨8, _⟩ => ⟨S32768x1024, .f32⟩
  | .hbm, ⟨9, _⟩ => ⟨S32768x512, .bf16⟩
  | .hbm, ⟨10, _⟩ => ⟨S32768x512, .bf16⟩
  | .hbm, ⟨11, _⟩ => ⟨S32768x5376, .bf16⟩
  | .hbm, ⟨12, _⟩ => ⟨S512x1024, .f32⟩
  | .hbm, ⟨13, _⟩ => ⟨S512x1024, .bf16⟩
  | .hbm, ⟨14, _⟩ => ⟨S512x1024, .f32⟩
  | .hbm, ⟨15, _⟩ => ⟨S512x1024, .bf16⟩
  | .hbm, ⟨16, _⟩ => ⟨S1024x1024, .f32⟩
  | .hbm, ⟨17, _⟩ => ⟨S1024x1024, .bf16⟩
  | .hbm, ⟨18, _⟩ => ⟨S1x1024, .f32⟩
  | .hbm, ⟨19, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S1024x1024, .bf16⟩
  | .local _ .vmem, ⟨17, _⟩ => ⟨S1x1024, .f32⟩
  | .local _ .vmem, ⟨18, _⟩ => ⟨S512x1024, .f32⟩
  | .local _ .vmem, ⟨19, _⟩ => ⟨S512x1024, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_5 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_6 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== MxKernelIdeal.lean ====
abbrev S2x16384x1024 : Shape := ⟨3, ![2, 16384, 1024]⟩
abbrev S2x16384x512 : Shape := ⟨3, ![2, 16384, 512]⟩
abbrev S2x16384x5376 : Shape := ⟨3, ![2, 16384, 5376]⟩
abbrev S1x512x1024 : Shape := ⟨3, ![1, 512, 1024]⟩
abbrev S1x1024x1024 : Shape := ⟨3, ![1, 1024, 1024]⟩
abbrev S1024 : Shape := ⟨1, ![1024]⟩
abbrev S32768x1024 : Shape := ⟨2, ![32768, 1024]⟩
abbrev S32768x512 : Shape := ⟨2, ![32768, 512]⟩
abbrev S32768x5376 : Shape := ⟨2, ![32768, 5376]⟩
abbrev S512x1024 : Shape := ⟨2, ![512, 1024]⟩
abbrev S1024x1024 : Shape := ⟨2, ![1024, 1024]⟩
abbrev S1x1024 : Shape := ⟨2, ![1, 1024]⟩
abbrev S512x512 : Shape := ⟨2, ![512, 512]⟩
abbrev S512 : Shape := ⟨1, ![512]⟩
abbrev S512x1 : Shape := ⟨2, ![512, 1]⟩

abbrev nBuf : Space → Nat
  | .hbm => 20
  | .vmem => 20
  | .smem => 0
  | _ => 0

abbrev bufTy : (tb : Table) → Fin (tcTables nBuf tb) → BufTy
  | .hbm, ⟨0, _⟩ => ⟨S2x16384x1024, .f32⟩
  | .hbm, ⟨1, _⟩ => ⟨S2x16384x512, .bf16⟩
  | .hbm, ⟨2, _⟩ => ⟨S2x16384x512, .bf16⟩
  | .hbm, ⟨3, _⟩ => ⟨S2x16384x5376, .bf16⟩
  | .hbm, ⟨4, _⟩ => ⟨S1x512x1024, .f32⟩
  | .hbm, ⟨5, _⟩ => ⟨S1x512x1024, .f32⟩
  | .hbm, ⟨6, _⟩ => ⟨S1x1024x1024, .f32⟩
  | .hbm, ⟨7, _⟩ => ⟨S1024, .f32⟩
  | .hbm, ⟨8, _⟩ => ⟨S32768x1024, .f32⟩
  | .hbm, ⟨9, _⟩ => ⟨S32768x512, .bf16⟩
  | .hbm, ⟨10, _⟩ => ⟨S32768x512, .bf16⟩
  | .hbm, ⟨11, _⟩ => ⟨S32768x5376, .bf16⟩
  | .hbm, ⟨12, _⟩ => ⟨S512x1024, .f32⟩
  | .hbm, ⟨13, _⟩ => ⟨S512x1024, .bf16⟩
  | .hbm, ⟨14, _⟩ => ⟨S512x1024, .f32⟩
  | .hbm, ⟨15, _⟩ => ⟨S512x1024, .bf16⟩
  | .hbm, ⟨16, _⟩ => ⟨S1024x1024, .f32⟩
  | .hbm, ⟨17, _⟩ => ⟨S1024x1024, .bf16⟩
  | .hbm, ⟨18, _⟩ => ⟨S1x1024, .f32⟩
  | .hbm, ⟨19, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S1024x1024, .bf16⟩
  | .local _ .vmem, ⟨17, _⟩ => ⟨S1x1024, .f32⟩
  | .local _ .vmem, ⟨18, _⟩ => ⟨S512x1024, .f32⟩
  | .local _ .vmem, ⟨19, _⟩ => ⟨S512x1024, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_5 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_6 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== MxReferenceIdeal.lean ====
abbrev S2x16384x1024 : Shape := ⟨3, ![2, 16384, 1024]⟩
abbrev S2x16384x512 : Shape := ⟨3, ![2, 16384, 512]⟩
abbrev S2x16384x5376 : Shape := ⟨3, ![2, 16384, 5376]⟩
abbrev S1x512x1024 : Shape := ⟨3, ![1, 512, 1024]⟩
abbrev S1x1024x1024 : Shape := ⟨3, ![1, 1024, 1024]⟩
abbrev S1024 : Shape := ⟨1, ![1024]⟩
abbrev S_ : Shape := ⟨0, ![]⟩
abbrev S512x1024 : Shape := ⟨2, ![512, 1024]⟩
abbrev S1024x1024 : Shape := ⟨2, ![1024, 1024]⟩
abbrev S2x16384 : Shape := ⟨2, ![2, 16384]⟩
abbrev S2x16384x1 : Shape := ⟨3, ![2, 16384, 1]⟩
abbrev S1x1x1024 : Shape := ⟨3, ![1, 1, 1024]⟩
abbrev S32768x1024 : Shape := ⟨2, ![32768, 1024]⟩

abbrev nBuf : Space → Nat
  | .hbm => 78
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x16384x512, .bf16⟩
  | .hbm, ⟨2, _⟩ => ⟨S2x16384x512, .bf16⟩
  | .hbm, ⟨3, _⟩ => ⟨S2x16384x5376, .bf16⟩
  | .hbm, ⟨4, _⟩ => ⟨S1x512x1024, .f32⟩
  | .hbm, ⟨5, _⟩ => ⟨S1x512x1024, .f32⟩
  | .hbm, ⟨6, _⟩ => ⟨S1x1024x1024, .f32⟩
  | .hbm, ⟨7, _⟩ => ⟨S1024, .f32⟩
  | .hbm, ⟨8, _⟩ => ⟨S2x16384x512, .f32⟩
  | .hbm, ⟨9, _⟩ => ⟨S2x16384x512, .f32⟩
  | .hbm, ⟨10, _⟩ => ⟨S2x16384x5376, .f32⟩
  | .hbm, ⟨11, _⟩ => ⟨S2x16384x512, .f32⟩
  | .hbm, ⟨12, _⟩ => ⟨S2x16384x512, .f32⟩
  | .hbm, ⟨13, _⟩ => ⟨S2x16384x1024, .f32⟩
  | .hbm, ⟨14, _⟩ => ⟨S2x16384x1024, .f32⟩
  | .hbm, ⟨15, _⟩ => ⟨S2x16384x512, .f32⟩
  | .hbm, ⟨16, _⟩ => ⟨S2x16384x512, .f32⟩
  | .hbm, ⟨17, _⟩ => ⟨S_, .f32⟩
  | .hbm, ⟨18, _⟩ => ⟨S2x16384x512, .f32⟩
  | .hbm, ⟨19, _⟩ => ⟨S2x16384x512, .f32⟩
  | .hbm, ⟨20, _⟩ => ⟨S_, .f32⟩
  | .hbm, ⟨21, _⟩ => ⟨S2x16384x512, .f32⟩
  | .hbm, ⟨22, _⟩ => ⟨S2x16384x512, .f32⟩
  | .hbm, ⟨23, _⟩ => ⟨S2x16384x512, .f32⟩
  | .hbm, ⟨24, _⟩ => ⟨S2x16384x512, .f32⟩
  | .hbm, ⟨25, _⟩ => ⟨S512x1024, .f32⟩
  | .hbm, ⟨26, _⟩ => ⟨S2x16384x1024, .f32⟩
  | .hbm, ⟨27, _⟩ => ⟨S2x16384x512, .f32⟩
  | .hbm, ⟨28, _⟩ => ⟨S2x16384x512, .f32⟩
  | .hbm, ⟨29, _⟩ => ⟨S_, .f32⟩
  | .hbm, ⟨30, _⟩ => ⟨S2x16384x512, .f32⟩
  | .hbm, ⟨31, _⟩ => ⟨S2x16384x512, .f32⟩
  | .hbm, ⟨32, _⟩ => ⟨S_, .f32⟩
  | .hbm, ⟨33, _⟩ => ⟨S2x16384x512, .f32⟩
  | .hbm, ⟨34, _⟩ => ⟨S2x16384x512, .f32⟩
  | .hbm, ⟨35, _⟩ => ⟨S2x16384x512, .f32⟩
  | .hbm, ⟨36, _⟩ => ⟨S2x16384x512, .f32⟩
  | .hbm, ⟨37, _⟩ => ⟨S512x1024, .f32⟩
  | .hbm, ⟨38, _⟩ => ⟨S2x16384x1024, .f32⟩
  | .hbm, ⟨39, _⟩ => ⟨S2x16384x1024, .f32⟩
  | .hbm, ⟨40, _⟩ => ⟨S2x16384x1024, .f32⟩
  | .hbm, ⟨41, _⟩ => ⟨S_, .f32⟩
  | .hbm, ⟨42, _⟩ => ⟨S2x16384x1024, .f32⟩
  | .hbm, ⟨43, _⟩ => ⟨S2x16384x1024, .f32⟩
  | .hbm, ⟨44, _⟩ => ⟨S_, .f32⟩
  | .hbm, ⟨45, _⟩ => ⟨S2x16384x1024, .f32⟩
  | .hbm, ⟨46, _⟩ => ⟨S2x16384x1024, .f32⟩
  | .hbm, ⟨47, _⟩ => ⟨S2x16384x1024, .f32⟩
  | .hbm, ⟨48, _⟩ => ⟨S2x16384x1024, .f32⟩
  | .hbm, ⟨49, _⟩ => ⟨S2x16384x1024, .f32⟩
  | .hbm, ⟨50, _⟩ => ⟨S_, .f32⟩
  | .hbm, ⟨51, _⟩ => ⟨S2x16384x1024, .f32⟩
  | .hbm, ⟨52, _⟩ => ⟨S2x16384x1024, .f32⟩
  | .hbm, ⟨53, _⟩ => ⟨S_, .f32⟩
  | .hbm, ⟨54, _⟩ => ⟨S2x16384x1024, .f32⟩
  | .hbm, ⟨55, _⟩ => ⟨S2x16384x1024, .f32⟩
  | .hbm, ⟨56, _⟩ => ⟨S2x16384x1024, .f32⟩
  | .hbm, ⟨57, _⟩ => ⟨S2x16384x1024, .f32⟩
  | .hbm, ⟨58, _⟩ => ⟨S1024x1024, .f32⟩
  | .hbm, ⟨59, _⟩ => ⟨S2x16384x1024, .f32⟩
  | .hbm, ⟨60, _⟩ => ⟨S2x16384x1024, .f32⟩
  | .hbm, ⟨61, _⟩ => ⟨S2x16384x1024, .f32⟩
  | .hbm, ⟨62, _⟩ => ⟨S_, .f32⟩
  | .hbm, ⟨63, _⟩ => ⟨S2x16384, .f32⟩
  | .hbm, ⟨64, _⟩ => ⟨S2x16384x1, .f32⟩
  | .hbm, ⟨65, _⟩ => ⟨S_, .f32⟩
  | .hbm, ⟨66, _⟩ => ⟨S2x16384x1, .f32⟩
  | .hbm, ⟨67, _⟩ => ⟨S2x16384x1, .f32⟩
  | .hbm, ⟨68, _⟩ => ⟨S_, .f32⟩
  | .hbm, ⟨69, _⟩ => ⟨S2x16384x1, .f32⟩
  | .hbm, ⟨70, _⟩ => ⟨S2x16384x1, .f32⟩
  | .hbm, ⟨71, _⟩ => ⟨S2x16384x1, .f32⟩
  | .hbm, ⟨72, _⟩ => ⟨S2x16384x1024, .f32⟩
  | .hbm, ⟨73, _⟩ => ⟨S2x16384x1024, .f32⟩
  | .hbm, ⟨74, _⟩ => ⟨S1x1x1024, .f32⟩
  | .hbm, ⟨75, _⟩ => ⟨S2x16384x1024, .f32⟩
  | .hbm, ⟨76, _⟩ => ⟨S2x16384x1024, .f32⟩
  | .hbm, ⟨77, _⟩ => ⟨S32768x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_v3 : Ref sig .tc := ⟨.hbm, 19, rfl⟩
abbrev main_call0_cst_0 : Ref sig .tc := ⟨.hbm, 20, rfl⟩
abbrev main_call0_v4 : Ref sig .tc := ⟨.hbm, 21, rfl⟩
abbrev main_call0_v5 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_call1_v0 : Ref sig .tc := ⟨.hbm, 27, rfl⟩
abbrev main_call1_v1 : Ref sig .tc := ⟨.hbm, 28, rfl⟩
abbrev main_call1_cst : Ref sig .tc := ⟨.hbm, 29, rfl⟩
abbrev main_call1_v2 : Ref sig .tc := ⟨.hbm, 30, rfl⟩
abbrev main_call1_v3 : Ref sig .tc := ⟨.hbm, 31, rfl⟩
abbrev main_call1_cst_0 : Ref sig .tc := ⟨.hbm, 32, rfl⟩
abbrev main_call1_v4 : Ref sig .tc := ⟨.hbm, 33, rfl⟩
abbrev main_call1_v5 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_cst : Ref sig .tc := ⟨.hbm, 41, rfl⟩
abbrev main_v17 : Ref sig .tc := ⟨.hbm, 42, rfl⟩
abbrev main_v18 : Ref sig .tc := ⟨.hbm, 43, rfl⟩
abbrev main_cst_0 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_cst_1 : Ref sig .tc := ⟨.hbm, 50, rfl⟩
abbrev main_v24 : Ref sig .tc := ⟨.hbm, 51, rfl⟩
abbrev main_v25 : Ref sig .tc := ⟨.hbm, 52, rfl⟩
abbrev main_cst_2 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_cst_3 : Ref sig .tc := ⟨.hbm, 62, rfl⟩
abbrev main_v34 : Ref sig .tc := ⟨.hbm, 63, rfl⟩
abbrev main_v35 : Ref sig .tc := ⟨.hbm, 64, rfl⟩
abbrev main_cst_4 : Ref sig .tc := ⟨.hbm, 65, rfl⟩
abbrev main_v36 : Ref sig .tc := ⟨.hbm, 66, rfl⟩
abbrev main_v37 : Ref sig .tc := ⟨.hbm, 67, rfl⟩
abbrev main_cst_5 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩

abbrev nD : Nat := 1
abbrev τ : Topo := Topo.v7x

variable {F : FTy → Type} [FloatOps F]
-- ==== WaKernel.lean ====
abbrev S2x16384x5376 : Shape := ⟨3, ![2, 16384, 5376]⟩
abbrev S16x5376 : Shape := ⟨2, ![16, 5376]⟩
abbrev S32x8 : Shape := ⟨2, ![32, 8]⟩
abbrev S1x8 : Shape := ⟨2, ![1, 8]⟩
abbrev S128 : Shape := ⟨1, ![128]⟩
abbrev S384 : Shape := ⟨1, ![384]⟩
abbrev S1x384 : Shape := ⟨2, ![1, 384]⟩
abbrev S_ : Shape := ⟨0, ![]⟩
abbrev S128x1 : Shape := ⟨2, ![128, 1]⟩
abbrev S128x384 : Shape := ⟨2, ![128, 384]⟩
abbrev S128x384x1 : Shape := ⟨3, ![128, 384, 1]⟩
abbrev S128x384x8 : Shape := ⟨3, ![128, 384, 8]⟩
abbrev S8x128x384 : Shape := ⟨3, ![8, 128, 384]⟩
abbrev S1x128x384 : Shape := ⟨3, ![1, 128, 384]⟩
abbrev S1x8x128x384 : Shape := ⟨4, ![1, 8, 128, 384]⟩
abbrev S3x8x128x384 : Shape := ⟨4, ![3, 8, 128, 384]⟩
abbrev S1x128 : Shape := ⟨2, ![1, 128]⟩
abbrev S128x128 : Shape := ⟨2, ![128, 128]⟩
abbrev S16 : Shape := ⟨1, ![16]⟩
abbrev S1x1x16 : Shape := ⟨3, ![1, 1, 16]⟩
abbrev S128x128x1 : Shape := ⟨3, ![128, 128, 1]⟩
abbrev S128x128x16 : Shape := ⟨3, ![128, 128, 16]⟩
abbrev S128x128x16x1 : Shape := ⟨4, ![128, 128, 16, 1]⟩
abbrev S128x128x16x8 : Shape := ⟨4, ![128, 128, 16, 8]⟩
abbrev S128x8x128x16 : Shape := ⟨4, ![128, 8, 128, 16]⟩
abbrev S8 : Shape := ⟨1, ![8]⟩
abbrev S2x16384x512 : Shape := ⟨3, ![2, 16384, 512]⟩
abbrev S1x128x512 : Shape := ⟨3, ![1, 128, 512]⟩
abbrev S1x128x128 : Shape := ⟨3, ![1, 128, 128]⟩
abbrev S16x128 : Shape := ⟨2, ![16, 128]⟩
abbrev S1x8x128x16 : Shape := ⟨4, ![1, 8, 128, 16]⟩
abbrev S1x128x64 : Shape := ⟨3, ![1, 128, 64]⟩
abbrev S128x64 : Shape := ⟨2, ![128, 64]⟩
abbrev S1x1x128x128 : Shape := ⟨4, ![1, 1, 128, 128]⟩
abbrev S16x64 : Shape := ⟨2, ![16, 64]⟩
abbrev S128x16 : Shape := ⟨2, ![128, 16]⟩
abbrev S1x1x128x16 : Shape := ⟨4, ![1, 1, 128, 16]⟩
abbrev S1 : Shape := ⟨1, ![1]⟩

abbrev nBuf : Space → Nat
  | .hbm => 181
  | .vmem => 22
  | .smem => 1
  | _ => 0

abbrev hbmTy0_0 (i : Nat) : BufTy := match i % 128 with
  | 0 => ⟨S2x16384x5376, .bf16⟩
  | 1 => ⟨S16x5376, .bf16⟩
  | 2 => ⟨S32x8, .f32⟩
  | 3 => ⟨S1x8, .f32⟩
  | 4 => ⟨S128, .i32⟩
  | 5 => ⟨S384, .i32⟩
  | 6 => ⟨S1x384, .i32⟩
  | 7 => ⟨S_, .i32⟩
  | 8 => ⟨S1x384, .i32⟩
  | 9 => ⟨S1x384, .i32⟩
  | 10 => ⟨S128x1, .i32⟩
  | 11 => ⟨S128x384, .i32⟩
  | 12 => ⟨S128x384, .i32⟩
  | 13 => ⟨S128x384, .i32⟩
  | 14 => ⟨S_, .i32⟩
  | 15 => ⟨S128x384, .i32⟩
  | 16 => ⟨S128x384, .i1⟩
  | 17 => ⟨S_, .i32⟩
  | 18 => ⟨S_, .i32⟩
  | 19 => ⟨S128x384, .i32⟩
  | 20 => ⟨S128x384, .i32⟩
  | 21 => ⟨S128x384, .i32⟩
  | 22 => ⟨S128x384, .i32⟩
  | 23 => ⟨S_, .i32⟩
  | 24 => ⟨S128x384, .i32⟩
  | 25 => ⟨S128x384, .i32⟩
  | 26 => ⟨S128x384, .f32⟩
  | 27 => ⟨S_, .f32⟩
  | 28 => ⟨S128x384, .f32⟩
  | 29 => ⟨S128x384, .f32⟩
  | 30 => ⟨S128x384, .f32⟩
  | 31 => ⟨S_, .f32⟩
  | 32 => ⟨S128x384, .f32⟩
  | 33 => ⟨S128x384, .f32⟩
  | 34 => ⟨S_, .f32⟩
  | 35 => ⟨S128x384, .f32⟩
  | 36 => ⟨S128x384, .f32⟩
  | 37 => ⟨S128x384, .i32⟩
  | 38 => ⟨S_, .i32⟩
  | 39 => ⟨S128x384, .i32⟩
  | 40 => ⟨S128x384, .i32⟩
  | 41 => ⟨S_, .i32⟩
  | 42 => ⟨S128x384, .i32⟩
  | 43 => ⟨S128x384, .i32⟩
  | 44 => ⟨S_, .i32⟩
  | 45 => ⟨S128x384, .i32⟩
  | 46 => ⟨S128x384, .i1⟩
  | 47 => ⟨S128x384, .i32⟩
  | 48 => ⟨S128x384, .i32⟩
  | 49 => ⟨S128x384, .i32⟩
  | 50 => ⟨S_, .i32⟩
  | 51 => ⟨S128x384, .i32⟩
  | 52 => ⟨S128x384, .i1⟩
  | 53 => ⟨S_, .i32⟩
  | 54 => ⟨S128x384, .i32⟩
  | 55 => ⟨S128x384, .i32⟩
  | 56 => ⟨S128x384, .i32⟩
  | 57 => ⟨S128x384x1, .i32⟩
  | 58 => ⟨S128x384x8, .f32⟩
  | 59 => ⟨S8x128x384, .f32⟩
  | 60 => ⟨S128x384, .i32⟩
  | 61 => ⟨S_, .i32⟩
  | 62 => ⟨S128x384, .i32⟩
  | 63 => ⟨S128x384, .i1⟩
  | 64 => ⟨S_, .i32⟩
  | 65 => ⟨S_, .i32⟩
  | 66 => ⟨S384, .i32⟩
  | 67 => ⟨S384, .i32⟩
  | 68 => ⟨S384, .i32⟩
  | 69 => ⟨S_, .i32⟩
  | 70 => ⟨S384, .i32⟩
  | 71 => ⟨S384, .i1⟩
  | 72 => ⟨S384, .i32⟩
  | 73 => ⟨S384, .i32⟩
  | 74 => ⟨S_, .i32⟩
  | 75 => ⟨S384, .i32⟩
  | 76 => ⟨S384, .i1⟩
  | 77 => ⟨S384, .i1⟩
  | 78 => ⟨S_, .i32⟩
  | 79 => ⟨S384, .i32⟩
  | 80 => ⟨S384, .i32⟩
  | 81 => ⟨S384, .i32⟩
  | 82 => ⟨S1x384, .i32⟩
  | 83 => ⟨S_, .i32⟩
  | 84 => ⟨S1x384, .i32⟩
  | 85 => ⟨S1x384, .i1⟩
  | 86 => ⟨S128x384, .i1⟩
  | 87 => ⟨S128x384, .i1⟩
  | 88 => ⟨S_, .i32⟩
  | 89 => ⟨S1x384, .i32⟩
  | 90 => ⟨S1x384, .i1⟩
  | 91 => ⟨S128x384, .i1⟩
  | 92 => ⟨S128x384, .i1⟩
  | 93 => ⟨S1x128x384, .i1⟩
  | 94 => ⟨S_, .f32⟩
  | 95 => ⟨S_, .f32⟩
  | 96 => ⟨S8x128x384, .i1⟩
  | 97 => ⟨S8x128x384, .f32⟩
  | 98 => ⟨S8x128x384, .f32⟩
  | 99 => ⟨S1x128x384, .i1⟩
  | 100 => ⟨S_, .f32⟩
  | 101 => ⟨S_, .f32⟩
  | 102 => ⟨S8x128x384, .i1⟩
  | 103 => ⟨S8x128x384, .f32⟩
  | 104 => ⟨S8x128x384, .f32⟩
  | 105 => ⟨S1x128x384, .i1⟩
  | 106 => ⟨S_, .f32⟩
  | 107 => ⟨S_, .f32⟩
  | 108 => ⟨S8x128x384, .i1⟩
  | 109 => ⟨S8x128x384, .f32⟩
  | 110 => ⟨S8x128x384, .f32⟩
  | 111 => ⟨S1x8x128x384, .f32⟩
  | 112 => ⟨S1x8x128x384, .f32⟩
  | 113 => ⟨S1x8x128x384, .f32⟩
  | 114 => ⟨S3x8x128x384, .f32⟩
  | 115 => ⟨S128, .i32⟩
  | 116 => ⟨S128x1, .i32⟩
  | 117 => ⟨S_, .i32⟩
  | 118 => ⟨S128x1, .i32⟩
  | 119 => ⟨S128x1, .i32⟩
  | 120 => ⟨S_, .i32⟩
  | 121 => ⟨S128x1, .i32⟩
  | 122 => ⟨S128x1, .i32⟩
  | 123 => ⟨S1x128, .i32⟩
  | 124 => ⟨S128x128, .i32⟩
  | 125 => ⟨S128x128, .i32⟩
  | 126 => ⟨S128x128, .i32⟩
  | 127 => ⟨S16, .i32⟩
  | _ => ⟨S2x16384x5376, .bf16⟩

abbrev hbmTy0_1 (i : Nat) : BufTy := match i % 128 with
  | 0 => ⟨S1x1x16, .i32⟩
  | 1 => ⟨S128x128x1, .i32⟩
  | 2 => ⟨S128x128x16, .i32⟩
  | 3 => ⟨S128x128x16, .i32⟩
  | 4 => ⟨S128x128x16, .i32⟩
  | 5 => ⟨S_, .i32⟩
  | 6 => ⟨S128x128x16, .i32⟩
  | 7 => ⟨S128x128x16, .i1⟩
  | 8 => ⟨S_, .i32⟩
  | 9 => ⟨S_, .i32⟩
  | 10 => ⟨S128x128x16, .i32⟩
  | 11 => ⟨S128x128x16, .i32⟩
  | 12 => ⟨S128x128x16, .i32⟩
  | 13 => ⟨S128x128x16, .i32⟩
  | 14 => ⟨S_, .i32⟩
  | 15 => ⟨S128x128x16, .i32⟩
  | 16 => ⟨S128x128x16, .i32⟩
  | 17 => ⟨S128x128x16, .f32⟩
  | 18 => ⟨S_, .f32⟩
  | 19 => ⟨S128x128x16, .f32⟩
  | 20 => ⟨S128x128x16, .f32⟩
  | 21 => ⟨S128x128x16, .f32⟩
  | 22 => ⟨S_, .f32⟩
  | 23 => ⟨S128x128x16, .f32⟩
  | 24 => ⟨S128x128x16, .f32⟩
  | 25 => ⟨S_, .f32⟩
  | 26 => ⟨S128x128x16, .f32⟩
  | 27 => ⟨S128x128x16, .f32⟩
  | 28 => ⟨S128x128x16, .i32⟩
  | 29 => ⟨S_, .i32⟩
  | 30 => ⟨S128x128x16, .i32⟩
  | 31 => ⟨S128x128x16, .i32⟩
  | 32 => ⟨S_, .i32⟩
  | 33 => ⟨S128x128x16, .i32⟩
  | 34 => ⟨S128x128x16, .i32⟩
  | 35 => ⟨S_, .i32⟩
  | 36 => ⟨S128x128x16, .i32⟩
  | 37 => ⟨S128x128x16, .i1⟩
  | 38 => ⟨S128x128x16, .i32⟩
  | 39 => ⟨S128x128x16, .i32⟩
  | 40 => ⟨S128x128x16, .i32⟩
  | 41 => ⟨S_, .i32⟩
  | 42 => ⟨S128x128x16, .i32⟩
  | 43 => ⟨S128x128x16, .i1⟩
  | 44 => ⟨S_, .i32⟩
  | 45 => ⟨S128x128x16, .i32⟩
  | 46 => ⟨S128x128x16, .i32⟩
  | 47 => ⟨S128x128x16, .i32⟩
  | 48 => ⟨S128x128x16x1, .i32⟩
  | 49 => ⟨S128x128x16x8, .f32⟩
  | 50 => ⟨S128x8x128x16, .f32⟩
  | 51 => ⟨S8, .f32⟩
  | 52 => ⟨S2x16384x512, .bf16⟩
  | _ => ⟨S2x16384x5376, .bf16⟩

abbrev hbmTy (i : Nat) : BufTy := match i / 128 with
  | 0 => hbmTy0_0 i
  | 1 => hbmTy0_1 i
  | _ => ⟨S2x16384x5376, .bf16⟩

abbrev bufTy : (tb : Table) → Fin (tcTables nBuf tb) → BufTy
  | .hbm, ⟨i, _⟩ => hbmTy i
  | .local _ .vmem, ⟨0, _⟩ => ⟨S1x128x512, .bf16⟩
  | .local _ .vmem, ⟨1, _⟩ => ⟨S1x128x512, .bf16⟩
  | .local _ .vmem, ⟨2, _⟩ => ⟨S1x128x128, .bf16⟩
  | .local _ .vmem, ⟨3, _⟩ => ⟨S1x128x128, .bf16⟩
  | .local _ .vmem, ⟨4, _⟩ => ⟨S1x128x128, .bf16⟩
  | .local _ .vmem, ⟨5, _⟩ => ⟨S1x128x128, .bf16⟩
  | .local _ .vmem, ⟨6, _⟩ => ⟨S1x128x128, .bf16⟩
  | .local _ .vmem, ⟨7, _⟩ => ⟨S1x128x128, .bf16⟩
  | .local _ .vmem, ⟨8, _⟩ => ⟨S1x128x128, .bf16⟩
  | .local _ .vmem, ⟨9, _⟩ => ⟨S1x128x128, .bf16⟩
  | .local _ .vmem, ⟨10, _⟩ => ⟨S1x128x128, .bf16⟩
  | .local _ .vmem, ⟨11, _⟩ => ⟨S1x128x128, .bf16⟩
  | .local _ .vmem, ⟨12, _⟩ => ⟨S1x128x128, .bf16⟩
  | .local _ .vmem, ⟨13, _⟩ => ⟨S1x128x128, .bf16⟩
  | .local _ .vmem, ⟨14, _⟩ => ⟨S16x128, .bf16⟩
  | .local _ .vmem, ⟨15, _⟩ => ⟨S16x128, .bf16⟩
  | .local _ .vmem, ⟨16, _⟩ => ⟨S1x8x128x384, .f32⟩
  | .local _ .vmem, ⟨17, _⟩ => ⟨S1x8x128x384, .f32⟩
  | .local _ .vmem, ⟨18, _⟩ => ⟨S1x8x128x16, .f32⟩
  | .local _ .vmem, ⟨19, _⟩ => ⟨S1x8x128x16, .f32⟩
  | .local _ .vmem, ⟨20, _⟩ => ⟨S1x128x512, .bf16⟩
  | .local _ .vmem, ⟨21, _⟩ => ⟨S1x128x512, .bf16⟩
  | .local _ .smem, ⟨0, _⟩ => ⟨S8, .f32⟩
  | _, _ => ⟨S2x16384x5376, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .smem, ⟨0, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_c_2 : Ref sig .tc := ⟨.hbm, 18, rfl⟩
abbrev main_call0_v0 : Ref sig .tc := ⟨.hbm, 19, rfl⟩
abbrev main_call0_v1 : Ref sig .tc := ⟨.hbm, 20, rfl⟩
abbrev main_v11 : Ref sig .tc := ⟨.hbm, 21, rfl⟩
abbrev main_v12 : Ref sig .tc := ⟨.hbm, 22, rfl⟩
abbrev main_c_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_6 : Ref sig .tc := ⟨.hbm, 38, rfl⟩
abbrev main_v24 : Ref sig .tc := ⟨.hbm, 39, rfl⟩
abbrev main_v25 : Ref sig .tc := ⟨.hbm, 40, rfl⟩
abbrev main_c_7 : Ref sig .tc := ⟨.hbm, 41, rfl⟩
abbrev main_v26 : Ref sig .tc := ⟨.hbm, 42, rfl⟩
abbrev main_v27 : Ref sig .tc := ⟨.hbm, 43, rfl⟩
abbrev main_c_8 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_9 : Ref sig .tc := ⟨.hbm, 50, rfl⟩
abbrev main_v33 : Ref sig .tc := ⟨.hbm, 51, rfl⟩
abbrev main_v34 : Ref sig .tc := ⟨.hbm, 52, rfl⟩
abbrev main_c_10 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_c_11 : Ref sig .tc := ⟨.hbm, 61, rfl⟩
abbrev main_v42 : Ref sig .tc := ⟨.hbm, 62, rfl⟩
abbrev main_v43 : Ref sig .tc := ⟨.hbm, 63, rfl⟩
abbrev main_c_12 : Ref sig .tc := ⟨.hbm, 64, rfl⟩
abbrev main_call2_v0 : Ref sig .tc := ⟨.hbm, 65, rfl⟩
abbrev main_call2_v1 : Ref sig .tc := ⟨.hbm, 66, rfl⟩
abbrev main_call2_v2 : Ref sig .tc := ⟨.hbm, 67, rfl⟩
abbrev main_call2_v3 : Ref sig .tc := ⟨.hbm, 68, rfl⟩
abbrev main_call2_v4 : Ref sig .tc := ⟨.hbm, 69, rfl⟩
abbrev main_call2_v5 : Ref sig .tc := ⟨.hbm, 70, rfl⟩
abbrev main_call2_v6 : Ref sig .tc := ⟨.hbm, 71, rfl⟩
abbrev main_call2_v7 : Ref sig .tc := ⟨.hbm, 72, rfl⟩
abbrev main_call2_v8 : Ref sig .tc := ⟨.hbm, 73, rfl⟩
abbrev main_call2_c : Ref sig .tc := ⟨.hbm, 74, rfl⟩
abbrev main_call2_v9 : Ref sig .tc := ⟨.hbm, 75, rfl⟩
abbrev main_call2_v10 : Ref sig .tc := ⟨.hbm, 76, rfl⟩
abbrev main_call2_v11 : Ref sig .tc := ⟨.hbm, 77, rfl⟩
abbrev main_call2_c_0 : Ref sig .tc := ⟨.hbm, 78, rfl⟩
abbrev main_call2_v12 : Ref sig .tc := ⟨.hbm, 79, rfl⟩
abbrev main_call2_v13 : Ref sig .tc := ⟨.hbm, 80, rfl⟩
abbrev main_v44 : Ref sig .tc := ⟨.hbm, 81, rfl⟩
abbrev main_v45 : Ref sig .tc := ⟨.hbm, 82, rfl⟩
abbrev main_c_13 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_c_14 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_cst_15 : Ref sig .tc := ⟨.hbm, 94, rfl⟩
abbrev main_call3_v0 : Ref sig .tc := ⟨.hbm, 95, rfl⟩
abbrev main_call3_v1 : Ref sig .tc := ⟨.hbm, 96, rfl⟩
abbrev main_call3_v2 : Ref sig .tc := ⟨.hbm, 97, rfl⟩
abbrev main_v55 : Ref sig .tc := ⟨.hbm, 98, rfl⟩
abbrev main_v56 : Ref sig .tc := ⟨.hbm, 99, rfl⟩
abbrev main_cst_16 : Ref sig .tc := ⟨.hbm, 100, rfl⟩
abbrev main_call4_v0 : Ref sig .tc := ⟨.hbm, 101, rfl⟩
abbrev main_call4_v1 : Ref sig .tc := ⟨.hbm, 102, rfl⟩
abbrev main_call4_v2 : Ref sig .tc := ⟨.hbm, 103, rfl⟩
abbrev main_v57 : Ref sig .tc := ⟨.hbm, 104, rfl⟩
abbrev main_v58 : Ref sig .tc := ⟨.hbm, 105, rfl⟩
abbrev main_cst_17 : Ref sig .tc := ⟨.hbm, 106, rfl⟩
abbrev main_call5_v0 : Ref sig .tc := ⟨.hbm, 107, rfl⟩
abbrev main_call5_v1 : Ref sig .tc := ⟨.hbm, 108, rfl⟩
abbrev main_call5_v2 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_c_18 : Ref sig .tc := ⟨.hbm, 117, rfl⟩
abbrev main_v66 : Ref sig .tc := ⟨.hbm, 118, rfl⟩
abbrev main_v67 : Ref sig .tc := ⟨.hbm, 119, rfl⟩
abbrev main_c_19 : Ref sig .tc := ⟨.hbm, 120, rfl⟩
abbrev main_v68 : Ref sig .tc := ⟨.hbm, 121, rfl⟩
abbrev main_v69 : Ref sig .tc := ⟨.hbm, 122, rfl⟩
abbrev main_v70 : Ref sig .tc := ⟨.hbm, 123, rfl⟩
abbrev main_v71 : Ref sig .tc := ⟨.hbm, 124, rfl⟩
abbrev main_v72 : Ref sig .tc := ⟨.hbm, 125, rfl⟩
abbrev main_v73 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩
abbrev main_v77 : Ref sig .tc := ⟨.hbm, 130, rfl⟩
abbrev main_v78 : Ref sig .tc := ⟨.hbm, 131, rfl⟩
abbrev main_v79 : Ref sig .tc := ⟨.hbm, 132, rfl⟩
abbrev main_c_20 : Ref sig .tc := ⟨.hbm, 133, rfl⟩
abbrev main_v80 : Ref sig .tc := ⟨.hbm, 134, rfl⟩
abbrev main_v81 : Ref sig .tc := ⟨.hbm, 135, rfl⟩
abbrev main_c_21 : Ref sig .tc := ⟨.hbm, 136, rfl⟩
abbrev main_c_22 : Ref sig .tc := ⟨.hbm, 137, rfl⟩
abbrev main_call6_v0 : Ref sig .tc := ⟨.hbm, 138, rfl⟩
abbrev main_call6_v1 : Ref sig .tc := ⟨.hbm, 139, rfl⟩
abbrev main_v82 : Ref sig .tc := ⟨.hbm, 140, rfl⟩
abbrev main_v83 : Ref sig .tc := ⟨.hbm, 141, rfl⟩
abbrev main_c_23 : Ref sig .tc := ⟨.hbm, 142, rfl⟩
abbrev main_v84 : Ref sig .tc := ⟨.hbm, 143, rfl⟩
abbrev main_v85 : Ref sig .tc := ⟨.hbm, 144, rfl⟩
abbrev main_v86 : Ref sig .tc := ⟨.hbm, 145, rfl⟩
abbrev main_cst_24 : Ref sig .tc := ⟨.hbm, 146, rfl⟩
abbrev main_v87 : Ref sig .tc := ⟨.hbm, 147, rfl⟩
abbrev main_v88 : Ref sig .tc := ⟨.hbm, 148, rfl⟩
abbrev main_v89 : Ref sig .tc := ⟨.hbm, 149, rfl⟩
abbrev main_cst_25 : Ref sig .tc := ⟨.hbm, 150, rfl⟩
abbrev main_v90 : Ref sig .tc := ⟨.hbm, 151, rfl⟩
abbrev main_v91 : Ref sig .tc := ⟨.hbm, 152, rfl⟩
abbrev main_cst_26 : Ref sig .tc := ⟨.hbm, 153, rfl⟩
abbrev main_v92 : Ref sig .tc := ⟨.hbm, 154, rfl⟩
abbrev main_v93 : Ref sig .tc := ⟨.hbm, 155, rfl⟩
abbrev main_v94 : Ref sig .tc := ⟨.hbm, 156, rfl⟩
abbrev main_c_27 : Ref sig .tc := ⟨.hbm, 157, rfl⟩
abbrev main_v95 : Ref sig .tc := ⟨.hbm, 158, rfl⟩
abbrev main_v96 : Ref sig .tc := ⟨.hbm, 159, rfl⟩
abbrev main_c_28 : Ref sig .tc := ⟨.hbm, 160, rfl⟩
abbrev main_v97 : Ref sig .tc := ⟨.hbm, 161, rfl⟩
abbrev main_v98 : Ref sig .tc := ⟨.hbm, 162, rfl⟩
abbrev main_c_29 : Ref sig .tc := ⟨.hbm, 163, rfl⟩
abbrev main_v99 : Ref sig .tc := ⟨.hbm, 164, rfl⟩
abbrev main_v100 : Ref sig .tc := ⟨.hbm, 165, rfl⟩
abbrev main_v101 : Ref sig .tc := ⟨.hbm, 166, rfl⟩
abbrev main_v102 : Ref sig .tc := ⟨.hbm, 167, rfl⟩
abbrev main_v103 : Ref sig .tc := ⟨.hbm, 168, rfl⟩
abbrev main_c_30 : Ref sig .tc := ⟨.hbm, 169, rfl⟩
abbrev main_v104 : Ref sig .tc := ⟨.hbm, 170, rfl⟩
abbrev main_v105 : Ref sig .tc := ⟨.hbm, 171, rfl⟩
abbrev main_c_31 : Ref sig .tc := ⟨.hbm, 172, rfl⟩
abbrev main_v106 : Ref sig .tc := ⟨.hbm, 173, rfl⟩
abbrev main_v107 : Ref sig .tc := ⟨.hbm, 174, rfl⟩
abbrev main_v108 : Ref sig .tc := ⟨.hbm, 175, rfl⟩
abbrev main_v109 : Ref sig .tc := ⟨.hbm, 176, rfl⟩
abbrev main_v110 : Ref sig .tc := ⟨.hbm, 177, rfl⟩
abbrev main_v111 : Ref sig .tc := ⟨.hbm, 178, rfl⟩
abbrev main_v112 : Ref sig .tc := ⟨.hbm, 179, rfl⟩
abbrev main_v113 : Ref sig .tc := ⟨.hbm, 180, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨2, ![128, 2], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg1.toNat, arg0.toNat, c4_i32.toNat]

def cc0_transform_2 (i : grid0.Coords) : Fin 3 → Nat :=
  let arg0 : BitVec 32 := BitVec.ofNat 32 (i 0).val
  let arg1 : BitVec 32 := BitVec.ofNat 32 (i 1).val
  let c_m1_i32 : BitVec 32 := 4294967295#32
  let v0 : BitVec 32 := Scalar.addi arg0 c_m1_i32
  let c0_i32 : BitVec 32 := 0#32
  let c127_i32 : BitVec 32 := 127#32
  let v1 : BitVec 32 := Scalar.maxsi c0_i32 v0
  let v2 : BitVec 32 := Scalar.minsi c127_i32 v1
  let c40_i32 : BitVec 32 := 40#32
  let c0_i32_0 : BitVec 32 := 0#32
  ![arg1.toNat, v2.toNat, c40_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c127_i32 : BitVec 32 := 127#32
  let v1 : BitVec 32 := Scalar.maxsi c0_i32_0 v0
  let v2 : BitVec 32 := Scalar.minsi c127_i32 v1
  let c40_i32 : BitVec 32 := 40#32
  let c0_i32_1 : BitVec 32 := 0#32
  ![arg1.toNat, v2.toNat, c40_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c127_i32 : BitVec 32 := 127#32
  let v1 : BitVec 32 := Scalar.maxsi c0_i32 v0
  let v2 : BitVec 32 := Scalar.minsi c127_i32 v1
  let c40_i32 : BitVec 32 := 40#32
  let c0_i32_0 : BitVec 32 := 0#32
  ![arg1.toNat, v2.toNat, c40_i32.toNat]

def cc0_transform_5 (i : grid0.Coords) : Fin 3 → Nat :=
  let arg0 : BitVec 32 := BitVec.ofNat 32 (i 0).val
  let arg1 : BitVec 32 := BitVec.ofNat 32 (i 1).val
  let c_m1_i32 : BitVec 32 := 4294967295#32
  let v0 : BitVec 32 := Scalar.addi arg0 c_m1_i32
  let c0_i32 : BitVec 32 := 0#32
  let c127_i32 : BitVec 32 := 127#32
  let v1 : BitVec 32 := Scalar.maxsi c0_i32 v0
  let v2 : BitVec 32 := Scalar.minsi c127_i32 v1
  let c41_i32 : BitVec 32 := 41#32
  let c0_i32_0 : BitVec 32 := 0#32
  ![arg1.toNat, v2.toNat, c41_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c127_i32 : BitVec 32 := 127#32
  let v1 : BitVec 32 := Scalar.maxsi c0_i32_0 v0
  let v2 : BitVec 32 := Scalar.minsi c127_i32 v1
  let c41_i32 : BitVec 32 := 41#32
  let c0_i32_1 : BitVec 32 := 0#32
  ![arg1.toNat, v2.toNat, c41_i32.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c127_i32 : BitVec 32 := 127#32
  let v1 : BitVec 32 := Scalar.maxsi c0_i32 v0
  let v2 : BitVec 32 := Scalar.minsi c127_i32 v1
  let c41_i32 : BitVec 32 := 41#32
  let c0_i32_0 : BitVec 32 := 0#32
  ![arg1.toNat, v2.toNat, c41_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c40_i32 : BitVec 32 := 40#32
  let c0_i32_0 : BitVec 32 := 0#32
  ![c0_i32.toNat, c40_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c41_i32 : BitVec 32 := 41#32
  let c0_i32_0 : BitVec 32 := 0#32
  ![c0_i32.toNat, c41_i32.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c127_i32 : BitVec 32 := 127#32
  let v1 : BitVec 1 := Scalar.cmpi .eq arg0 c127_i32
  let c2_i32 : BitVec 32 := 2#32
  let c1_i32 : BitVec 32 := 1#32
  let v2 : BitVec 32 := Scalar.select v1 c2_i32 c1_i32
  let c0_i32_0 : BitVec 32 := 0#32
  let v3 : BitVec 32 := Scalar.select v0 c0_i32_0 v2
  let c0_i32_1 : BitVec 32 := 0#32
  let c0_i32_2 : BitVec 32 := 0#32
  let c0_i32_3 : BitVec 32 := 0#32
  let c0_i32_4 : BitVec 32 := 0#32
  ![v3.toNat, c0_i32_1.toNat, c0_i32_2.toNat, c0_i32_3.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S16x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S16x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x8x128x384 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x8x128x16 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x128x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== WaKernelIdeal.lean ====
abbrev S2x16384x5376 : Shape := ⟨3, ![2, 16384, 5376]⟩
abbrev S16x5376 : Shape := ⟨2, ![16, 5376]⟩
abbrev S32x8 : Shape := ⟨2, ![32, 8]⟩
abbrev S1x8 : Shape := ⟨2, ![1, 8]⟩
abbrev S128 : Shape := ⟨1, ![128]⟩
abbrev S384 : Shape := ⟨1, ![384]⟩
abbrev S1x384 : Shape := ⟨2, ![1, 384]⟩
abbrev S_ : Shape := ⟨0, ![]⟩
abbrev S128x1 : Shape := ⟨2, ![128, 1]⟩
abbrev S128x384 : Shape := ⟨2, ![128, 384]⟩
abbrev S128x384x1 : Shape := ⟨3, ![128, 384, 1]⟩
abbrev S128x384x8 : Shape := ⟨3, ![128, 384, 8]⟩
abbrev S8x128x384 : Shape := ⟨3, ![8, 128, 384]⟩
abbrev S1x128x384 : Shape := ⟨3, ![1, 128, 384]⟩
abbrev S1x8x128x384 : Shape := ⟨4, ![1, 8, 128, 384]⟩
abbrev S3x8x128x384 : Shape := ⟨4, ![3, 8, 128, 384]⟩
abbrev S1x128 : Shape := ⟨2, ![1, 128]⟩
abbrev S128x128 : Shape := ⟨2, ![128, 128]⟩
abbrev S16 : Shape := ⟨1, ![16]⟩
abbrev S1x1x16 : Shape := ⟨3, ![1, 1, 16]⟩
abbrev S128x128x1 : Shape := ⟨3, ![128, 128, 1]⟩
abbrev S128x128x16 : Shape := ⟨3, ![128, 128, 16]⟩
abbrev S128x128x16x1 : Shape := ⟨4, ![128, 128, 16, 1]⟩
abbrev S128x128x16x8 : Shape := ⟨4, ![128, 128, 16, 8]⟩
abbrev S128x8x128x16 : Shape := ⟨4, ![128, 8, 128, 16]⟩
abbrev S8 : Shape := ⟨1, ![8]⟩
abbrev S2x16384x512 : Shape := ⟨3, ![2, 16384, 512]⟩
abbrev S1x128x512 : Shape := ⟨3, ![1, 128, 512]⟩
abbrev S1x128x128 : Shape := ⟨3, ![1, 128, 128]⟩
abbrev S16x128 : Shape := ⟨2, ![16, 128]⟩
abbrev S1x8x128x16 : Shape := ⟨4, ![1, 8, 128, 16]⟩
abbrev S1x128x64 : Shape := ⟨3, ![1, 128, 64]⟩
abbrev S128x64 : Shape := ⟨2, ![128, 64]⟩
abbrev S1x1x128x128 : Shape := ⟨4, ![1, 1, 128, 128]⟩
abbrev S16x64 : Shape := ⟨2, ![16, 64]⟩
abbrev S128x16 : Shape := ⟨2, ![128, 16]⟩
abbrev S1x1x128x16 : Shape := ⟨4, ![1, 1, 128, 16]⟩
abbrev S1 : Shape := ⟨1, ![1]⟩

abbrev nBuf : Space → Nat
  | .hbm => 181
  | .vmem => 22
  | .smem => 1
  | _ => 0

abbrev hbmTy0_0 (i : Nat) : BufTy := match i % 128 with
  | 0 => ⟨S2x16384x5376, .bf16⟩
  | 1 => ⟨S16x5376, .bf16⟩
  | 2 => ⟨S32x8, .f32⟩
  | 3 => ⟨S1x8, .f32⟩
  | 4 => ⟨S128, .i32⟩
  | 5 => ⟨S384, .i32⟩
  | 6 => ⟨S1x384, .i32⟩
  | 7 => ⟨S_, .i32⟩
  | 8 => ⟨S1x384, .i32⟩
  | 9 => ⟨S1x384, .i32⟩
  | 10 => ⟨S128x1, .i32⟩
  | 11 => ⟨S128x384, .i32⟩
  | 12 => ⟨S128x384, .i32⟩
  | 13 => ⟨S128x384, .i32⟩
  | 14 => ⟨S_, .i32⟩
  | 15 => ⟨S128x384, .i32⟩
  | 16 => ⟨S128x384, .i1⟩
  | 17 => ⟨S_, .i32⟩
  | 18 => ⟨S_, .i32⟩
  | 19 => ⟨S128x384, .i32⟩
  | 20 => ⟨S128x384, .i32⟩
  | 21 => ⟨S128x384, .i32⟩
  | 22 => ⟨S128x384, .i32⟩
  | 23 => ⟨S_, .i32⟩
  | 24 => ⟨S128x384, .i32⟩
  | 25 => ⟨S128x384, .i32⟩
  | 26 => ⟨S128x384, .f32⟩
  | 27 => ⟨S_, .f32⟩
  | 28 => ⟨S128x384, .f32⟩
  | 29 => ⟨S128x384, .f32⟩
  | 30 => ⟨S128x384, .f32⟩
  | 31 => ⟨S_, .f32⟩
  | 32 => ⟨S128x384, .f32⟩
  | 33 => ⟨S128x384, .f32⟩
  | 34 => ⟨S_, .f32⟩
  | 35 => ⟨S128x384, .f32⟩
  | 36 => ⟨S128x384, .f32⟩
  | 37 => ⟨S128x384, .i32⟩
  | 38 => ⟨S_, .i32⟩
  | 39 => ⟨S128x384, .i32⟩
  | 40 => ⟨S128x384, .i32⟩
  | 41 => ⟨S_, .i32⟩
  | 42 => ⟨S128x384, .i32⟩
  | 43 => ⟨S128x384, .i32⟩
  | 44 => ⟨S_, .i32⟩
  | 45 => ⟨S128x384, .i32⟩
  | 46 => ⟨S128x384, .i1⟩
  | 47 => ⟨S128x384, .i32⟩
  | 48 => ⟨S128x384, .i32⟩
  | 49 => ⟨S128x384, .i32⟩
  | 50 => ⟨S_, .i32⟩
  | 51 => ⟨S128x384, .i32⟩
  | 52 => ⟨S128x384, .i1⟩
  | 53 => ⟨S_, .i32⟩
  | 54 => ⟨S128x384, .i32⟩
  | 55 => ⟨S128x384, .i32⟩
  | 56 => ⟨S128x384, .i32⟩
  | 57 => ⟨S128x384x1, .i32⟩
  | 58 => ⟨S128x384x8, .f32⟩
  | 59 => ⟨S8x128x384, .f32⟩
  | 60 => ⟨S128x384, .i32⟩
  | 61 => ⟨S_, .i32⟩
  | 62 => ⟨S128x384, .i32⟩
  | 63 => ⟨S128x384, .i1⟩
  | 64 => ⟨S_, .i32⟩
  | 65 => ⟨S_, .i32⟩
  | 66 => ⟨S384, .i32⟩
  | 67 => ⟨S384, .i32⟩
  | 68 => ⟨S384, .i32⟩
  | 69 => ⟨S_, .i32⟩
  | 70 => ⟨S384, .i32⟩
  | 71 => ⟨S384, .i1⟩
  | 72 => ⟨S384, .i32⟩
  | 73 => ⟨S384, .i32⟩
  | 74 => ⟨S_, .i32⟩
  | 75 => ⟨S384, .i32⟩
  | 76 => ⟨S384, .i1⟩
  | 77 => ⟨S384, .i1⟩
  | 78 => ⟨S_, .i32⟩
  | 79 => ⟨S384, .i32⟩
  | 80 => ⟨S384, .i32⟩
  | 81 => ⟨S384, .i32⟩
  | 82 => ⟨S1x384, .i32⟩
  | 83 => ⟨S_, .i32⟩
  | 84 => ⟨S1x384, .i32⟩
  | 85 => ⟨S1x384, .i1⟩
  | 86 => ⟨S128x384, .i1⟩
  | 87 => ⟨S128x384, .i1⟩
  | 88 => ⟨S_, .i32⟩
  | 89 => ⟨S1x384, .i32⟩
  | 90 => ⟨S1x384, .i1⟩
  | 91 => ⟨S128x384, .i1⟩
  | 92 => ⟨S128x384, .i1⟩
  | 93 => ⟨S1x128x384, .i1⟩
  | 94 => ⟨S_, .f32⟩
  | 95 => ⟨S_, .f32⟩
  | 96 => ⟨S8x128x384, .i1⟩
  | 97 => ⟨S8x128x384, .f32⟩
  | 98 => ⟨S8x128x384, .f32⟩
  | 99 => ⟨S1x128x384, .i1⟩
  | 100 => ⟨S_, .f32⟩
  | 101 => ⟨S_, .f32⟩
  | 102 => ⟨S8x128x384, .i1⟩
  | 103 => ⟨S8x128x384, .f32⟩
  | 104 => ⟨S8x128x384, .f32⟩
  | 105 => ⟨S1x128x384, .i1⟩
  | 106 => ⟨S_, .f32⟩
  | 107 => ⟨S_, .f32⟩
  | 108 => ⟨S8x128x384, .i1⟩
  | 109 => ⟨S8x128x384, .f32⟩
  | 110 => ⟨S8x128x384, .f32⟩
  | 111 => ⟨S1x8x128x384, .f32⟩
  | 112 => ⟨S1x8x128x384, .f32⟩
  | 113 => ⟨S1x8x128x384, .f32⟩
  | 114 => ⟨S3x8x128x384, .f32⟩
  | 115 => ⟨S128, .i32⟩
  | 116 => ⟨S128x1, .i32⟩
  | 117 => ⟨S_, .i32⟩
  | 118 => ⟨S128x1, .i32⟩
  | 119 => ⟨S128x1, .i32⟩
  | 120 => ⟨S_, .i32⟩
  | 121 => ⟨S128x1, .i32⟩
  | 122 => ⟨S128x1, .i32⟩
  | 123 => ⟨S1x128, .i32⟩
  | 124 => ⟨S128x128, .i32⟩
  | 125 => ⟨S128x128, .i32⟩
  | 126 => ⟨S128x128, .i32⟩
  | 127 => ⟨S16, .i32⟩
  | _ => ⟨S2x16384x5376, .bf16⟩

abbrev hbmTy0_1 (i : Nat) : BufTy := match i % 128 with
  | 0 => ⟨S1x1x16, .i32⟩
  | 1 => ⟨S128x128x1, .i32⟩
  | 2 => ⟨S128x128x16, .i32⟩
  | 3 => ⟨S128x128x16, .i32⟩
  | 4 => ⟨S128x128x16, .i32⟩
  | 5 => ⟨S_, .i32⟩
  | 6 => ⟨S128x128x16, .i32⟩
  | 7 => ⟨S128x128x16, .i1⟩
  | 8 => ⟨S_, .i32⟩
  | 9 => ⟨S_, .i32⟩
  | 10 => ⟨S128x128x16, .i32⟩
  | 11 => ⟨S128x128x16, .i32⟩
  | 12 => ⟨S128x128x16, .i32⟩
  | 13 => ⟨S128x128x16, .i32⟩
  | 14 => ⟨S_, .i32⟩
  | 15 => ⟨S128x128x16, .i32⟩
  | 16 => ⟨S128x128x16, .i32⟩
  | 17 => ⟨S128x128x16, .f32⟩
  | 18 => ⟨S_, .f32⟩
  | 19 => ⟨S128x128x16, .f32⟩
  | 20 => ⟨S128x128x16, .f32⟩
  | 21 => ⟨S128x128x16, .f32⟩
  | 22 => ⟨S_, .f32⟩
  | 23 => ⟨S128x128x16, .f32⟩
  | 24 => ⟨S128x128x16, .f32⟩
  | 25 => ⟨S_, .f32⟩
  | 26 => ⟨S128x128x16, .f32⟩
  | 27 => ⟨S128x128x16, .f32⟩
  | 28 => ⟨S128x128x16, .i32⟩
  | 29 => ⟨S_, .i32⟩
  | 30 => ⟨S128x128x16, .i32⟩
  | 31 => ⟨S128x128x16, .i32⟩
  | 32 => ⟨S_, .i32⟩
  | 33 => ⟨S128x128x16, .i32⟩
  | 34 => ⟨S128x128x16, .i32⟩
  | 35 => ⟨S_, .i32⟩
  | 36 => ⟨S128x128x16, .i32⟩
  | 37 => ⟨S128x128x16, .i1⟩
  | 38 => ⟨S128x128x16, .i32⟩
  | 39 => ⟨S128x128x16, .i32⟩
  | 40 => ⟨S128x128x16, .i32⟩
  | 41 => ⟨S_, .i32⟩
  | 42 => ⟨S128x128x16, .i32⟩
  | 43 => ⟨S128x128x16, .i1⟩
  | 44 => ⟨S_, .i32⟩
  | 45 => ⟨S128x128x16, .i32⟩
  | 46 => ⟨S128x128x16, .i32⟩
  | 47 => ⟨S128x128x16, .i32⟩
  | 48 => ⟨S128x128x16x1, .i32⟩
  | 49 => ⟨S128x128x16x8, .f32⟩
  | 50 => ⟨S128x8x128x16, .f32⟩
  | 51 => ⟨S8, .f32⟩
  | 52 => ⟨S2x16384x512, .bf16⟩
  | _ => ⟨S2x16384x5376, .bf16⟩

abbrev hbmTy (i : Nat) : BufTy := match i / 128 with
  | 0 => hbmTy0_0 i
  | 1 => hbmTy0_1 i
  | _ => ⟨S2x16384x5376, .bf16⟩

abbrev bufTy : (tb : Table) → Fin (tcTables nBuf tb) → BufTy
  | .hbm, ⟨i, _⟩ => hbmTy i
  | .local _ .vmem, ⟨0, _⟩ => ⟨S1x128x512, .bf16⟩
  | .local _ .vmem, ⟨1, _⟩ => ⟨S1x128x512, .bf16⟩
  | .local _ .vmem, ⟨2, _⟩ => ⟨S1x128x128, .bf16⟩
  | .local _ .vmem, ⟨3, _⟩ => ⟨S1x128x128, .bf16⟩
  | .local _ .vmem, ⟨4, _⟩ => ⟨S1x128x128, .bf16⟩
  | .local _ .vmem, ⟨5, _⟩ => ⟨S1x128x128, .bf16⟩
  | .local _ .vmem, ⟨6, _⟩ => ⟨S1x128x128, .bf16⟩
  | .local _ .vmem, ⟨7, _⟩ => ⟨S1x128x128, .bf16⟩
  | .local _ .vmem, ⟨8, _⟩ => ⟨S1x128x128, .bf16⟩
  | .local _ .vmem, ⟨9, _⟩ => ⟨S1x128x128, .bf16⟩
  | .local _ .vmem, ⟨10, _⟩ => ⟨S1x128x128, .bf16⟩
  | .local _ .vmem, ⟨11, _⟩ => ⟨S1x128x128, .bf16⟩
  | .local _ .vmem, ⟨12, _⟩ => ⟨S1x128x128, .bf16⟩
  | .local _ .vmem, ⟨13, _⟩ => ⟨S1x128x128, .bf16⟩
  | .local _ .vmem, ⟨14, _⟩ => ⟨S16x128, .bf16⟩
  | .local _ .vmem, ⟨15, _⟩ => ⟨S16x128, .bf16⟩
  | .local _ .vmem, ⟨16, _⟩ => ⟨S1x8x128x384, .f32⟩
  | .local _ .vmem, ⟨17, _⟩ => ⟨S1x8x128x384, .f32⟩
  | .local _ .vmem, ⟨18, _⟩ => ⟨S1x8x128x16, .f32⟩
  | .local _ .vmem, ⟨19, _⟩ => ⟨S1x8x128x16, .f32⟩
  | .local _ .vmem, ⟨20, _⟩ => ⟨S1x128x512, .bf16⟩
  | .local _ .vmem, ⟨21, _⟩ => ⟨S1x128x512, .bf16⟩
  | .local _ .smem, ⟨0, _⟩ => ⟨S8, .f32⟩
  | _, _ => ⟨S2x16384x5376, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .smem, ⟨0, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_c_2 : Ref sig .tc := ⟨.hbm, 18, rfl⟩
abbrev main_call0_v0 : Ref sig .tc := ⟨.hbm, 19, rfl⟩
abbrev main_call0_v1 : Ref sig .tc := ⟨.hbm, 20, rfl⟩
abbrev main_v11 : Ref sig .tc := ⟨.hbm, 21, rfl⟩
abbrev main_v12 : Ref sig .tc := ⟨.hbm, 22, rfl⟩
abbrev main_c_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_6 : Ref sig .tc := ⟨.hbm, 38, rfl⟩
abbrev main_v24 : Ref sig .tc := ⟨.hbm, 39, rfl⟩
abbrev main_v25 : Ref sig .tc := ⟨.hbm, 40, rfl⟩
abbrev main_c_7 : Ref sig .tc := ⟨.hbm, 41, rfl⟩
abbrev main_v26 : Ref sig .tc := ⟨.hbm, 42, rfl⟩
abbrev main_v27 : Ref sig .tc := ⟨.hbm, 43, rfl⟩
abbrev main_c_8 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_9 : Ref sig .tc := ⟨.hbm, 50, rfl⟩
abbrev main_v33 : Ref sig .tc := ⟨.hbm, 51, rfl⟩
abbrev main_v34 : Ref sig .tc := ⟨.hbm, 52, rfl⟩
abbrev main_c_10 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_c_11 : Ref sig .tc := ⟨.hbm, 61, rfl⟩
abbrev main_v42 : Ref sig .tc := ⟨.hbm, 62, rfl⟩
abbrev main_v43 : Ref sig .tc := ⟨.hbm, 63, rfl⟩
abbrev main_c_12 : Ref sig .tc := ⟨.hbm, 64, rfl⟩
abbrev main_call2_v0 : Ref sig .tc := ⟨.hbm, 65, rfl⟩
abbrev main_call2_v1 : Ref sig .tc := ⟨.hbm, 66, rfl⟩
abbrev main_call2_v2 : Ref sig .tc := ⟨.hbm, 67, rfl⟩
abbrev main_call2_v3 : Ref sig .tc := ⟨.hbm, 68, rfl⟩
abbrev main_call2_v4 : Ref sig .tc := ⟨.hbm, 69, rfl⟩
abbrev main_call2_v5 : Ref sig .tc := ⟨.hbm, 70, rfl⟩
abbrev main_call2_v6 : Ref sig .tc := ⟨.hbm, 71, rfl⟩
abbrev main_call2_v7 : Ref sig .tc := ⟨.hbm, 72, rfl⟩
abbrev main_call2_v8 : Ref sig .tc := ⟨.hbm, 73, rfl⟩
abbrev main_call2_c : Ref sig .tc := ⟨.hbm, 74, rfl⟩
abbrev main_call2_v9 : Ref sig .tc := ⟨.hbm, 75, rfl⟩
abbrev main_call2_v10 : Ref sig .tc := ⟨.hbm, 76, rfl⟩
abbrev main_call2_v11 : Ref sig .tc := ⟨.hbm, 77, rfl⟩
abbrev main_call2_c_0 : Ref sig .tc := ⟨.hbm, 78, rfl⟩
abbrev main_call2_v12 : Ref sig .tc := ⟨.hbm, 79, rfl⟩
abbrev main_call2_v13 : Ref sig .tc := ⟨.hbm, 80, rfl⟩
abbrev main_v44 : Ref sig .tc := ⟨.hbm, 81, rfl⟩
abbrev main_v45 : Ref sig .tc := ⟨.hbm, 82, rfl⟩
abbrev main_c_13 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_c_14 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_cst_15 : Ref sig .tc := ⟨.hbm, 94, rfl⟩
abbrev main_call3_v0 : Ref sig .tc := ⟨.hbm, 95, rfl⟩
abbrev main_call3_v1 : Ref sig .tc := ⟨.hbm, 96, rfl⟩
abbrev main_call3_v2 : Ref sig .tc := ⟨.hbm, 97, rfl⟩
abbrev main_v55 : Ref sig .tc := ⟨.hbm, 98, rfl⟩
abbrev main_v56 : Ref sig .tc := ⟨.hbm, 99, rfl⟩
abbrev main_cst_16 : Ref sig .tc := ⟨.hbm, 100, rfl⟩
abbrev main_call4_v0 : Ref sig .tc := ⟨.hbm, 101, rfl⟩
abbrev main_call4_v1 : Ref sig .tc := ⟨.hbm, 102, rfl⟩
abbrev main_call4_v2 : Ref sig .tc := ⟨.hbm, 103, rfl⟩
abbrev main_v57 : Ref sig .tc := ⟨.hbm, 104, rfl⟩
abbrev main_v58 : Ref sig .tc := ⟨.hbm, 105, rfl⟩
abbrev main_cst_17 : Ref sig .tc := ⟨.hbm, 106, rfl⟩
abbrev main_call5_v0 : Ref sig .tc := ⟨.hbm, 107, rfl⟩
abbrev main_call5_v1 : Ref sig .tc := ⟨.hbm, 108, rfl⟩
abbrev main_call5_v2 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_c_18 : Ref sig .tc := ⟨.hbm, 117, rfl⟩
abbrev main_v66 : Ref sig .tc := ⟨.hbm, 118, rfl⟩
abbrev main_v67 : Ref sig .tc := ⟨.hbm, 119, rfl⟩
abbrev main_c_19 : Ref sig .tc := ⟨.hbm, 120, rfl⟩
abbrev main_v68 : Ref sig .tc := ⟨.hbm, 121, rfl⟩
abbrev main_v69 : Ref sig .tc := ⟨.hbm, 122, rfl⟩
abbrev main_v70 : Ref sig .tc := ⟨.hbm, 123, rfl⟩
abbrev main_v71 : Ref sig .tc := ⟨.hbm, 124, rfl⟩
abbrev main_v72 : Ref sig .tc := ⟨.hbm, 125, rfl⟩
abbrev main_v73 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩
abbrev main_v77 : Ref sig .tc := ⟨.hbm, 130, rfl⟩
abbrev main_v78 : Ref sig .tc := ⟨.hbm, 131, rfl⟩
abbrev main_v79 : Ref sig .tc := ⟨.hbm, 132, rfl⟩
abbrev main_c_20 : Ref sig .tc := ⟨.hbm, 133, rfl⟩
abbrev main_v80 : Ref sig .tc := ⟨.hbm, 134, rfl⟩
abbrev main_v81 : Ref sig .tc := ⟨.hbm, 135, rfl⟩
abbrev main_c_21 : Ref sig .tc := ⟨.hbm, 136, rfl⟩
abbrev main_c_22 : Ref sig .tc := ⟨.hbm, 137, rfl⟩
abbrev main_call6_v0 : Ref sig .tc := ⟨.hbm, 138, rfl⟩
abbrev main_call6_v1 : Ref sig .tc := ⟨.hbm, 139, rfl⟩
abbrev main_v82 : Ref sig .tc := ⟨.hbm, 140, rfl⟩
abbrev main_v83 : Ref sig .tc := ⟨.hbm, 141, rfl⟩
abbrev main_c_23 : Ref sig .tc := ⟨.hbm, 142, rfl⟩
abbrev main_v84 : Ref sig .tc := ⟨.hbm, 143, rfl⟩
abbrev main_v85 : Ref sig .tc := ⟨.hbm, 144, rfl⟩
abbrev main_v86 : Ref sig .tc := ⟨.hbm, 145, rfl⟩
abbrev main_cst_24 : Ref sig .tc := ⟨.hbm, 146, rfl⟩
abbrev main_v87 : Ref sig .tc := ⟨.hbm, 147, rfl⟩
abbrev main_v88 : Ref sig .tc := ⟨.hbm, 148, rfl⟩
abbrev main_v89 : Ref sig .tc := ⟨.hbm, 149, rfl⟩
abbrev main_cst_25 : Ref sig .tc := ⟨.hbm, 150, rfl⟩
abbrev main_v90 : Ref sig .tc := ⟨.hbm, 151, rfl⟩
abbrev main_v91 : Ref sig .tc := ⟨.hbm, 152, rfl⟩
abbrev main_cst_26 : Ref sig .tc := ⟨.hbm, 153, rfl⟩
abbrev main_v92 : Ref sig .tc := ⟨.hbm, 154, rfl⟩
abbrev main_v93 : Ref sig .tc := ⟨.hbm, 155, rfl⟩
abbrev main_v94 : Ref sig .tc := ⟨.hbm, 156, rfl⟩
abbrev main_c_27 : Ref sig .tc := ⟨.hbm, 157, rfl⟩
abbrev main_v95 : Ref sig .tc := ⟨.hbm, 158, rfl⟩
abbrev main_v96 : Ref sig .tc := ⟨.hbm, 159, rfl⟩
abbrev main_c_28 : Ref sig .tc := ⟨.hbm, 160, rfl⟩
abbrev main_v97 : Ref sig .tc := ⟨.hbm, 161, rfl⟩
abbrev main_v98 : Ref sig .tc := ⟨.hbm, 162, rfl⟩
abbrev main_c_29 : Ref sig .tc := ⟨.hbm, 163, rfl⟩
abbrev main_v99 : Ref sig .tc := ⟨.hbm, 164, rfl⟩
abbrev main_v100 : Ref sig .tc := ⟨.hbm, 165, rfl⟩
abbrev main_v101 : Ref sig .tc := ⟨.hbm, 166, rfl⟩
abbrev main_v102 : Ref sig .tc := ⟨.hbm, 167, rfl⟩
abbrev main_v103 : Ref sig .tc := ⟨.hbm, 168, rfl⟩
abbrev main_c_30 : Ref sig .tc := ⟨.hbm, 169, rfl⟩
abbrev main_v104 : Ref sig .tc := ⟨.hbm, 170, rfl⟩
abbrev main_v105 : Ref sig .tc := ⟨.hbm, 171, rfl⟩
abbrev main_c_31 : Ref sig .tc := ⟨.hbm, 172, rfl⟩
abbrev main_v106 : Ref sig .tc := ⟨.hbm, 173, rfl⟩
abbrev main_v107 : Ref sig .tc := ⟨.hbm, 174, rfl⟩
abbrev main_v108 : Ref sig .tc := ⟨.hbm, 175, rfl⟩
abbrev main_v109 : Ref sig .tc := ⟨.hbm, 176, rfl⟩
abbrev main_v110 : Ref sig .tc := ⟨.hbm, 177, rfl⟩
abbrev main_v111 : Ref sig .tc := ⟨.hbm, 178, rfl⟩
abbrev main_v112 : Ref sig .tc := ⟨.hbm, 179, rfl⟩
abbrev main_v113 : Ref sig .tc := ⟨.hbm, 180, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨2, ![128, 2], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg1.toNat, arg0.toNat, c4_i32.toNat]

def cc0_transform_2 (i : grid0.Coords) : Fin 3 → Nat :=
  let arg0 : BitVec 32 := BitVec.ofNat 32 (i 0).val
  let arg1 : BitVec 32 := BitVec.ofNat 32 (i 1).val
  let c_m1_i32 : BitVec 32 := 4294967295#32
  let v0 : BitVec 32 := Scalar.addi arg0 c_m1_i32
  let c0_i32 : BitVec 32 := 0#32
  let c127_i32 : BitVec 32 := 127#32
  let v1 : BitVec 32 := Scalar.maxsi c0_i32 v0
  let v2 : BitVec 32 := Scalar.minsi c127_i32 v1
  let c40_i32 : BitVec 32 := 40#32
  let c0_i32_0 : BitVec 32 := 0#32
  ![arg1.toNat, v2.toNat, c40_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c127_i32 : BitVec 32 := 127#32
  let v1 : BitVec 32 := Scalar.maxsi c0_i32_0 v0
  let v2 : BitVec 32 := Scalar.minsi c127_i32 v1
  let c40_i32 : BitVec 32 := 40#32
  let c0_i32_1 : BitVec 32 := 0#32
  ![arg1.toNat, v2.toNat, c40_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c127_i32 : BitVec 32 := 127#32
  let v1 : BitVec 32 := Scalar.maxsi c0_i32 v0
  let v2 : BitVec 32 := Scalar.minsi c127_i32 v1
  let c40_i32 : BitVec 32 := 40#32
  let c0_i32_0 : BitVec 32 := 0#32
  ![arg1.toNat, v2.toNat, c40_i32.toNat]

def cc0_transform_5 (i : grid0.Coords) : Fin 3 → Nat :=
  let arg0 : BitVec 32 := BitVec.ofNat 32 (i 0).val
  let arg1 : BitVec 32 := BitVec.ofNat 32 (i 1).val
  let c_m1_i32 : BitVec 32 := 4294967295#32
  let v0 : BitVec 32 := Scalar.addi arg0 c_m1_i32
  let c0_i32 : BitVec 32 := 0#32
  let c127_i32 : BitVec 32 := 127#32
  let v1 : BitVec 32 := Scalar.maxsi c0_i32 v0
  let v2 : BitVec 32 := Scalar.minsi c127_i32 v1
  let c41_i32 : BitVec 32 := 41#32
  let c0_i32_0 : BitVec 32 := 0#32
  ![arg1.toNat, v2.toNat, c41_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c127_i32 : BitVec 32 := 127#32
  let v1 : BitVec 32 := Scalar.maxsi c0_i32_0 v0
  let v2 : BitVec 32 := Scalar.minsi c127_i32 v1
  let c41_i32 : BitVec 32 := 41#32
  let c0_i32_1 : BitVec 32 := 0#32
  ![arg1.toNat, v2.toNat, c41_i32.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c127_i32 : BitVec 32 := 127#32
  let v1 : BitVec 32 := Scalar.maxsi c0_i32 v0
  let v2 : BitVec 32 := Scalar.minsi c127_i32 v1
  let c41_i32 : BitVec 32 := 41#32
  let c0_i32_0 : BitVec 32 := 0#32
  ![arg1.toNat, v2.toNat, c41_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c40_i32 : BitVec 32 := 40#32
  let c0_i32_0 : BitVec 32 := 0#32
  ![c0_i32.toNat, c40_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c41_i32 : BitVec 32 := 41#32
  let c0_i32_0 : BitVec 32 := 0#32
  ![c0_i32.toNat, c41_i32.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c127_i32 : BitVec 32 := 127#32
  let v1 : BitVec 1 := Scalar.cmpi .eq arg0 c127_i32
  let c2_i32 : BitVec 32 := 2#32
  let c1_i32 : BitVec 32 := 1#32
  let v2 : BitVec 32 := Scalar.select v1 c2_i32 c1_i32
  let c0_i32_0 : BitVec 32 := 0#32
  let v3 : BitVec 32 := Scalar.select v0 c0_i32_0 v2
  let c0_i32_1 : BitVec 32 := 0#32
  let c0_i32_2 : BitVec 32 := 0#32
  let c0_i32_3 : BitVec 32 := 0#32
  let c0_i32_4 : BitVec 32 := 0#32
  ![v3.toNat, c0_i32_1.toNat, c0_i32_2.toNat, c0_i32_3.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S16x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S16x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x8x128x384 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x8x128x16 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x128x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== WaReferenceIdeal.lean ====
abbrev S2x16384x5376 : Shape := ⟨3, ![2, 16384, 5376]⟩
abbrev S16x5376 : Shape := ⟨2, ![16, 5376]⟩
abbrev S32x8 : Shape := ⟨2, ![32, 8]⟩
abbrev S1x8 : Shape := ⟨2, ![1, 8]⟩
abbrev S2x16384x512 : Shape := ⟨3, ![2, 16384, 512]⟩
abbrev S2x16384x8x64 : Shape := ⟨4, ![2, 16384, 8, 64]⟩
abbrev S2x16384x128 : Shape := ⟨3, ![2, 16384, 128]⟩
abbrev S2x16384x2x64 : Shape := ⟨4, ![2, 16384, 2, 64]⟩
abbrev S2x128x128x2x4x64 : Shape := ⟨6, ![2, 128, 128, 2, 4, 64]⟩
abbrev S_ : Shape := ⟨0, ![]⟩
abbrev S2x16640x2x64 : Shape := ⟨4, ![2, 16640, 2, 64]⟩
abbrev S2x130x128x2x64 : Shape := ⟨5, ![2, 130, 128, 2, 64]⟩
abbrev S2x128x128x2x64 : Shape := ⟨5, ![2, 128, 128, 2, 64]⟩
abbrev S2x128x384x2x64 : Shape := ⟨5, ![2, 128, 384, 2, 64]⟩
abbrev S128 : Shape := ⟨1, ![128]⟩
abbrev S384 : Shape := ⟨1, ![384]⟩
abbrev S1x384 : Shape := ⟨2, ![1, 384]⟩
abbrev S128x1 : Shape := ⟨2, ![128, 1]⟩
abbrev S128x384 : Shape := ⟨2, ![128, 384]⟩
abbrev S1x128x384 : Shape := ⟨3, ![1, 128, 384]⟩
abbrev S128x1x384 : Shape := ⟨3, ![128, 1, 384]⟩
abbrev S128x128x384 : Shape := ⟨3, ![128, 128, 384]⟩
abbrev S128x384x1 : Shape := ⟨3, ![128, 384, 1]⟩
abbrev S128x384x8 : Shape := ⟨3, ![128, 384, 8]⟩
abbrev S128x384x2x4 : Shape := ⟨4, ![128, 384, 2, 4]⟩
abbrev S2x4x128x384 : Shape := ⟨4, ![2, 4, 128, 384]⟩
abbrev S1x128 : Shape := ⟨2, ![1, 128]⟩
abbrev S128x128 : Shape := ⟨2, ![128, 128]⟩
abbrev S16 : Shape := ⟨1, ![16]⟩
abbrev S1x1x16 : Shape := ⟨3, ![1, 1, 16]⟩
abbrev S128x128x1 : Shape := ⟨3, ![128, 128, 1]⟩
abbrev S128x128x16 : Shape := ⟨3, ![128, 128, 16]⟩
abbrev S128x128x16x1 : Shape := ⟨4, ![128, 128, 16, 1]⟩
abbrev S128x128x16x8 : Shape := ⟨4, ![128, 128, 16, 8]⟩
abbrev S128x128x16x2x4 : Shape := ⟨5, ![128, 128, 16, 2, 4]⟩
abbrev S128x2x4x128x16 : Shape := ⟨5, ![128, 2, 4, 128, 16]⟩
abbrev S2x128x2x384x128x4 : Shape := ⟨6, ![2, 128, 2, 384, 128, 4]⟩
abbrev S2x128x2x4x128x384 : Shape := ⟨6, ![2, 128, 2, 4, 128, 384]⟩
abbrev S1x1x2x4x128x384 : Shape := ⟨6, ![1, 1, 2, 4, 128, 384]⟩
abbrev S128x1x1x128x384 : Shape := ⟨5, ![128, 1, 1, 128, 384]⟩
abbrev S16x128 : Shape := ⟨2, ![16, 128]⟩
abbrev S16x2x64 : Shape := ⟨3, ![16, 2, 64]⟩
abbrev S8 : Shape := ⟨1, ![8]⟩
abbrev S2x4 : Shape := ⟨2, ![2, 4]⟩
abbrev S2x16x2x128x128x4 : Shape := ⟨6, ![2, 16, 2, 128, 128, 4]⟩
abbrev S2x128x2x4x128x16 : Shape := ⟨6, ![2, 128, 2, 4, 128, 16]⟩
abbrev S1x128x2x4x128x16 : Shape := ⟨6, ![1, 128, 2, 4, 128, 16]⟩
abbrev S1x1x2x4x1x1 : Shape := ⟨6, ![1, 1, 2, 4, 1, 1]⟩
abbrev S2x128x2x4x128x1 : Shape := ⟨6, ![2, 128, 2, 4, 128, 1]⟩
abbrev S2x128x2x4x128x401 : Shape := ⟨6, ![2, 128, 2, 4, 128, 401]⟩
abbrev S2x128x2x4x128 : Shape := ⟨5, ![2, 128, 2, 4, 128]⟩
abbrev S2x128x2x64x4x128 : Shape := ⟨6, ![2, 128, 2, 64, 4, 128]⟩
abbrev S2x64x2x128x4x128 : Shape := ⟨6, ![2, 64, 2, 128, 4, 128]⟩

abbrev nBuf : Space → Nat
  | .hbm => 226
  | .vmem => 0
  | .smem => 0
  | _ => 0

abbrev hbmTy0_0 (i : Nat) : BufTy := match i % 128 with
  | 0 => ⟨S2x16384x5376, .bf16⟩
  | 1 => ⟨S16x5376, .bf16⟩
  | 2 => ⟨S32x8, .f32⟩
  | 3 => ⟨S1x8, .f32⟩
  | 4 => ⟨S2x16384x5376, .f32⟩
  | 5 => ⟨S16x5376, .f32⟩
  | 6 => ⟨S2x16384x512, .f32⟩
  | 7 => ⟨S2x16384x8x64, .f32⟩
  | 8 => ⟨S2x16384x128, .f32⟩
  | 9 => ⟨S2x16384x2x64, .f32⟩
  | 10 => ⟨S2x16384x128, .f32⟩
  | 11 => ⟨S2x16384x2x64, .f32⟩
  | 12 => ⟨S2x128x128x2x4x64, .f32⟩
  | 13 => ⟨S_, .i32⟩
  | 14 => ⟨S_, .f32⟩
  | 15 => ⟨S2x16640x2x64, .f32⟩
  | 16 => ⟨S2x130x128x2x64, .f32⟩
  | 17 => ⟨S2x128x128x2x64, .f32⟩
  | 18 => ⟨S2x128x128x2x64, .f32⟩
  | 19 => ⟨S2x128x128x2x64, .f32⟩
  | 20 => ⟨S2x128x384x2x64, .f32⟩
  | 21 => ⟨S_, .i32⟩
  | 22 => ⟨S_, .f32⟩
  | 23 => ⟨S2x16640x2x64, .f32⟩
  | 24 => ⟨S2x130x128x2x64, .f32⟩
  | 25 => ⟨S2x128x128x2x64, .f32⟩
  | 26 => ⟨S2x128x128x2x64, .f32⟩
  | 27 => ⟨S2x128x128x2x64, .f32⟩
  | 28 => ⟨S2x128x384x2x64, .f32⟩
  | 29 => ⟨S128, .i32⟩
  | 30 => ⟨S384, .i32⟩
  | 31 => ⟨S128, .i32⟩
  | 32 => ⟨S1x384, .i32⟩
  | 33 => ⟨S_, .i32⟩
  | 34 => ⟨S1x384, .i32⟩
  | 35 => ⟨S1x384, .i32⟩
  | 36 => ⟨S128x1, .i32⟩
  | 37 => ⟨S128x384, .i32⟩
  | 38 => ⟨S128x384, .i32⟩
  | 39 => ⟨S128x384, .i32⟩
  | 40 => ⟨S128x1, .i32⟩
  | 41 => ⟨S_, .i32⟩
  | 42 => ⟨S128x1, .i32⟩
  | 43 => ⟨S128x1, .i32⟩
  | 44 => ⟨S1x384, .i32⟩
  | 45 => ⟨S128x384, .i32⟩
  | 46 => ⟨S128x384, .i32⟩
  | 47 => ⟨S128x384, .i32⟩
  | 48 => ⟨S_, .i32⟩
  | 49 => ⟨S128x384, .i32⟩
  | 50 => ⟨S128x384, .i32⟩
  | 51 => ⟨S128x384, .i32⟩
  | 52 => ⟨S_, .i32⟩
  | 53 => ⟨S128x384, .i32⟩
  | 54 => ⟨S128x384, .i1⟩
  | 55 => ⟨S1x128x384, .i1⟩
  | 56 => ⟨S_, .i32⟩
  | 57 => ⟨S128x384, .i32⟩
  | 58 => ⟨S128x384, .i1⟩
  | 59 => ⟨S_, .i32⟩
  | 60 => ⟨S128x384, .i32⟩
  | 61 => ⟨S128x384, .i1⟩
  | 62 => ⟨S128x384, .i1⟩
  | 63 => ⟨S128x1x384, .i1⟩
  | 64 => ⟨S128x128x384, .i1⟩
  | 65 => ⟨S128x128x384, .i1⟩
  | 66 => ⟨S128x128x384, .i1⟩
  | 67 => ⟨S_, .i32⟩
  | 68 => ⟨S128x384, .i32⟩
  | 69 => ⟨S128x384, .i1⟩
  | 70 => ⟨S_, .i32⟩
  | 71 => ⟨S_, .i32⟩
  | 72 => ⟨S128x384, .i32⟩
  | 73 => ⟨S128x384, .i32⟩
  | 74 => ⟨S128x384, .i32⟩
  | 75 => ⟨S128x384, .i32⟩
  | 76 => ⟨S_, .i32⟩
  | 77 => ⟨S128x384, .i32⟩
  | 78 => ⟨S128x384, .i32⟩
  | 79 => ⟨S128x384, .f32⟩
  | 80 => ⟨S_, .f32⟩
  | 81 => ⟨S128x384, .f32⟩
  | 82 => ⟨S128x384, .f32⟩
  | 83 => ⟨S128x384, .f32⟩
  | 84 => ⟨S_, .f32⟩
  | 85 => ⟨S128x384, .f32⟩
  | 86 => ⟨S128x384, .f32⟩
  | 87 => ⟨S_, .f32⟩
  | 88 => ⟨S128x384, .f32⟩
  | 89 => ⟨S128x384, .f32⟩
  | 90 => ⟨S128x384, .i32⟩
  | 91 => ⟨S_, .i32⟩
  | 92 => ⟨S128x384, .i32⟩
  | 93 => ⟨S128x384, .i32⟩
  | 94 => ⟨S_, .i32⟩
  | 95 => ⟨S128x384, .i32⟩
  | 96 => ⟨S128x384, .i32⟩
  | 97 => ⟨S_, .i32⟩
  | 98 => ⟨S128x384, .i32⟩
  | 99 => ⟨S128x384, .i1⟩
  | 100 => ⟨S128x384, .i32⟩
  | 101 => ⟨S128x384, .i32⟩
  | 102 => ⟨S128x384, .i32⟩
  | 103 => ⟨S_, .i32⟩
  | 104 => ⟨S128x384, .i32⟩
  | 105 => ⟨S128x384, .i1⟩
  | 106 => ⟨S_, .i32⟩
  | 107 => ⟨S128x384, .i32⟩
  | 108 => ⟨S128x384, .i32⟩
  | 109 => ⟨S128x384, .i32⟩
  | 110 => ⟨S128x384x1, .i32⟩
  | 111 => ⟨S128x384x8, .f32⟩
  | 112 => ⟨S128x384x2x4, .f32⟩
  | 113 => ⟨S2x4x128x384, .f32⟩
  | 114 => ⟨S128x1, .i32⟩
  | 115 => ⟨S_, .i32⟩
  | 116 => ⟨S128x1, .i32⟩
  | 117 => ⟨S128x1, .i32⟩
  | 118 => ⟨S_, .i32⟩
  | 119 => ⟨S128x1, .i32⟩
  | 120 => ⟨S128x1, .i32⟩
  | 121 => ⟨S1x128, .i32⟩
  | 122 => ⟨S128x128, .i32⟩
  | 123 => ⟨S128x128, .i32⟩
  | 124 => ⟨S128x128, .i32⟩
  | 125 => ⟨S16, .i32⟩
  | 126 => ⟨S1x1x16, .i32⟩
  | 127 => ⟨S128x128x1, .i32⟩
  | _ => ⟨S2x16384x5376, .bf16⟩

abbrev hbmTy0_1 (i : Nat) : BufTy := match i % 128 with
  | 0 => ⟨S128x128x16, .i32⟩
  | 1 => ⟨S128x128x16, .i32⟩
  | 2 => ⟨S128x128x16, .i32⟩
  | 3 => ⟨S_, .i32⟩
  | 4 => ⟨S128x128x16, .i32⟩
  | 5 => ⟨S128x128x16, .i1⟩
  | 6 => ⟨S_, .i32⟩
  | 7 => ⟨S_, .i32⟩
  | 8 => ⟨S128x128x16, .i32⟩
  | 9 => ⟨S128x128x16, .i32⟩
  | 10 => ⟨S128x128x16, .i32⟩
  | 11 => ⟨S128x128x16, .i32⟩
  | 12 => ⟨S_, .i32⟩
  | 13 => ⟨S128x128x16, .i32⟩
  | 14 => ⟨S128x128x16, .i32⟩
  | 15 => ⟨S128x128x16, .f32⟩
  | 16 => ⟨S_, .f32⟩
  | 17 => ⟨S128x128x16, .f32⟩
  | 18 => ⟨S128x128x16, .f32⟩
  | 19 => ⟨S128x128x16, .f32⟩
  | 20 => ⟨S_, .f32⟩
  | 21 => ⟨S128x128x16, .f32⟩
  | 22 => ⟨S128x128x16, .f32⟩
  | 23 => ⟨S_, .f32⟩
  | 24 => ⟨S128x128x16, .f32⟩
  | 25 => ⟨S128x128x16, .f32⟩
  | 26 => ⟨S128x128x16, .i32⟩
  | 27 => ⟨S_, .i32⟩
  | 28 => ⟨S128x128x16, .i32⟩
  | 29 => ⟨S128x128x16, .i32⟩
  | 30 => ⟨S_, .i32⟩
  | 31 => ⟨S128x128x16, .i32⟩
  | 32 => ⟨S128x128x16, .i32⟩
  | 33 => ⟨S_, .i32⟩
  | 34 => ⟨S128x128x16, .i32⟩
  | 35 => ⟨S128x128x16, .i1⟩
  | 36 => ⟨S128x128x16, .i32⟩
  | 37 => ⟨S128x128x16, .i32⟩
  | 38 => ⟨S128x128x16, .i32⟩
  | 39 => ⟨S_, .i32⟩
  | 40 => ⟨S128x128x16, .i32⟩
  | 41 => ⟨S128x128x16, .i1⟩
  | 42 => ⟨S_, .i32⟩
  | 43 => ⟨S128x128x16, .i32⟩
  | 44 => ⟨S128x128x16, .i32⟩
  | 45 => ⟨S128x128x16, .i32⟩
  | 46 => ⟨S128x128x16x1, .i32⟩
  | 47 => ⟨S128x128x16x8, .f32⟩
  | 48 => ⟨S128x128x16x2x4, .f32⟩
  | 49 => ⟨S128x2x4x128x16, .f32⟩
  | 50 => ⟨S2x128x2x384x128x4, .f32⟩
  | 51 => ⟨S2x128x2x4x128x384, .f32⟩
  | 52 => ⟨S1x1x2x4x128x384, .f32⟩
  | 53 => ⟨S2x128x2x4x128x384, .f32⟩
  | 54 => ⟨S2x128x2x4x128x384, .f32⟩
  | 55 => ⟨S128x1x1x128x384, .i1⟩
  | 56 => ⟨S_, .f32⟩
  | 57 => ⟨S_, .f32⟩
  | 58 => ⟨S2x128x2x4x128x384, .i1⟩
  | 59 => ⟨S2x128x2x4x128x384, .f32⟩
  | 60 => ⟨S2x128x2x4x128x384, .f32⟩
  | 61 => ⟨S16x128, .f32⟩
  | 62 => ⟨S16x2x64, .f32⟩
  | 63 => ⟨S16x128, .f32⟩
  | 64 => ⟨S16x2x64, .f32⟩
  | 65 => ⟨S8, .f32⟩
  | 66 => ⟨S2x4, .f32⟩
  | 67 => ⟨S2x16x2x128x128x4, .f32⟩
  | 68 => ⟨S2x128x2x4x128x16, .f32⟩
  | 69 => ⟨S1x128x2x4x128x16, .f32⟩
  | 70 => ⟨S2x128x2x4x128x16, .f32⟩
  | 71 => ⟨S2x128x2x4x128x16, .f32⟩
  | 72 => ⟨S1x1x2x4x1x1, .f32⟩
  | 73 => ⟨S2x128x2x4x128x1, .f32⟩
  | 74 => ⟨S2x128x2x4x128x401, .f32⟩
  | 75 => ⟨S_, .f32⟩
  | 76 => ⟨S2x128x2x4x128, .f32⟩
  | 77 => ⟨S_, .f32⟩
  | 78 => ⟨S2x128x2x4x128, .f32⟩
  | 79 => ⟨S2x128x2x4x128, .f32⟩
  | 80 => ⟨S2x128x2x4x128x1, .f32⟩
  | 81 => ⟨S2x128x2x4x128x401, .f32⟩
  | 82 => ⟨S2x128x2x4x128x401, .f32⟩
  | 83 => ⟨S2x128x2x4x128x401, .f32⟩
  | 84 => ⟨S_, .f32⟩
  | 85 => ⟨S2x128x2x4x128, .f32⟩
  | 86 => ⟨S2x128x2x4x128x1, .f32⟩
  | 87 => ⟨S2x128x2x4x128x401, .f32⟩
  | 88 => ⟨S2x128x2x4x128x401, .f32⟩
  | 89 => ⟨S2x128x2x4x128x384, .f32⟩
  | 90 => ⟨S2x128x2x64x4x128, .f32⟩
  | 91 => ⟨S2x128x128x2x4x64, .f32⟩
  | 92 => ⟨S2x128x2x4x128x16, .f32⟩
  | 93 => ⟨S2x64x2x128x4x128, .f32⟩
  | 94 => ⟨S2x128x128x2x4x64, .f32⟩
  | 95 => ⟨S2x128x128x2x4x64, .f32⟩
  | 96 => ⟨S2x16384x512, .f32⟩
  | 97 => ⟨S2x16384x512, .bf16⟩
  | _ => ⟨S2x16384x5376, .bf16⟩

abbrev hbmTy (i : Nat) : BufTy := match i / 128 with
  | 0 => hbmTy0_0 i
  | 1 => hbmTy0_1 i
  | _ => ⟨S2x16384x5376, .bf16⟩

abbrev bufTy : (tb : Table) → Fin (tcTables nBuf tb) → BufTy
  | .hbm, ⟨i, _⟩ => hbmTy i
  | _, _ => ⟨S2x16384x5376, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c : Ref sig .tc := ⟨.hbm, 13, rfl⟩
abbrev main_call0_v0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c_0 : Ref sig .tc := ⟨.hbm, 21, rfl⟩
abbrev main_call1_v0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_c_1 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_c_2 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_c_3 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_c_4 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_c_5 : Ref sig .tc := ⟨.hbm, 56, rfl⟩
abbrev main_v44 : Ref sig .tc := ⟨.hbm, 57, rfl⟩
abbrev main_v45 : Ref sig .tc := ⟨.hbm, 58, rfl⟩
abbrev main_c_6 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_c_7 : Ref sig .tc := ⟨.hbm, 67, rfl⟩
abbrev main_v53 : Ref sig .tc := ⟨.hbm, 68, rfl⟩
abbrev main_v54 : Ref sig .tc := ⟨.hbm, 69, rfl⟩
abbrev main_c_8 : Ref sig .tc := ⟨.hbm, 70, rfl⟩
abbrev main_c_9 : Ref sig .tc := ⟨.hbm, 71, rfl⟩
abbrev main_call2_v0 : Ref sig .tc := ⟨.hbm, 72, rfl⟩
abbrev main_call2_v1 : Ref sig .tc := ⟨.hbm, 73, rfl⟩
abbrev main_v55 : Ref sig .tc := ⟨.hbm, 74, rfl⟩
abbrev main_v56 : Ref sig .tc := ⟨.hbm, 75, rfl⟩
abbrev main_c_10 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_cst_11 : Ref sig .tc := ⟨.hbm, 84, rfl⟩
abbrev main_v63 : Ref sig .tc := ⟨.hbm, 85, rfl⟩
abbrev main_v64 : Ref sig .tc := ⟨.hbm, 86, rfl⟩
abbrev main_cst_12 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_c_13 : Ref sig .tc := ⟨.hbm, 91, rfl⟩
abbrev main_v68 : Ref sig .tc := ⟨.hbm, 92, rfl⟩
abbrev main_v69 : Ref sig .tc := ⟨.hbm, 93, rfl⟩
abbrev main_c_14 : Ref sig .tc := ⟨.hbm, 94, rfl⟩
abbrev main_v70 : Ref sig .tc := ⟨.hbm, 95, rfl⟩
abbrev main_v71 : Ref sig .tc := ⟨.hbm, 96, rfl⟩
abbrev main_c_15 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_c_16 : Ref sig .tc := ⟨.hbm, 103, rfl⟩
abbrev main_v77 : Ref sig .tc := ⟨.hbm, 104, rfl⟩
abbrev main_v78 : Ref sig .tc := ⟨.hbm, 105, rfl⟩
abbrev main_c_17 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_c_18 : Ref sig .tc := ⟨.hbm, 115, rfl⟩
abbrev main_v87 : Ref sig .tc := ⟨.hbm, 116, rfl⟩
abbrev main_v88 : Ref sig .tc := ⟨.hbm, 117, rfl⟩
abbrev main_c_19 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_c_20 : Ref sig .tc := ⟨.hbm, 131, rfl⟩
abbrev main_v101 : Ref sig .tc := ⟨.hbm, 132, rfl⟩
abbrev main_v102 : Ref sig .tc := ⟨.hbm, 133, rfl⟩
abbrev main_c_21 : Ref sig .tc := ⟨.hbm, 134, rfl⟩
abbrev main_c_22 : Ref sig .tc := ⟨.hbm, 135, rfl⟩
abbrev main_call4_v0 : Ref sig .tc := ⟨.hbm, 136, rfl⟩
abbrev main_call4_v1 : Ref sig .tc := ⟨.hbm, 137, rfl⟩
abbrev main_v103 : Ref sig .tc := ⟨.hbm, 138, rfl⟩
abbrev main_v104 : Ref sig .tc := ⟨.hbm, 139, rfl⟩
abbrev main_c_23 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_cst_24 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_cst_25 : Ref sig .tc := ⟨.hbm, 148, rfl⟩
abbrev main_v111 : Ref sig .tc := ⟨.hbm, 149, rfl⟩
abbrev main_v112 : Ref sig .tc := ⟨.hbm, 150, rfl⟩
abbrev main_cst_26 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_c_27 : Ref sig .tc := ⟨.hbm, 155, rfl⟩
abbrev main_v116 : Ref sig .tc := ⟨.hbm, 156, rfl⟩
abbrev main_v117 : Ref sig .tc := ⟨.hbm, 157, rfl⟩
abbrev main_c_28 : Ref sig .tc := ⟨.hbm, 158, rfl⟩
abbrev main_v118 : Ref sig .tc := ⟨.hbm, 159, rfl⟩
abbrev main_v119 : Ref sig .tc := ⟨.hbm, 160, rfl⟩
abbrev main_c_29 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_c_30 : Ref sig .tc := ⟨.hbm, 167, rfl⟩
abbrev main_v125 : Ref sig .tc := ⟨.hbm, 168, rfl⟩
abbrev main_v126 : Ref sig .tc := ⟨.hbm, 169, rfl⟩
abbrev main_c_31 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_cst_32 : Ref sig .tc := ⟨.hbm, 184, rfl⟩
abbrev main_call6_v0 : Ref sig .tc := ⟨.hbm, 185, rfl⟩
abbrev main_call6_v1 : Ref sig .tc := ⟨.hbm, 186, rfl⟩
abbrev main_call6_v2 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩
abbrev main_v148 : Ref sig .tc := ⟨.hbm, 196, rfl⟩
abbrev main_v149 : Ref sig .tc := ⟨.hbm, 197, rfl⟩
abbrev main_v150 : Ref sig .tc := ⟨.hbm, 198, rfl⟩
abbrev main_v151 : Ref sig .tc := ⟨.hbm, 199, rfl⟩
abbrev main_v152 : Ref sig .tc := ⟨.hbm, 200, rfl⟩
abbrev main_v153 : Ref sig .tc := ⟨.hbm, 201, rfl⟩
abbrev main_v154 : Ref sig .tc := ⟨.hbm, 202, rfl⟩
abbrev main_cst_33 : Ref sig .tc := ⟨.hbm, 203, rfl⟩
abbrev main_v155 : Ref sig .tc := ⟨.hbm, 204, rfl⟩
abbrev main_cst_34 : Ref sig .tc := ⟨.hbm, 205, rfl⟩
abbrev main_v156 : Ref sig .tc := ⟨.hbm, 206, rfl⟩
abbrev main_v157 : Ref sig .tc := ⟨.hbm, 207, rfl⟩
abbrev main_v158 : Ref sig .tc := ⟨.hbm, 208, rfl⟩
abbrev main_v159 : Ref sig .tc := ⟨.hbm, 209, rfl⟩
abbrev main_v160 : Ref sig .tc := ⟨.hbm, 210, rfl⟩
abbrev main_v161 : Ref sig .tc := ⟨.hbm, 211, rfl⟩
abbrev main_cst_35 : Ref sig .tc := ⟨.hbm, 212, rfl⟩
abbrev main_v162 : Ref sig .tc := ⟨.hbm, 213, rfl⟩
abbrev main_v163 : Ref sig .tc := ⟨.hbm, 214, rfl⟩
abbrev main_v164 : Ref sig .tc := ⟨.hbm, 215, rfl⟩
abbrev main_v165 : Ref sig .tc := ⟨.hbm, 216, rfl⟩
abbrev main_v166 : Ref sig .tc := ⟨.hbm, 217, rfl⟩
abbrev main_v167 : Ref sig .tc := ⟨.hbm, 218, rfl⟩
abbrev main_v168 : Ref sig .tc := ⟨.hbm, 219, rfl⟩
abbrev main_v169 : Ref sig .tc := ⟨.hbm, 220, rfl⟩
abbrev main_v170 : Ref sig .tc := ⟨.hbm, 221, rfl⟩
abbrev main_v171 : Ref sig .tc := ⟨.hbm, 222, rfl⟩
abbrev main_v172 : Ref sig .tc := ⟨.hbm, 223, rfl⟩
abbrev main_v173 : Ref sig .tc := ⟨.hbm, 224, rfl⟩
abbrev main_v174 : Ref sig .tc := ⟨.hbm, 225, rfl⟩

abbrev nD : Nat := 1
abbrev τ : Topo := Topo.v7x

variable {F : FTy → Type} [FloatOps F]
-- ==== NsKernel.lean ====
abbrev S16x4096x1024 : Shape := ⟨3, ![16, 4096, 1024]⟩
abbrev S1x1024 : Shape := ⟨2, ![1, 1024]⟩
abbrev S1x1024x5376 : Shape := ⟨3, ![1, 1024, 5376]⟩
abbrev S1024x5376 : Shape := ⟨2, ![1024, 5376]⟩
abbrev S1024x512 : Shape := ⟨2, ![1024, 512]⟩
abbrev S_ : Shape := ⟨0, ![]⟩
abbrev S1024x1536 : Shape := ⟨2, ![1024, 1536]⟩
abbrev S1024x2048 : Shape := ⟨2, ![1024, 2048]⟩
abbrev S1024x256 : Shape := ⟨2, ![1024, 256]⟩
abbrev S65536x1024 : Shape := ⟨2, ![65536, 1024]⟩
abbrev S1024 : Shape := ⟨1, ![1024]⟩
abbrev S65536x5376 : Shape := ⟨2, ![65536, 5376]⟩
abbrev S512x1024 : Shape := ⟨2, ![512, 1024]⟩
abbrev S512x5376 : Shape := ⟨2, ![512, 5376]⟩
abbrev S512 : Shape := ⟨1, ![512]⟩
abbrev S512x1 : Shape := ⟨2, ![512, 1]⟩
abbrev S1024x768 : Shape := ⟨2, ![1024, 768]⟩
abbrev S512x768 : Shape := ⟨2, ![512, 768]⟩

abbrev nBuf : Space → Nat
  | .hbm => 22
  | .vmem => 6
  | .smem => 0
  | _ => 0

abbrev bufTy : (tb : Table) → Fin (tcTables nBuf tb) → BufTy
  | .hbm, ⟨0, _⟩ => ⟨S16x4096x1024, .f32⟩
  | .hbm, ⟨1, _⟩ => ⟨S1x1024, .f32⟩
  | .hbm, ⟨2, _⟩ => ⟨S1x1024x5376, .f32⟩
  | .hbm, ⟨3, _⟩ => ⟨S1024x5376, .f32⟩
  | .hbm, ⟨4, _⟩ => ⟨S1024x512, .f32⟩
  | .hbm, ⟨5, _⟩ => ⟨S_, .f32⟩
  | .hbm, ⟨6, _⟩ => ⟨S1024x512, .f32⟩
  | .hbm, ⟨7, _⟩ => ⟨S1024x512, .f32⟩
  | .hbm, ⟨8, _⟩ => ⟨S1024x1536, .f32⟩
  | .hbm, ⟨9, _⟩ => ⟨S1024x512, .f32⟩
  | .hbm, ⟨10, _⟩ => ⟨S_, .f32⟩
  | .hbm, ⟨11, _⟩ => ⟨S1024x512, .f32⟩
  | .hbm, ⟨12, _⟩ => ⟨S1024x512, .f32⟩
  | .hbm, ⟨13, _⟩ => ⟨S1024x512, .f32⟩
  | .hbm, ⟨14, _⟩ => ⟨S1024x2048, .f32⟩
  | .hbm, ⟨15, _⟩ => ⟨S1024x256, .f32⟩
  | .hbm, ⟨16, _⟩ => ⟨S1024x5376, .f32⟩
  | .hbm, ⟨17, _⟩ => ⟨S65536x1024, .f32⟩
  | .hbm, ⟨18, _⟩ => ⟨S1024, .f32⟩
  | .hbm, ⟨19, _⟩ => ⟨S1x1024, .f32⟩
  | .hbm, ⟨20, _⟩ => ⟨S1024x5376, .bf16⟩
  | .hbm, ⟨21, _⟩ => ⟨S65536x5376, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5376, .bf16⟩
  | .local _ .vmem, ⟨4, _⟩ => ⟨S512x5376, .bf16⟩
  | .local _ .vmem, ⟨5, _⟩ => ⟨S512x5376, .bf16⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5376 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x5376 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== NsReferenceIdeal.lean ====
abbrev S16x4096x1024 : Shape := ⟨3, ![16, 4096, 1024]⟩
abbrev S1x1024 : Shape := ⟨2, ![1, 1024]⟩
abbrev S1x1024x5376 : Shape := ⟨3, ![1, 1024, 5376]⟩
abbrev S1024 : Shape := ⟨1, ![1024]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S1024x5376 : Shape := ⟨2, ![1024, 5376]⟩
abbrev S16x4096x5376 : Shape := ⟨3, ![16, 4096, 5376]⟩
abbrev S16x4096x512 : Shape := ⟨3, ![16, 4096, 512]⟩
abbrev S16x4096x256 : Shape := ⟨3, ![16, 4096, 256]⟩
abbrev S16x4096x2048 : Shape := ⟨3, ![16, 4096, 2048]⟩
abbrev S65536x5376 : Shape := ⟨2, ![65536, 5376]⟩

abbrev nBuf : Space → Nat
  | .hbm => 38
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S1x1024, .f32⟩
  | .hbm, ⟨2, _⟩ => ⟨S1x1024x5376, .f32⟩
  | .hbm, ⟨3, _⟩ => ⟨S1024, .f32⟩
  | .hbm, ⟨4, _⟩ => ⟨S16x4096x1024, .f32⟩
  | .hbm, ⟨5, _⟩ => ⟨S_, .f32⟩
  | .hbm, ⟨6, _⟩ => ⟨S16x4096, .f32⟩
  | .hbm, ⟨7, _⟩ => ⟨S16x4096x1, .f32⟩
  | .hbm, ⟨8, _⟩ => ⟨S_, .f32⟩
  | .hbm, ⟨9, _⟩ => ⟨S16x4096x1, .f32⟩
  | .hbm, ⟨10, _⟩ => ⟨S16x4096x1, .f32⟩
  | .hbm, ⟨11, _⟩ => ⟨S_, .f32⟩
  | .hbm, ⟨12, _⟩ => ⟨S16x4096x1, .f32⟩
  | .hbm, ⟨13, _⟩ => ⟨S16x4096x1, .f32⟩
  | .hbm, ⟨14, _⟩ => ⟨S16x4096x1, .f32⟩
  | .hbm, ⟨15, _⟩ => ⟨S16x4096x1024, .f32⟩
  | .hbm, ⟨16, _⟩ => ⟨S16x4096x1024, .f32⟩
  | .hbm, ⟨17, _⟩ => ⟨S1x1x1024, .f32⟩
  | .hbm, ⟨18, _⟩ => ⟨S16x4096x1024, .f32⟩
  | .hbm, ⟨19, _⟩ => ⟨S16x4096x1024, .f32⟩
  | .hbm, ⟨20, _⟩ => ⟨S1024x5376, .f32⟩
  | .hbm, ⟨21, _⟩ => ⟨S16x4096x5376, .f32⟩
  | .hbm, ⟨22, _⟩ => ⟨S16x4096x512, .f32⟩
  | .hbm, ⟨23, _⟩ => ⟨S16x4096x1024, .f32⟩
  | .hbm, ⟨24, _⟩ => ⟨S16x4096x512, .f32⟩
  | .hbm, ⟨25, _⟩ => ⟨S16x4096x512, .f32⟩
  | .hbm, ⟨26, _⟩ => ⟨S16x4096x256, .f32⟩
  | .hbm, ⟨27, _⟩ => ⟨S16x4096x512, .f32⟩
  | .hbm, ⟨28, _⟩ => ⟨S16x4096x2048, .f32⟩
  | .hbm, ⟨29, _⟩ => ⟨S_, .f32⟩
  | .hbm, ⟨30, _⟩ => ⟨S16x4096x512, .f32⟩
  | .hbm, ⟨31, _⟩ => ⟨S16x4096x512, .f32⟩
  | .hbm, ⟨32, _⟩ => ⟨S_, .f32⟩
  | .hbm, ⟨33, _⟩ => ⟨S16x4096x512, .f32⟩
  | .hbm, ⟨34, _⟩ => ⟨S16x4096x512, .f32⟩
  | .hbm, ⟨35, _⟩ => ⟨S16x4096x5376, .f32⟩
  | .hbm, ⟨36, _⟩ => ⟨S65536x5376, .f32⟩
  | .hbm, ⟨37, _⟩ => ⟨S65536x5376, .bf16⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_v24 : Ref sig .tc := ⟨.hbm, 31, rfl⟩
abbrev main_cst_3 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩

abbrev nD : Nat := 1
abbrev τ : Topo := Topo.v7x

variable {F : FTy → Type} [FloatOps F]
-- ==== MsKernel.lean ====
abbrev S16x4096x1024 : Shape := ⟨3, ![16, 4096, 1024]⟩
abbrev S16x4096x512 : Shape := ⟨3, ![16, 4096, 512]⟩
abbrev S16x4096x5376 : Shape := ⟨3, ![16, 4096, 5376]⟩
abbrev S1x512x1024 : Shape := ⟨3, ![1, 512, 1024]⟩
abbrev S1x1024x1024 : Shape := ⟨3, ![1, 1024, 1024]⟩
abbrev S1024 : Shape := ⟨1, ![1024]⟩
abbrev S65536x1024 : Shape := ⟨2, ![65536, 1024]⟩
abbrev S65536x512 : Shape := ⟨2, ![65536, 512]⟩
abbrev S65536x5376 : Shape := ⟨2, ![65536, 5376]⟩
abbrev S512x1024 : Shape := ⟨2, ![512, 1024]⟩
abbrev S1024x1024 : Shape := ⟨2, ![1024, 1024]⟩
abbrev S1x1024 : Shape := ⟨2, ![1, 1024]⟩
abbrev S512x512 : Shape := ⟨2, ![512, 512]⟩
abbrev S512 : Shape := ⟨1, ![512]⟩
abbrev S512x1 : Shape := ⟨2, ![512, 1]⟩

abbrev nBuf : Space → Nat
  | .hbm => 20
  | .vmem => 20
  | .smem => 0
  | _ => 0

abbrev bufTy : (tb : Table) → Fin (tcTables nBuf tb) → BufTy
  | .hbm, ⟨0, _⟩ => ⟨S16x4096x1024, .f32⟩
  | .hbm, ⟨1, _⟩ => ⟨S16x4096x512, .bf16⟩
  | .hbm, ⟨2, _⟩ => ⟨S16x4096x512, .bf16⟩
  | .hbm, ⟨3, _⟩ => ⟨S16x4096x5376, .bf16⟩
  | .hbm, ⟨4, _⟩ => ⟨S1x512x1024, .f32⟩
  | .hbm, ⟨5, _⟩ => ⟨S1x512x1024, .f32⟩
  | .hbm, ⟨6, _⟩ => ⟨S1x1024x1024, .f32⟩
  | .hbm, ⟨7, _⟩ => ⟨S1024, .f32⟩
  | .hbm, ⟨8, _⟩ => ⟨S65536x1024, .f32⟩
  | .hbm, ⟨9, _⟩ => ⟨S65536x512, .bf16⟩
  | .hbm, ⟨10, _⟩ => ⟨S65536x512, .bf16⟩
  | .hbm, ⟨11, _⟩ => ⟨S65536x5376, .bf16⟩
  | .hbm, ⟨12, _⟩ => ⟨S512x1024, .f32⟩
  | .hbm, ⟨13, _⟩ => ⟨S512x1024, .bf16⟩
  | .hbm, ⟨14, _⟩ => ⟨S512x1024, .f32⟩
  | .hbm, ⟨15, _⟩ => ⟨S512x1024, .bf16⟩
  | .hbm, ⟨16, _⟩ => ⟨S1024x1024, .f32⟩
  | .hbm, ⟨17, _⟩ => ⟨S1024x1024, .bf16⟩
  | .hbm, ⟨18, _⟩ => ⟨S1x1024, .f32⟩
  | .hbm, ⟨19, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S1024x1024, .bf16⟩
  | .local _ .vmem, ⟨17, _⟩ => ⟨S1x1024, .f32⟩
  | .local _ .vmem, ⟨18, _⟩ => ⟨S512x1024, .f32⟩
  | .local _ .vmem, ⟨19, _⟩ => ⟨S512x1024, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_5 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_6 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== MsReferenceIdeal.lean ====
abbrev S16x4096x1024 : Shape := ⟨3, ![16, 4096, 1024]⟩
abbrev S16x4096x512 : Shape := ⟨3, ![16, 4096, 512]⟩
abbrev S16x4096x5376 : Shape := ⟨3, ![16, 4096, 5376]⟩
abbrev S1x512x1024 : Shape := ⟨3, ![1, 512, 1024]⟩
abbrev S1x1024x1024 : Shape := ⟨3, ![1, 1024, 1024]⟩
abbrev S1024 : Shape := ⟨1, ![1024]⟩
abbrev S_ : Shape := ⟨0, ![]⟩
abbrev S512x1024 : Shape := ⟨2, ![512, 1024]⟩
abbrev S1024x1024 : Shape := ⟨2, ![1024, 1024]⟩
abbrev S16x4096 : Shape := ⟨2, ![16, 4096]⟩
abbrev S16x4096x1 : Shape := ⟨3, ![16, 4096, 1]⟩
abbrev S1x1x1024 : Shape := ⟨3, ![1, 1, 1024]⟩
abbrev S65536x1024 : Shape := ⟨2, ![65536, 1024]⟩

abbrev nBuf : Space → Nat
  | .hbm => 78
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S16x4096x512, .bf16⟩
  | .hbm, ⟨2, _⟩ => ⟨S16x4096x512, .bf16⟩
  | .hbm, ⟨3, _⟩ => ⟨S16x4096x5376, .bf16⟩
  | .hbm, ⟨4, _⟩ => ⟨S1x512x1024, .f32⟩
  | .hbm, ⟨5, _⟩ => ⟨S1x512x1024, .f32⟩
  | .hbm, ⟨6, _⟩ => ⟨S1x1024x1024, .f32⟩
  | .hbm, ⟨7, _⟩ => ⟨S1024, .f32⟩
  | .hbm, ⟨8, _⟩ => ⟨S16x4096x512, .f32⟩
  | .hbm, ⟨9, _⟩ => ⟨S16x4096x512, .f32⟩
  | .hbm, ⟨10, _⟩ => ⟨S16x4096x5376, .f32⟩
  | .hbm, ⟨11, _⟩ => ⟨S16x4096x512, .f32⟩
  | .hbm, ⟨12, _⟩ => ⟨S16x4096x512, .f32⟩
  | .hbm, ⟨13, _⟩ => ⟨S16x4096x1024, .f32⟩
  | .hbm, ⟨14, _⟩ => ⟨S16x4096x1024, .f32⟩
  | .hbm, ⟨15, _⟩ => ⟨S16x4096x512, .f32⟩
  | .hbm, ⟨16, _⟩ => ⟨S16x4096x512, .f32⟩
  | .hbm, ⟨17, _⟩ => ⟨S_, .f32⟩
  | .hbm, ⟨18, _⟩ => ⟨S16x4096x512, .f32⟩
  | .hbm, ⟨19, _⟩ => ⟨S16x4096x512, .f32⟩
  | .hbm, ⟨20, _⟩ => ⟨S_, .f32⟩
  | .hbm, ⟨21, _⟩ => ⟨S16x4096x512, .f32⟩
  | .hbm, ⟨22, _⟩ => ⟨S16x4096x512, .f32⟩
  | .hbm, ⟨23, _⟩ => ⟨S16x4096x512, .f32⟩
  | .hbm, ⟨24, _⟩ => ⟨S16x4096x512, .f32⟩
  | .hbm, ⟨25, _⟩ => ⟨S512x1024, .f32⟩
  | .hbm, ⟨26, _⟩ => ⟨S16x4096x1024, .f32⟩
  | .hbm, ⟨27, _⟩ => ⟨S16x4096x512, .f32⟩
  | .hbm, ⟨28, _⟩ => ⟨S16x4096x512, .f32⟩
  | .hbm, ⟨29, _⟩ => ⟨S_, .f32⟩
  | .hbm, ⟨30, _⟩ => ⟨S16x4096x512, .f32⟩
  | .hbm, ⟨31, _⟩ => ⟨S16x4096x512, .f32⟩
  | .hbm, ⟨32, _⟩ => ⟨S_, .f32⟩
  | .hbm, ⟨33, _⟩ => ⟨S16x4096x512, .f32⟩
  | .hbm, ⟨34, _⟩ => ⟨S16x4096x512, .f32⟩
  | .hbm, ⟨35, _⟩ => ⟨S16x4096x512, .f32⟩
  | .hbm, ⟨36, _⟩ => ⟨S16x4096x512, .f32⟩
  | .hbm, ⟨37, _⟩ => ⟨S512x1024, .f32⟩
  | .hbm, ⟨38, _⟩ => ⟨S16x4096x1024, .f32⟩
  | .hbm, ⟨39, _⟩ => ⟨S16x4096x1024, .f32⟩
  | .hbm, ⟨40, _⟩ => ⟨S16x4096x1024, .f32⟩
  | .hbm, ⟨41, _⟩ => ⟨S_, .f32⟩
  | .hbm, ⟨42, _⟩ => ⟨S16x4096x1024, .f32⟩
  | .hbm, ⟨43, _⟩ => ⟨S16x4096x1024, .f32⟩
  | .hbm, ⟨44, _⟩ => ⟨S_, .f32⟩
  | .hbm, ⟨45, _⟩ => ⟨S16x4096x1024, .f32⟩
  | .hbm, ⟨46, _⟩ => ⟨S16x4096x1024, .f32⟩
  | .hbm, ⟨47, _⟩ => ⟨S16x4096x1024, .f32⟩
  | .hbm, ⟨48, _⟩ => ⟨S16x4096x1024, .f32⟩
  | .hbm, ⟨49, _⟩ => ⟨S16x4096x1024, .f32⟩
  | .hbm, ⟨50, _⟩ => ⟨S_, .f32⟩
  | .hbm, ⟨51, _⟩ => ⟨S16x4096x1024, .f32⟩
  | .hbm, ⟨52, _⟩ => ⟨S16x4096x1024, .f32⟩
  | .hbm, ⟨53, _⟩ => ⟨S_, .f32⟩
  | .hbm, ⟨54, _⟩ => ⟨S16x4096x1024, .f32⟩
  | .hbm, ⟨55, _⟩ => ⟨S16x4096x1024, .f32⟩
  | .hbm, ⟨56, _⟩ => ⟨S16x4096x1024, .f32⟩
  | .hbm, ⟨57, _⟩ => ⟨S16x4096x1024, .f32⟩
  | .hbm, ⟨58, _⟩ => ⟨S1024x1024, .f32⟩
  | .hbm, ⟨59, _⟩ => ⟨S16x4096x1024, .f32⟩
  | .hbm, ⟨60, _⟩ => ⟨S16x4096x1024, .f32⟩
  | .hbm, ⟨61, _⟩ => ⟨S16x4096x1024, .f32⟩
  | .hbm, ⟨62, _⟩ => ⟨S_, .f32⟩
  | .hbm, ⟨63, _⟩ => ⟨S16x4096, .f32⟩
  | .hbm, ⟨64, _⟩ => ⟨S16x4096x1, .f32⟩
  | .hbm, ⟨65, _⟩ => ⟨S_, .f32⟩
  | .hbm, ⟨66, _⟩ => ⟨S16x4096x1, .f32⟩
  | .hbm, ⟨67, _⟩ => ⟨S16x4096x1, .f32⟩
  | .hbm, ⟨68, _⟩ => ⟨S_, .f32⟩
  | .hbm, ⟨69, _⟩ => ⟨S16x4096x1, .f32⟩
  | .hbm, ⟨70, _⟩ => ⟨S16x4096x1, .f32⟩
  | .hbm, ⟨71, _⟩ => ⟨S16x4096x1, .f32⟩
  | .hbm, ⟨72, _⟩ => ⟨S16x4096x1024, .f32⟩
  | .hbm, ⟨73, _⟩ => ⟨S16x4096x1024, .f32⟩
  | .hbm, ⟨74, _⟩ => ⟨S1x1x1024, .f32⟩
  | .hbm, ⟨75, _⟩ => ⟨S16x4096x1024, .f32⟩
  | .hbm, ⟨76, _⟩ => ⟨S16x4096x1024, .f32⟩
  | .hbm, ⟨77, _⟩ => ⟨S65536x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_v3 : Ref sig .tc := ⟨.hbm, 19, rfl⟩
abbrev main_call0_cst_0 : Ref sig .tc := ⟨.hbm, 20, rfl⟩
abbrev main_call0_v4 : Ref sig .tc := ⟨.hbm, 21, rfl⟩
abbrev main_call0_v5 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_call1_v0 : Ref sig .tc := ⟨.hbm, 27, rfl⟩
abbrev main_call1_v1 : Ref sig .tc := ⟨.hbm, 28, rfl⟩
abbrev main_call1_cst : Ref sig .tc := ⟨.hbm, 29, rfl⟩
abbrev main_call1_v2 : Ref sig .tc := ⟨.hbm, 30, rfl⟩
abbrev main_call1_v3 : Ref sig .tc := ⟨.hbm, 31, rfl⟩
abbrev main_call1_cst_0 : Ref sig .tc := ⟨.hbm, 32, rfl⟩
abbrev main_call1_v4 : Ref sig .tc := ⟨.hbm, 33, rfl⟩
abbrev main_call1_v5 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_cst : Ref sig .tc := ⟨.hbm, 41, rfl⟩
abbrev main_v17 : Ref sig .tc := ⟨.hbm, 42, rfl⟩
abbrev main_v18 : Ref sig .tc := ⟨.hbm, 43, rfl⟩
abbrev main_cst_0 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_cst_1 : Ref sig .tc := ⟨.hbm, 50, rfl⟩
abbrev main_v24 : Ref sig .tc := ⟨.hbm, 51, rfl⟩
abbrev main_v25 : Ref sig .tc := ⟨.hbm, 52, rfl⟩
abbrev main_cst_2 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_cst_3 : Ref sig .tc := ⟨.hbm, 62, rfl⟩
abbrev main_v34 : Ref sig .tc := ⟨.hbm, 63, rfl⟩
abbrev main_v35 : Ref sig .tc := ⟨.hbm, 64, rfl⟩
abbrev main_cst_4 : Ref sig .tc := ⟨.hbm, 65, rfl⟩
abbrev main_v36 : Ref sig .tc := ⟨.hbm, 66, rfl⟩
abbrev main_v37 : Ref sig .tc := ⟨.hbm, 67, rfl⟩
abbrev main_cst_5 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩

abbrev nD : Nat := 1
abbrev τ : Topo := Topo.v7x

variable {F : FTy → Type} [FloatOps F]
-- ==== WsKernel.lean ====
abbrev S16x4096x5376 : Shape := ⟨3, ![16, 4096, 5376]⟩
abbrev S16x5376 : Shape := ⟨2, ![16, 5376]⟩
abbrev S32x8 : Shape := ⟨2, ![32, 8]⟩
abbrev S1x8 : Shape := ⟨2, ![1, 8]⟩
abbrev S128 : Shape := ⟨1, ![128]⟩
abbrev S384 : Shape := ⟨1, ![384]⟩
abbrev S1x384 : Shape := ⟨2, ![1, 384]⟩
abbrev S_ : Shape := ⟨0, ![]⟩
abbrev S128x1 : Shape := ⟨2, ![128, 1]⟩
abbrev S128x384 : Shape := ⟨2, ![128, 384]⟩
abbrev S128x384x1 : Shape := ⟨3, ![128, 384, 1]⟩
abbrev S128x384x8 : Shape := ⟨3, ![128, 384, 8]⟩
abbrev S8x128x384 : Shape := ⟨3, ![8, 128, 384]⟩
abbrev S1x128x384 : Shape := ⟨3, ![1, 128, 384]⟩
abbrev S1x8x128x384 : Shape := ⟨4, ![1, 8, 128, 384]⟩
abbrev S3x8x128x384 : Shape := ⟨4, ![3, 8, 128, 384]⟩
abbrev S32 : Shape := ⟨1, ![32]⟩
abbrev S32x1 : Shape := ⟨2, ![32, 1]⟩
abbrev S1x128 : Shape := ⟨2, ![1, 128]⟩
abbrev S32x128 : Shape := ⟨2, ![32, 128]⟩
abbrev S16 : Shape := ⟨1, ![16]⟩
abbrev S1x1x16 : Shape := ⟨3, ![1, 1, 16]⟩
abbrev S32x128x1 : Shape := ⟨3, ![32, 128, 1]⟩
abbrev S32x128x16 : Shape := ⟨3, ![32, 128, 16]⟩
abbrev S32x128x16x1 : Shape := ⟨4, ![32, 128, 16, 1]⟩
abbrev S32x128x16x8 : Shape := ⟨4, ![32, 128, 16, 8]⟩
abbrev S32x8x128x16 : Shape := ⟨4, ![32, 8, 128, 16]⟩
abbrev S8 : Shape := ⟨1, ![8]⟩
abbrev S16x4096x512 : Shape := ⟨3, ![16, 4096, 512]⟩
abbrev S1x128x512 : Shape := ⟨3, ![1, 128, 512]⟩
abbrev S1x128x128 : Shape := ⟨3, ![1, 128, 128]⟩
abbrev S16x128 : Shape := ⟨2, ![16, 128]⟩
abbrev S1x8x128x16 : Shape := ⟨4, ![1, 8, 128, 16]⟩
abbrev S1x128x64 : Shape := ⟨3, ![1, 128, 64]⟩
abbrev S128x64 : Shape := ⟨2, ![128, 64]⟩
abbrev S128x128 : Shape := ⟨2, ![128, 128]⟩
abbrev S1x1x128x128 : Shape := ⟨4, ![1, 1, 128, 128]⟩
abbrev S16x64 : Shape := ⟨2, ![16, 64]⟩
abbrev S128x16 : Shape := ⟨2, ![128, 16]⟩
abbrev S1x1x128x16 : Shape := ⟨4, ![1, 1, 128, 16]⟩
abbrev S1 : Shape := ⟨1, ![1]⟩

abbrev nBuf : Space → Nat
  | .hbm => 181
  | .vmem => 22
  | .smem => 1
  | _ => 0

abbrev hbmTy0_0 (i : Nat) : BufTy := match i % 128 with
  | 0 => ⟨S16x4096x5376, .bf16⟩
  | 1 => ⟨S16x5376, .bf16⟩
  | 2 => ⟨S32x8, .f32⟩
  | 3 => ⟨S1x8, .f32⟩
  | 4 => ⟨S128, .i32⟩
  | 5 => ⟨S384, .i32⟩
  | 6 => ⟨S1x384, .i32⟩
  | 7 => ⟨S_, .i32⟩
  | 8 => ⟨S1x384, .i32⟩
  | 9 => ⟨S1x384, .i32⟩
  | 10 => ⟨S128x1, .i32⟩
  | 11 => ⟨S128x384, .i32⟩
  | 12 => ⟨S128x384, .i32⟩
  | 13 => ⟨S128x384, .i32⟩
  | 14 => ⟨S_, .i32⟩
  | 15 => ⟨S128x384, .i32⟩
  | 16 => ⟨S128x384, .i1⟩
  | 17 => ⟨S_, .i32⟩
  | 18 => ⟨S_, .i32⟩
  | 19 => ⟨S128x384, .i32⟩
  | 20 => ⟨S128x384, .i32⟩
  | 21 => ⟨S128x384, .i32⟩
  | 22 => ⟨S128x384, .i32⟩
  | 23 => ⟨S_, .i32⟩
  | 24 => ⟨S128x384, .i32⟩
  | 25 => ⟨S128x384, .i32⟩
  | 26 => ⟨S128x384, .f32⟩
  | 27 => ⟨S_, .f32⟩
  | 28 => ⟨S128x384, .f32⟩
  | 29 => ⟨S128x384, .f32⟩
  | 30 => ⟨S128x384, .f32⟩
  | 31 => ⟨S_, .f32⟩
  | 32 => ⟨S128x384, .f32⟩
  | 33 => ⟨S128x384, .f32⟩
  | 34 => ⟨S_, .f32⟩
  | 35 => ⟨S128x384, .f32⟩
  | 36 => ⟨S128x384, .f32⟩
  | 37 => ⟨S128x384, .i32⟩
  | 38 => ⟨S_, .i32⟩
  | 39 => ⟨S128x384, .i32⟩
  | 40 => ⟨S128x384, .i32⟩
  | 41 => ⟨S_, .i32⟩
  | 42 => ⟨S128x384, .i32⟩
  | 43 => ⟨S128x384, .i32⟩
  | 44 => ⟨S_, .i32⟩
  | 45 => ⟨S128x384, .i32⟩
  | 46 => ⟨S128x384, .i1⟩
  | 47 => ⟨S128x384, .i32⟩
  | 48 => ⟨S128x384, .i32⟩
  | 49 => ⟨S128x384, .i32⟩
  | 50 => ⟨S_, .i32⟩
  | 51 => ⟨S128x384, .i32⟩
  | 52 => ⟨S128x384, .i1⟩
  | 53 => ⟨S_, .i32⟩
  | 54 => ⟨S128x384, .i32⟩
  | 55 => ⟨S128x384, .i32⟩
  | 56 => ⟨S128x384, .i32⟩
  | 57 => ⟨S128x384x1, .i32⟩
  | 58 => ⟨S128x384x8, .f32⟩
  | 59 => ⟨S8x128x384, .f32⟩
  | 60 => ⟨S128x384, .i32⟩
  | 61 => ⟨S_, .i32⟩
  | 62 => ⟨S128x384, .i32⟩
  | 63 => ⟨S128x384, .i1⟩
  | 64 => ⟨S_, .i32⟩
  | 65 => ⟨S_, .i32⟩
  | 66 => ⟨S384, .i32⟩
  | 67 => ⟨S384, .i32⟩
  | 68 => ⟨S384, .i32⟩
  | 69 => ⟨S_, .i32⟩
  | 70 => ⟨S384, .i32⟩
  | 71 => ⟨S384, .i1⟩
  | 72 => ⟨S384, .i32⟩
  | 73 => ⟨S384, .i32⟩
  | 74 => ⟨S_, .i32⟩
  | 75 => ⟨S384, .i32⟩
  | 76 => ⟨S384, .i1⟩
  | 77 => ⟨S384, .i1⟩
  | 78 => ⟨S_, .i32⟩
  | 79 => ⟨S384, .i32⟩
  | 80 => ⟨S384, .i32⟩
  | 81 => ⟨S384, .i32⟩
  | 82 => ⟨S1x384, .i32⟩
  | 83 => ⟨S_, .i32⟩
  | 84 => ⟨S1x384, .i32⟩
  | 85 => ⟨S1x384, .i1⟩
  | 86 => ⟨S128x384, .i1⟩
  | 87 => ⟨S128x384, .i1⟩
  | 88 => ⟨S_, .i32⟩
  | 89 => ⟨S1x384, .i32⟩
  | 90 => ⟨S1x384, .i1⟩
  | 91 => ⟨S128x384, .i1⟩
  | 92 => ⟨S128x384, .i1⟩
  | 93 => ⟨S1x128x384, .i1⟩
  | 94 => ⟨S_, .f32⟩
  | 95 => ⟨S_, .f32⟩
  | 96 => ⟨S8x128x384, .i1⟩
  | 97 => ⟨S8x128x384, .f32⟩
  | 98 => ⟨S8x128x384, .f32⟩
  | 99 => ⟨S1x128x384, .i1⟩
  | 100 => ⟨S_, .f32⟩
  | 101 => ⟨S_, .f32⟩
  | 102 => ⟨S8x128x384, .i1⟩
  | 103 => ⟨S8x128x384, .f32⟩
  | 104 => ⟨S8x128x384, .f32⟩
  | 105 => ⟨S1x128x384, .i1⟩
  | 106 => ⟨S_, .f32⟩
  | 107 => ⟨S_, .f32⟩
  | 108 => ⟨S8x128x384, .i1⟩
  | 109 => ⟨S8x128x384, .f32⟩
  | 110 => ⟨S8x128x384, .f32⟩
  | 111 => ⟨S1x8x128x384, .f32⟩
  | 112 => ⟨S1x8x128x384, .f32⟩
  | 113 => ⟨S1x8x128x384, .f32⟩
  | 114 => ⟨S3x8x128x384, .f32⟩
  | 115 => ⟨S32, .i32⟩
  | 116 => ⟨S32x1, .i32⟩
  | 117 => ⟨S_, .i32⟩
  | 118 => ⟨S32x1, .i32⟩
  | 119 => ⟨S32x1, .i32⟩
  | 120 => ⟨S_, .i32⟩
  | 121 => ⟨S32x1, .i32⟩
  | 122 => ⟨S32x1, .i32⟩
  | 123 => ⟨S1x128, .i32⟩
  | 124 => ⟨S32x128, .i32⟩
  | 125 => ⟨S32x128, .i32⟩
  | 126 => ⟨S32x128, .i32⟩
  | 127 => ⟨S16, .i32⟩
  | _ => ⟨S16x4096x5376, .bf16⟩

abbrev hbmTy0_1 (i : Nat) : BufTy := match i % 128 with
  | 0 => ⟨S1x1x16, .i32⟩
  | 1 => ⟨S32x128x1, .i32⟩
  | 2 => ⟨S32x128x16, .i32⟩
  | 3 => ⟨S32x128x16, .i32⟩
  | 4 => ⟨S32x128x16, .i32⟩
  | 5 => ⟨S_, .i32⟩
  | 6 => ⟨S32x128x16, .i32⟩
  | 7 => ⟨S32x128x16, .i1⟩
  | 8 => ⟨S_, .i32⟩
  | 9 => ⟨S_, .i32⟩
  | 10 => ⟨S32x128x16, .i32⟩
  | 11 => ⟨S32x128x16, .i32⟩
  | 12 => ⟨S32x128x16, .i32⟩
  | 13 => ⟨S32x128x16, .i32⟩
  | 14 => ⟨S_, .i32⟩
  | 15 => ⟨S32x128x16, .i32⟩
  | 16 => ⟨S32x128x16, .i32⟩
  | 17 => ⟨S32x128x16, .f32⟩
  | 18 => ⟨S_, .f32⟩
  | 19 => ⟨S32x128x16, .f32⟩
  | 20 => ⟨S32x128x16, .f32⟩
  | 21 => ⟨S32x128x16, .f32⟩
  | 22 => ⟨S_, .f32⟩
  | 23 => ⟨S32x128x16, .f32⟩
  | 24 => ⟨S32x128x16, .f32⟩
  | 25 => ⟨S_, .f32⟩
  | 26 => ⟨S32x128x16, .f32⟩
  | 27 => ⟨S32x128x16, .f32⟩
  | 28 => ⟨S32x128x16, .i32⟩
  | 29 => ⟨S_, .i32⟩
  | 30 => ⟨S32x128x16, .i32⟩
  | 31 => ⟨S32x128x16, .i32⟩
  | 32 => ⟨S_, .i32⟩
  | 33 => ⟨S32x128x16, .i32⟩
  | 34 => ⟨S32x128x16, .i32⟩
  | 35 => ⟨S_, .i32⟩
  | 36 => ⟨S32x128x16, .i32⟩
  | 37 => ⟨S32x128x16, .i1⟩
  | 38 => ⟨S32x128x16, .i32⟩
  | 39 => ⟨S32x128x16, .i32⟩
  | 40 => ⟨S32x128x16, .i32⟩
  | 41 => ⟨S_, .i32⟩
  | 42 => ⟨S32x128x16, .i32⟩
  | 43 => ⟨S32x128x16, .i1⟩
  | 44 => ⟨S_, .i32⟩
  | 45 => ⟨S32x128x16, .i32⟩
  | 46 => ⟨S32x128x16, .i32⟩
  | 47 => ⟨S32x128x16, .i32⟩
  | 48 => ⟨S32x128x16x1, .i32⟩
  | 49 => ⟨S32x128x16x8, .f32⟩
  | 50 => ⟨S32x8x128x16, .f32⟩
  | 51 => ⟨S8, .f32⟩
  | 52 => ⟨S16x4096x512, .bf16⟩
  | _ => ⟨S16x4096x5376, .bf16⟩

abbrev hbmTy (i : Nat) : BufTy := match i / 128 with
  | 0 => hbmTy0_0 i
  | 1 => hbmTy0_1 i
  | _ => ⟨S16x4096x5376, .bf16⟩

abbrev bufTy : (tb : Table) → Fin (tcTables nBuf tb) → BufTy
  | .hbm, ⟨i, _⟩ => hbmTy i
  | .local _ .vmem, ⟨0, _⟩ => ⟨S1x128x512, .bf16⟩
  | .local _ .vmem, ⟨1, _⟩ => ⟨S1x128x512, .bf16⟩
  | .local _ .vmem, ⟨2, _⟩ => ⟨S1x128x128, .bf16⟩
  | .local _ .vmem, ⟨3, _⟩ => ⟨S1x128x128, .bf16⟩
  | .local _ .vmem, ⟨4, _⟩ => ⟨S1x128x128, .bf16⟩
  | .local _ .vmem, ⟨5, _⟩ => ⟨S1x128x128, .bf16⟩
  | .local _ .vmem, ⟨6, _⟩ => ⟨S1x128x128, .bf16⟩
  | .local _ .vmem, ⟨7, _⟩ => ⟨S1x128x128, .bf16⟩
  | .local _ .vmem, ⟨8, _⟩ => ⟨S1x128x128, .bf16⟩
  | .local _ .vmem, ⟨9, _⟩ => ⟨S1x128x128, .bf16⟩
  | .local _ .vmem, ⟨10, _⟩ => ⟨S1x128x128, .bf16⟩
  | .local _ .vmem, ⟨11, _⟩ => ⟨S1x128x128, .bf16⟩
  | .local _ .vmem, ⟨12, _⟩ => ⟨S1x128x128, .bf16⟩
  | .local _ .vmem, ⟨13, _⟩ => ⟨S1x128x128, .bf16⟩
  | .local _ .vmem, ⟨14, _⟩ => ⟨S16x128, .bf16⟩
  | .local _ .vmem, ⟨15, _⟩ => ⟨S16x128, .bf16⟩
  | .local _ .vmem, ⟨16, _⟩ => ⟨S1x8x128x384, .f32⟩
  | .local _ .vmem, ⟨17, _⟩ => ⟨S1x8x128x384, .f32⟩
  | .local _ .vmem, ⟨18, _⟩ => ⟨S1x8x128x16, .f32⟩
  | .local _ .vmem, ⟨19, _⟩ => ⟨S1x8x128x16, .f32⟩
  | .local _ .vmem, ⟨20, _⟩ => ⟨S1x128x512, .bf16⟩
  | .local _ .vmem, ⟨21, _⟩ => ⟨S1x128x512, .bf16⟩
  | .local _ .smem, ⟨0, _⟩ => ⟨S8, .f32⟩
  | _, _ => ⟨S16x4096x5376, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .smem, ⟨0, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_c_2 : Ref sig .tc := ⟨.hbm, 18, rfl⟩
abbrev main_call0_v0 : Ref sig .tc := ⟨.hbm, 19, rfl⟩
abbrev main_call0_v1 : Ref sig .tc := ⟨.hbm, 20, rfl⟩
abbrev main_v11 : Ref sig .tc := ⟨.hbm, 21, rfl⟩
abbrev main_v12 : Ref sig .tc := ⟨.hbm, 22, rfl⟩
abbrev main_c_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_6 : Ref sig .tc := ⟨.hbm, 38, rfl⟩
abbrev main_v24 : Ref sig .tc := ⟨.hbm, 39, rfl⟩
abbrev main_v25 : Ref sig .tc := ⟨.hbm, 40, rfl⟩
abbrev main_c_7 : Ref sig .tc := ⟨.hbm, 41, rfl⟩
abbrev main_v26 : Ref sig .tc := ⟨.hbm, 42, rfl⟩
abbrev main_v27 : Ref sig .tc := ⟨.hbm, 43, rfl⟩
abbrev main_c_8 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_9 : Ref sig .tc := ⟨.hbm, 50, rfl⟩
abbrev main_v33 : Ref sig .tc := ⟨.hbm, 51, rfl⟩
abbrev main_v34 : Ref sig .tc := ⟨.hbm, 52, rfl⟩
abbrev main_c_10 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_c_11 : Ref sig .tc := ⟨.hbm, 61, rfl⟩
abbrev main_v42 : Ref sig .tc := ⟨.hbm, 62, rfl⟩
abbrev main_v43 : Ref sig .tc := ⟨.hbm, 63, rfl⟩
abbrev main_c_12 : Ref sig .tc := ⟨.hbm, 64, rfl⟩
abbrev main_call2_v0 : Ref sig .tc := ⟨.hbm, 65, rfl⟩
abbrev main_call2_v1 : Ref sig .tc := ⟨.hbm, 66, rfl⟩
abbrev main_call2_v2 : Ref sig .tc := ⟨.hbm, 67, rfl⟩
abbrev main_call2_v3 : Ref sig .tc := ⟨.hbm, 68, rfl⟩
abbrev main_call2_v4 : Ref sig .tc := ⟨.hbm, 69, rfl⟩
abbrev main_call2_v5 : Ref sig .tc := ⟨.hbm, 70, rfl⟩
abbrev main_call2_v6 : Ref sig .tc := ⟨.hbm, 71, rfl⟩
abbrev main_call2_v7 : Ref sig .tc := ⟨.hbm, 72, rfl⟩
abbrev main_call2_v8 : Ref sig .tc := ⟨.hbm, 73, rfl⟩
abbrev main_call2_c : Ref sig .tc := ⟨.hbm, 74, rfl⟩
abbrev main_call2_v9 : Ref sig .tc := ⟨.hbm, 75, rfl⟩
abbrev main_call2_v10 : Ref sig .tc := ⟨.hbm, 76, rfl⟩
abbrev main_call2_v11 : Ref sig .tc := ⟨.hbm, 77, rfl⟩
abbrev main_call2_c_0 : Ref sig .tc := ⟨.hbm, 78, rfl⟩
abbrev main_call2_v12 : Ref sig .tc := ⟨.hbm, 79, rfl⟩
abbrev main_call2_v13 : Ref sig .tc := ⟨.hbm, 80, rfl⟩
abbrev main_v44 : Ref sig .tc := ⟨.hbm, 81, rfl⟩
abbrev main_v45 : Ref sig .tc := ⟨.hbm, 82, rfl⟩
abbrev main_c_13 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_c_14 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_cst_15 : Ref sig .tc := ⟨.hbm, 94, rfl⟩
abbrev main_call3_v0 : Ref sig .tc := ⟨.hbm, 95, rfl⟩
abbrev main_call3_v1 : Ref sig .tc := ⟨.hbm, 96, rfl⟩
abbrev main_call3_v2 : Ref sig .tc := ⟨.hbm, 97, rfl⟩
abbrev main_v55 : Ref sig .tc := ⟨.hbm, 98, rfl⟩
abbrev main_v56 : Ref sig .tc := ⟨.hbm, 99, rfl⟩
abbrev main_cst_16 : Ref sig .tc := ⟨.hbm, 100, rfl⟩
abbrev main_call4_v0 : Ref sig .tc := ⟨.hbm, 101, rfl⟩
abbrev main_call4_v1 : Ref sig .tc := ⟨.hbm, 102, rfl⟩
abbrev main_call4_v2 : Ref sig .tc := ⟨.hbm, 103, rfl⟩
abbrev main_v57 : Ref sig .tc := ⟨.hbm, 104, rfl⟩
abbrev main_v58 : Ref sig .tc := ⟨.hbm, 105, rfl⟩
abbrev main_cst_17 : Ref sig .tc := ⟨.hbm, 106, rfl⟩
abbrev main_call5_v0 : Ref sig .tc := ⟨.hbm, 107, rfl⟩
abbrev main_call5_v1 : Ref sig .tc := ⟨.hbm, 108, rfl⟩
abbrev main_call5_v2 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_c_18 : Ref sig .tc := ⟨.hbm, 117, rfl⟩
abbrev main_v66 : Ref sig .tc := ⟨.hbm, 118, rfl⟩
abbrev main_v67 : Ref sig .tc := ⟨.hbm, 119, rfl⟩
abbrev main_c_19 : Ref sig .tc := ⟨.hbm, 120, rfl⟩
abbrev main_v68 : Ref sig .tc := ⟨.hbm, 121, rfl⟩
abbrev main_v69 : Ref sig .tc := ⟨.hbm, 122, rfl⟩
abbrev main_v70 : Ref sig .tc := ⟨.hbm, 123, rfl⟩
abbrev main_v71 : Ref sig .tc := ⟨.hbm, 124, rfl⟩
abbrev main_v72 : Ref sig .tc := ⟨.hbm, 125, rfl⟩
abbrev main_v73 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩
abbrev main_v77 : Ref sig .tc := ⟨.hbm, 130, rfl⟩
abbrev main_v78 : Ref sig .tc := ⟨.hbm, 131, rfl⟩
abbrev main_v79 : Ref sig .tc := ⟨.hbm, 132, rfl⟩
abbrev main_c_20 : Ref sig .tc := ⟨.hbm, 133, rfl⟩
abbrev main_v80 : Ref sig .tc := ⟨.hbm, 134, rfl⟩
abbrev main_v81 : Ref sig .tc := ⟨.hbm, 135, rfl⟩
abbrev main_c_21 : Ref sig .tc := ⟨.hbm, 136, rfl⟩
abbrev main_c_22 : Ref sig .tc := ⟨.hbm, 137, rfl⟩
abbrev main_call6_v0 : Ref sig .tc := ⟨.hbm, 138, rfl⟩
abbrev main_call6_v1 : Ref sig .tc := ⟨.hbm, 139, rfl⟩
abbrev main_v82 : Ref sig .tc := ⟨.hbm, 140, rfl⟩
abbrev main_v83 : Ref sig .tc := ⟨.hbm, 141, rfl⟩
abbrev main_c_23 : Ref sig .tc := ⟨.hbm, 142, rfl⟩
abbrev main_v84 : Ref sig .tc := ⟨.hbm, 143, rfl⟩
abbrev main_v85 : Ref sig .tc := ⟨.hbm, 144, rfl⟩
abbrev main_v86 : Ref sig .tc := ⟨.hbm, 145, rfl⟩
abbrev main_cst_24 : Ref sig .tc := ⟨.hbm, 146, rfl⟩
abbrev main_v87 : Ref sig .tc := ⟨.hbm, 147, rfl⟩
abbrev main_v88 : Ref sig .tc := ⟨.hbm, 148, rfl⟩
abbrev main_v89 : Ref sig .tc := ⟨.hbm, 149, rfl⟩
abbrev main_cst_25 : Ref sig .tc := ⟨.hbm, 150, rfl⟩
abbrev main_v90 : Ref sig .tc := ⟨.hbm, 151, rfl⟩
abbrev main_v91 : Ref sig .tc := ⟨.hbm, 152, rfl⟩
abbrev main_cst_26 : Ref sig .tc := ⟨.hbm, 153, rfl⟩
abbrev main_v92 : Ref sig .tc := ⟨.hbm, 154, rfl⟩
abbrev main_v93 : Ref sig .tc := ⟨.hbm, 155, rfl⟩
abbrev main_v94 : Ref sig .tc := ⟨.hbm, 156, rfl⟩
abbrev main_c_27 : Ref sig .tc := ⟨.hbm, 157, rfl⟩
abbrev main_v95 : Ref sig .tc := ⟨.hbm, 158, rfl⟩
abbrev main_v96 : Ref sig .tc := ⟨.hbm, 159, rfl⟩
abbrev main_c_28 : Ref sig .tc := ⟨.hbm, 160, rfl⟩
abbrev main_v97 : Ref sig .tc := ⟨.hbm, 161, rfl⟩
abbrev main_v98 : Ref sig .tc := ⟨.hbm, 162, rfl⟩
abbrev main_c_29 : Ref sig .tc := ⟨.hbm, 163, rfl⟩
abbrev main_v99 : Ref sig .tc := ⟨.hbm, 164, rfl⟩
abbrev main_v100 : Ref sig .tc := ⟨.hbm, 165, rfl⟩
abbrev main_v101 : Ref sig .tc := ⟨.hbm, 166, rfl⟩
abbrev main_v102 : Ref sig .tc := ⟨.hbm, 167, rfl⟩
abbrev main_v103 : Ref sig .tc := ⟨.hbm, 168, rfl⟩
abbrev main_c_30 : Ref sig .tc := ⟨.hbm, 169, rfl⟩
abbrev main_v104 : Ref sig .tc := ⟨.hbm, 170, rfl⟩
abbrev main_v105 : Ref sig .tc := ⟨.hbm, 171, rfl⟩
abbrev main_c_31 : Ref sig .tc := ⟨.hbm, 172, rfl⟩
abbrev main_v106 : Ref sig .tc := ⟨.hbm, 173, rfl⟩
abbrev main_v107 : Ref sig .tc := ⟨.hbm, 174, rfl⟩
abbrev main_v108 : Ref sig .tc := ⟨.hbm, 175, rfl⟩
abbrev main_v109 : Ref sig .tc := ⟨.hbm, 176, rfl⟩
abbrev main_v110 : Ref sig .tc := ⟨.hbm, 177, rfl⟩
abbrev main_v111 : Ref sig .tc := ⟨.hbm, 178, rfl⟩
abbrev main_v112 : Ref sig .tc := ⟨.hbm, 179, rfl⟩
abbrev main_v113 : Ref sig .tc := ⟨.hbm, 180, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨2, ![32, 16], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg1.toNat, arg0.toNat, c4_i32.toNat]

def cc0_transform_2 (i : grid0.Coords) : Fin 3 → Nat :=
  let arg0 : BitVec 32 := BitVec.ofNat 32 (i 0).val
  let arg1 : BitVec 32 := BitVec.ofNat 32 (i 1).val
  let c_m1_i32 : BitVec 32 := 4294967295#32
  let v0 : BitVec 32 := Scalar.addi arg0 c_m1_i32
  let c0_i32 : BitVec 32 := 0#32
  let c31_i32 : BitVec 32 := 31#32
  let v1 : BitVec 32 := Scalar.maxsi c0_i32 v0
  let v2 : BitVec 32 := Scalar.minsi c31_i32 v1
  let c40_i32 : BitVec 32 := 40#32
  let c0_i32_0 : BitVec 32 := 0#32
  ![arg1.toNat, v2.toNat, c40_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c31_i32 : BitVec 32 := 31#32
  let v1 : BitVec 32 := Scalar.maxsi c0_i32_0 v0
  let v2 : BitVec 32 := Scalar.minsi c31_i32 v1
  let c40_i32 : BitVec 32 := 40#32
  let c0_i32_1 : BitVec 32 := 0#32
  ![arg1.toNat, v2.toNat, c40_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c31_i32 : BitVec 32 := 31#32
  let v1 : BitVec 32 := Scalar.maxsi c0_i32 v0
  let v2 : BitVec 32 := Scalar.minsi c31_i32 v1
  let c40_i32 : BitVec 32 := 40#32
  let c0_i32_0 : BitVec 32 := 0#32
  ![arg1.toNat, v2.toNat, c40_i32.toNat]

def cc0_transform_5 (i : grid0.Coords) : Fin 3 → Nat :=
  let arg0 : BitVec 32 := BitVec.ofNat 32 (i 0).val
  let arg1 : BitVec 32 := BitVec.ofNat 32 (i 1).val
  let c_m1_i32 : BitVec 32 := 4294967295#32
  let v0 : BitVec 32 := Scalar.addi arg0 c_m1_i32
  let c0_i32 : BitVec 32 := 0#32
  let c31_i32 : BitVec 32 := 31#32
  let v1 : BitVec 32 := Scalar.maxsi c0_i32 v0
  let v2 : BitVec 32 := Scalar.minsi c31_i32 v1
  let c41_i32 : BitVec 32 := 41#32
  let c0_i32_0 : BitVec 32 := 0#32
  ![arg1.toNat, v2.toNat, c41_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c31_i32 : BitVec 32 := 31#32
  let v1 : BitVec 32 := Scalar.maxsi c0_i32_0 v0
  let v2 : BitVec 32 := Scalar.minsi c31_i32 v1
  let c41_i32 : BitVec 32 := 41#32
  let c0_i32_1 : BitVec 32 := 0#32
  ![arg1.toNat, v2.toNat, c41_i32.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c31_i32 : BitVec 32 := 31#32
  let v1 : BitVec 32 := Scalar.maxsi c0_i32 v0
  let v2 : BitVec 32 := Scalar.minsi c31_i32 v1
  let c41_i32 : BitVec 32 := 41#32
  let c0_i32_0 : BitVec 32 := 0#32
  ![arg1.toNat, v2.toNat, c41_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c40_i32 : BitVec 32 := 40#32
  let c0_i32_0 : BitVec 32 := 0#32
  ![c0_i32.toNat, c40_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c41_i32 : BitVec 32 := 41#32
  let c0_i32_0 : BitVec 32 := 0#32
  ![c0_i32.toNat, c41_i32.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c31_i32 : BitVec 32 := 31#32
  let v1 : BitVec 1 := Scalar.cmpi .eq arg0 c31_i32
  let c2_i32 : BitVec 32 := 2#32
  let c1_i32 : BitVec 32 := 1#32
  let v2 : BitVec 32 := Scalar.select v1 c2_i32 c1_i32
  let c0_i32_0 : BitVec 32 := 0#32
  let v3 : BitVec 32 := Scalar.select v0 c0_i32_0 v2
  let c0_i32_1 : BitVec 32 := 0#32
  let c0_i32_2 : BitVec 32 := 0#32
  let c0_i32_3 : BitVec 32 := 0#32
  let c0_i32_4 : BitVec 32 := 0#32
  ![v3.toNat, c0_i32_1.toNat, c0_i32_2.toNat, c0_i32_3.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S16x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S16x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x8x128x384 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x8x128x16 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x128x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== WsReferenceIdeal.lean ====
abbrev S16x4096x5376 : Shape := ⟨3, ![16, 4096, 5376]⟩
abbrev S16x5376 : Shape := ⟨2, ![16, 5376]⟩
abbrev S32x8 : Shape := ⟨2, ![32, 8]⟩
abbrev S1x8 : Shape := ⟨2, ![1, 8]⟩
abbrev S16x4096x512 : Shape := ⟨3, ![16, 4096, 512]⟩
abbrev S16x4096x8x64 : Shape := ⟨4, ![16, 4096, 8, 64]⟩
abbrev S16x4096x128 : Shape := ⟨3, ![16, 4096, 128]⟩
abbrev S16x4096x2x64 : Shape := ⟨4, ![16, 4096, 2, 64]⟩
abbrev S16x32x128x2x4x64 : Shape := ⟨6, ![16, 32, 128, 2, 4, 64]⟩
abbrev S_ : Shape := ⟨0, ![]⟩
abbrev S16x4352x2x64 : Shape := ⟨4, ![16, 4352, 2, 64]⟩
abbrev S16x34x128x2x64 : Shape := ⟨5, ![16, 34, 128, 2, 64]⟩
abbrev S16x32x128x2x64 : Shape := ⟨5, ![16, 32, 128, 2, 64]⟩
abbrev S16x32x384x2x64 : Shape := ⟨5, ![16, 32, 384, 2, 64]⟩
abbrev S128 : Shape := ⟨1, ![128]⟩
abbrev S384 : Shape := ⟨1, ![384]⟩
abbrev S32 : Shape := ⟨1, ![32]⟩
abbrev S1x384 : Shape := ⟨2, ![1, 384]⟩
abbrev S128x1 : Shape := ⟨2, ![128, 1]⟩
abbrev S128x384 : Shape := ⟨2, ![128, 384]⟩
abbrev S32x1 : Shape := ⟨2, ![32, 1]⟩
abbrev S32x384 : Shape := ⟨2, ![32, 384]⟩
abbrev S1x128x384 : Shape := ⟨3, ![1, 128, 384]⟩
abbrev S32x1x384 : Shape := ⟨3, ![32, 1, 384]⟩
abbrev S32x128x384 : Shape := ⟨3, ![32, 128, 384]⟩
abbrev S128x384x1 : Shape := ⟨3, ![128, 384, 1]⟩
abbrev S128x384x8 : Shape := ⟨3, ![128, 384, 8]⟩
abbrev S128x384x2x4 : Shape := ⟨4, ![128, 384, 2, 4]⟩
abbrev S2x4x128x384 : Shape := ⟨4, ![2, 4, 128, 384]⟩
abbrev S1x128 : Shape := ⟨2, ![1, 128]⟩
abbrev S32x128 : Shape := ⟨2, ![32, 128]⟩
abbrev S16 : Shape := ⟨1, ![16]⟩
abbrev S1x1x16 : Shape := ⟨3, ![1, 1, 16]⟩
abbrev S32x128x1 : Shape := ⟨3, ![32, 128, 1]⟩
abbrev S32x128x16 : Shape := ⟨3, ![32, 128, 16]⟩
abbrev S32x128x16x1 : Shape := ⟨4, ![32, 128, 16, 1]⟩
abbrev S32x128x16x8 : Shape := ⟨4, ![32, 128, 16, 8]⟩
abbrev S32x128x16x2x4 : Shape := ⟨5, ![32, 128, 16, 2, 4]⟩
abbrev S32x2x4x128x16 : Shape := ⟨5, ![32, 2, 4, 128, 16]⟩
abbrev S16x32x2x384x128x4 : Shape := ⟨6, ![16, 32, 2, 384, 128, 4]⟩
abbrev S16x32x2x4x128x384 : Shape := ⟨6, ![16, 32, 2, 4, 128, 384]⟩
abbrev S1x1x2x4x128x384 : Shape := ⟨6, ![1, 1, 2, 4, 128, 384]⟩
abbrev S32x1x1x128x384 : Shape := ⟨5, ![32, 1, 1, 128, 384]⟩
abbrev S16x128 : Shape := ⟨2, ![16, 128]⟩
abbrev S16x2x64 : Shape := ⟨3, ![16, 2, 64]⟩
abbrev S8 : Shape := ⟨1, ![8]⟩
abbrev S2x4 : Shape := ⟨2, ![2, 4]⟩
abbrev S2x16x16x32x128x4 : Shape := ⟨6, ![2, 16, 16, 32, 128, 4]⟩
abbrev S16x32x2x4x128x16 : Shape := ⟨6, ![16, 32, 2, 4, 128, 16]⟩
abbrev S1x32x2x4x128x16 : Shape := ⟨6, ![1, 32, 2, 4, 128, 16]⟩
abbrev S1x1x2x4x1x1 : Shape := ⟨6, ![1, 1, 2, 4, 1, 1]⟩
abbrev S16x32x2x4x128x1 : Shape := ⟨6, ![16, 32, 2, 4, 128, 1]⟩
abbrev S16x32x2x4x128x401 : Shape := ⟨6, ![16, 32, 2, 4, 128, 401]⟩
abbrev S16x32x2x4x128 : Shape := ⟨5, ![16, 32, 2, 4, 128]⟩
abbrev S16x32x2x64x4x128 : Shape := ⟨6, ![16, 32, 2, 64, 4, 128]⟩
abbrev S2x64x16x32x4x128 : Shape := ⟨6, ![2, 64, 16, 32, 4, 128]⟩

abbrev nBuf : Space → Nat
  | .hbm => 226
  | .vmem => 0
  | .smem => 0
  | _ => 0

abbrev hbmTy0_0 (i : Nat) : BufTy := match i % 128 with
  | 0 => ⟨S16x4096x5376, .bf16⟩
  | 1 => ⟨S16x5376, .bf16⟩
  | 2 => ⟨S32x8, .f32⟩
  | 3 => ⟨S1x8, .f32⟩
  | 4 => ⟨S16x4096x5376, .f32⟩
  | 5 => ⟨S16x5376, .f32⟩
  | 6 => ⟨S16x4096x512, .f32⟩
  | 7 => ⟨S16x4096x8x64, .f32⟩
  | 8 => ⟨S16x4096x128, .f32⟩
  | 9 => ⟨S16x4096x2x64, .f32⟩
  | 10 => ⟨S16x4096x128, .f32⟩
  | 11 => ⟨S16x4096x2x64, .f32⟩
  | 12 => ⟨S16x32x128x2x4x64, .f32⟩
  | 13 => ⟨S_, .i32⟩
  | 14 => ⟨S_, .f32⟩
  | 15 => ⟨S16x4352x2x64, .f32⟩
  | 16 => ⟨S16x34x128x2x64, .f32⟩
  | 17 => ⟨S16x32x128x2x64, .f32⟩
  | 18 => ⟨S16x32x128x2x64, .f32⟩
  | 19 => ⟨S16x32x128x2x64, .f32⟩
  | 20 => ⟨S16x32x384x2x64, .f32⟩
  | 21 => ⟨S_, .i32⟩
  | 22 => ⟨S_, .f32⟩
  | 23 => ⟨S16x4352x2x64, .f32⟩
  | 24 => ⟨S16x34x128x2x64, .f32⟩
  | 25 => ⟨S16x32x128x2x64, .f32⟩
  | 26 => ⟨S16x32x128x2x64, .f32⟩
  | 27 => ⟨S16x32x128x2x64, .f32⟩
  | 28 => ⟨S16x32x384x2x64, .f32⟩
  | 29 => ⟨S128, .i32⟩
  | 30 => ⟨S384, .i32⟩
  | 31 => ⟨S32, .i32⟩
  | 32 => ⟨S1x384, .i32⟩
  | 33 => ⟨S_, .i32⟩
  | 34 => ⟨S1x384, .i32⟩
  | 35 => ⟨S1x384, .i32⟩
  | 36 => ⟨S128x1, .i32⟩
  | 37 => ⟨S128x384, .i32⟩
  | 38 => ⟨S128x384, .i32⟩
  | 39 => ⟨S128x384, .i32⟩
  | 40 => ⟨S32x1, .i32⟩
  | 41 => ⟨S_, .i32⟩
  | 42 => ⟨S32x1, .i32⟩
  | 43 => ⟨S32x1, .i32⟩
  | 44 => ⟨S1x384, .i32⟩
  | 45 => ⟨S32x384, .i32⟩
  | 46 => ⟨S32x384, .i32⟩
  | 47 => ⟨S32x384, .i32⟩
  | 48 => ⟨S_, .i32⟩
  | 49 => ⟨S32x384, .i32⟩
  | 50 => ⟨S32x384, .i32⟩
  | 51 => ⟨S128x384, .i32⟩
  | 52 => ⟨S_, .i32⟩
  | 53 => ⟨S128x384, .i32⟩
  | 54 => ⟨S128x384, .i1⟩
  | 55 => ⟨S1x128x384, .i1⟩
  | 56 => ⟨S_, .i32⟩
  | 57 => ⟨S32x384, .i32⟩
  | 58 => ⟨S32x384, .i1⟩
  | 59 => ⟨S_, .i32⟩
  | 60 => ⟨S32x384, .i32⟩
  | 61 => ⟨S32x384, .i1⟩
  | 62 => ⟨S32x384, .i1⟩
  | 63 => ⟨S32x1x384, .i1⟩
  | 64 => ⟨S32x128x384, .i1⟩
  | 65 => ⟨S32x128x384, .i1⟩
  | 66 => ⟨S32x128x384, .i1⟩
  | 67 => ⟨S_, .i32⟩
  | 68 => ⟨S128x384, .i32⟩
  | 69 => ⟨S128x384, .i1⟩
  | 70 => ⟨S_, .i32⟩
  | 71 => ⟨S_, .i32⟩
  | 72 => ⟨S128x384, .i32⟩
  | 73 => ⟨S128x384, .i32⟩
  | 74 => ⟨S128x384, .i32⟩
  | 75 => ⟨S128x384, .i32⟩
  | 76 => ⟨S_, .i32⟩
  | 77 => ⟨S128x384, .i32⟩
  | 78 => ⟨S128x384, .i32⟩
  | 79 => ⟨S128x384, .f32⟩
  | 80 => ⟨S_, .f32⟩
  | 81 => ⟨S128x384, .f32⟩
  | 82 => ⟨S128x384, .f32⟩
  | 83 => ⟨S128x384, .f32⟩
  | 84 => ⟨S_, .f32⟩
  | 85 => ⟨S128x384, .f32⟩
  | 86 => ⟨S128x384, .f32⟩
  | 87 => ⟨S_, .f32⟩
  | 88 => ⟨S128x384, .f32⟩
  | 89 => ⟨S128x384, .f32⟩
  | 90 => ⟨S128x384, .i32⟩
  | 91 => ⟨S_, .i32⟩
  | 92 => ⟨S128x384, .i32⟩
  | 93 => ⟨S128x384, .i32⟩
  | 94 => ⟨S_, .i32⟩
  | 95 => ⟨S128x384, .i32⟩
  | 96 => ⟨S128x384, .i32⟩
  | 97 => ⟨S_, .i32⟩
  | 98 => ⟨S128x384, .i32⟩
  | 99 => ⟨S128x384, .i1⟩
  | 100 => ⟨S128x384, .i32⟩
  | 101 => ⟨S128x384, .i32⟩
  | 102 => ⟨S128x384, .i32⟩
  | 103 => ⟨S_, .i32⟩
  | 104 => ⟨S128x384, .i32⟩
  | 105 => ⟨S128x384, .i1⟩
  | 106 => ⟨S_, .i32⟩
  | 107 => ⟨S128x384, .i32⟩
  | 108 => ⟨S128x384, .i32⟩
  | 109 => ⟨S128x384, .i32⟩
  | 110 => ⟨S128x384x1, .i32⟩
  | 111 => ⟨S128x384x8, .f32⟩
  | 112 => ⟨S128x384x2x4, .f32⟩
  | 113 => ⟨S2x4x128x384, .f32⟩
  | 114 => ⟨S32x1, .i32⟩
  | 115 => ⟨S_, .i32⟩
  | 116 => ⟨S32x1, .i32⟩
  | 117 => ⟨S32x1, .i32⟩
  | 118 => ⟨S_, .i32⟩
  | 119 => ⟨S32x1, .i32⟩
  | 120 => ⟨S32x1, .i32⟩
  | 121 => ⟨S1x128, .i32⟩
  | 122 => ⟨S32x128, .i32⟩
  | 123 => ⟨S32x128, .i32⟩
  | 124 => ⟨S32x128, .i32⟩
  | 125 => ⟨S16, .i32⟩
  | 126 => ⟨S1x1x16, .i32⟩
  | 127 => ⟨S32x128x1, .i32⟩
  | _ => ⟨S16x4096x5376, .bf16⟩

abbrev hbmTy0_1 (i : Nat) : BufTy := match i % 128 with
  | 0 => ⟨S32x128x16, .i32⟩
  | 1 => ⟨S32x128x16, .i32⟩
  | 2 => ⟨S32x128x16, .i32⟩
  | 3 => ⟨S_, .i32⟩
  | 4 => ⟨S32x128x16, .i32⟩
  | 5 => ⟨S32x128x16, .i1⟩
  | 6 => ⟨S_, .i32⟩
  | 7 => ⟨S_, .i32⟩
  | 8 => ⟨S32x128x16, .i32⟩
  | 9 => ⟨S32x128x16, .i32⟩
  | 10 => ⟨S32x128x16, .i32⟩
  | 11 => ⟨S32x128x16, .i32⟩
  | 12 => ⟨S_, .i32⟩
  | 13 => ⟨S32x128x16, .i32⟩
  | 14 => ⟨S32x128x16, .i32⟩
  | 15 => ⟨S32x128x16, .f32⟩
  | 16 => ⟨S_, .f32⟩
  | 17 => ⟨S32x128x16, .f32⟩
  | 18 => ⟨S32x128x16, .f32⟩
  | 19 => ⟨S32x128x16, .f32⟩
  | 20 => ⟨S_, .f32⟩
  | 21 => ⟨S32x128x16, .f32⟩
  | 22 => ⟨S32x128x16, .f32⟩
  | 23 => ⟨S_, .f32⟩
  | 24 => ⟨S32x128x16, .f32⟩
  | 25 => ⟨S32x128x16, .f32⟩
  | 26 => ⟨S32x128x16, .i32⟩
  | 27 => ⟨S_, .i32⟩
  | 28 => ⟨S32x128x16, .i32⟩
  | 29 => ⟨S32x128x16, .i32⟩
  | 30 => ⟨S_, .i32⟩
  | 31 => ⟨S32x128x16, .i32⟩
  | 32 => ⟨S32x128x16, .i32⟩
  | 33 => ⟨S_, .i32⟩
  | 34 => ⟨S32x128x16, .i32⟩
  | 35 => ⟨S32x128x16, .i1⟩
  | 36 => ⟨S32x128x16, .i32⟩
  | 37 => ⟨S32x128x16, .i32⟩
  | 38 => ⟨S32x128x16, .i32⟩
  | 39 => ⟨S_, .i32⟩
  | 40 => ⟨S32x128x16, .i32⟩
  | 41 => ⟨S32x128x16, .i1⟩
  | 42 => ⟨S_, .i32⟩
  | 43 => ⟨S32x128x16, .i32⟩
  | 44 => ⟨S32x128x16, .i32⟩
  | 45 => ⟨S32x128x16, .i32⟩
  | 46 => ⟨S32x128x16x1, .i32⟩
  | 47 => ⟨S32x128x16x8, .f32⟩
  | 48 => ⟨S32x128x16x2x4, .f32⟩
  | 49 => ⟨S32x2x4x128x16, .f32⟩
  | 50 => ⟨S16x32x2x384x128x4, .f32⟩
  | 51 => ⟨S16x32x2x4x128x384, .f32⟩
  | 52 => ⟨S1x1x2x4x128x384, .f32⟩
  | 53 => ⟨S16x32x2x4x128x384, .f32⟩
  | 54 => ⟨S16x32x2x4x128x384, .f32⟩
  | 55 => ⟨S32x1x1x128x384, .i1⟩
  | 56 => ⟨S_, .f32⟩
  | 57 => ⟨S_, .f32⟩
  | 58 => ⟨S16x32x2x4x128x384, .i1⟩
  | 59 => ⟨S16x32x2x4x128x384, .f32⟩
  | 60 => ⟨S16x32x2x4x128x384, .f32⟩
  | 61 => ⟨S16x128, .f32⟩
  | 62 => ⟨S16x2x64, .f32⟩
  | 63 => ⟨S16x128, .f32⟩
  | 64 => ⟨S16x2x64, .f32⟩
  | 65 => ⟨S8, .f32⟩
  | 66 => ⟨S2x4, .f32⟩
  | 67 => ⟨S2x16x16x32x128x4, .f32⟩
  | 68 => ⟨S16x32x2x4x128x16, .f32⟩
  | 69 => ⟨S1x32x2x4x128x16, .f32⟩
  | 70 => ⟨S16x32x2x4x128x16, .f32⟩
  | 71 => ⟨S16x32x2x4x128x16, .f32⟩
  | 72 => ⟨S1x1x2x4x1x1, .f32⟩
  | 73 => ⟨S16x32x2x4x128x1, .f32⟩
  | 74 => ⟨S16x32x2x4x128x401, .f32⟩
  | 75 => ⟨S_, .f32⟩
  | 76 => ⟨S16x32x2x4x128, .f32⟩
  | 77 => ⟨S_, .f32⟩
  | 78 => ⟨S16x32x2x4x128, .f32⟩
  | 79 => ⟨S16x32x2x4x128, .f32⟩
  | 80 => ⟨S16x32x2x4x128x1, .f32⟩
  | 81 => ⟨S16x32x2x4x128x401, .f32⟩
  | 82 => ⟨S16x32x2x4x128x401, .f32⟩
  | 83 => ⟨S16x32x2x4x128x401, .f32⟩
  | 84 => ⟨S_, .f32⟩
  | 85 => ⟨S16x32x2x4x128, .f32⟩
  | 86 => ⟨S16x32x2x4x128x1, .f32⟩
  | 87 => ⟨S16x32x2x4x128x401, .f32⟩
  | 88 => ⟨S16x32x2x4x128x401, .f32⟩
  | 89 => ⟨S16x32x2x4x128x384, .f32⟩
  | 90 => ⟨S16x32x2x64x4x128, .f32⟩
  | 91 => ⟨S16x32x128x2x4x64, .f32⟩
  | 92 => ⟨S16x32x2x4x128x16, .f32⟩
  | 93 => ⟨S2x64x16x32x4x128, .f32⟩
  | 94 => ⟨S16x32x128x2x4x64, .f32⟩
  | 95 => ⟨S16x32x128x2x4x64, .f32⟩
  | 96 => ⟨S16x4096x512, .f32⟩
  | 97 => ⟨S16x4096x512, .bf16⟩
  | _ => ⟨S16x4096x5376, .bf16⟩

abbrev hbmTy (i : Nat) : BufTy := match i / 128 with
  | 0 => hbmTy0_0 i
  | 1 => hbmTy0_1 i
  | _ => ⟨S16x4096x5376, .bf16⟩

abbrev bufTy : (tb : Table) → Fin (tcTables nBuf tb) → BufTy
  | .hbm, ⟨i, _⟩ => hbmTy i
  | _, _ => ⟨S16x4096x5376, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c : Ref sig .tc := ⟨.hbm, 13, rfl⟩
abbrev main_call0_v0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c_0 : Ref sig .tc := ⟨.hbm, 21, rfl⟩
abbrev main_call1_v0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_c_1 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_c_2 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_c_3 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_c_4 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_c_5 : Ref sig .tc := ⟨.hbm, 56, rfl⟩
abbrev main_v44 : Ref sig .tc := ⟨.hbm, 57, rfl⟩
abbrev main_v45 : Ref sig .tc := ⟨.hbm, 58, rfl⟩
abbrev main_c_6 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_c_7 : Ref sig .tc := ⟨.hbm, 67, rfl⟩
abbrev main_v53 : Ref sig .tc := ⟨.hbm, 68, rfl⟩
abbrev main_v54 : Ref sig .tc := ⟨.hbm, 69, rfl⟩
abbrev main_c_8 : Ref sig .tc := ⟨.hbm, 70, rfl⟩
abbrev main_c_9 : Ref sig .tc := ⟨.hbm, 71, rfl⟩
abbrev main_call2_v0 : Ref sig .tc := ⟨.hbm, 72, rfl⟩
abbrev main_call2_v1 : Ref sig .tc := ⟨.hbm, 73, rfl⟩
abbrev main_v55 : Ref sig .tc := ⟨.hbm, 74, rfl⟩
abbrev main_v56 : Ref sig .tc := ⟨.hbm, 75, rfl⟩
abbrev main_c_10 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_cst_11 : Ref sig .tc := ⟨.hbm, 84, rfl⟩
abbrev main_v63 : Ref sig .tc := ⟨.hbm, 85, rfl⟩
abbrev main_v64 : Ref sig .tc := ⟨.hbm, 86, rfl⟩
abbrev main_cst_12 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_c_13 : Ref sig .tc := ⟨.hbm, 91, rfl⟩
abbrev main_v68 : Ref sig .tc := ⟨.hbm, 92, rfl⟩
abbrev main_v69 : Ref sig .tc := ⟨.hbm, 93, rfl⟩
abbrev main_c_14 : Ref sig .tc := ⟨.hbm, 94, rfl⟩
abbrev main_v70 : Ref sig .tc := ⟨.hbm, 95, rfl⟩
abbrev main_v71 : Ref sig .tc := ⟨.hbm, 96, rfl⟩
abbrev main_c_15 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_c_16 : Ref sig .tc := ⟨.hbm, 103, rfl⟩
abbrev main_v77 : Ref sig .tc := ⟨.hbm, 104, rfl⟩
abbrev main_v78 : Ref sig .tc := ⟨.hbm, 105, rfl⟩
abbrev main_c_17 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_c_18 : Ref sig .tc := ⟨.hbm, 115, rfl⟩
abbrev main_v87 : Ref sig .tc := ⟨.hbm, 116, rfl⟩
abbrev main_v88 : Ref sig .tc := ⟨.hbm, 117, rfl⟩
abbrev main_c_19 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_c_20 : Ref sig .tc := ⟨.hbm, 131, rfl⟩
abbrev main_v101 : Ref sig .tc := ⟨.hbm, 132, rfl⟩
abbrev main_v102 : Ref sig .tc := ⟨.hbm, 133, rfl⟩
abbrev main_c_21 : Ref sig .tc := ⟨.hbm, 134, rfl⟩
abbrev main_c_22 : Ref sig .tc := ⟨.hbm, 135, rfl⟩
abbrev main_call4_v0 : Ref sig .tc := ⟨.hbm, 136, rfl⟩
abbrev main_call4_v1 : Ref sig .tc := ⟨.hbm, 137, rfl⟩
abbrev main_v103 : Ref sig .tc := ⟨.hbm, 138, rfl⟩
abbrev main_v104 : Ref sig .tc := ⟨.hbm, 139, rfl⟩
abbrev main_c_23 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_cst_24 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_cst_25 : Ref sig .tc := ⟨.hbm, 148, rfl⟩
abbrev main_v111 : Ref sig .tc := ⟨.hbm, 149, rfl⟩
abbrev main_v112 : Ref sig .tc := ⟨.hbm, 150, rfl⟩
abbrev main_cst_26 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_c_27 : Ref sig .tc := ⟨.hbm, 155, rfl⟩
abbrev main_v116 : Ref sig .tc := ⟨.hbm, 156, rfl⟩
abbrev main_v117 : Ref sig .tc := ⟨.hbm, 157, rfl⟩
abbrev main_c_28 : Ref sig .tc := ⟨.hbm, 158, rfl⟩
abbrev main_v118 : Ref sig .tc := ⟨.hbm, 159, rfl⟩
abbrev main_v119 : Ref sig .tc := ⟨.hbm, 160, rfl⟩
abbrev main_c_29 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_c_30 : Ref sig .tc := ⟨.hbm, 167, rfl⟩
abbrev main_v125 : Ref sig .tc := ⟨.hbm, 168, rfl⟩
abbrev main_v126 : Ref sig .tc := ⟨.hbm, 169, rfl⟩
abbrev main_c_31 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_cst_32 : Ref sig .tc := ⟨.hbm, 184, rfl⟩
abbrev main_call6_v0 : Ref sig .tc := ⟨.hbm, 185, rfl⟩
abbrev main_call6_v1 : Ref sig .tc := ⟨.hbm, 186, rfl⟩
abbrev main_call6_v2 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩
abbrev main_v148 : Ref sig .tc := ⟨.hbm, 196, rfl⟩
abbrev main_v149 : Ref sig .tc := ⟨.hbm, 197, rfl⟩
abbrev main_v150 : Ref sig .tc := ⟨.hbm, 198, rfl⟩
abbrev main_v151 : Ref sig .tc := ⟨.hbm, 199, rfl⟩
abbrev main_v152 : Ref sig .tc := ⟨.hbm, 200, rfl⟩
abbrev main_v153 : Ref sig .tc := ⟨.hbm, 201, rfl⟩
abbrev main_v154 : Ref sig .tc := ⟨.hbm, 202, rfl⟩
abbrev main_cst_33 : Ref sig .tc := ⟨.hbm, 203, rfl⟩
abbrev main_v155 : Ref sig .tc := ⟨.hbm, 204, rfl⟩
abbrev main_cst_34 : Ref sig .tc := ⟨.hbm, 205, rfl⟩
abbrev main_v156 : Ref sig .tc := ⟨.hbm, 206, rfl⟩
abbrev main_v157 : Ref sig .tc := ⟨.hbm, 207, rfl⟩
abbrev main_v158 : Ref sig .tc := ⟨.hbm, 208, rfl⟩
abbrev main_v159 : Ref sig .tc := ⟨.hbm, 209, rfl⟩
abbrev main_v160 : Ref sig .tc := ⟨.hbm, 210, rfl⟩
abbrev main_v161 : Ref sig .tc := ⟨.hbm, 211, rfl⟩
abbrev main_cst_35 : Ref sig .tc := ⟨.hbm, 212, rfl⟩
abbrev main_v162 : Ref sig .tc := ⟨.hbm, 213, rfl⟩
abbrev main_v163 : Ref sig .tc := ⟨.hbm, 214, rfl⟩
abbrev main_v164 : Ref sig .tc := ⟨.hbm, 215, rfl⟩
abbrev main_v165 : Ref sig .tc := ⟨.hbm, 216, rfl⟩
abbrev main_v166 : Ref sig .tc := ⟨.hbm, 217, rfl⟩
abbrev main_v167 : Ref sig .tc := ⟨.hbm, 218, rfl⟩
abbrev main_v168 : Ref sig .tc := ⟨.hbm, 219, rfl⟩
abbrev main_v169 : Ref sig .tc := ⟨.hbm, 220, rfl⟩
abbrev main_v170 : Ref sig .tc := ⟨.hbm, 221, rfl⟩
abbrev main_v171 : Ref sig .tc := ⟨.hbm, 222, rfl⟩
abbrev main_v172 : Ref sig .tc := ⟨.hbm, 223, rfl⟩
abbrev main_v173 : Ref sig .tc := ⟨.hbm, 224, rfl⟩
abbrev main_v174 : Ref sig .tc := ⟨.hbm, 225, rfl⟩

abbrev nD : Nat := 1
abbrev τ : Topo := Topo.v7x

variable {F : FTy → Type} [FloatOps F]
-- ==== Proof.NpValue.lean ====
module

public import proofs.«01_k».proof.Proof.Gen.NpKernelIdeal.Value
public import proofs.«01_k».proof.Proof.Gen.NpReferenceIdeal.Read
public import Idealize.ShloMosaic.Lib.Pipeline.ValueKit
public import Idealize.ShloMosaic.Lib.StableHlo.ReadAt
public import Idealize.ShloMosaic.Lib.Pointwise
public import Idealize.ShloMosaic.Lib.Tactic

@[expose] public section

set_option maxRecDepth 16384

noncomputable section

namespace Cert.NpValue

open Idealize.ShloMosaic Idealize.ShloMosaic.TcCoe Idealize.SL.Sem
open scoped BigOperators

/-! ## The normalized row and the projection, as sums -/

/-- A finite factor that is not negative moves into a sum over the extended reals. -/
theorem sum_mul_const {ι : Type} [Fintype ι] (f : ι → EReal) {c : EReal} (h0 : 0 ≤ c) (ht : c ≠ ⊤) :
    (∑ k, f k) * c = ∑ k, f k * c := by
  classical
  refine Finset.induction_on Finset.univ (by simp) fun a s ha ih => ?_
  rw [Finset.sum_insert ha, Finset.sum_insert ha, EReal.right_distrib_of_nonneg_of_ne_top h0 ht, ih]

/-- The scale of the queries, 1/8, as the programs spell it. -/
abbrev eighth : EReal := Ideal.ofBits FTy.f32 0x3E000000#32

theorem eighth_eq : eighth = ((1 / 8 : ℝ) : EReal) := by
  simp [eighth, Ideal.ofBits, Ideal.ieee, -EReal.coe_mul]; norm_num

theorem eighth_nonneg : 0 ≤ eighth := by rw [eighth_eq]; exact EReal.coe_nonneg.mpr (by norm_num)
theorem eighth_ne_top : eighth ≠ ⊤ := by rw [eighth_eq]; exact EReal.coe_ne_top _

/-- Element `k` of the row `x` after the RMS norm with gain `g`. -/
def unorm (x g : Fin 1024 → EReal) (k : Fin 1024) : EReal :=
  x k * Ideal.rsqrt (Ideal.div (∑ l, x l * x l) (Ideal.ofBits FTy.f32 0x44800000#32) + Ideal.ofBits FTy.f32 0x358637BD#32) * g k

/-- The column `j` of the projection's weights in the order that the kernel is given them: the two query parts
    scaled by 1/8, the keys and values of the windowed attention last. -/
def wcol (w : Fin 5376 → EReal) (j : Fin 5376) : EReal :=
  if h : j.val < 512 then w ⟨j.val, j.isLt⟩ * eighth
  else if h : j.val < 2048 then w ⟨j.val, j.isLt⟩
  else if h : j.val < 2560 then w ⟨j.val, j.isLt⟩ * eighth
  else if h : j.val < 5120 then w ⟨j.val + 256, by omega⟩
  else w ⟨j.val - 2560, by omega⟩

/-- Where a column lies among the parts of the projection. -/
theorem ranges (j : Fin 5376) : j.val < 512 ∨ (512 ≤ j.val ∧ j.val < 1536) ∨ (1536 ≤ j.val ∧ j.val < 2048)
    ∨ (2048 ≤ j.val ∧ j.val < 2560) ∨ (2560 ≤ j.val ∧ j.val < 3072) ∨ (3072 ≤ j.val ∧ j.val < 5120) ∨ 5120 ≤ j.val := by omega

/-- Element `j` of the projection of the normalized row. -/
def proj (x g : Fin 1024 → EReal) (w : Fin 1024 → Fin 5376 → EReal) (j : Fin 5376) : EReal :=
  ∑ k, unorm x g k * wcol (w k) j

/-! ## The kernel -/

section Kernel
open Cert.NpKernelIdeal Cert.NpKernelIdeal.Gen

variable (m : (ℓ : Loc nD τ sig) → Buf (Elt Ideal) ℓ)

/-- The kernel's normalized block. -/
theorem norm_apply (x : Vec Ideal S512x1024 .f32) (g : Vec Ideal S1x1024 .f32) (r : Fin 512) (k : Fin 1024) :
    k0_pay5 (F := Ideal) x g (ix2 r k) = unorm (fun l => x (ix2 r l)) (fun l => g (ix2 0 l)) k := by
  pointwise [k0_pay5]; rfl

/-- What a grid point leaves in its output block, at an element: a row of the normalized block times a column of the weights. -/
theorem out_apply (x0 : Vec Ideal S512x1024 .f32) (x1 : Vec Ideal S1x1024 .f32) (x2 : Vec Ideal S1024x5376 .bf16)
    (r : Fin 512) (j : Fin 5376) : out0_3 (F := Ideal) x0 x1 x2 (ix2 r j)
      = ∑ k, unorm (fun l => x0 (ix2 r l)) (fun l => x1 (ix2 0 l)) k * x2 (ix2 k j) := by
  unfold out0_3
  canon_tiles x h
  all_goals
    idx_vars x
    try simp only [k0_pay9]
    pointwise [k0_pay1, k0_pay2, k0_pay3, k0_pay4, k0_pay6, k0_pay7, k0_pay8]
    simp only [norm_apply]
    pointwise
    obtain rfl : r = _ := Fin.ext h0
    exact Finset.sum_congr rfl fun k _ => congrArg (fun a => _ * x2 (ix2 k a)) (Fin.ext (by dsimp only; omega))

/-- The rows of `x` as the kernel stages them. -/
theorem V12 (c : Dev nD) (r : Fin 32768) (k : Fin 1024) : (V m c main_v12 : Vec Ideal S32768x1024 .f32) (ix2 r k)
    = (m ((c : Thread nD τ).loc main_arg0) : Vec Ideal S2x16384x1024 .f32) (ix3 ⟨r.val / 16384, by omega⟩ ⟨r.val % 16384, by omega⟩ k) := by
  unfold V
  after_reads_at

/-- The gain as the kernel stages it. -/
theorem V14 (c : Dev nD) (k : Fin 1024) : (V m c main_v14 : Vec Ideal S1x1024 .f32) (ix2 0 k)
    = (m ((c : Thread nD τ).loc main_arg1) : Vec Ideal S1x1024 .f32) (ix2 0 k) := by
  unfold V
  after_reads_at

/-- The weights as the kernel stages them. -/
theorem V15 (c : Dev nD) (k : Fin 1024) (j : Fin 5376) : (V m c main_v15 : Vec Ideal S1024x5376 .bf16) (ix2 k j)
    = wcol (fun l => (m ((c : Thread nD τ).loc main_arg2) : Vec Ideal S1x1024x5376 .f32) (ix3 0 k l)) j := by
  unfold V
  after_reads_at
  after_reads_at
  show _ = wcol (fun l => (m (c, Proc.tc.devRef main_arg2) : Vec Ideal S1x1024x5376 .f32) (ix3 0 k l)) j
  generalize (m (c, Proc.tc.devRef main_arg2) : Vec Ideal S1x1024x5376 .f32) = W
  have e : ∀ a b : Fin 5376, a.val = b.val → W (ix3 0 k a) = W (ix3 0 k b) := fun a b h => by rw [Fin.ext h]
  unfold wcol
  have hj := ranges j
  rcases hj with hj | hj | hj | hj | hj | hj | hj
  all_goals simp (disch := omega) only [dif_pos, dif_neg]
  all_goals first
    | exact e _ _ (by dsimp only; omega)
    | exact congrArg (· * eighth) (e _ _ (by dsimp only; omega))

/-- The windows' block indices: the rows of `x` and of the result move with the grid point, the gain and the weights stay. -/
theorem idx : ∀ t : Fin cfg0.N, win0_0.index t = ![t.val, 0] ∧ win0_1.index t = ![0, 0] ∧ win0_2.index t = ![0, 0]
    ∧ win0_3.index t = ![t.val, 0] :=
  (by decide +kernel : ∀ t : Fin grid0.N, win0_0.index t = ![t.val, 0] ∧ win0_1.index t = ![0, 0] ∧ win0_2.index t = ![0, 0]
    ∧ win0_3.index t = ![t.val, 0])

/-- The whole result, element by element. -/
def result (c : Dev nD) : Vec Ideal S32768x5376 .bf16 := fun i =>
  proj (fun l => (m ((c : Thread nD τ).loc main_arg0) : Vec Ideal S2x16384x1024 .f32)
      (ix3 ⟨(i 0).val / 16384, by have h : (i 0).val < 32768 := (i 0).isLt; omega⟩ ⟨(i 0).val % 16384, by omega⟩ l))
    (fun l => (m ((c : Thread nD τ).loc main_arg1) : Vec Ideal S1x1024 .f32) (ix2 0 l))
    (fun k l => (m ((c : Thread nD τ).loc main_arg2) : Vec Ideal S1x1024x5376 .f32) (ix3 0 k l)) (i 1)

/-- The first window's block at a grid point: its rows of `x`. -/
theorem block0 (c : Dev nD) (t : Fin cfg0.N) (ht : t.val < 64) (r : Fin 512) (k : Fin 1024) :
    (iblk m c 0 t : Vec Ideal S512x1024 .f32) (ix2 r k)
      = (V m c main_v12 : Vec Ideal S32768x1024 .f32) (ix2 ⟨t.val * 512 + r.val, by omega⟩ k) := by
  blk_ext [iblk, idx t]

/-- The second window's block: the gain. -/
theorem block1 (c : Dev nD) (t : Fin cfg0.N) (k : Fin 1024) :
    (iblk m c 1 t : Vec Ideal S1x1024 .f32) (ix2 0 k) = (V m c main_v14 : Vec Ideal S1x1024 .f32) (ix2 0 k) := by
  blk_ext [iblk, idx t]

/-- The third window's block: the weights. -/
theorem block2 (c : Dev nD) (t : Fin cfg0.N) (k : Fin 1024) (j : Fin 5376) :
    (iblk m c 2 t : Vec Ideal S1024x5376 .bf16) (ix2 k j) = (V m c main_v15 : Vec Ideal S1024x5376 .bf16) (ix2 k j) := by
  blk_ext [iblk, idx t]

/-- The output window's block at a grid point: its rows of the result. -/
theorem place3 (t : Fin cfg0.N) (ht : t.val < 64) (r : Fin 512) (j : Fin 5376) :
    (win0_3.blk t).view.emb (ix2 r j : S512x5376.Idx) = (ix2 ⟨t.val * 512 + r.val, by omega⟩ j : S32768x5376.Idx) := by
  blk_ext [idx t]

/-- The result at an element named by its coordinates. -/
theorem result_apply (c : Dev nD) (r : Fin 32768) (j : Fin 5376) : result m c (ix2 r j : S32768x5376.Idx)
    = ∑ k, unorm (fun l => (m ((c : Thread nD τ).loc main_arg0) : Vec Ideal S2x16384x1024 .f32)
          (ix3 ⟨r.val / 16384, by omega⟩ ⟨r.val % 16384, by omega⟩ l))
        (fun l => (m ((c : Thread nD τ).loc main_arg1) : Vec Ideal S1x1024 .f32) (ix2 0 l)) k
      * wcol (fun l => (m ((c : Thread nD τ).loc main_arg2) : Vec Ideal S1x1024x5376 .f32) (ix3 0 k l)) j := rfl

/-- What a grid point leaves in its block, at an element: the result's element there. -/
theorem point (c : Dev nD) (t : Fin cfg0.N) (ht : t.val < 64) (r : Fin 512) (j : Fin 5376) :
    out0_3 (F := Ideal) (iblk m c 0 t) (iblk m c 1 t) (iblk m c 2 t) (ix2 r j)
      = result m c (ix2 ⟨t.val * 512 + r.val, by omega⟩ j : S32768x5376.Idx) := by
  rw [result_apply, out_apply]
  refine Finset.sum_congr rfl fun k _ => ?_
  exact congrArg₂ (· * ·)
    (congrArg₂ (fun a b => unorm a b k) (funext fun l => (block0 m c t ht r l).trans (V12 m c _ l))
      (funext fun l => (block1 m c t l).trans (V14 m c l)))
    ((block2 m c t k j).trans (V15 m c k j))

/-- After the run the kernel's output array is the result. -/
theorem final (c : Dev nD) : (dats m 0 c).arrAt 3 cfg0.N = result m c := by
  refine (dats m 0 c).arrAt_eq_of_covers 3 _ (by decide +kernel) fun t hf y => ?_
  have ht : t.val < 64 := t.isLt
  blk_simp
  rw [after0_3]
  idx_vars y
  exact (point m c t ht y0 y1).trans (congrArg (result m c) (place3 t ht y0 y1).symm)

end Kernel

section Ref
open Cert.NpReferenceIdeal Cert.NpReferenceIdeal.Read

theorem R13 (x0 : Vec Ideal S2x16384x1024 .f32) (x1 : Vec Ideal S1x1024 .f32) (b : Fin 2) (n : Fin 16384) (k : Fin 1024) :
   val_main_v13 (F := Ideal) x0 x1 (ix3 b n k) = unorm (fun l => x0 (ix3 b n l)) (fun l => x1 (ix2 0 l)) k := by
  unfold val_main_v13 val_main_v10 val_main_v12 val_main_v11 val_main_v0 val_main_v9 val_main_v8 val_main_v7 val_main_v6 val_main_v5 val_main_v4 val_main_v3 val_main_v2 val_main_v1 val_main_cst_1 val_main_cst_0 val_main_cst
  pointwise
  rfl

set_option maxHeartbeats 1000000 in
theorem R29 (x0 : Vec Ideal S2x16384x1024 .f32) (x1 : Vec Ideal S1x1024 .f32) (x2 : Vec Ideal S1x1024x5376 .f32) (r : Fin 32768) (j : Fin 5376) :
   val_main_v29 (F := Ideal) x0 x1 x2 (ix2 r j) = proj (fun l => x0 (ix3 ⟨r.val / 16384, by omega⟩ ⟨r.val % 16384, by omega⟩ l)) (fun l => x1 (ix2 0 l)) (fun k l => x2 (ix3 0 k l)) j := by
  unfold val_main_v29 val_main_v28 val_main_v27 val_main_v24 val_main_v26 val_main_v23 val_main_v25 val_main_v16 val_main_v17 val_main_v18 val_main_v19 val_main_v20 val_main_v21 val_main_v22 val_main_v15 val_main_v14
  unfold val_main_cst_2 val_main_cst_3
  pointwise
  simp only [R13]
  unfold proj
  have e : ∀ (a : Fin 1024 → EReal), (∑ k, a k) * eighth = ∑ k, a k * eighth := fun a => sum_mul_const a eighth_nonneg eighth_ne_top
  have ix : ∀ (k : Fin 1024) (a b : Fin 5376), a.val = b.val → x2 (ix3 0 k a) = x2 (ix3 0 k b) := fun k a b h => by rw [Fin.ext h]
  unfold wcol
  have hj := ranges j
  rcases hj with hj | hj | hj | hj | hj | hj | hj
  all_goals simp (disch := omega) only [dif_pos, dif_neg]
  all_goals try rw [e]
  all_goals refine Finset.sum_congr rfl fun k _ => ?_
  all_goals try rw [mul_assoc]
  all_goals refine congrArg (unorm _ _ k * ·) ?_
  all_goals
    first
      | exact ix k _ _ (by dsimp only; omega)
      | exact congrArg (· * eighth) (ix k _ _ (by dsimp only; omega))

/-- So the reference's result is the kernel's. -/
theorem reference_eq (x : Vec Ideal S2x16384x1024 .f32) (g : Vec Ideal S1x1024 .f32) (w : Vec Ideal S1x1024x5376 .f32) :
    val_main_v29 (F := Ideal) x g w = fun i : S32768x5376.Idx =>
      proj (fun l => x (ix3 ⟨(i 0).val / 16384, by have h : (i 0).val < 32768 := (i 0).isLt; omega⟩ ⟨(i 0).val % 16384, by omega⟩ l))
        (fun l => g (ix2 0 l)) (fun k l => w (ix3 0 k l)) (i 1) := by
  funext i
  idx_vars i
  exact R29 x g w i0 i1

end Ref

end Cert.NpValue
end
-- ==== Proof.NpClaim.lean ====
module

public import proofs.«01_k».proof.Defs
public import proofs.«01_k».proof.Proof.Gen.NpKernel.Frame
public import proofs.«01_k».proof.Proof.Gen.NpReferenceIdeal.Run
public import proofs.«01_k».proof.Proof.NpValue
public import Idealize.ShloMosaic.Lib.Quiescent

@[expose] public section

noncomputable section

namespace Cert.NpClaim

open Idealize.ShloMosaic Idealize.ShloMosaic.TcCoe Idealize.SL.Sem

/-- The projection kernel runs to its end and leaves its arguments as they were. -/
theorem frame_kernel : Cert.quiescent_NpKernel := fun m g _ => Cert.NpKernel.Gen.frame m g

/-- So does its idealization. -/
theorem frame_ideal : Cert.quiescent_NpKernelIdeal := fun m g _ => Cert.NpKernelIdeal.Gen.frame m g

/-- So does the reference. -/
theorem frame_reference : Cert.quiescent_NpReferenceIdeal := fun m g _ =>
  (θ_run Cert.NpReferenceIdeal.defs _ _).mono (fun r h => ⟨fun c => (h c).2, sem_eq_zero_of_no_sems (by decide) r.2⟩)
    (Cert.NpReferenceIdeal.Value.run (F := Ideal) m g)

/-- From equal arguments the reference's result is the kernel's. -/
theorem reference_result (m : (ℓ : Loc Cert.NpKernelIdeal.nD Cert.NpKernelIdeal.τ Cert.NpKernelIdeal.sig) → Buf (Elt Ideal) ℓ)
    (m' : (ℓ : Loc Cert.NpReferenceIdeal.nD Cert.NpReferenceIdeal.τ Cert.NpReferenceIdeal.sig) → Buf (Elt Ideal) ℓ)
    (c : Dev Cert.NpKernelIdeal.nD)
    (h0 : m' ((c.tc : Thread Cert.NpReferenceIdeal.nD Cert.NpReferenceIdeal.τ).loc Cert.NpReferenceIdeal.main_arg0)
      = m ((c.tc : Thread Cert.NpKernelIdeal.nD Cert.NpKernelIdeal.τ).loc Cert.NpKernelIdeal.main_arg0))
    (h1 : m' ((c.tc : Thread Cert.NpReferenceIdeal.nD Cert.NpReferenceIdeal.τ).loc Cert.NpReferenceIdeal.main_arg1)
      = m ((c.tc : Thread Cert.NpKernelIdeal.nD Cert.NpKernelIdeal.τ).loc Cert.NpKernelIdeal.main_arg1))
    (h2 : m' ((c.tc : Thread Cert.NpReferenceIdeal.nD Cert.NpReferenceIdeal.τ).loc Cert.NpReferenceIdeal.main_arg2)
      = m ((c.tc : Thread Cert.NpKernelIdeal.nD Cert.NpKernelIdeal.τ).loc Cert.NpKernelIdeal.main_arg2)) :
    Cert.NpReferenceIdeal.Value.res_main_v29 (F := Ideal) m' c = Cert.NpValue.result m c := by
  rw [Cert.NpReferenceIdeal.Read.val_main_v29_eq, h0, h1, h2]
  exact Cert.NpValue.reference_eq _ _ _

/-- Over the extended reals the kernel's result is the reference's. -/
theorem algebraic : Cert.algebraic_NpKernelIdeal_NpReferenceIdeal := fun m g m' g' _ h =>
  ⟨fun c => Cert.NpValue.result m c,
    (θ_run Cert.NpKernelIdeal.defs _ _).mono (fun r hr c => ⟨(hr c).1.trans (Cert.NpValue.final m c), (hr c).2⟩)
      (Cert.NpKernelIdeal.Value.run_blocks (F := Ideal) m g),
    (θ_run Cert.NpReferenceIdeal.defs _ _).mono
      (fun r hr c => ⟨(hr c).1.trans (reference_result m m' c (h c).1 (h c).2.1 (h c).2.2), (hr c).2⟩)
      (Cert.NpReferenceIdeal.Value.run (F := Ideal) m' g')⟩

end Cert.NpClaim
end
-- ==== Proof.MxValue.lean ====
module

public import proofs.«01_k».proof.Proof.Gen.MxKernelIdeal.Value
public import proofs.«01_k».proof.Proof.Gen.MxReferenceIdeal.Read
public import Idealize.ShloMosaic.Lib.Pipeline.ValueKit
public import Idealize.ShloMosaic.Lib.StableHlo.ReadAt
public import Idealize.ShloMosaic.Lib.Pointwise
public import Idealize.ShloMosaic.Lib.IdealHost
public import Idealize.ShloMosaic.Lib.Tactic

@[expose] public section

set_option maxRecDepth 16384

noncomputable section

namespace Cert.MxValue

open Idealize.ShloMosaic Idealize.ShloMosaic.TcCoe Idealize.SL.Sem
open scoped BigOperators

/-! ## The mixer of a row, as sums -/

/-- The sigmoid. -/
def sigm (z : EReal) : EReal := Ideal.logistic z

/-- The gated sum of the two attentions' projections, element `d`: `oa`, `ob` the attentions' row, `za`, `zb` what they
    are gated by, `ga`, `gb` the gates, `wa`, `wb` the weights. -/
def merged (oa ob za zb : Fin 512 → EReal) (ga gb : Fin 1024 → EReal) (wa wb : Fin 512 → Fin 1024 → EReal) (d : Fin 1024) : EReal :=
  sigm (ga d) * (∑ k, oa k * (za k * sigm (za k)) * wa k d) + sigm (gb d) * (∑ k, ob k * (zb k * sigm (zb k)) * wb k d)

/-- Element `e` of the row `h` after the RMS norm with gain `g`. -/
def rms (h g : Fin 1024 → EReal) (e : Fin 1024) : EReal :=
  h e * Ideal.rsqrt (Ideal.div (∑ l, h l * h l) (Ideal.ofBits FTy.f32 0x44800000#32) + Ideal.ofBits FTy.f32 0x358637BD#32) * g e

/-- Element `e` of the row `x` with the mixed row `u`, projected by `w`, added. -/
def resid (x u : Fin 1024 → EReal) (w : Fin 1024 → Fin 1024 → EReal) (e : Fin 1024) : EReal := x e + ∑ d, u d * w d e

/-- Element `e` of the mixer's row: of the row `p` of the projections, columns 1536 on gate `oa`, columns 2560 on gate
    `ob`, and columns 3072 and 4096 on are the gates of their projections. -/
def mix (x : Fin 1024 → EReal) (oa ob : Fin 512 → EReal) (p : Fin 5376 → EReal) (wa wb : Fin 512 → Fin 1024 → EReal)
    (w : Fin 1024 → Fin 1024 → EReal) (g : Fin 1024 → EReal) (e : Fin 1024) : EReal :=
  rms (resid x (merged oa ob (fun k => p ⟨1536 + k.val, by omega⟩) (fun k => p ⟨2560 + k.val, by omega⟩)
    (fun k => p ⟨3072 + k.val, by omega⟩) (fun k => p ⟨4096 + k.val, by omega⟩) wa wb) w) g e

/-! ## The kernel -/

section Kernel
open Cert.MxKernelIdeal Cert.MxKernelIdeal.Gen

variable (m : (ℓ : Loc nD τ sig) → Buf (Elt Ideal) ℓ)

theorem pay2_apply (oa za ob zb : Vec Ideal S512x512 .bf16) (wa wb ga gb : Vec Ideal S512x1024 .bf16) (r : Fin 512) (d : Fin 1024) :
    k0_pay2 (F := Ideal) oa za ob zb wa wb ga gb (ix2 r d) = merged (fun k => oa (ix2 r k)) (fun k => ob (ix2 r k))
      (fun k => za (ix2 r k)) (fun k => zb (ix2 r k)) (fun k => ga (ix2 r k)) (fun k => gb (ix2 r k))
      (fun k l => wa (ix2 k l)) (fun k l => wb (ix2 k l)) d := by
  pointwise [k0_pay2]
  rfl

theorem pay1_apply (u : FVec Ideal S512x1024 .bf16) (x : Vec Ideal S512x1024 .f32) (w : Vec Ideal S1024x1024 .bf16)
    (g : Vec Ideal S1x1024 .f32) (r : Fin 512) (e : Fin 1024) : k0_pay1 (F := Ideal) u x w g (ix2 r e)
      = rms (resid (fun l => x (ix2 r l)) (fun l => u (ix2 r l)) (fun k l => w (ix2 k l))) (fun l => g (ix2 0 l)) e := by
  pointwise [k0_pay1]
  rfl

theorem idx : ∀ t : Fin cfg0.N, win0_0.index t = ![t.val, 0] ∧ win0_1.index t = ![t.val, 0] ∧ win0_2.index t = ![t.val, 0]
    ∧ win0_3.index t = ![t.val, 3] ∧ win0_4.index t = ![t.val, 5] ∧ win0_5.index t = ![t.val, 3] ∧ win0_6.index t = ![t.val, 4]
    ∧ win0_7.index t = ![0, 0] ∧ win0_8.index t = ![0, 0] ∧ win0_9.index t = ![0, 0] ∧ win0_10.index t = ![0, 0]
    ∧ win0_11.index t = ![t.val, 0] :=
  (by decide +kernel : ∀ t : Fin grid0.N, win0_0.index t = ![t.val, 0] ∧ win0_1.index t = ![t.val, 0] ∧ win0_2.index t = ![t.val, 0]
    ∧ win0_3.index t = ![t.val, 3] ∧ win0_4.index t = ![t.val, 5] ∧ win0_5.index t = ![t.val, 3] ∧ win0_6.index t = ![t.val, 4]
    ∧ win0_7.index t = ![0, 0] ∧ win0_8.index t = ![0, 0] ∧ win0_9.index t = ![0, 0] ∧ win0_10.index t = ![0, 0]
    ∧ win0_11.index t = ![t.val, 0])

/-- The whole result, element by element. -/
def result (c : Dev nD) : Vec Ideal S32768x1024 .f32 := fun i =>
  have h : (i 0).val < 32768 := (i 0).isLt
  mix (fun l => (m ((c : Thread nD τ).loc main_arg0) : Vec Ideal S2x16384x1024 .f32)
      (ix3 ⟨(i 0).val / 16384, by omega⟩ ⟨(i 0).val % 16384, by omega⟩ l))
    (fun k => (m ((c : Thread nD τ).loc main_arg1) : Vec Ideal S2x16384x512 .bf16)
      (ix3 ⟨(i 0).val / 16384, by omega⟩ ⟨(i 0).val % 16384, by omega⟩ k))
    (fun k => (m ((c : Thread nD τ).loc main_arg2) : Vec Ideal S2x16384x512 .bf16)
      (ix3 ⟨(i 0).val / 16384, by omega⟩ ⟨(i 0).val % 16384, by omega⟩ k))
    (fun k => (m ((c : Thread nD τ).loc main_arg3) : Vec Ideal S2x16384x5376 .bf16)
      (ix3 ⟨(i 0).val / 16384, by omega⟩ ⟨(i 0).val % 16384, by omega⟩ k))
    (fun k l => (m ((c : Thread nD τ).loc main_arg4) : Vec Ideal S1x512x1024 .f32) (ix3 0 k l))
    (fun k l => (m ((c : Thread nD τ).loc main_arg5) : Vec Ideal S1x512x1024 .f32) (ix3 0 k l))
    (fun k l => (m ((c : Thread nD τ).loc main_arg6) : Vec Ideal S1x1024x1024 .f32) (ix3 0 k l))
    (fun l => (m ((c : Thread nD τ).loc main_arg7) : Vec Ideal S1024 .f32) (ix1 l)) (i 1)

variable (c : Dev nD)

theorem V0 (r : Fin 32768) (k : Fin 1024) : (V m c main_v0 : Vec Ideal S32768x1024 .f32) (ix2 r k)
    = (m ((c : Thread nD τ).loc main_arg0) : Vec Ideal S2x16384x1024 .f32) (ix3 ⟨r.val / 16384, by omega⟩ ⟨r.val % 16384, by omega⟩ k) := by
  unfold V
  after_reads_at

theorem V1 (r : Fin 32768) (k : Fin 512) : (V m c main_v1 : Vec Ideal S32768x512 .bf16) (ix2 r k)
    = (m ((c : Thread nD τ).loc main_arg1) : Vec Ideal S2x16384x512 .bf16) (ix3 ⟨r.val / 16384, by omega⟩ ⟨r.val % 16384, by omega⟩ k) := by
  unfold V
  after_reads_at

theorem V2 (r : Fin 32768) (k : Fin 512) : (V m c main_v2 : Vec Ideal S32768x512 .bf16) (ix2 r k)
    = (m ((c : Thread nD τ).loc main_arg2) : Vec Ideal S2x16384x512 .bf16) (ix3 ⟨r.val / 16384, by omega⟩ ⟨r.val % 16384, by omega⟩ k) := by
  unfold V
  after_reads_at

theorem V3 (r : Fin 32768) (k : Fin 5376) : (V m c main_v3 : Vec Ideal S32768x5376 .bf16) (ix2 r k)
    = (m ((c : Thread nD τ).loc main_arg3) : Vec Ideal S2x16384x5376 .bf16) (ix3 ⟨r.val / 16384, by omega⟩ ⟨r.val % 16384, by omega⟩ k) := by
  unfold V
  after_reads_at

theorem V5 (k : Fin 512) (l : Fin 1024) : (V m c main_v5 : Vec Ideal S512x1024 .bf16) (ix2 k l)
    = (m ((c : Thread nD τ).loc main_arg4) : Vec Ideal S1x512x1024 .f32) (ix3 0 k l) := by
  unfold V
  after_reads_at

theorem V7 (k : Fin 512) (l : Fin 1024) : (V m c main_v7 : Vec Ideal S512x1024 .bf16) (ix2 k l)
    = (m ((c : Thread nD τ).loc main_arg5) : Vec Ideal S1x512x1024 .f32) (ix3 0 k l) := by
  unfold V
  after_reads_at

theorem V9 (k l : Fin 1024) : (V m c main_v9 : Vec Ideal S1024x1024 .bf16) (ix2 k l)
    = (m ((c : Thread nD τ).loc main_arg6) : Vec Ideal S1x1024x1024 .f32) (ix3 0 k l) := by
  unfold V
  after_reads_at

theorem V10 (l : Fin 1024) : (V m c main_v10 : Vec Ideal S1x1024 .f32) (ix2 0 l)
    = (m ((c : Thread nD τ).loc main_arg7) : Vec Ideal S1024 .f32) (ix1 l) := by
  unfold V
  after_reads_at

variable (t : Fin cfg0.N) (ht : t.val < 64)

theorem block0 (r : Fin 512) (k : Fin 1024) : (iblk m c 0 t : Vec Ideal S512x1024 .f32) (ix2 r k)
    = (V m c main_v0 : Vec Ideal S32768x1024 .f32) (ix2 ⟨t.val * 512 + r.val, by omega⟩ k) := by
  blk_ext [iblk, idx t]

theorem block1 (r : Fin 512) (k : Fin 512) : (iblk m c 1 t : Vec Ideal S512x512 .bf16) (ix2 r k)
    = (V m c main_v1 : Vec Ideal S32768x512 .bf16) (ix2 ⟨t.val * 512 + r.val, by omega⟩ k) := by
  blk_ext [iblk, idx t]

theorem block2 (r : Fin 512) (k : Fin 512) : (iblk m c 2 t : Vec Ideal S512x512 .bf16) (ix2 r k)
    = (V m c main_v2 : Vec Ideal S32768x512 .bf16) (ix2 ⟨t.val * 512 + r.val, by omega⟩ k) := by
  blk_ext [iblk, idx t]

theorem block3 (r : Fin 512) (k : Fin 512) : (X0_3 m c t : Vec Ideal S512x512 .bf16) (ix2 r k)
    = (V m c main_v3 : Vec Ideal S32768x5376 .bf16) (ix2 ⟨t.val * 512 + r.val, by omega⟩ ⟨1536 + k.val, by omega⟩) := by
  unfold X0_3 Pipeline.Window.fill
  rw [dif_pos (moved0_3 t _)]
  blk_ext [iblk, idx t]

theorem block4 (r : Fin 512) (k : Fin 512) : (X0_4 m c t : Vec Ideal S512x512 .bf16) (ix2 r k)
    = (V m c main_v3 : Vec Ideal S32768x5376 .bf16) (ix2 ⟨t.val * 512 + r.val, by omega⟩ ⟨2560 + k.val, by omega⟩) := by
  unfold X0_4 Pipeline.Window.fill
  rw [dif_pos (moved0_4 t _)]
  blk_ext [iblk, idx t]

theorem block5 (r : Fin 512) (k : Fin 1024) : (X0_5 m c t : Vec Ideal S512x1024 .bf16) (ix2 r k)
    = (V m c main_v3 : Vec Ideal S32768x5376 .bf16) (ix2 ⟨t.val * 512 + r.val, by omega⟩ ⟨3072 + k.val, by omega⟩) := by
  unfold X0_5 Pipeline.Window.fill
  rw [dif_pos (moved0_5 t _)]
  blk_ext [iblk, idx t]

theorem block6 (r : Fin 512) (k : Fin 1024) : (X0_6 m c t : Vec Ideal S512x1024 .bf16) (ix2 r k)
    = (V m c main_v3 : Vec Ideal S32768x5376 .bf16) (ix2 ⟨t.val * 512 + r.val, by omega⟩ ⟨4096 + k.val, by omega⟩) := by
  unfold X0_6 Pipeline.Window.fill
  rw [dif_pos (moved0_6 t _)]
  blk_ext [iblk, idx t]

theorem block7 (k : Fin 512) (l : Fin 1024) : (iblk m c 7 t : Vec Ideal S512x1024 .bf16) (ix2 k l)
    = (V m c main_v5 : Vec Ideal S512x1024 .bf16) (ix2 k l) := by
  blk_ext [iblk, idx t]

theorem block8 (k : Fin 512) (l : Fin 1024) : (iblk m c 8 t : Vec Ideal S512x1024 .bf16) (ix2 k l)
    = (V m c main_v7 : Vec Ideal S512x1024 .bf16) (ix2 k l) := by
  blk_ext [iblk, idx t]

theorem block9 (k l : Fin 1024) : (iblk m c 9 t : Vec Ideal S1024x1024 .bf16) (ix2 k l)
    = (V m c main_v9 : Vec Ideal S1024x1024 .bf16) (ix2 k l) := by
  blk_ext [iblk, idx t]

theorem block10 (l : Fin 1024) : (iblk m c 10 t : Vec Ideal S1x1024 .f32) (ix2 0 l)
    = (V m c main_v10 : Vec Ideal S1x1024 .f32) (ix2 0 l) := by
  blk_ext [iblk, idx t]

theorem place11 (r : Fin 512) (j : Fin 1024) :
    (win0_11.blk t).view.emb (ix2 r j : S512x1024.Idx) = (ix2 ⟨t.val * 512 + r.val, by omega⟩ j : S32768x1024.Idx) := by
  blk_ext [idx t]

/-- What a grid point leaves in its output block is the body's two payloads of the blocks it reads. -/
theorem outs_eq : outsAt0 m c t = k0_pay1 (F := Ideal) (k0_pay2 (F := Ideal) (iblk m c 1 t) (X0_3 m c t) (iblk m c 2 t) (X0_4 m c t)
      (iblk m c 7 t) (iblk m c 8 t) (X0_5 m c t) (X0_6 m c t)) (iblk m c 0 t) (iblk m c 9 t) (iblk m c 10 t) := by
  unfold outsAt0
  frame_out

/-- What a grid point leaves in its block, at an element: the result's element there. -/
theorem point (r : Fin 512) (e : Fin 1024) :
    outsAt0 m c t (ix2 r e) = result m c (ix2 ⟨t.val * 512 + r.val, by omega⟩ e : S32768x1024.Idx) := by
  have hx : (fun l => (iblk m c 0 t : Vec Ideal S512x1024 .f32) (ix2 r l)) = _ :=
    funext fun l => (block0 m c t ht r l).trans (V0 m c _ l)
  have hoa : (fun k => (iblk m c 1 t : Vec Ideal S512x512 .bf16) (ix2 r k)) = _ :=
    funext fun k => (block1 m c t ht r k).trans (V1 m c _ k)
  have hob : (fun k => (iblk m c 2 t : Vec Ideal S512x512 .bf16) (ix2 r k)) = _ :=
    funext fun k => (block2 m c t ht r k).trans (V2 m c _ k)
  have hza : (fun k => (X0_3 m c t : Vec Ideal S512x512 .bf16) (ix2 r k)) = _ :=
    funext fun k => (block3 m c t ht r k).trans (V3 m c _ _)
  have hzb : (fun k => (X0_4 m c t : Vec Ideal S512x512 .bf16) (ix2 r k)) = _ :=
    funext fun k => (block4 m c t ht r k).trans (V3 m c _ _)
  have hga : (fun k => (X0_5 m c t : Vec Ideal S512x1024 .bf16) (ix2 r k)) = _ :=
    funext fun k => (block5 m c t ht r k).trans (V3 m c _ _)
  have hgb : (fun k => (X0_6 m c t : Vec Ideal S512x1024 .bf16) (ix2 r k)) = _ :=
    funext fun k => (block6 m c t ht r k).trans (V3 m c _ _)
  have hwa : (fun k l => (iblk m c 7 t : Vec Ideal S512x1024 .bf16) (ix2 k l)) = _ :=
    funext fun k => funext fun l => (block7 m c t k l).trans (V5 m c k l)
  have hwb : (fun k l => (iblk m c 8 t : Vec Ideal S512x1024 .bf16) (ix2 k l)) = _ :=
    funext fun k => funext fun l => (block8 m c t k l).trans (V7 m c k l)
  have hw : (fun k l => (iblk m c 9 t : Vec Ideal S1024x1024 .bf16) (ix2 k l)) = _ :=
    funext fun k => funext fun l => (block9 m c t k l).trans (V9 m c k l)
  have hg : (fun l => (iblk m c 10 t : Vec Ideal S1x1024 .f32) (ix2 0 l)) = _ :=
    funext fun l => (block10 m c t l).trans (V10 m c l)
  rw [outs_eq, pay1_apply]
  simp only [pay2_apply]
  rw [hx, hoa, hob, hza, hzb, hga, hgb, hwa, hwb, hw, hg]
  rfl

/-- After the run the kernel's output array is the result. -/
theorem final (c : Dev nD) : (dats m 0 c).arrAt 11 cfg0.N = result m c := by
  refine (dats m 0 c).arrAt_eq_of_covers 11 _ (by decide +kernel) fun t hf y => ?_
  have ht : t.val < 64 := t.isLt
  blk_simp
  rw [after0_11]
  idx_vars y
  exact (point m c t ht y0 y1).trans (congrArg (result m c) (place11 t ht y0 y1).symm)

end Kernel

/-! ## The reference -/

section Ref
open Cert.MxReferenceIdeal Cert.MxReferenceIdeal.Read

variable (x : Vec Ideal S2x16384x1024 .f32) (oa ob : Vec Ideal S2x16384x512 .bf16) (p : Vec Ideal S2x16384x5376 .bf16)
  (wa wb : Vec Ideal S1x512x1024 .f32) (w : Vec Ideal S1x1024x1024 .f32) (g : Vec Ideal S1024 .f32)

/-- The gated sum of the projections. -/
theorem R29 (b : Fin 2) (n : Fin 16384) (d : Fin 1024) : val_main_v29 (F := Ideal) oa ob p wa wb (ix3 b n d)
    = merged (fun k => oa (ix3 b n k)) (fun k => ob (ix3 b n k)) (fun k => p (ix3 b n ⟨1536 + k.val, by omega⟩))
      (fun k => p (ix3 b n ⟨2560 + k.val, by omega⟩)) (fun k => p (ix3 b n ⟨3072 + k.val, by omega⟩))
      (fun k => p (ix3 b n ⟨4096 + k.val, by omega⟩)) (fun k l => wa (ix3 0 k l)) (fun k l => wb (ix3 0 k l)) d := by
  unfold val_main_v29 val_main_v21 val_main_v28 val_main_v20 val_main_v27 val_main_v19 val_main_v26 val_main_v18 val_main_v25
    val_main_v17 val_main_v24 val_main_v16 val_main_v23 val_main_v15 val_main_v22 val_main_v10 val_main_v14 val_main_v8 val_main_v12
    val_main_v9 val_main_v13 val_main_v7 val_main_v11 val_main_call0_v5 val_main_call1_v5 val_main_call0_v4 val_main_call1_v4
    val_main_call0_v3 val_main_call1_v3 val_main_call0_v2 val_main_call1_v2 val_main_call0_v1 val_main_call1_v1
    val_main_call0_v0 val_main_call1_v0 val_main_v6 val_main_v5 val_main_v4 val_main_v3 val_main_v2 val_main_v1 val_main_v0
    val_main_cst val_main_cst_0 val_main_cst_1 val_main_cst_2 val_main_call0_cst val_main_call1_cst val_main_call0_cst_0 val_main_call1_cst_0
  pointwise
  rfl

/-- The residual row. -/
theorem R32 (b : Fin 2) (n : Fin 16384) (d : Fin 1024) : val_main_v32 (F := Ideal) x oa ob p wa wb w (ix3 b n d)
    = resid (fun l => x (ix3 b n l)) (fun l => val_main_v29 (F := Ideal) oa ob p wa wb (ix3 b n l)) (fun k l => w (ix3 0 k l)) d := by
  unfold val_main_v32 val_main_v31 val_main_v30
  pointwise
  rfl

/-- The result. -/
theorem R46 (r : Fin 32768) (e : Fin 1024) : val_main_v46 (F := Ideal) x oa ob p wa wb w g (ix2 r e)
    = rms (fun l => val_main_v32 (F := Ideal) x oa ob p wa wb w (ix3 ⟨r.val / 16384, by omega⟩ ⟨r.val % 16384, by omega⟩ l))
      (fun l => g (ix1 l)) e := by
  unfold val_main_v46 val_main_v45 val_main_v44 val_main_v43 val_main_v42 val_main_v41 val_main_v40 val_main_v39 val_main_v38
    val_main_v37 val_main_v36 val_main_v35 val_main_v34 val_main_v33 val_main_cst_3 val_main_cst_4 val_main_cst_5
  pointwise
  rfl

/-- So the reference's result is the kernel's. -/
theorem reference_eq : val_main_v46 (F := Ideal) x oa ob p wa wb w g = fun i : S32768x1024.Idx =>
    have h : (i 0).val < 32768 := (i 0).isLt
    mix (fun l => x (ix3 ⟨(i 0).val / 16384, by omega⟩ ⟨(i 0).val % 16384, by omega⟩ l))
      (fun k => oa (ix3 ⟨(i 0).val / 16384, by omega⟩ ⟨(i 0).val % 16384, by omega⟩ k))
      (fun k => ob (ix3 ⟨(i 0).val / 16384, by omega⟩ ⟨(i 0).val % 16384, by omega⟩ k))
      (fun k => p (ix3 ⟨(i 0).val / 16384, by omega⟩ ⟨(i 0).val % 16384, by omega⟩ k))
      (fun k l => wa (ix3 0 k l)) (fun k l => wb (ix3 0 k l)) (fun k l => w (ix3 0 k l)) (fun l => g (ix1 l)) (i 1) := by
  funext i
  idx_vars i
  rw [R46]
  simp only [R32, R29]
  rfl

end Ref

end Cert.MxValue
end
-- ==== Proof.MxClaim.lean ====
module

public import proofs.«01_k».proof.Defs
public import proofs.«01_k».proof.Proof.Gen.MxKernel.Frame
public import proofs.«01_k».proof.Proof.Gen.MxReferenceIdeal.Run
public import proofs.«01_k».proof.Proof.MxValue
public import Idealize.ShloMosaic.Lib.Quiescent

@[expose] public section

noncomputable section

namespace Cert.MxClaim

open Idealize.ShloMosaic Idealize.ShloMosaic.TcCoe Idealize.SL.Sem

/-- The mixer kernel runs to its end and leaves its arguments as they were. -/
theorem frame_kernel : Cert.quiescent_MxKernel := fun m g _ => Cert.MxKernel.Gen.frame m g

/-- So does its idealization. -/
theorem frame_ideal : Cert.quiescent_MxKernelIdeal := fun m g _ => Cert.MxKernelIdeal.Gen.frame m g

/-- So does the reference. -/
theorem frame_reference : Cert.quiescent_MxReferenceIdeal := fun m g _ =>
  (θ_run Cert.MxReferenceIdeal.defs _ _).mono (fun r h => ⟨fun c => (h c).2, sem_eq_zero_of_no_sems (by decide) r.2⟩)
    (Cert.MxReferenceIdeal.Value.run (F := Ideal) m g)

/-- From equal arguments the reference's result is the kernel's. -/
theorem reference_result (m : (ℓ : Loc Cert.MxKernelIdeal.nD Cert.MxKernelIdeal.τ Cert.MxKernelIdeal.sig) → Buf (Elt Ideal) ℓ)
    (m' : (ℓ : Loc Cert.MxReferenceIdeal.nD Cert.MxReferenceIdeal.τ Cert.MxReferenceIdeal.sig) → Buf (Elt Ideal) ℓ)
    (c : Dev Cert.MxKernelIdeal.nD)
    (h0 : m' ((c.tc : Thread Cert.MxReferenceIdeal.nD Cert.MxReferenceIdeal.τ).loc Cert.MxReferenceIdeal.main_arg0)
      = m ((c.tc : Thread Cert.MxKernelIdeal.nD Cert.MxKernelIdeal.τ).loc Cert.MxKernelIdeal.main_arg0))
    (h1 : m' ((c.tc : Thread Cert.MxReferenceIdeal.nD Cert.MxReferenceIdeal.τ).loc Cert.MxReferenceIdeal.main_arg1)
      = m ((c.tc : Thread Cert.MxKernelIdeal.nD Cert.MxKernelIdeal.τ).loc Cert.MxKernelIdeal.main_arg1))
    (h2 : m' ((c.tc : Thread Cert.MxReferenceIdeal.nD Cert.MxReferenceIdeal.τ).loc Cert.MxReferenceIdeal.main_arg2)
      = m ((c.tc : Thread Cert.MxKernelIdeal.nD Cert.MxKernelIdeal.τ).loc Cert.MxKernelIdeal.main_arg2))
    (h3 : m' ((c.tc : Thread Cert.MxReferenceIdeal.nD Cert.MxReferenceIdeal.τ).loc Cert.MxReferenceIdeal.main_arg3)
      = m ((c.tc : Thread Cert.MxKernelIdeal.nD Cert.MxKernelIdeal.τ).loc Cert.MxKernelIdeal.main_arg3))
    (h4 : m' ((c.tc : Thread Cert.MxReferenceIdeal.nD Cert.MxReferenceIdeal.τ).loc Cert.MxReferenceIdeal.main_arg4)
      = m ((c.tc : Thread Cert.MxKernelIdeal.nD Cert.MxKernelIdeal.τ).loc Cert.MxKernelIdeal.main_arg4))
    (h5 : m' ((c.tc : Thread Cert.MxReferenceIdeal.nD Cert.MxReferenceIdeal.τ).loc Cert.MxReferenceIdeal.main_arg5)
      = m ((c.tc : Thread Cert.MxKernelIdeal.nD Cert.MxKernelIdeal.τ).loc Cert.MxKernelIdeal.main_arg5))
    (h6 : m' ((c.tc : Thread Cert.MxReferenceIdeal.nD Cert.MxReferenceIdeal.τ).loc Cert.MxReferenceIdeal.main_arg6)
      = m ((c.tc : Thread Cert.MxKernelIdeal.nD Cert.MxKernelIdeal.τ).loc Cert.MxKernelIdeal.main_arg6))
    (h7 : m' ((c.tc : Thread Cert.MxReferenceIdeal.nD Cert.MxReferenceIdeal.τ).loc Cert.MxReferenceIdeal.main_arg7)
      = m ((c.tc : Thread Cert.MxKernelIdeal.nD Cert.MxKernelIdeal.τ).loc Cert.MxKernelIdeal.main_arg7)) :
    Cert.MxReferenceIdeal.Value.res_main_v46 (F := Ideal) m' c = Cert.MxValue.result m c := by
  rw [Cert.MxReferenceIdeal.Read.val_main_v46_eq, h0, h1, h2, h3, h4, h5, h6, h7]
  exact Cert.MxValue.reference_eq _ _ _ _ _ _ _ _

/-- Over the extended reals the kernel's result is the reference's. -/
theorem algebraic : Cert.algebraic_MxKernelIdeal_MxReferenceIdeal := fun m g m' g' _ h =>
  ⟨fun c => Cert.MxValue.result m c,
    (θ_run Cert.MxKernelIdeal.defs _ _).mono (fun r hr c => ⟨(hr c).1.trans (Cert.MxValue.final m c), (hr c).2⟩)
      (Cert.MxKernelIdeal.Value.run_blocks (F := Ideal) m g),
    (θ_run Cert.MxReferenceIdeal.defs _ _).mono
      (fun r hr c => ⟨(hr c).1.trans (reference_result m m' c
        (h c).1 (h c).2.1 (h c).2.2.1 (h c).2.2.2.1 (h c).2.2.2.2.1 (h c).2.2.2.2.2.1 (h c).2.2.2.2.2.2.1 (h c).2.2.2.2.2.2.2), (hr c).2⟩)
      (Cert.MxReferenceIdeal.Value.run (F := Ideal) m' g')⟩

end Cert.MxClaim
end
-- ==== Proof.WaMath.lean ====
module

public import Idealize.ShloMosaic.PureOps.Ideal
public import proofs.«01_k».proof.Proof.NpValue

@[expose] public section

open Idealize.ShloMosaic
open scoped BigOperators

/-!
# A softmax taken piece by piece

The windowed attention weighs one query's 384 band scores, its 16 meta scores and one sink score by
a softmax.  The reference takes it over one row of 401 scores and divides every weight; the kernel
takes the maximum and the sums over the meta row and three pieces of 128 and divides once.  This
file proves the two equal, for any scores below `+∞` and a finite sink.
-/

namespace Cert.WaMath

/-- The largest of a row of scores. -/
noncomputable def peak {n : ℕ} (f : Fin n → EReal) : EReal := Finset.univ.fold max ⊥ f

theorem peak_le {n : ℕ} {f : Fin n → EReal} {c : EReal} : peak f ≤ c ↔ ∀ j, f j ≤ c := by
  unfold peak
  rw [Finset.fold_max_le]
  simp

/-- Piece `p` of a row of 384 numbers. -/
def piece (s : Fin 384 → EReal) (p : Fin 3) (j : Fin 128) : EReal := s ⟨128 * p.val + j.val, by omega⟩

/-- The band scores, the meta scores and the sink in one row. -/
noncomputable def row (s : Fin 384 → EReal) (b : Fin 16 → EReal) (z : EReal) (j : Fin 401) : EReal :=
  if h : j.val < 384 then s ⟨j.val, h⟩
  else if h' : j.val < 400 then b ⟨j.val - 384, by omega⟩ else z

/-- The maximum, taken piece by piece: the meta scores `b`, the sink `z`, the band's pieces `s0`, `s1`, `s2`. -/
noncomputable def top3 (s0 s1 s2 : Fin 128 → EReal) (b : Fin 16 → EReal) (z : EReal) : EReal :=
  max (max (max (max (peak b) z) (peak s0)) (peak s1)) (peak s2)

/-- The maximum of a row cut in pieces. -/
noncomputable def top (s : Fin 384 → EReal) (b : Fin 16 → EReal) (z : EReal) : EReal :=
  top3 (piece s 0) (piece s 1) (piece s 2) b z

/-- The attention of one query, summed piece by piece and divided once; `v0`, `v1`, `v2` and `w` the values. -/
noncomputable def pieced (s0 s1 s2 : Fin 128 → EReal) (b : Fin 16 → EReal) (z : EReal)
    (v0 v1 v2 : Fin 128 → EReal) (w : Fin 16 → EReal) : EReal :=
  let e : EReal → EReal := fun x => Ideal.exp (x - top3 s0 s1 s2 b z)
  Ideal.div
    ((((∑ j, e (b j) * w j) + ∑ j, e (s0 j) * v0 j) + ∑ j, e (s1 j) * v1 j) + ∑ j, e (s2 j) * v2 j)
    (((((∑ j, e (b j)) + e z) + ∑ j, e (s0 j)) + ∑ j, e (s1 j)) + ∑ j, e (s2 j))

/-- The attention of one query, by a softmax of the whole row. -/
noncomputable def attend (s : Fin 384 → EReal) (b : Fin 16 → EReal) (z : EReal)
    (v : Fin 384 → EReal) (w : Fin 16 → EReal) : EReal :=
  let e : Fin 401 → EReal := fun j => Ideal.exp (row s b z j - max ⊥ (peak (row s b z)))
  (∑ j : Fin 384, v j * Ideal.div (e ⟨j.val, by omega⟩) (∑ i, e i))
    + ∑ j : Fin 16, w j * Ideal.div (e ⟨384 + j.val, by omega⟩) (∑ i, e i)

theorem row_band (s b z) (j : Fin 384) : row s b z ⟨j.val, by omega⟩ = s j := by
  unfold row; rw [dif_pos j.isLt]

theorem row_meta (s b z) (j : Fin 16) : row s b z ⟨384 + j.val, by omega⟩ = b j := by
  unfold row
  rw [dif_neg (by simp), dif_pos (by dsimp only; omega)]
  exact congrArg b (Fin.ext (by dsimp only; omega))

theorem row_sink (s b z) : row s b z ⟨400, by omega⟩ = z := by
  unfold row; rw [dif_neg (by simp), dif_neg (by simp)]

/-- A sum over 384 is the sum over its three pieces. -/
theorem sum_pieces (f : Fin 384 → EReal) :
    ∑ j, f j = ((∑ j, piece f 0 j) + ∑ j, piece f 1 j) + ∑ j, piece f 2 j := by
  have h2 := Fin.sum_univ_add (a := 256) (b := 128) (fun j : Fin 384 => f j)
  have h1 := Fin.sum_univ_add (a := 128) (b := 128)
    (fun j : Fin 256 => f (Fin.castAdd 128 j))
  rw [h2, h1]
  refine congrArg₂ _ (congrArg₂ _ ?_ ?_) ?_ <;>
    exact Finset.sum_congr rfl fun j _ => congrArg f (Fin.ext (by first | (simp; done) | (simp; omega)))

/-- A sum over the row is the sum over its parts. -/
theorem sum_row (f : EReal → EReal) (s b z) :
    ∑ j : Fin 401, f (row s b z j) = ((∑ j, f (s j)) + ∑ j, f (b j)) + f z := by
  rw [Fin.sum_univ_castSucc]
  refine congrArg₂ _ ?_ (congrArg f (row_sink s b z))
  have h : ∑ j : Fin 400, f (row s b z (Fin.castSucc j)) = _ := Fin.sum_univ_add (a := 384) (b := 16)
    (fun j : Fin 400 => f (row s b z (Fin.castSucc j)))
  rw [h]
  exact congrArg₂ _ (Finset.sum_congr rfl fun j _ => congrArg f (row_band s b z j))
    (Finset.sum_congr rfl fun j _ => congrArg f (row_meta s b z j))

theorem le_top_iff {s : Fin 384 → EReal} {b z c} :
    top s b z ≤ c ↔ (∀ j, s j ≤ c) ∧ (∀ j, b j ≤ c) ∧ z ≤ c := by
  unfold top top3
  simp only [max_le_iff, peak_le]
  constructor
  · rintro ⟨⟨⟨⟨hb, hz⟩, h0⟩, h1⟩, h2⟩
    refine ⟨fun j => ?_, hb, hz⟩
    rcases Nat.lt_or_ge j.val 128 with h | h
    · simpa [piece] using h0 ⟨j.val, h⟩
    · rcases Nat.lt_or_ge j.val 256 with h' | h'
      · have := h1 ⟨j.val - 128, by omega⟩
        have e : (⟨128 * 1 + (j.val - 128), by omega⟩ : Fin 384) = j := Fin.ext (by dsimp only; omega)
        exact e ▸ this
      · have := h2 ⟨j.val - 256, by omega⟩
        have e : (⟨128 * 2 + (j.val - 256), by omega⟩ : Fin 384) = j := Fin.ext (by dsimp only; omega)
        exact e ▸ this
  · rintro ⟨hs, hb, hz⟩
    exact ⟨⟨⟨⟨hb, hz⟩, fun j => hs _⟩, fun j => hs _⟩, fun j => hs _⟩

/-- The two maxima are one number. -/
theorem top_eq (s b z) : max ⊥ (peak (row s b z)) = top s b z := by
  rw [max_eq_right bot_le]
  apply le_antisymm
  · obtain ⟨hs, hb, hz⟩ := le_top_iff.1 (le_refl (top s b z))
    refine peak_le.2 fun j => ?_
    unfold row
    split_ifs with h h'
    · exact hs _
    · exact hb _
    · exact hz
  · have h := peak_le.1 (le_refl (peak (row s b z)))
    refine le_top_iff.2 ⟨fun j => ?_, fun j => ?_, ?_⟩
    · exact (row_band s b z j) ▸ h _
    · exact (row_meta s b z j) ▸ h _
    · exact (row_sink s b z) ▸ h _

theorem exp_nonneg (x : EReal) : 0 ≤ Ideal.exp x := by
  induction x with
  | bot => simp
  | top => simp
  | coe x => rw [Ideal.exp_coe]; exact EReal.coe_nonneg.2 (Real.exp_pos x).le

theorem sum_ne_top {n : ℕ} (f : Fin n → EReal) (h : ∀ j, f j ≠ ⊤) : ∑ j, f j ≠ ⊤ := by
  induction n with
  | zero => simp
  | succ n ih => rw [Fin.sum_univ_castSucc]; exact EReal.add_ne_top (ih _ fun j => h _) (h _)

theorem exp_sub_ne_top {x : EReal} (hx : x ≠ ⊤) (r : ℝ) : Ideal.exp (x - r) ≠ ⊤ := by
  induction x with
  | bot => simp
  | top => exact absurd rfl hx
  | coe x => rw [← EReal.coe_sub, Ideal.exp_coe]; exact EReal.coe_ne_top _

/-- The attention summed piece by piece is the attention of the whole row; the values of the
    elements whose score is `-∞` do not matter. -/
theorem pieced_eq (s : Fin 384 → EReal) (b : Fin 16 → EReal) (z : EReal) (v v' : Fin 384 → EReal)
    (w : Fin 16 → EReal) (hs : ∀ j, s j ≠ ⊤) (hb : ∀ j, b j ≠ ⊤) (hz : z ≠ ⊤) (hz' : z ≠ ⊥)
    (hv : ∀ j, s j = ⊥ ∨ v' j = v j) :
    pieced (piece s 0) (piece s 1) (piece s 2) b z (piece v' 0) (piece v' 1) (piece v' 2) w = attend s b z v w := by
  unfold pieced attend
  dsimp only
  rw [top_eq, show top3 (piece s 0) (piece s 1) (piece s 2) b z = top s b z from rfl]
  have hM : top s b z ≠ ⊤ := by
    unfold top top3 peak
    refine ne_of_lt ?_
    simp only [max_lt_iff, Finset.fold_max_lt]
    refine ⟨⟨⟨⟨⟨bot_lt_top, fun j _ => lt_top_iff_ne_top.2 (hb j)⟩, lt_top_iff_ne_top.2 hz⟩, ?_⟩, ?_⟩, ?_⟩ <;>
      exact ⟨bot_lt_top, fun j _ => lt_top_iff_ne_top.2 (hs _)⟩
  have hM' : top s b z ≠ ⊥ := by
    intro h
    have := (le_top_iff.1 (le_refl (top s b z))).2.2
    rw [h] at this
    exact hz' (le_bot_iff.1 this)
  generalize top s b z = M at hM hM'
  lift M to ℝ using ⟨hM, hM'⟩
  rw [sum_row (fun x => Ideal.exp (x - (M : EReal)))]
  simp only [row_band, row_meta]
  rw [show ((((∑ j, Ideal.exp (b j - (M : EReal))) + Ideal.exp (z - M))
        + ∑ j, Ideal.exp (piece s 0 j - M)) + ∑ j, Ideal.exp (piece s 1 j - M))
        + ∑ j, Ideal.exp (piece s 2 j - M)
      = ((∑ j, Ideal.exp (s j - M)) + ∑ j, Ideal.exp (b j - M)) + Ideal.exp (z - M) from by
    rw [sum_pieces fun j => Ideal.exp (s j - M)]
    simp only [piece]
    abel]
  have hD : ((∑ j, Ideal.exp (s j - (M : EReal))) + ∑ j, Ideal.exp (b j - M)) + Ideal.exp (z - M) ≠ ⊤ :=
    EReal.add_ne_top (EReal.add_ne_top (sum_ne_top _ fun j => exp_sub_ne_top (hs j) M)
      (sum_ne_top _ fun j => exp_sub_ne_top (hb j) M)) (exp_sub_ne_top hz M)
  have hD' : 0 < ((∑ j, Ideal.exp (s j - (M : EReal))) + ∑ j, Ideal.exp (b j - M)) + Ideal.exp (z - M) := by
    refine lt_of_lt_of_le ?_ (le_add_of_nonneg_left (add_nonneg
      (Finset.sum_nonneg fun j _ => exp_nonneg _) (Finset.sum_nonneg fun j _ => exp_nonneg _)))
    lift z to ℝ using ⟨hz, hz'⟩
    rw [← EReal.coe_sub, Ideal.exp_coe]
    exact EReal.coe_pos.2 (Real.exp_pos _)
  generalize ((∑ j, Ideal.exp (s j - (M : EReal))) + ∑ j, Ideal.exp (b j - M)) + Ideal.exp (z - M) = D at hD hD'
  lift D to ℝ using ⟨hD, (EReal.bot_lt_zero.trans hD').ne'⟩
  have hd : 0 < D := EReal.coe_pos.1 hD'
  have div_eq : ∀ x : EReal, Ideal.div x (D : EReal) = x * ((D⁻¹ : ℝ) : EReal) := fun x => by
    unfold Ideal.div
    rw [if_neg hD'.ne', EReal.coe_inv]
  have c0 : (0 : EReal) ≤ ((D⁻¹ : ℝ) : EReal) := EReal.coe_nonneg.2 (inv_pos.2 hd).le
  have c1 : ((D⁻¹ : ℝ) : EReal) ≠ ⊤ := EReal.coe_ne_top _
  simp only [div_eq]
  generalize ((D⁻¹ : ℝ) : EReal) = c at c0 c1
  rw [sum_pieces]
  rw [EReal.right_distrib_of_nonneg_of_ne_top c0 c1, EReal.right_distrib_of_nonneg_of_ne_top c0 c1,
    EReal.right_distrib_of_nonneg_of_ne_top c0 c1]
  have term : ∀ p : Fin 3, (∑ j, Ideal.exp (piece s p j - (M : EReal)) * piece v' p j) * c
      = ∑ j, piece (fun j => v j * (Ideal.exp (s j - M) * c)) p j := fun p => by
    rw [NpValue.sum_mul_const _ c0 c1]
    refine Finset.sum_congr rfl fun j _ => ?_
    simp only [piece]
    rcases hv ⟨128 * p.val + j.val, by omega⟩ with h | h
    · rw [h]; simp
    · rw [h, mul_comm _ (v _), mul_assoc]
  rw [term 0, term 1, term 2]
  have tb : (∑ j, Ideal.exp (b j - (M : EReal)) * w j) * c
      = ∑ j, w j * (Ideal.exp (b j - M) * c) := by
    rw [NpValue.sum_mul_const _ c0 c1]
    exact Finset.sum_congr rfl fun j _ => by rw [mul_comm _ (w _), mul_assoc]
  rw [tb]
  abel

end Cert.WaMath
-- ==== Proof.WaHead.lean ====
module

public import proofs.«01_k».proof.Proof.WaMath
public import proofs.«01_k».proof.Proof.Gen.WaKernelIdeal.Value
public import Idealize.ShloMosaic.Lib.Pipeline.ValueKit
public import Idealize.ShloMosaic.Lib.StableHlo.ReadAt
public import Idealize.ShloMosaic.Lib.Pointwise
public import Idealize.ShloMosaic.Lib.Tactic

@[expose] public section

/-!
# One head of the windowed attention's kernel

The kernel's body computes its eight heads one after the other, each by the same operations on its
own columns.  This file names those operations, reads them at an element, and shows that each of the
eight stores is them.
-/

noncomputable section

namespace Cert.WaHead

open Idealize.ShloMosaic Idealize.ShloMosaic.TcCoe Idealize.SL.Sem
open scoped BigOperators
open Cert.WaKernelIdeal Cert.WaKernelIdeal.Gen Cert.WaMath

/-- The scores against one block of keys. -/
def scores (q k : Vec Ideal S1x128x64 .bf16) (b : Vec Ideal S1x1x128x128 .f32) : FVec Ideal S128x128 .f32 :=
  addf (matmul (φ₁ := .bf16) (φ₂ := .bf16) dot_S128x64_S128x64_S128x128_1_1_0_0_n_n none (shapeCast S128x64 q shapeCasts_S1x128x64_S128x64)
    (shapeCast S128x64 k shapeCasts_S1x128x64_S128x64) (constant S128x128 .f32 0x00000000#32))
    (shapeCast S128x128 b shapeCasts_S1x1x128x128_S128x128)

/-- The scores against the meta keys. -/
def metaScores (q : Vec Ideal S1x128x64 .bf16) (k : Vec Ideal S16x64 .bf16) (b : Vec Ideal S1x1x128x16 .f32) : FVec Ideal S128x16 .f32 :=
  addf (matmul (φ₁ := .bf16) (φ₂ := .bf16) dot_S128x64_S16x64_S128x16_1_1_0_0_n_n none (shapeCast S128x64 q shapeCasts_S1x128x64_S128x64)
    k (constant S128x16 .f32 0x00000000#32)) (shapeCast S128x16 b shapeCasts_S1x1x128x16_S128x16)

/-- The largest score of a row. -/
def most (s : FVec Ideal S128x128 .f32) : FVec Ideal S128x1 .f32 :=
  shapeCast S128x1 (multiReduction .maximumf [1] S128 s 0xFF800000#32 reduces_S128x128_S128 (.inl rfl) rfl) shapeCasts_S128_S128x1

/-- The largest meta score of a row. -/
def metaMost (s : FVec Ideal S128x16 .f32) : FVec Ideal S128x1 .f32 :=
  shapeCast S128x1 (multiReduction .maximumf [1] S128 s 0xFF800000#32 reduces_S128x16_S128 (.inl rfl) rfl) shapeCasts_S128_S128x1

/-- The rows' maxima. -/
def maxima (s0 s1 s2 : FVec Ideal S128x128 .f32) (b : FVec Ideal S128x16 .f32) (z : Elt Ideal .f32) : FVec Ideal S128x1 .f32 :=
  maximumf (maximumf (maximumf (maximumf (metaMost b) (broadcast S128x1 z)) (most s0)) (most s1)) (most s2)

/-- The weights of a block. -/
def weights (s : FVec Ideal S128x128 .f32) (M : FVec Ideal S128x1 .f32) : FVec Ideal S128x128 .f32 :=
  exp (subf s (broadcastTo S128x128 M broadcasts_S128x1_S128x128))

/-- The weights of the meta tokens. -/
def metaWeights (s : FVec Ideal S128x16 .f32) (M : FVec Ideal S128x1 .f32) : FVec Ideal S128x16 .f32 :=
  exp (subf s (broadcastTo S128x16 M broadcasts_S128x1_S128x16))

/-- The rows' sums of a block's weights. -/
def total (p : FVec Ideal S128x128 .f32) : FVec Ideal S128x1 .f32 :=
  shapeCast S128x1 (multiReduction .add [1] S128 p 0x00000000#32 reduces_S128x128_S128 (.inl rfl) rfl) shapeCasts_S128_S128x1

/-- The rows' sums of the meta tokens' weights. -/
def metaTotal (p : FVec Ideal S128x16 .f32) : FVec Ideal S128x1 .f32 :=
  shapeCast S128x1 (multiReduction .add [1] S128 p 0x00000000#32 reduces_S128x16_S128 (.inl rfl) rfl) shapeCasts_S128_S128x1

/-- A block's weights times its values. -/
def weighed (p : FVec Ideal S128x128 .f32) (v : Vec Ideal S1x128x64 .bf16) : FVec Ideal S128x64 .f32 :=
  matmul (φ₁ := .bf16) (φ₂ := .bf16) dot_S128x128_S128x64_S128x64_1_0_0_1_n_n none (truncf .bf16 p bitsLt_bf16_f32)
    (shapeCast S128x64 v shapeCasts_S1x128x64_S128x64) (constant S128x64 .f32 0x00000000#32)

/-- The meta tokens' weights times their values. -/
def metaWeighed (p : FVec Ideal S128x16 .f32) (v : Vec Ideal S16x64 .bf16) : FVec Ideal S128x64 .f32 :=
  matmul (φ₁ := .bf16) (φ₂ := .bf16) dot_S128x16_S16x64_S128x64_1_0_0_1_n_n none (truncf .bf16 p bitsLt_bf16_f32) v (constant S128x64 .f32 0x00000000#32)

/-- The attention from the scores `s0`, `s1`, `s2`, `b`, the sink `z`, the maxima `M` and the values. -/
def attention (s0 s1 s2 : FVec Ideal S128x128 .f32) (b : FVec Ideal S128x16 .f32) (z : Elt Ideal .f32) (M : FVec Ideal S128x1 .f32)
    (w : Vec Ideal S16x64 .bf16) (v0 v1 v2 : Vec Ideal S1x128x64 .bf16) : FVec Ideal S1x128x64 .bf16 :=
  shapeCast S1x128x64 (truncf .bf16 (divf
    (addf (addf (addf (metaWeighed (metaWeights b M) w) (weighed (weights s0 M) v0)) (weighed (weights s1 M) v1)) (weighed (weights s2 M) v2))
    (broadcastTo S128x64
      (addf (addf (addf (addf (metaTotal (metaWeights b M)) (exp (subf (broadcast S128x1 z) M))) (total (weights s0 M)))
        (total (weights s1 M))) (total (weights s2 M))) broadcasts_S128x1_S128x64)) bitsLt_bf16_f32) shapeCasts_S128x64_S1x128x64

/-- One head: of the queries `q`, the keys `k0`, `k1`, `k2`, the meta keys `k`, the biases, the sink `z` and the values. -/
def head (q k0 k1 k2 : Vec Ideal S1x128x64 .bf16) (k : Vec Ideal S16x64 .bf16) (b0 b1 b2 : Vec Ideal S1x1x128x128 .f32)
    (b : Vec Ideal S1x1x128x16 .f32) (z : Elt Ideal .f32) (w : Vec Ideal S16x64 .bf16) (v0 v1 v2 : Vec Ideal S1x128x64 .bf16) :
    FVec Ideal S1x128x64 .bf16 :=
  attention (scores q k0 b0) (scores q k1 b1) (scores q k2 b2) (metaScores q k b) z
    (maxima (scores q k0 b0) (scores q k1 b1) (scores q k2 b2) (metaScores q k b) z) w v0 v1 v2

theorem neg_inf : Ideal.ofBits FTy.f32 0xFF800000#32 = ⊥ := by
  simp [Ideal.ofBits, Ideal.ieee]

theorem scores_apply (q k b) (r j : Fin 128) : scores q k b (ix2 r j) = (∑ d, q (ix3 0 r d) * k (ix3 0 j d)) + b (ix4 0 0 r j) := by
  pointwise [scores]

theorem metaScores_apply (q k b) (r : Fin 128) (j : Fin 16) :
    metaScores q k b (ix2 r j) = (∑ d, q (ix3 0 r d) * k (ix2 j d)) + b (ix4 0 0 r j) := by
  pointwise [metaScores]

theorem maxima_apply (s0 s1 s2 b z) (r : Fin 128) : maxima s0 s1 s2 b z (ix2 r 0)
    = top3 (fun j => s0 (ix2 r j)) (fun j => s1 (ix2 r j)) (fun j => s2 (ix2 r j)) (fun j => b (ix2 r j)) z := by
  pointwise [maxima, most, metaMost]
  simp only [neg_inf]
  rfl

theorem attention_apply (s0 s1 s2 b z M w v0 v1 v2) (r : Fin 128) (d : Fin 64)
    (hM : M (ix2 r 0) = top3 (fun j => s0 (ix2 r j)) (fun j => s1 (ix2 r j)) (fun j => s2 (ix2 r j)) (fun j => b (ix2 r j)) z) :
    attention s0 s1 s2 b z M w v0 v1 v2 (ix3 0 r d)
      = pieced (fun j => s0 (ix2 r j)) (fun j => s1 (ix2 r j)) (fun j => s2 (ix2 r j)) (fun j => b (ix2 r j)) z
        (fun j => v0 (ix3 0 j d)) (fun j => v1 (ix3 0 j d)) (fun j => v2 (ix3 0 j d)) (fun j => w (ix2 j d)) := by
  unfold pieced
  dsimp only
  rw [← hM]
  pointwise [attention, metaWeighed, weighed, total, metaTotal, weights, metaWeights]

/-- One head at an element. -/
theorem head_apply (q k0 k1 k2 k b0 b1 b2 b z w v0 v1 v2) (r : Fin 128) (d : Fin 64) :
    head q k0 k1 k2 k b0 b1 b2 b z w v0 v1 v2 (ix3 0 r d)
      = pieced (fun j => (∑ e, q (ix3 0 r e) * k0 (ix3 0 j e)) + b0 (ix4 0 0 r j))
        (fun j => (∑ e, q (ix3 0 r e) * k1 (ix3 0 j e)) + b1 (ix4 0 0 r j))
        (fun j => (∑ e, q (ix3 0 r e) * k2 (ix3 0 j e)) + b2 (ix4 0 0 r j))
        (fun j => (∑ e, q (ix3 0 r e) * k (ix2 j e)) + b (ix4 0 0 r j)) z
        (fun j => v0 (ix3 0 j d)) (fun j => v1 (ix3 0 j d)) (fun j => v2 (ix3 0 j d)) (fun j => w (ix2 j d)) := by
  unfold head
  rw [attention_apply (hM := maxima_apply ..)]
  simp only [scores_apply, metaScores_apply]

end Cert.WaHead
end
-- ==== Proof.WaBlocks.lean ====
module

public import proofs.«01_k».proof.Proof.WaHead

@[expose] public section

/-!
# What the windowed attention's kernel leaves at a grid point

The eight heads' stores together, read at an element, and the blocks they are computed from as parts
of the arrays.
-/

noncomputable section

namespace Cert.WaBlocks

open Idealize.ShloMosaic Idealize.ShloMosaic.TcCoe Idealize.SL.Sem
open scoped BigOperators
open Cert.WaKernelIdeal Cert.WaKernelIdeal.Gen Cert.WaMath Cert.WaHead

/-! ## Loads of one head's columns -/

theorem load_q (X : Vec Ideal S1x128x512 .bf16) (H : Fin 8) (o : ℕ) (inb) (r : Fin 128) (e : Fin 64) (ho : o = 64 * H.val) :
    View.ld X (Rect.unit ![0, 0, o] ![1, 128, 64] inb) (ix3 0 r e : S1x128x64.Idx) = X (ix3 0 r ⟨64 * H.val + e.val, by omega⟩) := by
  subst ho
  exact View.ld_unit_apply_of X _ _ inb _ _ (by intro a; fin_cases a <;> simp)

theorem load_k (X : Vec Ideal S1x128x128 .bf16) (H : Fin 8) (o : ℕ) (inb) (r : Fin 128) (e : Fin 64) (ho : o = 64 * (H.val / 4)) :
    View.ld X (Rect.unit ![0, 0, o] ![1, 128, 64] inb) (ix3 0 r e : S1x128x64.Idx) = X (ix3 0 r ⟨64 * (H.val / 4) + e.val, by omega⟩) := by
  subst ho
  exact View.ld_unit_apply_of X _ _ inb _ _ (by intro a; fin_cases a <;> simp)

theorem load_m (X : Vec Ideal S16x128 .bf16) (H : Fin 8) (o : ℕ) (inb) (r : Fin 16) (e : Fin 64) (ho : o = 64 * (H.val / 4)) :
    View.ld X (Rect.unit ![0, o] ![16, 64] inb) (ix2 r e : S16x64.Idx) = X (ix2 r ⟨64 * (H.val / 4) + e.val, by omega⟩) := by
  subst ho
  exact View.ld_unit_apply_of X _ _ inb _ _ (by intro a; fin_cases a <;> simp)

theorem load_b0 (X : Vec Ideal S1x8x128x384 .f32) (H : Fin 8) (h : ℕ) (inb) (r j : Fin 128) (hh : h = H.val) :
    View.ld X (Rect.unit ![0, h, 0, 0] ![1, 1, 128, 128] inb) (ix4 0 0 r j : S1x1x128x128.Idx) = X (ix4 0 H r ⟨j.val, by omega⟩) := by
  subst hh
  exact View.ld_unit_apply_of X _ _ inb _ _ (by intro a; fin_cases a <;> simp)

theorem load_b1 (X : Vec Ideal S1x8x128x384 .f32) (H : Fin 8) (h : ℕ) (inb) (r j : Fin 128) (hh : h = H.val) :
    View.ld X (Rect.unit ![0, h, 0, 128] ![1, 1, 128, 128] inb) (ix4 0 0 r j : S1x1x128x128.Idx) = X (ix4 0 H r ⟨128 + j.val, by omega⟩) := by
  subst hh
  exact View.ld_unit_apply_of X _ _ inb _ _ (by intro a; fin_cases a <;> simp)

theorem load_b2 (X : Vec Ideal S1x8x128x384 .f32) (H : Fin 8) (h : ℕ) (inb) (r j : Fin 128) (hh : h = H.val) :
    View.ld X (Rect.unit ![0, h, 0, 256] ![1, 1, 128, 128] inb) (ix4 0 0 r j : S1x1x128x128.Idx) = X (ix4 0 H r ⟨256 + j.val, by omega⟩) := by
  subst hh
  exact View.ld_unit_apply_of X _ _ inb _ _ (by intro a; fin_cases a <;> simp)

theorem load_b (X : Vec Ideal S1x8x128x16 .f32) (H : Fin 8) (h : ℕ) (inb) (r : Fin 128) (j : Fin 16) (hh : h = H.val) :
    View.ld X (Rect.unit ![0, h, 0, 0] ![1, 1, 128, 16] inb) (ix4 0 0 r j : S1x1x128x16.Idx) = X (ix4 0 H r j) := by
  subst hh
  exact View.ld_unit_apply_of X _ _ inb _ _ (by intro a; fin_cases a <;> simp)

theorem load_z (X : Vec Ideal S8 .f32) (H : Fin 8) (h : ℕ) (inb) (x) (hh : h = H.val) :
    View.ld X (Rect.unit ![h] ![1] inb) x = X (ix1 H) := by
  subst hh
  refine View.ld_unit_apply_of X _ _ inb _ _ (by intro a; fin_cases a; have := (x 0).isLt; simp at this; simp)

/-! ## The eight stores together -/

/-- One head's attention of the query row `r`, from the blocks: `q` the queries, `k0`, `k1`, `k2` and `v0`, `v1`, `v2` the
    keys and values of the block before, the block itself and the block after, `k` and `w` those of the meta tokens. -/
def blockOut (z : Vec Ideal S8 .f32) (q : Vec Ideal S1x128x512 .bf16) (k0 k1 k2 v0 v1 v2 : Vec Ideal S1x128x128 .bf16)
    (k w : Vec Ideal S16x128 .bf16) (b : Vec Ideal S1x8x128x384 .f32) (g : Vec Ideal S1x8x128x16 .f32) (r : Fin 128) (H : Fin 8)
    (d : Fin 64) : EReal :=
  let col : Fin 64 → Fin 128 := fun e => ⟨64 * (H.val / 4) + e.val, by omega⟩
  let Q : Fin 64 → EReal := fun e => q (ix3 0 r ⟨64 * H.val + e.val, by omega⟩)
  pieced (fun j => (∑ e, Q e * k0 (ix3 0 j (col e))) + b (ix4 0 H r ⟨j.val, by omega⟩))
    (fun j => (∑ e, Q e * k1 (ix3 0 j (col e))) + b (ix4 0 H r ⟨128 + j.val, by omega⟩))
    (fun j => (∑ e, Q e * k2 (ix3 0 j (col e))) + b (ix4 0 H r ⟨256 + j.val, by omega⟩))
    (fun j => (∑ e, Q e * k (ix2 j (col e))) + g (ix4 0 H r j)) (z (ix1 H))
    (fun j => v0 (ix3 0 j (col d))) (fun j => v1 (ix3 0 j (col d))) (fun j => v2 (ix3 0 j (col d))) (fun j => w (ix2 j (col d)))

/-- A head's output at an element, from its operands' elements. -/
theorem head_of {q k0 k1 k2 k b0 b1 b2 b z w v0 v1 v2} {r : Fin 128} {d : Fin 64} {q' : Fin 64 → EReal}
    {k0' k1' k2' : Fin 128 → Fin 64 → EReal} {k' : Fin 16 → Fin 64 → EReal} {b0' b1' b2' : Fin 128 → EReal} {b' : Fin 16 → EReal}
    {z' : EReal} {v0' v1' v2' : Fin 128 → EReal} {w' : Fin 16 → EReal}
    (hq : ∀ e, q (ix3 0 r e : S1x128x64.Idx) = q' e) (hk0 : ∀ j e, k0 (ix3 0 j e : S1x128x64.Idx) = k0' j e)
    (hk1 : ∀ j e, k1 (ix3 0 j e : S1x128x64.Idx) = k1' j e) (hk2 : ∀ j e, k2 (ix3 0 j e : S1x128x64.Idx) = k2' j e)
    (hk : ∀ j e, k (ix2 j e : S16x64.Idx) = k' j e) (hb0 : ∀ j, b0 (ix4 0 0 r j : S1x1x128x128.Idx) = b0' j)
    (hb1 : ∀ j, b1 (ix4 0 0 r j : S1x1x128x128.Idx) = b1' j) (hb2 : ∀ j, b2 (ix4 0 0 r j : S1x1x128x128.Idx) = b2' j)
    (hb : ∀ j, b (ix4 0 0 r j : S1x1x128x16.Idx) = b' j) (hz : z = z') (hv0 : ∀ j, v0 (ix3 0 j d : S1x128x64.Idx) = v0' j)
    (hv1 : ∀ j, v1 (ix3 0 j d : S1x128x64.Idx) = v1' j) (hv2 : ∀ j, v2 (ix3 0 j d : S1x128x64.Idx) = v2' j)
    (hw : ∀ j, w (ix2 j d : S16x64.Idx) = w' j) :
    head q k0 k1 k2 k b0 b1 b2 b z w v0 v1 v2 (ix3 0 r d)
      = pieced (fun j => (∑ e, q' e * k0' j e) + b0' j) (fun j => (∑ e, q' e * k1' j e) + b1' j)
        (fun j => (∑ e, q' e * k2' j e) + b2' j) (fun j => (∑ e, q' e * k' j e) + b' j) z' v0' v1' v2' w' := by
  rw [head_apply]
  simp only [hq, hk0, hk1, hk2, hk, hb0, hb1, hb2, hb, hz, hv0, hv1, hv2, hw]

variable (m : (ℓ : Loc nD τ sig) → Buf (Elt Ideal) ℓ)

/-- What a grid point leaves in its output block, at an element. -/
theorem outs_apply (c : Dev nD) (t : Fin cfg0.N) (r : Fin 128) (H : Fin 8) (d : Fin 64) :
    (outsAt0 m c t : Vec Ideal S1x128x512 .bf16) (ix3 0 r ⟨64 * H.val + d.val, by omega⟩)
      = blockOut (iblk m c 0 t) (X0_1 m c t) (iblk m c 2 t) (iblk m c 3 t) (iblk m c 4 t) (iblk m c 5 t) (iblk m c 6 t) (iblk m c 7 t)
        (iblk m c 8 t) (iblk m c 9 t) (iblk m c 10 t) (iblk m c 11 t) r H d := by
  unfold outsAt0
  frame_out
  canon_tiles x h
  all_goals
    idx_vars x
    try dsimp only at h2
    refine Eq.trans (show _ = head _ _ _ _ _ _ _ _ _ _ _ _ _ _ _ from rfl) ?_
    obtain rfl : x0 = 0 := Subsingleton.elim _ _
    obtain rfl : r = x1 := Fin.ext h1
    obtain rfl : d = x2 := Fin.ext (by omega)
    refine (head_of (fun e => load_q _ H _ _ _ e ?_) (fun j e => load_k _ H _ _ j e ?_) (fun j e => load_k _ H _ _ j e ?_)
      (fun j e => load_k _ H _ _ j e ?_) (fun j e => load_m _ H _ _ j e ?_) (fun j => load_b0 _ H _ _ _ j ?_)
      (fun j => load_b1 _ H _ _ _ j ?_) (fun j => load_b2 _ H _ _ _ j ?_) (fun j => load_b _ H _ _ _ j ?_) (load_z _ H _ _ _ ?_)
      (fun j => load_k _ H _ _ j d ?_) (fun j => load_k _ H _ _ j d ?_) (fun j => load_k _ H _ _ j d ?_)
      (fun j => load_m _ H _ _ j d ?_)).trans ?_
    all_goals first | omega | rfl

/-! ## The blocks -/

/-- The windows' block indices: grid point `t` is block `t / 2` of sequence `t % 2`. -/
theorem idx : ∀ t : Fin cfg0.N, win0_0.index t = ![0] ∧ win0_1.index t = ![t.val % 2, t.val / 2, 4]
    ∧ win0_2.index t = ![t.val % 2, t.val / 2 - 1, 40] ∧ win0_3.index t = ![t.val % 2, t.val / 2, 40]
    ∧ win0_4.index t = ![t.val % 2, min (t.val / 2 + 1) 127, 40] ∧ win0_5.index t = ![t.val % 2, t.val / 2 - 1, 41]
    ∧ win0_6.index t = ![t.val % 2, t.val / 2, 41] ∧ win0_7.index t = ![t.val % 2, min (t.val / 2 + 1) 127, 41]
    ∧ win0_8.index t = ![0, 40] ∧ win0_9.index t = ![0, 41]
    ∧ win0_10.index t = ![if t.val / 2 = 0 then 0 else if t.val / 2 = 127 then 2 else 1, 0, 0, 0]
    ∧ win0_11.index t = ![t.val / 2, 0, 0, 0] ∧ win0_12.index t = ![t.val % 2, t.val / 2, 0] :=
  (by decide +kernel : ∀ t : Fin grid0.N, win0_0.index t = ![0] ∧ win0_1.index t = ![t.val % 2, t.val / 2, 4]
    ∧ win0_2.index t = ![t.val % 2, t.val / 2 - 1, 40] ∧ win0_3.index t = ![t.val % 2, t.val / 2, 40]
    ∧ win0_4.index t = ![t.val % 2, min (t.val / 2 + 1) 127, 40] ∧ win0_5.index t = ![t.val % 2, t.val / 2 - 1, 41]
    ∧ win0_6.index t = ![t.val % 2, t.val / 2, 41] ∧ win0_7.index t = ![t.val % 2, min (t.val / 2 + 1) 127, 41]
    ∧ win0_8.index t = ![0, 40] ∧ win0_9.index t = ![0, 41]
    ∧ win0_10.index t = ![if t.val / 2 = 0 then 0 else if t.val / 2 = 127 then 2 else 1, 0, 0, 0]
    ∧ win0_11.index t = ![t.val / 2, 0, 0, 0] ∧ win0_12.index t = ![t.val % 2, t.val / 2, 0])

variable (c : Dev nD)

/-- The projections the kernel reads. -/
abbrev proj : Vec Ideal S2x16384x5376 .bf16 := m ((c : Thread nD τ).loc main_arg0)
/-- The meta tokens' projections. -/
abbrev metaProj : Vec Ideal S16x5376 .bf16 := m ((c : Thread nD τ).loc main_arg1)

theorem Vproj (i) : (V m c main_arg0 : Vec Ideal S2x16384x5376 .bf16) i = proj m c i := by
  unfold V
  after_reads_at

theorem VmetaProj (i) : (V m c main_arg1 : Vec Ideal S16x5376 .bf16) i = metaProj m c i := by
  unfold V
  after_reads_at

theorem Vsink (H : Fin 8) : (V m c main_v112 : Vec Ideal S8 .f32) (ix1 H)
    = (m ((c : Thread nD τ).loc main_arg3) : Vec Ideal S1x8 .f32) (ix2 0 H) := by
  unfold V
  after_reads_at

theorem block0 (t : Fin cfg0.N) (H : Fin 8) : (iblk m c 0 t : Vec Ideal S8 .f32) (ix1 H)
    = (V m c main_v112 : Vec Ideal S8 .f32) (ix1 H) := by
  blk_ext [iblk, idx t]

variable (t : Fin cfg0.N) (ht : t.val < 256)

theorem block1 (r : Fin 128) (e : Fin 512) : (X0_1 m c t : Vec Ideal S1x128x512 .bf16) (ix3 0 r e)
    = (V m c main_arg0 : Vec Ideal S2x16384x5376 .bf16)
      (ix3 ⟨t.val % 2, by omega⟩ ⟨t.val / 2 * 128 + r.val, by omega⟩ ⟨2048 + e.val, by omega⟩) := by
  unfold X0_1 Pipeline.Window.fill
  rw [dif_pos (moved0_1 t _)]
  blk_ext [iblk, idx t]

theorem block2 (r e : Fin 128) : (iblk m c 2 t : Vec Ideal S1x128x128 .bf16) (ix3 0 r e)
    = (V m c main_arg0 : Vec Ideal S2x16384x5376 .bf16)
      (ix3 ⟨t.val % 2, by omega⟩ ⟨(t.val / 2 - 1) * 128 + r.val, by omega⟩ ⟨5120 + e.val, by omega⟩) := by
  blk_ext [iblk, idx t]

theorem block3 (r e : Fin 128) : (iblk m c 3 t : Vec Ideal S1x128x128 .bf16) (ix3 0 r e)
    = (V m c main_arg0 : Vec Ideal S2x16384x5376 .bf16)
      (ix3 ⟨t.val % 2, by omega⟩ ⟨t.val / 2 * 128 + r.val, by omega⟩ ⟨5120 + e.val, by omega⟩) := by
  blk_ext [iblk, idx t]

theorem block4 (r e : Fin 128) : (iblk m c 4 t : Vec Ideal S1x128x128 .bf16) (ix3 0 r e)
    = (V m c main_arg0 : Vec Ideal S2x16384x5376 .bf16)
      (ix3 ⟨t.val % 2, by omega⟩ ⟨min (t.val / 2 + 1) 127 * 128 + r.val, by omega⟩ ⟨5120 + e.val, by omega⟩) := by
  blk_ext [iblk, idx t]

theorem block5 (r e : Fin 128) : (iblk m c 5 t : Vec Ideal S1x128x128 .bf16) (ix3 0 r e)
    = (V m c main_arg0 : Vec Ideal S2x16384x5376 .bf16)
      (ix3 ⟨t.val % 2, by omega⟩ ⟨(t.val / 2 - 1) * 128 + r.val, by omega⟩ ⟨5248 + e.val, by omega⟩) := by
  blk_ext [iblk, idx t]

theorem block6 (r e : Fin 128) : (iblk m c 6 t : Vec Ideal S1x128x128 .bf16) (ix3 0 r e)
    = (V m c main_arg0 : Vec Ideal S2x16384x5376 .bf16)
      (ix3 ⟨t.val % 2, by omega⟩ ⟨t.val / 2 * 128 + r.val, by omega⟩ ⟨5248 + e.val, by omega⟩) := by
  blk_ext [iblk, idx t]

theorem block7 (r e : Fin 128) : (iblk m c 7 t : Vec Ideal S1x128x128 .bf16) (ix3 0 r e)
    = (V m c main_arg0 : Vec Ideal S2x16384x5376 .bf16)
      (ix3 ⟨t.val % 2, by omega⟩ ⟨min (t.val / 2 + 1) 127 * 128 + r.val, by omega⟩ ⟨5248 + e.val, by omega⟩) := by
  blk_ext [iblk, idx t]

theorem block8 (j : Fin 16) (e : Fin 128) : (iblk m c 8 t : Vec Ideal S16x128 .bf16) (ix2 j e)
    = (V m c main_arg1 : Vec Ideal S16x5376 .bf16) (ix2 j ⟨5120 + e.val, by omega⟩) := by
  blk_ext [iblk, idx t]

theorem block9 (j : Fin 16) (e : Fin 128) : (iblk m c 9 t : Vec Ideal S16x128 .bf16) (ix2 j e)
    = (V m c main_arg1 : Vec Ideal S16x5376 .bf16) (ix2 j ⟨5248 + e.val, by omega⟩) := by
  blk_ext [iblk, idx t]

/-- Which of the three bias tables block `n` of a sequence reads: the first, a middle one's, the last's. -/
def kind (n : ℕ) : Fin 3 := if n = 0 then 0 else if n = 127 then 2 else 1

theorem kind_val (n : ℕ) : (if n = 0 then 0 else if n = 127 then 2 else 1 : ℕ) = (kind n).val := by
  unfold kind
  split_ifs <;> rfl

theorem idx10 : win0_10.index t = ![(kind (t.val / 2)).val, 0, 0, 0] := by
  rw [← kind_val]
  exact (idx t).2.2.2.2.2.2.2.2.2.2.1

theorem block10 (H : Fin 8) (r : Fin 128) (j : Fin 384) : (iblk m c 10 t : Vec Ideal S1x8x128x384 .f32) (ix4 0 H r j)
    = (V m c main_v63 : Vec Ideal S3x8x128x384 .f32) (ix4 (kind (t.val / 2)) H r j) := by
  have e := idx10 t
  generalize kind (t.val / 2) = k at e ⊢
  blk_ext [iblk, e]

theorem block11 (H : Fin 8) (r : Fin 128) (j : Fin 16) : (iblk m c 11 t : Vec Ideal S1x8x128x16 .f32) (ix4 0 H r j)
    = (V m c main_v111 : Vec Ideal S128x8x128x16 .f32) (ix4 ⟨t.val / 2, by omega⟩ H r j) := by
  blk_ext [iblk, idx t]

theorem place12 (r : Fin 128) (j : Fin 512) : (win0_12.blk t).view.emb (ix3 0 r j : S1x128x512.Idx)
    = (ix3 ⟨t.val % 2, by omega⟩ ⟨t.val / 2 * 128 + r.val, by omega⟩ j : S2x16384x512.Idx) := by
  blk_ext [idx t]

end Cert.WaBlocks
end
-- ==== Proof.WaSpec.lean ====
module

public import proofs.«01_k».proof.Proof.WaMath

@[expose] public section

/-!
# The windowed attention of one query

The attention as a function of the projections `P`, the meta tokens' projections `W`, the band's and
the meta tokens' position biases `A` and `G` and the sinks `Z`: what both programs compute.
-/

noncomputable section

namespace Cert.WaSpec

open Cert.WaMath
open scoped BigOperators

/-- Band position `k` of block `n` lies in the sequence. -/
def Inside (n : Fin 128) (k : Fin 384) : Prop := 128 ≤ n.val * 128 + k.val ∧ n.val * 128 + k.val < 16512

/-- Band position `k` is within 128 positions of the block's row `r`. -/
def Near (r : Fin 128) (k : Fin 384) : Prop := r.val ≤ k.val ∧ k.val ≤ r.val + 256

instance (n k) : Decidable (Inside n k) := by unfold Inside; infer_instance
instance (r k) : Decidable (Near r k) := by unfold Near; infer_instance

variable (P : Fin 2 → Fin 16384 → Fin 5376 → EReal) (W : Fin 16 → Fin 5376 → EReal) (A : Fin 128 → Fin 384 → Fin 8 → EReal)
  (G : Fin 128 → Fin 128 → Fin 16 → Fin 8 → EReal) (Z : Fin 8 → EReal)

/-- Column `c` of the band around block `n`: zero outside the sequence. -/
def band (b : Fin 2) (n : Fin 128) (k : Fin 384) (c : Fin 5376) : EReal :=
  if h : Inside n k then P b ⟨n.val * 128 + k.val - 128, by have := h.1; have := h.2; omega⟩ c else 0

/-- The query's score of a band position. -/
def score (b : Fin 2) (n r : Fin 128) (H : Fin 8) (k : Fin 384) : EReal :=
  if Near r k ∧ Inside n k then
    (∑ e : Fin 64, P b ⟨n.val * 128 + r.val, by omega⟩ ⟨2048 + (64 * H.val + e.val), by omega⟩
      * band P b n k ⟨5120 + (64 * (H.val / 4) + e.val), by omega⟩) + A r k H
  else ⊥

/-- The query's score of a meta token. -/
def metaScore (b : Fin 2) (n r : Fin 128) (H : Fin 8) (j : Fin 16) : EReal :=
  (∑ e : Fin 64, P b ⟨n.val * 128 + r.val, by omega⟩ ⟨2048 + (64 * H.val + e.val), by omega⟩
    * W j ⟨5120 + (64 * (H.val / 4) + e.val), by omega⟩) + G n r j H

/-- The windowed attention of one query, at element `d` of head `H`. -/
def windowed (b : Fin 2) (n r : Fin 128) (H : Fin 8) (d : Fin 64) : EReal :=
  attend (score P A b n r H) (metaScore P W G b n r H) (Z H)
    (fun k => band P b n k ⟨5248 + (64 * (H.val / 4) + d.val), by omega⟩) (fun j => W j ⟨5248 + (64 * (H.val / 4) + d.val), by omega⟩)

end Cert.WaSpec
end
-- ==== Proof.WaRef.lean ====
module

public import proofs.«01_k».proof.Proof.WaSpec
public import Idealize.ShloMosaic.Lib.KernelVsHost
public import proofs.«01_k».proof.Proof.Gen.WaReferenceIdeal.Run

@[expose] public section

/-!
# The windowed attention's reference at an element

The reference program's value, read down to the softmax of one query's row of 401 scores.
-/

noncomputable section

namespace Cert.WaRef

open Idealize.ShloMosaic Idealize.ShloMosaic.TcCoe Idealize.SL.Sem Idealize.ShloMosaic.StableHlo
open scoped BigOperators
open Cert.WaReferenceIdeal Cert.WaReferenceIdeal.Gen Cert.WaReferenceIdeal.Value Cert.WaMath Cert.WaSpec

variable (V0 : Valuation τ sig (Elt Ideal))

/-- The projections. -/
abbrev P : Vec Ideal S2x16384x5376 .bf16 := V0 (Proc.devRef .tc main_arg0)
/-- The meta tokens' projections. -/
abbrev W : Vec Ideal S16x5376 .bf16 := V0 (Proc.devRef .tc main_arg1)
/-- The position biases. -/
abbrev T : Vec Ideal S32x8 .f32 := V0 (Proc.devRef .tc main_arg2)
/-- The sinks. -/
abbrev K : Vec Ideal S1x8 .f32 := V0 (Proc.devRef .tc main_arg3)

theorem neg_inf : Ideal.ofBits FTy.f32 0xFF800000#32 = ⊥ := by simp [Ideal.ofBits, Ideal.ieee]

theorem zero_word : (FloatOps.sitofp FTy.f32 0#32 : Ideal .f32) = 0 := by
  show (((0#32 : BitVec 32).toInt : ℝ) : EReal) = 0
  norm_num

/-! ## Queries, keys and values -/

theorem q_apply (b : Fin 2) (n q : Fin 128) (g : Fin 2) (h : Fin 4) (e : Fin 64) :
    (res_main_v8 V0 : FVec Ideal S2x128x128x2x4x64 .f32) (ix6 b n q g h e)
      = P V0 (ix3 b ⟨n.val * 128 + q.val, by omega⟩ ⟨2048 + ((g.val * 4 + h.val) * 64 + e.val), by omega⟩) := by
  unfold res_main_v8 res_main_v0
  pointwise
  exact congrArg (P V0) (congrArg (ix3 b _) (Fin.ext (by dsimp only; omega)))

theorem k_apply (b : Fin 2) (p : Fin 130) (q : Fin 128) (g : Fin 2) (e : Fin 64) :
    (res_main_v10 V0 : FVec Ideal S2x130x128x2x64 .f32) (ix5 b p q g e)
      = if h : 128 ≤ p.val * 128 + q.val ∧ p.val * 128 + q.val - 128 < 16384 then
          P V0 (ix3 b ⟨p.val * 128 + q.val - 128, by omega⟩ ⟨5120 + (g.val * 64 + e.val), by omega⟩) else 0 := by
  unfold res_main_v10 res_main_v0
  pointwise
  rw [zero_word]

theorem v_apply (b : Fin 2) (p : Fin 130) (q : Fin 128) (g : Fin 2) (e : Fin 64) :
    (res_main_v16 V0 : FVec Ideal S2x130x128x2x64 .f32) (ix5 b p q g e)
      = if h : 128 ≤ p.val * 128 + q.val ∧ p.val * 128 + q.val - 128 < 16384 then
          P V0 (ix3 b ⟨p.val * 128 + q.val - 128, by omega⟩ ⟨5248 + (g.val * 64 + e.val), by omega⟩) else 0 := by
  unfold res_main_v16 res_main_v0
  pointwise
  rw [zero_word]

/-- Three consecutive blocks of a padded array, joined. -/
def joined (X : FVec Ideal S2x130x128x2x64 .f32) : FVec Ideal S2x128x384x2x64 .f32 :=
  concatenate S2x128x384x2x64 2
    [⟨S2x128x128x2x64, extractStridedSlice S2x128x128x2x64 ![0, 0, 0, 0, 0] X slices_S2x130x128x2x64_S2x128x128x2x64_0_0_0_0_0⟩,
     ⟨S2x128x128x2x64, extractStridedSlice S2x128x128x2x64 ![0, 1, 0, 0, 0] X slices_S2x130x128x2x64_S2x128x128x2x64_0_1_0_0_0⟩,
     ⟨S2x128x128x2x64, extractStridedSlice S2x128x128x2x64 ![0, 2, 0, 0, 0] X slices_S2x130x128x2x64_S2x128x128x2x64_0_2_0_0_0⟩]
    concatenates_S2x128x128x2x64_S2x128x128x2x64_S2x128x128x2x64_S2x128x384x2x64_d2

theorem joined_apply (X : FVec Ideal S2x130x128x2x64 .f32) (b : Fin 2) (n : Fin 128) (k : Fin 384) (g : Fin 2) (e : Fin 64) :
    joined X (ix5 b n k g e) = X (ix5 b ⟨n.val + k.val / 128, by omega⟩ ⟨k.val % 128, by omega⟩ g e) := by
  have key (p p' : Fin 130) (q q' : Fin 128) (hp : p.val = p'.val) (hq : q.val = q'.val) :
      X (ix5 b p q g e) = X (ix5 b p' q' g e) := by
    rw [Fin.ext hp, Fin.ext hq]
  pointwise [joined]
  split
  · exact key _ _ _ _ (by dsimp only; omega) (by dsimp only; omega)
  · split
    · exact key _ _ _ _ (by dsimp only; omega) (by dsimp only; omega)
    · exact key _ _ _ _ (by dsimp only; omega) (by dsimp only; omega)

/-! ## Scores -/

theorem band_apply (M : IVec S128x128x384 1) (X : FVec Ideal S2x128x384x2x64 .f32) (Y : FVec Ideal S2x128x128x2x4x64 .f32)
    (B : FVec Ideal S128x384x8 .f32) (b : Fin 2) (n : Fin 128) (g : Fin 2) (h : Fin 4) (q : Fin 128) (k : Fin 384) :
    (select (broadcastInDim S2x128x2x4x128x384 ![1, 2, 3, 4, 5] bcast_S128x1x1x128x384_S2x128x2x4x128x384_1_2_3_4_5 (broadcastInDim S128x1x1x128x384 ![0, 3, 4] bcast_S128x128x384_S128x1x1x128x384_0_3_4 M)) (addf (transpose S2x128x2x4x128x384 [0, 1, 2, 5, 4, 3] (Host.dotGeneral dot_S2x128x384x2x64_S2x128x128x2x4x64_S2x128x2x384x128x4_4_5_2_24_013_013 none X Y) transposes_S2x128x2x384x128x4_S2x128x2x4x128x384_0_1_2_5_4_3) (broadcastInDim S2x128x2x4x128x384 ![0, 1, 2, 3, 4, 5] bcast_S1x1x2x4x128x384_S2x128x2x4x128x384_0_1_2_3_4_5 (broadcastInDim S1x1x2x4x128x384 ![2, 3, 4, 5] bcast_S2x4x128x384_S1x1x2x4x128x384_2_3_4_5 (transpose S2x4x128x384 [2, 3, 0, 1] (shapeCast _ B shapeCasts_S128x384x8_S128x384x2x4) transposes_S128x384x2x4_S2x4x128x384_2_3_0_1)))) (broadcastInDim S2x128x2x4x128x384 ![] bcast_S_S2x128x2x4x128x384 (id (constant S_ .f32 0xFF800000#32))) : FVec Ideal S2x128x2x4x128x384 .f32) (ix6 b n g h q k)
      = Scalar.select (M (ix3 n q k)) ((∑ e : Fin 64, X (ix5 b n k g e) * Y (ix6 b n q g h e)) + B (ix3 q k ⟨g.val * 4 + h.val, by omega⟩)) ⊥ := by
  pointwise
  exact congrArg _ neg_inf

theorem meta_apply (X : FVec Ideal S16x2x64 .f32) (Y : FVec Ideal S2x128x128x2x4x64 .f32) (B : FVec Ideal S128x128x16x8 .f32)
    (b : Fin 2) (n : Fin 128) (g : Fin 2) (h : Fin 4) (q : Fin 128) (k : Fin 16) :
    (addf (transpose S2x128x2x4x128x16 [2, 3, 0, 5, 4, 1] (Host.dotGeneral dot_S16x2x64_S2x128x128x2x4x64_S2x16x2x128x128x4_2_5_0_0124_1_3 none X Y) transposes_S2x16x2x128x128x4_S2x128x2x4x128x16_2_3_0_5_4_1) (broadcastInDim S2x128x2x4x128x16 ![0, 1, 2, 3, 4, 5] bcast_S1x128x2x4x128x16_S2x128x2x4x128x16_0_1_2_3_4_5 (broadcastInDim S1x128x2x4x128x16 ![1, 2, 3, 4, 5] bcast_S128x2x4x128x16_S1x128x2x4x128x16_1_2_3_4_5 (transpose S128x2x4x128x16 [0, 3, 4, 1, 2] (shapeCast _ B shapeCasts_S128x128x16x8_S128x128x16x2x4) transposes_S128x128x16x2x4_S128x2x4x128x16_0_3_4_1_2))) : FVec Ideal S2x128x2x4x128x16 .f32) (ix6 b n g h q k)
      = (∑ e : Fin 64, X (ix3 k g e) * Y (ix6 b n q g h e)) + B (ix4 n q k ⟨g.val * 4 + h.val, by omega⟩) := by
  pointwise

theorem joined_row (X : FVec Ideal S2x128x2x4x128x384 .f32) (Y : FVec Ideal S2x128x2x4x128x16 .f32) (Z : FVec Ideal S2x128x2x4x128x1 .f32) (hc)
    (b : Fin 2) (n : Fin 128) (g : Fin 2) (h : Fin 4) (q : Fin 128) (k : Fin 401) :
    (concatenate S2x128x2x4x128x401 5 [⟨S2x128x2x4x128x384, X⟩, ⟨S2x128x2x4x128x16, Y⟩, ⟨S2x128x2x4x128x1, Z⟩] hc : FVec Ideal S2x128x2x4x128x401 .f32) (ix6 b n g h q k)
      = row (fun j => X (ix6 b n g h q j)) (fun j => Y (ix6 b n g h q j)) (Z (ix6 b n g h q 0)) k := by
  unfold row
  pointwise
  split
  · rfl
  · split
    · rw [dif_pos (by omega)]
    · rw [dif_neg (by omega)]
      exact congrArg (fun i => Z (ix6 b n g h q i)) (Subsingleton.elim _ _)

/-! ## The softmax -/

theorem max_apply (X : FVec Ideal S2x128x2x4x128x401 .f32) (b : Fin 2) (n : Fin 128) (g : Fin 2) (h : Fin 4) (q : Fin 128) :
    Host.reduce (FloatOps.maximumf (F := Ideal) (φ := .f32)) X (constant S_ .f32 0xFF800000#32) reducesTo_S2x128x2x4x128x401_S2x128x2x4x128_d5 h_S_ (ix5 b n g h q)
      = peak fun k => X (ix6 b n g h q k) := by
  rw [hostReduce_maximumf_eq_multiReduction X _ reducesTo_S2x128x2x4x128x401_S2x128x2x4x128_d5 h_S_ (by decide) (by decide) (by decide),
    Ideal.multiReduction_maximumf_single]
  unfold peak
  refine (congrArg (fun z => Finset.fold max z _ _) neg_inf).trans ?_
  refine congrArg (fun f => Finset.fold max ⊥ f Finset.univ) (funext fun k => ?_)
  exact congrArg X (funext fun a => Fin.ext (by match a with | ⟨0, _⟩ => rfl | ⟨1, _⟩ => rfl | ⟨2, _⟩ => rfl | ⟨3, _⟩ => rfl | ⟨4, _⟩ => rfl | ⟨5, _⟩ => rfl))

theorem sum_apply (X : FVec Ideal S2x128x2x4x128x401 .f32) (b : Fin 2) (n : Fin 128) (g : Fin 2) (h : Fin 4) (q : Fin 128) :
    Host.reduceAdd X (constant S_ .f32 0x00000000#32) reducesTo_S2x128x2x4x128x401_S2x128x2x4x128_d5 h_S_ (ix5 b n g h q)
      = ∑ k : Fin 401, X (ix6 b n g h q k) := by
  simp only [Host.reduceAdd, Ideal.hostReduceAdd_def]
  rw [Ideal.hostReduceAdd_single reducesTo_S2x128x2x4x128x401_S2x128x2x4x128_d5 (by decide)]
  refine (congrArg (· + _) (show _ = (0 : EReal) by pointwise)).trans ((zero_add _).trans (Finset.sum_congr rfl fun k _ => ?_))
  exact congrArg X (funext fun a => Fin.ext (by match a with | ⟨0, _⟩ => rfl | ⟨1, _⟩ => rfl | ⟨2, _⟩ => rfl | ⟨3, _⟩ => rfl | ⟨4, _⟩ => rfl | ⟨5, _⟩ => rfl))

theorem exp_apply (X : FVec Ideal S2x128x2x4x128x401 .f32) (Y : FVec Ideal S2x128x2x4x128 .f32) (b : Fin 2) (n : Fin 128) (g : Fin 2) (h : Fin 4) (q : Fin 128) (k : Fin 401) :
    (Host.exp (subf X (broadcastInDim S2x128x2x4x128x401 ![0, 1, 2, 3, 4, 5] bcast_S2x128x2x4x128x1_S2x128x2x4x128x401_0_1_2_3_4_5 (broadcastInDim S2x128x2x4x128x1 ![0, 1, 2, 3, 4] bcast_S2x128x2x4x128_S2x128x2x4x128x1_0_1_2_3_4 (maximumf (broadcastInDim S2x128x2x4x128 ![] bcast_S_S2x128x2x4x128 (constant S_ .f32 0xFF800000#32)) Y)))) : FVec Ideal S2x128x2x4x128x401 .f32) (ix6 b n g h q k)
      = Ideal.exp (X (ix6 b n g h q k) - max ⊥ (Y (ix5 b n g h q))) := by
  pointwise
  rw [neg_inf]

theorem div_apply (X : FVec Ideal S2x128x2x4x128x401 .f32) (Y : FVec Ideal S2x128x2x4x128 .f32) (b : Fin 2) (n : Fin 128) (g : Fin 2) (h : Fin 4) (q : Fin 128) (k : Fin 401) :
    (Host.divf X (broadcastInDim S2x128x2x4x128x401 ![0, 1, 2, 3, 4, 5] bcast_S2x128x2x4x128x1_S2x128x2x4x128x401_0_1_2_3_4_5 (broadcastInDim S2x128x2x4x128x1 ![0, 1, 2, 3, 4] bcast_S2x128x2x4x128_S2x128x2x4x128x1_0_1_2_3_4 Y)) : FVec Ideal S2x128x2x4x128x401 .f32) (ix6 b n g h q k)
      = Ideal.div (X (ix6 b n g h q k)) (Y (ix5 b n g h q)) := by
  pointwise

/-! ## The result -/

theorem out_apply (X : FVec Ideal S2x128x384x2x64 .f32) (Y : FVec Ideal S16x2x64 .f32) (Q : FVec Ideal S2x128x2x4x128x401 .f32) (b : Fin 2) (n : Fin 128) (g : Fin 2) (h : Fin 4) (q : Fin 128) (d : Fin 64) :
    (addf (transpose S2x128x128x2x4x64 [0, 1, 5, 2, 4, 3] (Host.dotGeneral dot_S2x128x384x2x64_S2x128x2x4x128x384_S2x128x2x64x4x128_2_5_4_34_013_012 none X (extractStridedSlice S2x128x2x4x128x384 ![0, 0, 0, 0, 0, 0] Q slices_S2x128x2x4x128x401_S2x128x2x4x128x384_0_0_0_0_0_0)) transposes_S2x128x2x64x4x128_S2x128x128x2x4x64_0_1_5_2_4_3) (transpose S2x128x128x2x4x64 [2, 3, 5, 0, 4, 1] (Host.dotGeneral dot_S16x2x64_S2x128x2x4x128x16_S2x64x2x128x4x128_0_5_2_0134_1_2 none Y (extractStridedSlice S2x128x2x4x128x16 ![0, 0, 0, 0, 0, 384] Q slices_S2x128x2x4x128x401_S2x128x2x4x128x16_0_0_0_0_0_384)) transposes_S2x64x2x128x4x128_S2x128x128x2x4x64_2_3_5_0_4_1) : FVec Ideal S2x128x128x2x4x64 .f32) (ix6 b n q g h d)
      = (∑ k : Fin 384, X (ix5 b n k g d) * Q (ix6 b n g h q ⟨k.val, by omega⟩)) + ∑ j : Fin 16, Y (ix3 j g d) * Q (ix6 b n g h q ⟨384 + j.val, by omega⟩) := by
  pointwise

/-! ## The mask -/

theorem near_word : ∀ (q : Fin 128) (k : Fin 384),
    IntOp.cmpi .sle (IntOp.absi (IntOp.subi (IntOp.subi (BitVec.ofNat 32 k.val) 128#32) (BitVec.ofNat 32 q.val))) 128#32
      = if Near q k then 1#1 else 0#1 := by
  decide +kernel

theorem inside_word : ∀ (n : Fin 128) (k : Fin 384),
    IntOp.andi (IntOp.cmpi .sge (IntOp.subi (IntOp.addi (IntOp.muli (BitVec.ofNat 32 n.val) 128#32) (BitVec.ofNat 32 k.val)) 128#32) 0#32)
        (IntOp.cmpi .slt (IntOp.subi (IntOp.addi (IntOp.muli (BitVec.ofNat 32 n.val) 128#32) (BitVec.ofNat 32 k.val)) 128#32) 16384#32)
      = if Inside n k then 1#1 else 0#1 := by
  decide +kernel

/-- The mask keeps the positions of the sequence within 128 of the query. -/
theorem mask_apply (n q : Fin 128) (k : Fin 384) :
    (andi (broadcastInDim S128x128x384 ![0, 1, 2] bcast_S1x128x384_S128x128x384_0_1_2 (broadcastInDim S1x128x384 ![1, 2] bcast_S128x384_S1x128x384_1_2 (cmpi .sle (absi (res_main_v30 V0)) (broadcastInDim S128x384 ![] bcast_S_S128x384 (constantI S_ 32 128#32))))) (broadcastInDim S128x128x384 ![0, 1, 2] bcast_S128x1x384_S128x128x384_0_1_2 (broadcastInDim S128x1x384 ![0, 2] bcast_S128x384_S128x1x384_0_2 (andi (cmpi .sge (res_main_v39 V0) (broadcastInDim S128x384 ![] bcast_S_S128x384 (constantI S_ 32 0#32))) (cmpi .slt (res_main_v39 V0) (broadcastInDim S128x384 ![] bcast_S_S128x384 (constantI S_ 32 16384#32)))))) : IVec S128x128x384 1) (ix3 n q k)
      = if Near q k ∧ Inside n k then 1#1 else 0#1 := by
  pointwise [res_main_v30, res_main_v39, res_main_v21, res_main_v22, res_main_v23]
  rw [near_word, inside_word]
  by_cases h : Near q k <;> by_cases h' : Inside n k <;> simp [h, h', IntOp.andi]

/-! ## The whole reference -/

/-- The position biases the program reads for the band, by row, band position and head. -/
def bandBias : FVec Ideal S128x384x8 .f32 :=
  Host.gather gather_S32x8_S128x384x1_S128x384x8_2_0_n_n_0_2_18 (T V0) (broadcastInDim S128x384x1 ![0, 1] bcast_S128x384_S128x384x1_0_1 (select (cmpi .slt (res_main_v76 V0) (broadcastInDim S128x384 ![] bcast_S_S128x384 (constantI S_ 32 0#32))) (addi (res_main_v76 V0) (broadcastInDim S128x384 ![] bcast_S_S128x384 (constantI S_ 32 32#32))) (res_main_v76 V0)))

/-- The position biases the program reads for the meta tokens, by block, row, token and head. -/
def metaBias : FVec Ideal S128x128x16x8 .f32 :=
  Host.gather gather_S32x8_S128x128x16x1_S128x128x16x8_3_0_n_n_0_3_18 (T V0) (broadcastInDim S128x128x16x1 ![0, 1, 2] bcast_S128x128x16_S128x128x16x1_0_1_2 (select (cmpi .slt (res_main_v124 V0) (broadcastInDim S128x128x16 ![] bcast_S_S128x128x16 (constantI S_ 32 0#32))) (addi (res_main_v124 V0) (broadcastInDim S128x128x16 ![] bcast_S_S128x128x16 (constantI S_ 32 32#32))) (res_main_v124 V0)))

abbrev fP : Fin 2 → Fin 16384 → Fin 5376 → EReal := fun b i c => P V0 (ix3 b i c)
abbrev fW : Fin 16 → Fin 5376 → EReal := fun j c => W V0 (ix2 j c)
abbrev fA : Fin 128 → Fin 384 → Fin 8 → EReal := fun r k H => bandBias V0 (ix3 r k H)
abbrev fG : Fin 128 → Fin 128 → Fin 16 → Fin 8 → EReal := fun n r j H => metaBias V0 (ix4 n r j H)
abbrev fZ : Fin 8 → EReal := fun H => K V0 (ix2 0 H)

theorem joined_k (b : Fin 2) (n : Fin 128) (k : Fin 384) (g : Fin 2) (e : Fin 64) :
    joined (res_main_v10 V0) (ix5 b n k g e) = band (fP V0) b n k ⟨5120 + (g.val * 64 + e.val), by omega⟩ := by
  rw [joined_apply, k_apply]
  unfold band
  have e1 : (n.val + k.val / 128) * 128 + k.val % 128 = n.val * 128 + k.val := by omega
  by_cases h : Inside n k
  · have h1 := h.1
    have h2 := h.2
    rw [dif_pos h, dif_pos (by dsimp only; omega)]
    exact congrArg (fun i => P V0 (ix3 b i _)) (Fin.ext (by dsimp only; omega))
  · rw [dif_neg h, dif_neg (by dsimp only; unfold Inside at h; omega)]

theorem joined_v (b : Fin 2) (n : Fin 128) (k : Fin 384) (g : Fin 2) (e : Fin 64) :
    joined (res_main_v16 V0) (ix5 b n k g e) = band (fP V0) b n k ⟨5248 + (g.val * 64 + e.val), by omega⟩ := by
  rw [joined_apply, v_apply]
  unfold band
  have e1 : (n.val + k.val / 128) * 128 + k.val % 128 = n.val * 128 + k.val := by omega
  by_cases h : Inside n k
  · have h1 := h.1
    have h2 := h.2
    rw [dif_pos h, dif_pos (by dsimp only; omega)]
    exact congrArg (fun i => P V0 (ix3 b i _)) (Fin.ext (by dsimp only; omega))
  · rw [dif_neg h, dif_neg (by dsimp only; unfold Inside at h; omega)]

/-- The pair of a head: its group and its place in the group. -/
theorem pair (H : Fin 8) (g : Fin 2) (h : Fin 4) (e : H.val = g.val * 4 + h.val) : H.val / 4 = g.val := by omega

/-- One query's row of scores is the band's, the meta tokens' and the sink's. -/
theorem row_apply (b : Fin 2) (n : Fin 128) (g : Fin 2) (h : Fin 4) (q : Fin 128) (H : Fin 8) (hH : H.val = g.val * 4 + h.val) (k : Fin 401) :
    (res_main_v154 V0 : FVec Ideal S2x128x2x4x128x401 .f32) (ix6 b n g h q k)
      = row (score (fP V0) (fA V0) b n q H) (metaScore (fP V0) (fW V0) (fG V0) b n q H) (fZ V0 H) k := by
  have hg : H.val / 4 = g.val := pair H g h hH
  unfold res_main_v154
  refine (joined_row _ _ _ _ b n g h q k).trans ?_
  congr 1
  · funext j
    refine (band_apply _ (joined (res_main_v10 V0)) _ (bandBias V0) b n g h q j).trans ?_
    rw [mask_apply]
    unfold score
    by_cases hm : Near q j ∧ Inside n j
    · rw [if_pos hm, if_pos hm]
      refine congrArg₂ (· + ·) (Finset.sum_congr rfl fun e _ => ?_) (congrArg (fun i => bandBias V0 (ix3 q j i)) (Fin.ext hH.symm))
      rw [joined_k, q_apply, mul_comm]
      congr 2
      · exact congrArg (ix3 b _) (Fin.ext (by dsimp only; omega))
      · exact Fin.ext (by dsimp only; omega)
    · rw [if_neg hm, if_neg hm]
      rfl
  · funext j
    refine (meta_apply _ _ (metaBias V0) b n g h q j).trans ?_
    unfold metaScore
    refine congrArg₂ (· + ·) (Finset.sum_congr rfl fun e _ => ?_) (congrArg (fun i => metaBias V0 (ix4 n q j i)) (Fin.ext hH.symm))
    rw [q_apply, mul_comm]
    congr 1
    · exact congrArg (fun i => P V0 (ix3 b _ i)) (Fin.ext (by dsimp only; omega))
    · pointwise [res_main_v1]
      exact congrArg (fun i => W V0 (ix2 j i)) (Fin.ext (by dsimp only; omega))
  · pointwise
    exact congrArg (fun i => K V0 (ix2 0 i)) (Fin.ext hH.symm)

end Cert.WaRef
end
-- ==== Proof.WaTables.lean ====
module

public import proofs.«01_k».proof.Proof.WaBlocks
public import proofs.«01_k».proof.Proof.WaRef

@[expose] public section

/-!
# The bias tables the windowed attention's host fills are the reference's
-/

noncomputable section

namespace Cert.WaTables

open Idealize.ShloMosaic Idealize.ShloMosaic.TcCoe Idealize.SL.Sem Idealize.ShloMosaic.StableHlo
open scoped BigOperators
open Cert.WaKernelIdeal Cert.WaKernelIdeal.Gen Cert.WaKernelIdeal.Value Cert.WaMath Cert.WaSpec Cert.WaBlocks

variable (m : (ℓ : Loc nD τ sig) → Buf (Elt Ideal) ℓ)
variable (c : Dev nD)

variable (V0 : Valuation Cert.WaReferenceIdeal.τ Cert.WaReferenceIdeal.sig (Elt Ideal))
variable (hT : WaRef.T V0 = (m ((c : Thread nD τ).loc main_arg2) : Vec Ideal S32x8 .f32))

include hT in
/-- The meta tokens' table the kernel reads, against the reference's. -/
theorem meta_table (n : Fin 128) (H : Fin 8) (r : Fin 128) (j : Fin 16) :
    (V m c main_v111 : FVec Ideal S128x8x128x16 .f32) (ix4 n H r j) = WaRef.metaBias V0 (ix4 n r j H) := by
  unfold V
  after_reads_at
  unfold WaRef.metaBias
  rw [hT]
  rfl

theorem minus_inf : (constant S_ FTy.f32 4286578688#32 : FVec Ideal S_ .f32) ix0 = ⊥ := WaRef.neg_inf

include hT in
/-- The bias table of the first block. -/
theorem table_first (H : Fin 8) (r : Fin 128) (k : Fin 384) :
    (V m c main_v63 : FVec Ideal S3x8x128x384 .f32) (ix4 0 H r k)
      = if Near r k ∧ 128 ≤ k.val then WaRef.bandBias V0 (ix3 r k H) else ⊥ := by
  unfold V
  after_reads_at
  after_reads_at
  generalize hg : Host.gather _ _ _ = G
  have hG : G = WaRef.bandBias V0 := by
    rw [← hg]
    unfold WaRef.bandBias
    rw [hT]
    rfl
  clear hg
  subst hG
  rw [WaRef.near_word]
  generalize hw : IntOp.cmpi CmpIPredicate.ne (Scalar.select _ _ _) 0#32 = w
  have hw' : w = if 128 ≤ k.val then 1#1 else 0#1 := by
    rw [← hw]
    clear hw hT w
    revert k
    decide +kernel
  rw [hw']
  by_cases h : Near r k <;> by_cases h' : 128 ≤ k.val <;> simp [h, h', IntOp.andi, Scalar.select, minus_inf]

include hT in
/-- The bias table of the every middle block. -/
theorem table_middle (H : Fin 8) (r : Fin 128) (k : Fin 384) :
    (V m c main_v63 : FVec Ideal S3x8x128x384 .f32) (ix4 1 H r k)
      = if Near r k then WaRef.bandBias V0 (ix3 r k H) else ⊥ := by
  unfold V
  after_reads_at
  after_reads_at
  generalize hg : Host.gather _ _ _ = G
  have hG : G = WaRef.bandBias V0 := by
    rw [← hg]
    unfold WaRef.bandBias
    rw [hT]
    rfl
  clear hg
  subst hG
  rw [WaRef.near_word]
  by_cases h : Near r k <;> simp [h, Scalar.select, minus_inf]

include hT in
/-- The bias table of the last block. -/
theorem table_last (H : Fin 8) (r : Fin 128) (k : Fin 384) :
    (V m c main_v63 : FVec Ideal S3x8x128x384 .f32) (ix4 2 H r k)
      = if Near r k ∧ k.val < 256 then WaRef.bandBias V0 (ix3 r k H) else ⊥ := by
  unfold V
  after_reads_at
  after_reads_at
  generalize hg : Host.gather _ _ _ = G
  have hG : G = WaRef.bandBias V0 := by
    rw [← hg]
    unfold WaRef.bandBias
    rw [hT]
    rfl
  clear hg
  subst hG
  rw [WaRef.near_word]
  generalize hw : IntOp.cmpi CmpIPredicate.ne (Scalar.select _ _ _) 2#32 = w
  have hw' : w = if k.val < 256 then 1#1 else 0#1 := by
    rw [← hw]
    clear hw hT w
    revert k
    decide +kernel
  rw [hw']
  by_cases h : Near r k <;> by_cases h' : k.val < 256 <;> simp [h, h', IntOp.andi, Scalar.select, minus_inf]

end Cert.WaTables
end
-- ==== Proof.WaRefResult.lean ====
module

public import proofs.«01_k».proof.Proof.WaRef

@[expose] public section

/-!
# The windowed attention's reference is the attention of every query
-/

noncomputable section

namespace Cert.WaRef

open Idealize.ShloMosaic Idealize.ShloMosaic.TcCoe Idealize.SL.Sem Idealize.ShloMosaic.StableHlo
open scoped BigOperators
open Cert.WaReferenceIdeal Cert.WaReferenceIdeal.Gen Cert.WaReferenceIdeal.Value Cert.WaMath Cert.WaSpec

variable (V0 : Valuation τ sig (Elt Ideal))

/-- The weights of a row before division. -/
theorem weight_apply (b : Fin 2) (n : Fin 128) (g : Fin 2) (h : Fin 4) (q : Fin 128) (H : Fin 8) (hH : H.val = g.val * 4 + h.val) (k : Fin 401) :
    (res_main_v161 V0 : FVec Ideal S2x128x2x4x128x401 .f32) (ix6 b n g h q k)
      = Ideal.exp (row (score (fP V0) (fA V0) b n q H) (metaScore (fP V0) (fW V0) (fG V0) b n q H) (fZ V0 H) k
        - max ⊥ (peak (row (score (fP V0) (fA V0) b n q H) (metaScore (fP V0) (fW V0) (fG V0) b n q H) (fZ V0 H)))) := by
  unfold res_main_v161
  refine (exp_apply _ _ b n g h q k).trans ?_
  rw [max_apply]
  simp only [row_apply V0 b n g h q H hH]

/-- The weights of a row. -/
theorem softmax_apply (b : Fin 2) (n : Fin 128) (g : Fin 2) (h : Fin 4) (q : Fin 128) (H : Fin 8) (hH : H.val = g.val * 4 + h.val) (k : Fin 401) :
    (res_main_v165 V0 : FVec Ideal S2x128x2x4x128x401 .f32) (ix6 b n g h q k)
      = Ideal.div ((res_main_v161 V0 : FVec Ideal S2x128x2x4x128x401 .f32) (ix6 b n g h q k))
        (∑ j, (res_main_v161 V0 : FVec Ideal S2x128x2x4x128x401 .f32) (ix6 b n g h q j)) := by
  unfold res_main_v165
  refine (div_apply _ _ b n g h q k).trans ?_
  rw [sum_apply]

/-- The weighted values, as the program composes them. -/
def combined (X : FVec Ideal S2x128x384x2x64 .f32) (Y : FVec Ideal S16x5376 .f32) (Q : FVec Ideal S2x128x2x4x128x401 .f32) : FVec Ideal S2x16384x512 .bf16 :=
  truncf .bf16 (shapeCast _ (addf (transpose S2x128x128x2x4x64 [0, 1, 5, 2, 4, 3] (Host.dotGeneral dot_S2x128x384x2x64_S2x128x2x4x128x384_S2x128x2x64x4x128_2_5_4_34_013_012 none X (extractStridedSlice S2x128x2x4x128x384 ![0, 0, 0, 0, 0, 0] Q slices_S2x128x2x4x128x401_S2x128x2x4x128x384_0_0_0_0_0_0)) transposes_S2x128x2x64x4x128_S2x128x128x2x4x64_0_1_5_2_4_3) (transpose S2x128x128x2x4x64 [2, 3, 5, 0, 4, 1] (Host.dotGeneral dot_S16x2x64_S2x128x2x4x128x16_S2x64x2x128x4x128_0_5_2_0134_1_2 none (shapeCast _ (extractStridedSlice S16x128 ![0, 5248] Y slices_S16x5376_S16x128_0_5248) shapeCasts_S16x128_S16x2x64) (extractStridedSlice S2x128x2x4x128x16 ![0, 0, 0, 0, 0, 384] Q slices_S2x128x2x4x128x401_S2x128x2x4x128x16_0_0_0_0_0_384)) transposes_S2x64x2x128x4x128_S2x128x128x2x4x64_2_3_5_0_4_1)) shapeCasts_S2x128x128x2x4x64_S2x16384x512) bitsLt_bf16_f32

/-- The reference's result, as the program composes it. -/
def result : FVec Ideal S2x16384x512 .bf16 := combined (joined (res_main_v16 V0)) (res_main_v1 V0) (res_main_v165 V0)

theorem reshape_apply (X : FVec Ideal S2x128x128x2x4x64 .f32) (b : Fin 2) (n r : Fin 128) (H : Fin 8) (d : Fin 64) :
    (truncf .bf16 (shapeCast S2x16384x512 X shapeCasts_S2x128x128x2x4x64_S2x16384x512) bitsLt_bf16_f32 : FVec Ideal S2x16384x512 .bf16)
        (ix3 b ⟨n.val * 128 + r.val, by omega⟩ ⟨64 * H.val + d.val, by omega⟩)
      = X (ix6 b n r ⟨H.val / 4, by omega⟩ ⟨H.val % 4, by omega⟩ d) := by
  refine (show _ = shapeCast S2x16384x512 X shapeCasts_S2x128x128x2x4x64_S2x16384x512 _ from rfl).trans ?_
  refine shapeCast_apply X _ _ _ ?_
  rw [Shape.rowMajor_val_three, Shape.rowMajor_val_six]
  show ((((b.val * 128 + n.val) * 128 + r.val) * 2 + H.val / 4) * 4 + H.val % 4) * 64 + d.val
    = (b.val * 16384 + (n.val * 128 + r.val)) * 512 + (64 * H.val + d.val)
  omega

/-- The reference's result at an element is the windowed attention of its query. -/
theorem result_apply (b : Fin 2) (n r : Fin 128) (H : Fin 8) (d : Fin 64) :
    result V0 (ix3 b ⟨n.val * 128 + r.val, by omega⟩ ⟨64 * H.val + d.val, by omega⟩)
      = windowed (fP V0) (fW V0) (fA V0) (fG V0) (fZ V0) b n r H d := by
  have hH : H.val = (⟨H.val / 4, by omega⟩ : Fin 2).val * 4 + (⟨H.val % 4, by omega⟩ : Fin 4).val := by dsimp only; omega
  unfold result combined
  refine (reshape_apply _ b n r H d).trans ?_
  refine (out_apply _ _ _ b n _ _ r d).trans ?_
  unfold windowed attend
  refine congrArg₂ (· + ·) (Finset.sum_congr rfl fun k _ => ?_) (Finset.sum_congr rfl fun j _ => ?_)
  · rw [joined_v, softmax_apply V0 b n _ _ r H hH]
    simp only [weight_apply V0 b n _ _ r H hH]
    refine congrArg₂ (· * ·) (congrArg (band (fP V0) b n k) (Fin.ext (by dsimp only; omega))) rfl
  · rw [softmax_apply V0 b n _ _ r H hH]
    simp only [weight_apply V0 b n _ _ r H hH]
    refine congrArg₂ (· * ·) ?_ rfl
    pointwise [res_main_v1]
    exact congrArg (fun i => W V0 (ix2 j i)) (Fin.ext (by dsimp only; omega))

end Cert.WaRef
end
-- ==== Proof.WaValue.lean ====
module

public import proofs.«01_k».proof.Proof.WaTables
public import proofs.«01_k».proof.Proof.WaRefResult

@[expose] public section

/-!
# The windowed attention's kernel computes the reference's result

From equal and finite arguments. Where a position lies outside the sequence the kernel's bias is minus infinity,
so that its score is, and its weight zero, whatever the block read there.
-/

noncomputable section

namespace Cert.WaValue

open Idealize.ShloMosaic Idealize.ShloMosaic.TcCoe Idealize.SL.Sem Idealize.ShloMosaic.StableHlo
open scoped BigOperators
open Cert.WaKernelIdeal Cert.WaKernelIdeal.Gen Cert.WaKernelIdeal.Value Cert.WaMath Cert.WaSpec Cert.WaBlocks

/-! ## Scores -/

/-- Neither infinity. -/
def Finite (x : EReal) : Prop := x ≠ ⊤ ∧ x ≠ ⊥

theorem mul_ne_top {x y : EReal} (hx : Finite x) (hy : Finite y) : x * y ≠ ⊤ := by
  lift x to ℝ using hx
  lift y to ℝ using hy
  rw [← EReal.coe_mul]
  exact EReal.coe_ne_top _

theorem dot_ne_top {f g : Fin 64 → EReal} (hf : ∀ e, Finite (f e)) (hg : ∀ e, Finite (g e)) {a : EReal} (ha : Finite a) :
    (∑ e, f e * g e) + a ≠ ⊤ :=
  EReal.add_ne_top (sum_ne_top _ fun e => mul_ne_top (hf e) (hg e)) ha.1

section Score

variable (P : Fin 2 → Fin 16384 → Fin 5376 → EReal) (W : Fin 16 → Fin 5376 → EReal) (A : Fin 128 → Fin 384 → Fin 8 → EReal)
  (G : Fin 128 → Fin 128 → Fin 16 → Fin 8 → EReal)

theorem band_inside (b : Fin 2) (n : Fin 128) (k : Fin 384) (col : Fin 5376) (h : Inside n k) (i : Fin 16384)
    (hi : i.val = n.val * 128 + k.val - 128) : band P b n k col = P b i col := by
  unfold band
  rw [dif_pos h]
  exact congrArg (fun i => P b i col) (Fin.ext hi.symm)

theorem score_of (b : Fin 2) (n r : Fin 128) (H : Fin 8) (k : Fin 384) (i : Fin 16384)
    (hi : Inside n k → i.val = n.val * 128 + k.val - 128) :
    (∑ e : Fin 64, P b ⟨n.val * 128 + r.val, by omega⟩ ⟨2048 + (64 * H.val + e.val), by omega⟩
      * P b i ⟨5120 + (64 * (H.val / 4) + e.val), by omega⟩) + (if Near r k ∧ Inside n k then A r k H else ⊥)
    = score P A b n r H k := by
  unfold score
  by_cases h : Near r k ∧ Inside n k
  · rw [if_pos h, if_pos h]
    refine congrArg (· + A r k H) (Finset.sum_congr rfl fun e _ => ?_)
    rw [band_inside P b n k _ h.2 i (hi h.2)]
  · rw [if_neg h, if_neg h, EReal.add_bot]

variable (hP : ∀ b i col, Finite (P b i col)) (hW : ∀ j col, Finite (W j col)) (hA : ∀ r k H, Finite (A r k H))
  (hG : ∀ n r j H, Finite (G n r j H))

include hP in
theorem band_finite (b : Fin 2) (n : Fin 128) (k : Fin 384) (col : Fin 5376) : Finite (band P b n k col) := by
  unfold band
  split
  · exact hP _ _ _
  · exact ⟨EReal.zero_ne_top, EReal.zero_ne_bot⟩

include hP hA in
theorem score_ne_top (b : Fin 2) (n r : Fin 128) (H : Fin 8) (k : Fin 384) : score P A b n r H k ≠ ⊤ := by
  unfold score
  split
  · exact dot_ne_top (fun e => hP _ _ _) (fun e => band_finite P hP _ _ _ _) (hA _ _ _)
  · exact bot_ne_top

include hP hW hG in
theorem metaScore_ne_top (b : Fin 2) (n r : Fin 128) (H : Fin 8) (j : Fin 16) : metaScore P W G b n r H j ≠ ⊤ := by
  unfold metaScore
  exact dot_ne_top (fun e => hP _ _ _) (fun e => hW _ _) (hG _ _ _ _)

end Score

theorem pieced_congr {s0 s1 s2 v0 v1 v2 s0' s1' s2' v0' v1' v2' : Fin 128 → EReal} {b b' w w' : Fin 16 → EReal} {z z' : EReal}
    (h0 : ∀ j, s0 j = s0' j) (h1 : ∀ j, s1 j = s1' j) (h2 : ∀ j, s2 j = s2' j) (hb : ∀ j, b j = b' j) (hz : z = z')
    (g0 : ∀ j, v0 j = v0' j) (g1 : ∀ j, v1 j = v1' j) (g2 : ∀ j, v2 j = v2' j) (hw : ∀ j, w j = w' j) :
    pieced s0 s1 s2 b z v0 v1 v2 w = pieced s0' s1' s2' b' z' v0' v1' v2' w' := by
  obtain rfl := funext h0
  obtain rfl := funext h1
  obtain rfl := funext h2
  obtain rfl := funext hb
  obtain rfl := hz
  obtain rfl := funext g0
  obtain rfl := funext g1
  obtain rfl := funext g2
  obtain rfl := funext hw
  rfl

/-- The token the kernel reads at band position `k` of block `n`: the blocks before the first and after the last are
those themselves. -/
def token (n : Fin 128) (k : Fin 384) : Fin 16384 :=
  if h : k.val < 128 then ⟨(n.val - 1) * 128 + k.val, by omega⟩
  else if h' : k.val < 256 then ⟨n.val * 128 + (k.val - 128), by omega⟩
  else ⟨min (n.val + 1) 127 * 128 + (k.val - 256), by omega⟩

theorem token_first (n j : Fin 128) : token n ⟨128 * (0 : Fin 3).val + j.val, by simp; omega⟩ = ⟨(n.val - 1) * 128 + j.val, by omega⟩ := by
  unfold token
  apply Fin.ext
  simp

theorem token_middle (n j : Fin 128) : token n ⟨128 * (1 : Fin 3).val + j.val, by simp; omega⟩ = ⟨n.val * 128 + j.val, by omega⟩ := by
  unfold token
  apply Fin.ext
  have h : ¬ 128 * (1 : Fin 3).val + j.val < 128 := by simp
  have h' : 128 * (1 : Fin 3).val + j.val < 256 := by simp; omega
  rw [dif_neg h, dif_pos h']
  simp

theorem token_last (n j : Fin 128) : token n ⟨128 * (2 : Fin 3).val + j.val, by simp; omega⟩
    = ⟨min (n.val + 1) 127 * 128 + j.val, by omega⟩ := by
  unfold token
  apply Fin.ext
  have h : ¬ 128 * (2 : Fin 3).val + j.val < 128 := by simp; omega
  have h' : ¬ 128 * (2 : Fin 3).val + j.val < 256 := by simp
  rw [dif_neg h, dif_neg h']
  simp

theorem token_inside (n : Fin 128) (k : Fin 384) (h : Inside n k) : (token n k).val = n.val * 128 + k.val - 128 := by
  have h1 := h.1
  have h2 := h.2
  unfold token
  split
  · dsimp only; omega
  · split
    · dsimp only; omega
    · dsimp only; omega

variable (m : (ℓ : Loc nD τ sig) → Buf (Elt Ideal) ℓ)
variable (c : Dev nD)
variable (V0 : Valuation Cert.WaReferenceIdeal.τ Cert.WaReferenceIdeal.sig (Elt Ideal))
variable (hT : WaRef.T V0 = (m ((c : Thread nD τ).loc main_arg2) : Vec Ideal S32x8 .f32))

include hT in
/-- The bias table of a block: the position's bias within 128 of the query and inside the sequence. -/
theorem table (n : Fin 128) (H : Fin 8) (r : Fin 128) (k : Fin 384) :
    (V m c main_v63 : FVec Ideal S3x8x128x384 .f32) (ix4 (kind n.val) H r k)
      = if Near r k ∧ Inside n k then WaRef.bandBias V0 (ix3 r k H) else ⊥ := by
  have first := WaTables.table_first m c V0 hT H r k
  have middle := WaTables.table_middle m c V0 hT H r k
  have last := WaTables.table_last m c V0 hT H r k
  generalize (V m c main_v63 : FVec Ideal S3x8x128x384 .f32) = X at *
  generalize WaRef.bandBias V0 (ix3 r k H) = a at *
  by_cases h0 : n.val = 0
  · have e : kind n.val = 0 := by unfold kind; rw [if_pos h0]
    rw [e, first]
    exact if_congr (and_congr_right fun _ => by unfold Inside; omega) rfl rfl
  · by_cases h1 : n.val = 127
    · have e : kind n.val = 2 := by unfold kind; rw [if_neg h0, if_pos h1]
      rw [e, last]
      exact if_congr (and_congr_right fun _ => by unfold Inside; omega) rfl rfl
    · have e : kind n.val = 1 := by unfold kind; rw [if_neg h0, if_neg h1]
      rw [e, middle]
      exact if_congr ⟨fun h => ⟨h, by unfold Inside; omega⟩, And.left⟩ rfl rfl

variable (hP0 : WaRef.P V0 = proj m c) (hW0 : WaRef.W V0 = metaProj m c)
  (hK : WaRef.K V0 = (m ((c : Thread nD τ).loc main_arg3) : Vec Ideal S1x8 .f32))
variable (fin0 : ∀ i, Finite (WaRef.P V0 i)) (fin1 : ∀ i, Finite (WaRef.W V0 i)) (fin2 : ∀ i, Finite (WaRef.T V0 i))
  (fin3 : ∀ i, Finite (WaRef.K V0 i))

include fin2 in
theorem bandBias_finite (r : Fin 128) (k : Fin 384) (H : Fin 8) : Finite (WaRef.fA V0 r k H) := fin2 _

include fin2 in
theorem metaBias_finite (n r : Fin 128) (j : Fin 16) (H : Fin 8) : Finite (WaRef.fG V0 n r j H) := fin2 _

include hT hP0 hW0 hK fin0 fin1 fin2 fin3 in
/-- What a grid point leaves in its block, at an element: the windowed attention of its query. -/
theorem point (t : Fin cfg0.N) (ht : t.val < 256) (r : Fin 128) (H : Fin 8) (d : Fin 64) :
    (outsAt0 m c t : Vec Ideal S1x128x512 .bf16) (ix3 0 r ⟨64 * H.val + d.val, by omega⟩)
      = windowed (WaRef.fP V0) (WaRef.fW V0) (WaRef.fA V0) (WaRef.fG V0) (WaRef.fZ V0) ⟨t.val % 2, by omega⟩ ⟨t.val / 2, by omega⟩ r H d := by
  have hq : ∀ e : Fin 64, (X0_1 m c t : Vec Ideal S1x128x512 .bf16) (ix3 0 r ⟨64 * H.val + e.val, by omega⟩)
      = WaRef.fP V0 ⟨t.val % 2, by omega⟩ ⟨t.val / 2 * 128 + r.val, by omega⟩ ⟨2048 + (64 * H.val + e.val), by omega⟩ :=
    fun e => (block1 m c t ht r _).trans ((Vproj m c _).trans (congrFun hP0 _).symm)
  have hi : ∀ k, score (WaRef.fP V0) (WaRef.fA V0) ⟨t.val % 2, by omega⟩ ⟨t.val / 2, by omega⟩ r H k = ⊥
      ∨ WaRef.fP V0 ⟨t.val % 2, by omega⟩ (token ⟨t.val / 2, by omega⟩ k) ⟨5248 + (64 * (H.val / 4) + d.val), by omega⟩
        = band (WaRef.fP V0) ⟨t.val % 2, by omega⟩ ⟨t.val / 2, by omega⟩ k ⟨5248 + (64 * (H.val / 4) + d.val), by omega⟩ := by
    intro k
    by_cases h : Inside ⟨t.val / 2, by omega⟩ k
    · exact Or.inr (band_inside _ _ _ _ _ h _ (token_inside _ _ h)).symm
    · refine Or.inl ?_
      unfold score
      rw [if_neg fun h' => h h'.2]
  rw [outs_apply]
  unfold blockOut windowed
  dsimp only
  refine Eq.trans (pieced_congr (fun j => ?_) (fun j => ?_) (fun j => ?_) (fun j => ?_) ?_ (fun j => ?_) (fun j => ?_) (fun j => ?_) (fun j => ?_))
    (pieced_eq _ _ _ _ (fun k => WaRef.fP V0 ⟨t.val % 2, by omega⟩ (token ⟨t.val / 2, by omega⟩ k) ⟨5248 + (64 * (H.val / 4) + d.val), by omega⟩) _
      (score_ne_top _ _ (fun _ _ _ => fin0 _) (bandBias_finite V0 fin2) _ _ _ _)
      (metaScore_ne_top _ _ _ (fun _ _ _ => fin0 _) (fun _ _ => fin1 _) (metaBias_finite V0 fin2) _ _ _ _)
      (fin3 _).1 (fin3 _).2 hi)
  · refine Eq.trans ?_ (score_of (WaRef.fP V0) (WaRef.fA V0) ⟨t.val % 2, by omega⟩ ⟨t.val / 2, by omega⟩ r H ⟨128 * (0 : Fin 3).val + j.val, by simp; omega⟩
      (token ⟨t.val / 2, by omega⟩ _) (token_inside _ _))
    rw [token_first]
    refine congrArg₂ (· + ·) (Finset.sum_congr rfl fun e _ => congrArg₂ (· * ·) (hq e)
      ((block2 m c t ht j _).trans ((Vproj m c _).trans (congrFun hP0 _).symm))) ?_
    refine (congrArg (fun k => (iblk m c 10 t : Vec Ideal S1x8x128x384 .f32) (ix4 0 H r k)) (Fin.ext (by simp))).trans
      ((block10 m c t H r _).trans (table m c V0 hT ⟨t.val / 2, by omega⟩ H r _))
  · refine Eq.trans ?_ (score_of (WaRef.fP V0) (WaRef.fA V0) ⟨t.val % 2, by omega⟩ ⟨t.val / 2, by omega⟩ r H ⟨128 * (1 : Fin 3).val + j.val, by simp; omega⟩
      (token ⟨t.val / 2, by omega⟩ _) (token_inside _ _))
    rw [token_middle]
    refine congrArg₂ (· + ·) (Finset.sum_congr rfl fun e _ => congrArg₂ (· * ·) (hq e)
      ((block3 m c t ht j _).trans ((Vproj m c _).trans (congrFun hP0 _).symm))) ?_
    refine (congrArg (fun k => (iblk m c 10 t : Vec Ideal S1x8x128x384 .f32) (ix4 0 H r k)) (Fin.ext (by simp))).trans
      ((block10 m c t H r _).trans (table m c V0 hT ⟨t.val / 2, by omega⟩ H r _))
  · refine Eq.trans ?_ (score_of (WaRef.fP V0) (WaRef.fA V0) ⟨t.val % 2, by omega⟩ ⟨t.val / 2, by omega⟩ r H ⟨128 * (2 : Fin 3).val + j.val, by simp; omega⟩
      (token ⟨t.val / 2, by omega⟩ _) (token_inside _ _))
    rw [token_last]
    refine congrArg₂ (· + ·) (Finset.sum_congr rfl fun e _ => congrArg₂ (· * ·) (hq e)
      ((block4 m c t j _).trans ((Vproj m c _).trans (congrFun hP0 _).symm))) ?_
    refine (congrArg (fun k => (iblk m c 10 t : Vec Ideal S1x8x128x384 .f32) (ix4 0 H r k)) (Fin.ext (by simp))).trans
      ((block10 m c t H r _).trans (table m c V0 hT ⟨t.val / 2, by omega⟩ H r _))
  · unfold metaScore
    refine congrArg₂ (· + ·) (Finset.sum_congr rfl fun e _ => congrArg₂ (· * ·) (hq e)
      ((block8 m c t j _).trans ((VmetaProj m c _).trans (congrFun hW0 _).symm))) ?_
    exact (block11 m c t ht H r j).trans (WaTables.meta_table m c V0 hT _ H r j)
  · exact (block0 m c t H).trans ((Vsink m c H).trans (congrFun hK _).symm)
  · refine Eq.trans ?_ (show WaRef.fP V0 ⟨t.val % 2, by omega⟩ (token ⟨t.val / 2, by omega⟩ ⟨128 * (0 : Fin 3).val + j.val, by simp; omega⟩)
      ⟨5248 + (64 * (H.val / 4) + d.val), by omega⟩ = _ from rfl)
    rw [token_first]
    exact (block5 m c t ht j _).trans ((Vproj m c _).trans (congrFun hP0 _).symm)
  · refine Eq.trans ?_ (show WaRef.fP V0 ⟨t.val % 2, by omega⟩ (token ⟨t.val / 2, by omega⟩ ⟨128 * (1 : Fin 3).val + j.val, by simp; omega⟩)
      ⟨5248 + (64 * (H.val / 4) + d.val), by omega⟩ = _ from rfl)
    rw [token_middle]
    exact (block6 m c t ht j _).trans ((Vproj m c _).trans (congrFun hP0 _).symm)
  · refine Eq.trans ?_ (show WaRef.fP V0 ⟨t.val % 2, by omega⟩ (token ⟨t.val / 2, by omega⟩ ⟨128 * (2 : Fin 3).val + j.val, by simp; omega⟩)
      ⟨5248 + (64 * (H.val / 4) + d.val), by omega⟩ = _ from rfl)
    rw [token_last]
    exact (block7 m c t j _).trans ((Vproj m c _).trans (congrFun hP0 _).symm)
  · exact (block9 m c t j _).trans ((VmetaProj m c _).trans (congrFun hW0 _).symm)

include hT hP0 hW0 hK fin0 fin1 fin2 fin3 in
/-- The same, against the reference's result. -/
theorem point_result (t : Fin cfg0.N) (ht : t.val < 256) (r : Fin 128) (j : Fin 512) :
    (outsAt0 m c t : Vec Ideal S1x128x512 .bf16) (ix3 0 r j)
      = WaRef.result V0 (ix3 ⟨t.val % 2, by omega⟩ ⟨t.val / 2 * 128 + r.val, by omega⟩ j) := by
  obtain ⟨H, d, rfl⟩ : ∃ (H : Fin 8) (d : Fin 64), j = ⟨64 * H.val + d.val, by omega⟩ :=
    ⟨⟨j.val / 64, by omega⟩, ⟨j.val % 64, by omega⟩, Fin.ext (by dsimp only; omega)⟩
  exact (point m c V0 hT hP0 hW0 hK fin0 fin1 fin2 fin3 t ht r H d).trans
    (WaRef.result_apply V0 ⟨t.val % 2, by omega⟩ ⟨t.val / 2, by omega⟩ r H d).symm

include hT hP0 hW0 hK fin0 fin1 fin2 fin3 in
/-- After the run the kernel's output array is the reference's result. -/
theorem final : (dats m 0 c).arrAt 12 cfg0.N = WaRef.result V0 := by
  refine (dats m 0 c).arrAt_eq_of_covers 12 _ (by decide +kernel) fun t hf y => ?_
  have ht : t.val < 256 := t.isLt
  blk_simp
  rw [after0_12]
  idx_vars y
  obtain rfl : y0 = 0 := Subsingleton.elim _ _
  exact (point_result m c V0 hT hP0 hW0 hK fin0 fin1 fin2 fin3 t ht y1 y2).trans
    (congrArg (WaRef.result V0) (place12 t ht y1 y2).symm)

end Cert.WaValue
end
-- ==== Proof.WaClaim.lean ====
module

public import proofs.«01_k».proof.Defs
public import proofs.«01_k».proof.Proof.Gen.WaKernel.Frame
public import proofs.«01_k».proof.Proof.Gen.WaKernelIdeal.Value
public import proofs.«01_k».proof.Proof.Gen.WaReferenceIdeal.Run
public import proofs.«01_k».proof.Proof.WaValue
public import Idealize.ShloMosaic.Lib.Quiescent

@[expose] public section

/-!
# The claims about the windowed attention
-/

noncomputable section

namespace Cert.WaClaim

open Idealize.ShloMosaic Idealize.ShloMosaic.TcCoe Idealize.SL.Sem Idealize.ShloMosaic.StableHlo

/-- The side conditions of the precondition's program. -/
theorem facts_finite : Cert.Pre_finite.Facts where
  bitsLt_bf16_f32 := by decide
  bcast_S_S2x16384x5376 := by decide
  bcast_S_S16x5376 := by decide
  bcast_S_S32x8 := by decide
  bcast_S_S1x8 := by decide

instance : Cert.Pre_finite.Facts := facts_finite

/-- The windowed attention's kernel runs to its end and leaves its arguments as they were. -/
theorem frame_kernel : Cert.quiescent_WaKernel := fun m g _ => Cert.WaKernel.Gen.frame m g

/-- So does its idealization. -/
theorem frame_ideal : Cert.quiescent_WaKernelIdeal := fun m g _ => Cert.WaKernelIdeal.Gen.frame m g

/-- So does its idealization, from finite arguments. -/
theorem frame_ideal_finite : Cert.quiescent_WaKernelIdeal_pre_finite := fun m g _ => Cert.WaKernelIdeal.Gen.frame m g

/-- So does the reference. -/
theorem frame_reference : Cert.quiescent_WaReferenceIdeal := fun m g _ =>
  (θ_run Cert.WaReferenceIdeal.defs _ _).mono (fun r h => ⟨fun c => (h c).2, sem_eq_zero_of_no_sems (by decide) r.2⟩)
    (Cert.WaReferenceIdeal.Value.run (F := Ideal) m g)

/-- So does the reference, from finite arguments. -/
theorem frame_reference_finite : Cert.quiescent_WaReferenceIdeal_pre_finite := fun m g _ => frame_reference m g trivial

/-- A number whose absolute value is below infinity is neither infinity. -/
theorem finite_of {x : EReal} (h : Ideal.cmp .olt (max x (-x)) (Ideal.ofBits FTy.f32 0x7F800000#32) = 1#1) : WaValue.Finite x := by
  have e : Ideal.ofBits FTy.f32 0x7F800000#32 = ⊤ := by simp [Ideal.ofBits, Ideal.ieee]
  rw [e] at h
  constructor
  · rintro rfl
    simp [Ideal.cmp] at h
  · rintro rfl
    simp [Ideal.cmp] at h

/-- From equal and finite arguments the kernel's output array is the reference's result. -/
theorem final (m : (ℓ : Loc Cert.WaKernelIdeal.nD Cert.WaKernelIdeal.τ Cert.WaKernelIdeal.sig) → Buf (Elt Ideal) ℓ)
    (m' : (ℓ : Loc Cert.WaReferenceIdeal.nD Cert.WaReferenceIdeal.τ Cert.WaReferenceIdeal.sig) → Buf (Elt Ideal) ℓ)
    (hpre : Cert.Pre_WaKernelIdeal_finite m)
    (c : Dev Cert.WaKernelIdeal.nD)
    (h0 : m' ((c.tc : Thread Cert.WaReferenceIdeal.nD Cert.WaReferenceIdeal.τ).loc Cert.WaReferenceIdeal.main_arg0)
      = m ((c.tc : Thread Cert.WaKernelIdeal.nD Cert.WaKernelIdeal.τ).loc Cert.WaKernelIdeal.main_arg0))
    (h1 : m' ((c.tc : Thread Cert.WaReferenceIdeal.nD Cert.WaReferenceIdeal.τ).loc Cert.WaReferenceIdeal.main_arg1)
      = m ((c.tc : Thread Cert.WaKernelIdeal.nD Cert.WaKernelIdeal.τ).loc Cert.WaKernelIdeal.main_arg1))
    (h2 : m' ((c.tc : Thread Cert.WaReferenceIdeal.nD Cert.WaReferenceIdeal.τ).loc Cert.WaReferenceIdeal.main_arg2)
      = m ((c.tc : Thread Cert.WaKernelIdeal.nD Cert.WaKernelIdeal.τ).loc Cert.WaKernelIdeal.main_arg2))
    (h3 : m' ((c.tc : Thread Cert.WaReferenceIdeal.nD Cert.WaReferenceIdeal.τ).loc Cert.WaReferenceIdeal.main_arg3)
      = m ((c.tc : Thread Cert.WaKernelIdeal.nD Cert.WaKernelIdeal.τ).loc Cert.WaKernelIdeal.main_arg3)) :
    (Cert.WaKernelIdeal.Gen.dats m 0 c).arrAt 12 Cert.WaKernelIdeal.cfg0.N = WaRef.result (launchContents m' c) :=
  WaValue.final m c (launchContents m' c) h2 h0 h1 h3
    (fun i => (congrArg WaValue.Finite (congrFun h0 i)).mpr (finite_of (congrFun (hpre c).1 i)))
    (fun i => (congrArg WaValue.Finite (congrFun h1 i)).mpr (finite_of (congrFun (hpre c).2.1 i)))
    (fun i => (congrArg WaValue.Finite (congrFun h2 i)).mpr (finite_of (congrFun (hpre c).2.2.1 i)))
    (fun i => (congrArg WaValue.Finite (congrFun h3 i)).mpr (finite_of (congrFun (hpre c).2.2.2 i)))

/-- Over the extended reals, from finite arguments, the kernel's result is the reference's. -/
theorem algebraic : Cert.algebraic_WaKernelIdeal_WaReferenceIdeal_pre_finite := fun m g m' g' hpre h =>
  ⟨fun c => WaRef.result (launchContents m' c),
    (θ_run Cert.WaKernelIdeal.defs _ _).mono
      (fun r hr c => ⟨(hr c).1.trans (final m m' hpre c (h c).1 (h c).2.1 (h c).2.2.1 (h c).2.2.2), (hr c).2⟩)
      (Cert.WaKernelIdeal.Value.run_blocks (F := Ideal) m g),
    (θ_run Cert.WaReferenceIdeal.defs _ _).mono
      (fun r hr c => ⟨(hr c).1, (hr c).2⟩)
      (Cert.WaReferenceIdeal.Value.run (F := Ideal) m' g')⟩

end Cert.WaClaim
end
-- ==== Proof.NsValue.lean ====
module

public import proofs.«01_k».proof.Proof.NpValue
public import proofs.«01_k».proof.Proof.Gen.NsKernelIdeal.Value
public import proofs.«01_k».proof.Proof.Gen.NsReferenceIdeal.Read
public import Idealize.ShloMosaic.Lib.Pipeline.ValueKit
public import Idealize.ShloMosaic.Lib.StableHlo.ReadAt
public import Idealize.ShloMosaic.Lib.Pointwise
public import Idealize.ShloMosaic.Lib.Tactic

@[expose] public section

set_option maxRecDepth 16384

noncomputable section

namespace Cert.NsValue

open Idealize.ShloMosaic Idealize.ShloMosaic.TcCoe Idealize.SL.Sem
open scoped BigOperators
open Cert.NpValue (sum_mul_const eighth eighth_nonneg eighth_ne_top unorm wcol ranges proj)

/-! ## The kernel -/

section Kernel
open Cert.NsKernelIdeal Cert.NsKernelIdeal.Gen

variable (m : (ℓ : Loc nD τ sig) → Buf (Elt Ideal) ℓ)

/-- The kernel's normalized block. -/
theorem norm_apply (x : Vec Ideal S512x1024 .f32) (g : Vec Ideal S1x1024 .f32) (r : Fin 512) (k : Fin 1024) :
    k0_pay5 (F := Ideal) x g (ix2 r k) = unorm (fun l => x (ix2 r l)) (fun l => g (ix2 0 l)) k := by
  pointwise [k0_pay5]; rfl

/-- What a grid point leaves in its output block, at an element: a row of the normalized block times a column of the weights. -/
theorem out_apply (x0 : Vec Ideal S512x1024 .f32) (x1 : Vec Ideal S1x1024 .f32) (x2 : Vec Ideal S1024x5376 .bf16)
    (r : Fin 512) (j : Fin 5376) : out0_3 (F := Ideal) x0 x1 x2 (ix2 r j)
      = ∑ k, unorm (fun l => x0 (ix2 r l)) (fun l => x1 (ix2 0 l)) k * x2 (ix2 k j) := by
  unfold out0_3
  canon_tiles x h
  all_goals
    idx_vars x
    try simp only [k0_pay9]
    pointwise [k0_pay1, k0_pay2, k0_pay3, k0_pay4, k0_pay6, k0_pay7, k0_pay8]
    simp only [norm_apply]
    pointwise
    obtain rfl : r = _ := Fin.ext h0
    exact Finset.sum_congr rfl fun k _ => congrArg (fun a => _ * x2 (ix2 k a)) (Fin.ext (by dsimp only; omega))

/-- The rows of `x` as the kernel stages them. -/
theorem V12 (c : Dev nD) (r : Fin 65536) (k : Fin 1024) : (V m c main_v12 : Vec Ideal S65536x1024 .f32) (ix2 r k)
    = (m ((c : Thread nD τ).loc main_arg0) : Vec Ideal S16x4096x1024 .f32) (ix3 ⟨r.val / 4096, by omega⟩ ⟨r.val % 4096, by omega⟩ k) := by
  unfold V
  after_reads_at

/-- The gain as the kernel stages it. -/
theorem V14 (c : Dev nD) (k : Fin 1024) : (V m c main_v14 : Vec Ideal S1x1024 .f32) (ix2 0 k)
    = (m ((c : Thread nD τ).loc main_arg1) : Vec Ideal S1x1024 .f32) (ix2 0 k) := by
  unfold V
  after_reads_at

/-- The weights as the kernel stages them. -/
theorem V15 (c : Dev nD) (k : Fin 1024) (j : Fin 5376) : (V m c main_v15 : Vec Ideal S1024x5376 .bf16) (ix2 k j)
    = wcol (fun l => (m ((c : Thread nD τ).loc main_arg2) : Vec Ideal S1x1024x5376 .f32) (ix3 0 k l)) j := by
  unfold V
  after_reads_at
  after_reads_at
  show _ = wcol (fun l => (m (c, Proc.tc.devRef main_arg2) : Vec Ideal S1x1024x5376 .f32) (ix3 0 k l)) j
  generalize (m (c, Proc.tc.devRef main_arg2) : Vec Ideal S1x1024x5376 .f32) = W
  have e : ∀ a b : Fin 5376, a.val = b.val → W (ix3 0 k a) = W (ix3 0 k b) := fun a b h => by rw [Fin.ext h]
  unfold wcol
  have hj := ranges j
  rcases hj with hj | hj | hj | hj | hj | hj | hj
  all_goals simp (disch := omega) only [dif_pos, dif_neg]
  all_goals first
    | exact e _ _ (by dsimp only; omega)
    | exact congrArg (· * eighth) (e _ _ (by dsimp only; omega))

/-- The windows' block indices: the rows of `x` and of the result move with the grid point, the gain and the weights stay. -/
theorem idx : ∀ t : Fin cfg0.N, win0_0.index t = ![t.val, 0] ∧ win0_1.index t = ![0, 0] ∧ win0_2.index t = ![0, 0]
    ∧ win0_3.index t = ![t.val, 0] :=
  (by decide +kernel : ∀ t : Fin grid0.N, win0_0.index t = ![t.val, 0] ∧ win0_1.index t = ![0, 0] ∧ win0_2.index t = ![0, 0]
    ∧ win0_3.index t = ![t.val, 0])

/-- The whole result, element by element. -/
def result (c : Dev nD) : Vec Ideal S65536x5376 .bf16 := fun i =>
  proj (fun l => (m ((c : Thread nD τ).loc main_arg0) : Vec Ideal S16x4096x1024 .f32)
      (ix3 ⟨(i 0).val / 4096, by have h : (i 0).val < 65536 := (i 0).isLt; omega⟩ ⟨(i 0).val % 4096, by omega⟩ l))
    (fun l => (m ((c : Thread nD τ).loc main_arg1) : Vec Ideal S1x1024 .f32) (ix2 0 l))
    (fun k l => (m ((c : Thread nD τ).loc main_arg2) : Vec Ideal S1x1024x5376 .f32) (ix3 0 k l)) (i 1)

/-- The first window's block at a grid point: its rows of `x`. -/
theorem block0 (c : Dev nD) (t : Fin cfg0.N) (ht : t.val < 128) (r : Fin 512) (k : Fin 1024) :
    (iblk m c 0 t : Vec Ideal S512x1024 .f32) (ix2 r k)
      = (V m c main_v12 : Vec Ideal S65536x1024 .f32) (ix2 ⟨t.val * 512 + r.val, by omega⟩ k) := by
  blk_ext [iblk, idx t]

/-- The second window's block: the gain. -/
theorem block1 (c : Dev nD) (t : Fin cfg0.N) (k : Fin 1024) :
    (iblk m c 1 t : Vec Ideal S1x1024 .f32) (ix2 0 k) = (V m c main_v14 : Vec Ideal S1x1024 .f32) (ix2 0 k) := by
  blk_ext [iblk, idx t]

/-- The third window's block: the weights. -/
theorem block2 (c : Dev nD) (t : Fin cfg0.N) (k : Fin 1024) (j : Fin 5376) :
    (iblk m c 2 t : Vec Ideal S1024x5376 .bf16) (ix2 k j) = (V m c main_v15 : Vec Ideal S1024x5376 .bf16) (ix2 k j) := by
  blk_ext [iblk, idx t]

/-- The output window's block at a grid point: its rows of the result. -/
theorem place3 (t : Fin cfg0.N) (ht : t.val < 128) (r : Fin 512) (j : Fin 5376) :
    (win0_3.blk t).view.emb (ix2 r j : S512x5376.Idx) = (ix2 ⟨t.val * 512 + r.val, by omega⟩ j : S65536x5376.Idx) := by
  blk_ext [idx t]

/-- The result at an element named by its coordinates. -/
theorem result_apply (c : Dev nD) (r : Fin 65536) (j : Fin 5376) : result m c (ix2 r j : S65536x5376.Idx)
    = ∑ k, unorm (fun l => (m ((c : Thread nD τ).loc main_arg0) : Vec Ideal S16x4096x1024 .f32)
          (ix3 ⟨r.val / 4096, by omega⟩ ⟨r.val % 4096, by omega⟩ l))
        (fun l => (m ((c : Thread nD τ).loc main_arg1) : Vec Ideal S1x1024 .f32) (ix2 0 l)) k
      * wcol (fun l => (m ((c : Thread nD τ).loc main_arg2) : Vec Ideal S1x1024x5376 .f32) (ix3 0 k l)) j := rfl

/-- What a grid point leaves in its block, at an element: the result's element there. -/
theorem point (c : Dev nD) (t : Fin cfg0.N) (ht : t.val < 128) (r : Fin 512) (j : Fin 5376) :
    out0_3 (F := Ideal) (iblk m c 0 t) (iblk m c 1 t) (iblk m c 2 t) (ix2 r j)
      = result m c (ix2 ⟨t.val * 512 + r.val, by omega⟩ j : S65536x5376.Idx) := by
  rw [result_apply, out_apply]
  refine Finset.sum_congr rfl fun k _ => ?_
  exact congrArg₂ (· * ·)
    (congrArg₂ (fun a b => unorm a b k) (funext fun l => (block0 m c t ht r l).trans (V12 m c _ l))
      (funext fun l => (block1 m c t l).trans (V14 m c l)))
    ((block2 m c t k j).trans (V15 m c k j))

/-- After the run the kernel's output array is the result. -/
theorem final (c : Dev nD) : (dats m 0 c).arrAt 3 cfg0.N = result m c := by
  refine (dats m 0 c).arrAt_eq_of_covers 3 _ (by decide +kernel) fun t hf y => ?_
  have ht : t.val < 128 := t.isLt
  blk_simp
  rw [after0_3]
  idx_vars y
  exact (point m c t ht y0 y1).trans (congrArg (result m c) (place3 t ht y0 y1).symm)

end Kernel

section Ref
open Cert.NsReferenceIdeal Cert.NsReferenceIdeal.Read

theorem R13 (x0 : Vec Ideal S16x4096x1024 .f32) (x1 : Vec Ideal S1x1024 .f32) (b : Fin 16) (n : Fin 4096) (k : Fin 1024) :
   val_main_v13 (F := Ideal) x0 x1 (ix3 b n k) = unorm (fun l => x0 (ix3 b n l)) (fun l => x1 (ix2 0 l)) k := by
  unfold val_main_v13 val_main_v10 val_main_v12 val_main_v11 val_main_v0 val_main_v9 val_main_v8 val_main_v7 val_main_v6 val_main_v5 val_main_v4 val_main_v3 val_main_v2 val_main_v1 val_main_cst_1 val_main_cst_0 val_main_cst
  pointwise
  rfl

set_option maxHeartbeats 1000000 in
theorem R29 (x0 : Vec Ideal S16x4096x1024 .f32) (x1 : Vec Ideal S1x1024 .f32) (x2 : Vec Ideal S1x1024x5376 .f32) (r : Fin 65536) (j : Fin 5376) :
   val_main_v29 (F := Ideal) x0 x1 x2 (ix2 r j) = proj (fun l => x0 (ix3 ⟨r.val / 4096, by omega⟩ ⟨r.val % 4096, by omega⟩ l)) (fun l => x1 (ix2 0 l)) (fun k l => x2 (ix3 0 k l)) j := by
  unfold val_main_v29 val_main_v28 val_main_v27 val_main_v24 val_main_v26 val_main_v23 val_main_v25 val_main_v16 val_main_v17 val_main_v18 val_main_v19 val_main_v20 val_main_v21 val_main_v22 val_main_v15 val_main_v14
  unfold val_main_cst_2 val_main_cst_3
  pointwise
  simp only [R13]
  unfold proj
  have e : ∀ (a : Fin 1024 → EReal), (∑ k, a k) * eighth = ∑ k, a k * eighth := fun a => sum_mul_const a eighth_nonneg eighth_ne_top
  have ix : ∀ (k : Fin 1024) (a b : Fin 5376), a.val = b.val → x2 (ix3 0 k a) = x2 (ix3 0 k b) := fun k a b h => by rw [Fin.ext h]
  unfold wcol
  have hj := ranges j
  rcases hj with hj | hj | hj | hj | hj | hj | hj
  all_goals simp (disch := omega) only [dif_pos, dif_neg]
  all_goals try rw [e]
  all_goals refine Finset.sum_congr rfl fun k _ => ?_
  all_goals try rw [mul_assoc]
  all_goals refine congrArg (unorm _ _ k * ·) ?_
  all_goals
    first
      | exact ix k _ _ (by dsimp only; omega)
      | exact congrArg (· * eighth) (ix k _ _ (by dsimp only; omega))

/-- So the reference's result is the kernel's. -/
theorem reference_eq (x : Vec Ideal S16x4096x1024 .f32) (g : Vec Ideal S1x1024 .f32) (w : Vec Ideal S1x1024x5376 .f32) :
    val_main_v29 (F := Ideal) x g w = fun i : S65536x5376.Idx =>
      proj (fun l => x (ix3 ⟨(i 0).val / 4096, by have h : (i 0).val < 65536 := (i 0).isLt; omega⟩ ⟨(i 0).val % 4096, by omega⟩ l))
        (fun l => g (ix2 0 l)) (fun k l => w (ix3 0 k l)) (i 1) := by
  funext i
  idx_vars i
  exact R29 x g w i0 i1

end Ref

end Cert.NsValue
end
-- ==== Proof.NsClaim.lean ====
module

public import proofs.«01_k».proof.Defs
public import proofs.«01_k».proof.Proof.Gen.NsKernel.Frame
public import proofs.«01_k».proof.Proof.Gen.NsReferenceIdeal.Run
public import proofs.«01_k».proof.Proof.NsValue
public import Idealize.ShloMosaic.Lib.Quiescent

@[expose] public section

noncomputable section

namespace Cert.NsClaim

open Idealize.ShloMosaic Idealize.ShloMosaic.TcCoe Idealize.SL.Sem

/-- The projection kernel at the sample's shapes runs to its end and leaves its arguments as they were. -/
theorem frame_kernel : Cert.quiescent_NsKernel := fun m g _ => Cert.NsKernel.Gen.frame m g

/-- So does its idealization. -/
theorem frame_ideal : Cert.quiescent_NsKernelIdeal := fun m g _ => Cert.NsKernelIdeal.Gen.frame m g

/-- So does the reference. -/
theorem frame_reference : Cert.quiescent_NsReferenceIdeal := fun m g _ =>
  (θ_run Cert.NsReferenceIdeal.defs _ _).mono (fun r h => ⟨fun c => (h c).2, sem_eq_zero_of_no_sems (by decide) r.2⟩)
    (Cert.NsReferenceIdeal.Value.run (F := Ideal) m g)

/-- From equal arguments the reference's result is the kernel's. -/
theorem reference_result (m : (ℓ : Loc Cert.NsKernelIdeal.nD Cert.NsKernelIdeal.τ Cert.NsKernelIdeal.sig) → Buf (Elt Ideal) ℓ)
    (m' : (ℓ : Loc Cert.NsReferenceIdeal.nD Cert.NsReferenceIdeal.τ Cert.NsReferenceIdeal.sig) → Buf (Elt Ideal) ℓ)
    (c : Dev Cert.NsKernelIdeal.nD)
    (h0 : m' ((c.tc : Thread Cert.NsReferenceIdeal.nD Cert.NsReferenceIdeal.τ).loc Cert.NsReferenceIdeal.main_arg0)
      = m ((c.tc : Thread Cert.NsKernelIdeal.nD Cert.NsKernelIdeal.τ).loc Cert.NsKernelIdeal.main_arg0))
    (h1 : m' ((c.tc : Thread Cert.NsReferenceIdeal.nD Cert.NsReferenceIdeal.τ).loc Cert.NsReferenceIdeal.main_arg1)
      = m ((c.tc : Thread Cert.NsKernelIdeal.nD Cert.NsKernelIdeal.τ).loc Cert.NsKernelIdeal.main_arg1))
    (h2 : m' ((c.tc : Thread Cert.NsReferenceIdeal.nD Cert.NsReferenceIdeal.τ).loc Cert.NsReferenceIdeal.main_arg2)
      = m ((c.tc : Thread Cert.NsKernelIdeal.nD Cert.NsKernelIdeal.τ).loc Cert.NsKernelIdeal.main_arg2)) :
    Cert.NsReferenceIdeal.Value.res_main_v29 (F := Ideal) m' c = Cert.NsValue.result m c := by
  rw [Cert.NsReferenceIdeal.Read.val_main_v29_eq, h0, h1, h2]
  exact Cert.NsValue.reference_eq _ _ _

/-- Over the extended reals the kernel's result is the reference's. -/
theorem algebraic : Cert.algebraic_NsKernelIdeal_NsReferenceIdeal := fun m g m' g' _ h =>
  ⟨fun c => Cert.NsValue.result m c,
    (θ_run Cert.NsKernelIdeal.defs _ _).mono (fun r hr c => ⟨(hr c).1.trans (Cert.NsValue.final m c), (hr c).2⟩)
      (Cert.NsKernelIdeal.Value.run_blocks (F := Ideal) m g),
    (θ_run Cert.NsReferenceIdeal.defs _ _).mono
      (fun r hr c => ⟨(hr c).1.trans (reference_result m m' c (h c).1 (h c).2.1 (h c).2.2), (hr c).2⟩)
      (Cert.NsReferenceIdeal.Value.run (F := Ideal) m' g')⟩

end Cert.NsClaim
end
-- ==== Proof.MsValue.lean ====
module

public import proofs.«01_k».proof.Proof.MxValue
public import proofs.«01_k».proof.Proof.Gen.MsKernelIdeal.Value
public import proofs.«01_k».proof.Proof.Gen.MsReferenceIdeal.Read
public import Idealize.ShloMosaic.Lib.Pipeline.ValueKit
public import Idealize.ShloMosaic.Lib.StableHlo.ReadAt
public import Idealize.ShloMosaic.Lib.Pointwise
public import Idealize.ShloMosaic.Lib.IdealHost
public import Idealize.ShloMosaic.Lib.Tactic

@[expose] public section

set_option maxRecDepth 16384

noncomputable section

namespace Cert.MsValue

open Idealize.ShloMosaic Idealize.ShloMosaic.TcCoe Idealize.SL.Sem
open scoped BigOperators
open Cert.MxValue (sigm merged rms resid mix)

/-! ## The kernel -/

section Kernel
open Cert.MsKernelIdeal Cert.MsKernelIdeal.Gen

variable (m : (ℓ : Loc nD τ sig) → Buf (Elt Ideal) ℓ)

theorem pay2_apply (oa za ob zb : Vec Ideal S512x512 .bf16) (wa wb ga gb : Vec Ideal S512x1024 .bf16) (r : Fin 512) (d : Fin 1024) :
    k0_pay2 (F := Ideal) oa za ob zb wa wb ga gb (ix2 r d) = merged (fun k => oa (ix2 r k)) (fun k => ob (ix2 r k))
      (fun k => za (ix2 r k)) (fun k => zb (ix2 r k)) (fun k => ga (ix2 r k)) (fun k => gb (ix2 r k))
      (fun k l => wa (ix2 k l)) (fun k l => wb (ix2 k l)) d := by
  pointwise [k0_pay2]
  rfl

theorem pay1_apply (u : FVec Ideal S512x1024 .bf16) (x : Vec Ideal S512x1024 .f32) (w : Vec Ideal S1024x1024 .bf16)
    (g : Vec Ideal S1x1024 .f32) (r : Fin 512) (e : Fin 1024) : k0_pay1 (F := Ideal) u x w g (ix2 r e)
      = rms (resid (fun l => x (ix2 r l)) (fun l => u (ix2 r l)) (fun k l => w (ix2 k l))) (fun l => g (ix2 0 l)) e := by
  pointwise [k0_pay1]
  rfl

theorem idx : ∀ t : Fin cfg0.N, win0_0.index t = ![t.val, 0] ∧ win0_1.index t = ![t.val, 0] ∧ win0_2.index t = ![t.val, 0]
    ∧ win0_3.index t = ![t.val, 3] ∧ win0_4.index t = ![t.val, 5] ∧ win0_5.index t = ![t.val, 3] ∧ win0_6.index t = ![t.val, 4]
    ∧ win0_7.index t = ![0, 0] ∧ win0_8.index t = ![0, 0] ∧ win0_9.index t = ![0, 0] ∧ win0_10.index t = ![0, 0]
    ∧ win0_11.index t = ![t.val, 0] :=
  (by decide +kernel : ∀ t : Fin grid0.N, win0_0.index t = ![t.val, 0] ∧ win0_1.index t = ![t.val, 0] ∧ win0_2.index t = ![t.val, 0]
    ∧ win0_3.index t = ![t.val, 3] ∧ win0_4.index t = ![t.val, 5] ∧ win0_5.index t = ![t.val, 3] ∧ win0_6.index t = ![t.val, 4]
    ∧ win0_7.index t = ![0, 0] ∧ win0_8.index t = ![0, 0] ∧ win0_9.index t = ![0, 0] ∧ win0_10.index t = ![0, 0]
    ∧ win0_11.index t = ![t.val, 0])

/-- The whole result, element by element. -/
def result (c : Dev nD) : Vec Ideal S65536x1024 .f32 := fun i =>
  have h : (i 0).val < 65536 := (i 0).isLt
  mix (fun l => (m ((c : Thread nD τ).loc main_arg0) : Vec Ideal S16x4096x1024 .f32)
      (ix3 ⟨(i 0).val / 4096, by omega⟩ ⟨(i 0).val % 4096, by omega⟩ l))
    (fun k => (m ((c : Thread nD τ).loc main_arg1) : Vec Ideal S16x4096x512 .bf16)
      (ix3 ⟨(i 0).val / 4096, by omega⟩ ⟨(i 0).val % 4096, by omega⟩ k))
    (fun k => (m ((c : Thread nD τ).loc main_arg2) : Vec Ideal S16x4096x512 .bf16)
      (ix3 ⟨(i 0).val / 4096, by omega⟩ ⟨(i 0).val % 4096, by omega⟩ k))
    (fun k => (m ((c : Thread nD τ).loc main_arg3) : Vec Ideal S16x4096x5376 .bf16)
      (ix3 ⟨(i 0).val / 4096, by omega⟩ ⟨(i 0).val % 4096, by omega⟩ k))
    (fun k l => (m ((c : Thread nD τ).loc main_arg4) : Vec Ideal S1x512x1024 .f32) (ix3 0 k l))
    (fun k l => (m ((c : Thread nD τ).loc main_arg5) : Vec Ideal S1x512x1024 .f32) (ix3 0 k l))
    (fun k l => (m ((c : Thread nD τ).loc main_arg6) : Vec Ideal S1x1024x1024 .f32) (ix3 0 k l))
    (fun l => (m ((c : Thread nD τ).loc main_arg7) : Vec Ideal S1024 .f32) (ix1 l)) (i 1)

variable (c : Dev nD)

theorem V0 (r : Fin 65536) (k : Fin 1024) : (V m c main_v0 : Vec Ideal S65536x1024 .f32) (ix2 r k)
    = (m ((c : Thread nD τ).loc main_arg0) : Vec Ideal S16x4096x1024 .f32) (ix3 ⟨r.val / 4096, by omega⟩ ⟨r.val % 4096, by omega⟩ k) := by
  unfold V
  after_reads_at

theorem V1 (r : Fin 65536) (k : Fin 512) : (V m c main_v1 : Vec Ideal S65536x512 .bf16) (ix2 r k)
    = (m ((c : Thread nD τ).loc main_arg1) : Vec Ideal S16x4096x512 .bf16) (ix3 ⟨r.val / 4096, by omega⟩ ⟨r.val % 4096, by omega⟩ k) := by
  unfold V
  after_reads_at

theorem V2 (r : Fin 65536) (k : Fin 512) : (V m c main_v2 : Vec Ideal S65536x512 .bf16) (ix2 r k)
    = (m ((c : Thread nD τ).loc main_arg2) : Vec Ideal S16x4096x512 .bf16) (ix3 ⟨r.val / 4096, by omega⟩ ⟨r.val % 4096, by omega⟩ k) := by
  unfold V
  after_reads_at

theorem V3 (r : Fin 65536) (k : Fin 5376) : (V m c main_v3 : Vec Ideal S65536x5376 .bf16) (ix2 r k)
    = (m ((c : Thread nD τ).loc main_arg3) : Vec Ideal S16x4096x5376 .bf16) (ix3 ⟨r.val / 4096, by omega⟩ ⟨r.val % 4096, by omega⟩ k) := by
  unfold V
  after_reads_at

theorem V5 (k : Fin 512) (l : Fin 1024) : (V m c main_v5 : Vec Ideal S512x1024 .bf16) (ix2 k l)
    = (m ((c : Thread nD τ).loc main_arg4) : Vec Ideal S1x512x1024 .f32) (ix3 0 k l) := by
  unfold V
  after_reads_at

theorem V7 (k : Fin 512) (l : Fin 1024) : (V m c main_v7 : Vec Ideal S512x1024 .bf16) (ix2 k l)
    = (m ((c : Thread nD τ).loc main_arg5) : Vec Ideal S1x512x1024 .f32) (ix3 0 k l) := by
  unfold V
  after_reads_at

theorem V9 (k l : Fin 1024) : (V m c main_v9 : Vec Ideal S1024x1024 .bf16) (ix2 k l)
    = (m ((c : Thread nD τ).loc main_arg6) : Vec Ideal S1x1024x1024 .f32) (ix3 0 k l) := by
  unfold V
  after_reads_at

theorem V10 (l : Fin 1024) : (V m c main_v10 : Vec Ideal S1x1024 .f32) (ix2 0 l)
    = (m ((c : Thread nD τ).loc main_arg7) : Vec Ideal S1024 .f32) (ix1 l) := by
  unfold V
  after_reads_at

variable (t : Fin cfg0.N) (ht : t.val < 128)

theorem block0 (r : Fin 512) (k : Fin 1024) : (iblk m c 0 t : Vec Ideal S512x1024 .f32) (ix2 r k)
    = (V m c main_v0 : Vec Ideal S65536x1024 .f32) (ix2 ⟨t.val * 512 + r.val, by omega⟩ k) := by
  blk_ext [iblk, idx t]

theorem block1 (r : Fin 512) (k : Fin 512) : (iblk m c 1 t : Vec Ideal S512x512 .bf16) (ix2 r k)
    = (V m c main_v1 : Vec Ideal S65536x512 .bf16) (ix2 ⟨t.val * 512 + r.val, by omega⟩ k) := by
  blk_ext [iblk, idx t]

theorem block2 (r : Fin 512) (k : Fin 512) : (iblk m c 2 t : Vec Ideal S512x512 .bf16) (ix2 r k)
    = (V m c main_v2 : Vec Ideal S65536x512 .bf16) (ix2 ⟨t.val * 512 + r.val, by omega⟩ k) := by
  blk_ext [iblk, idx t]

theorem block3 (r : Fin 512) (k : Fin 512) : (X0_3 m c t : Vec Ideal S512x512 .bf16) (ix2 r k)
    = (V m c main_v3 : Vec Ideal S65536x5376 .bf16) (ix2 ⟨t.val * 512 + r.val, by omega⟩ ⟨1536 + k.val, by omega⟩) := by
  unfold X0_3 Pipeline.Window.fill
  rw [dif_pos (moved0_3 t _)]
  blk_ext [iblk, idx t]

theorem block4 (r : Fin 512) (k : Fin 512) : (X0_4 m c t : Vec Ideal S512x512 .bf16) (ix2 r k)
    = (V m c main_v3 : Vec Ideal S65536x5376 .bf16) (ix2 ⟨t.val * 512 + r.val, by omega⟩ ⟨2560 + k.val, by omega⟩) := by
  unfold X0_4 Pipeline.Window.fill
  rw [dif_pos (moved0_4 t _)]
  blk_ext [iblk, idx t]

theorem block5 (r : Fin 512) (k : Fin 1024) : (X0_5 m c t : Vec Ideal S512x1024 .bf16) (ix2 r k)
    = (V m c main_v3 : Vec Ideal S65536x5376 .bf16) (ix2 ⟨t.val * 512 + r.val, by omega⟩ ⟨3072 + k.val, by omega⟩) := by
  unfold X0_5 Pipeline.Window.fill
  rw [dif_pos (moved0_5 t _)]
  blk_ext [iblk, idx t]

theorem block6 (r : Fin 512) (k : Fin 1024) : (X0_6 m c t : Vec Ideal S512x1024 .bf16) (ix2 r k)
    = (V m c main_v3 : Vec Ideal S65536x5376 .bf16) (ix2 ⟨t.val * 512 + r.val, by omega⟩ ⟨4096 + k.val, by omega⟩) := by
  unfold X0_6 Pipeline.Window.fill
  rw [dif_pos (moved0_6 t _)]
  blk_ext [iblk, idx t]

theorem block7 (k : Fin 512) (l : Fin 1024) : (iblk m c 7 t : Vec Ideal S512x1024 .bf16) (ix2 k l)
    = (V m c main_v5 : Vec Ideal S512x1024 .bf16) (ix2 k l) := by
  blk_ext [iblk, idx t]

theorem block8 (k : Fin 512) (l : Fin 1024) : (iblk m c 8 t : Vec Ideal S512x1024 .bf16) (ix2 k l)
    = (V m c main_v7 : Vec Ideal S512x1024 .bf16) (ix2 k l) := by
  blk_ext [iblk, idx t]

theorem block9 (k l : Fin 1024) : (iblk m c 9 t : Vec Ideal S1024x1024 .bf16) (ix2 k l)
    = (V m c main_v9 : Vec Ideal S1024x1024 .bf16) (ix2 k l) := by
  blk_ext [iblk, idx t]

theorem block10 (l : Fin 1024) : (iblk m c 10 t : Vec Ideal S1x1024 .f32) (ix2 0 l)
    = (V m c main_v10 : Vec Ideal S1x1024 .f32) (ix2 0 l) := by
  blk_ext [iblk, idx t]

theorem place11 (r : Fin 512) (j : Fin 1024) :
    (win0_11.blk t).view.emb (ix2 r j : S512x1024.Idx) = (ix2 ⟨t.val * 512 + r.val, by omega⟩ j : S65536x1024.Idx) := by
  blk_ext [idx t]

/-- What a grid point leaves in its output block is the body's two payloads of the blocks it reads. -/
theorem outs_eq : outsAt0 m c t = k0_pay1 (F := Ideal) (k0_pay2 (F := Ideal) (iblk m c 1 t) (X0_3 m c t) (iblk m c 2 t) (X0_4 m c t)
      (iblk m c 7 t) (iblk m c 8 t) (X0_5 m c t) (X0_6 m c t)) (iblk m c 0 t) (iblk m c 9 t) (iblk m c 10 t) := by
  unfold outsAt0
  frame_out

/-- What a grid point leaves in its block, at an element: the result's element there. -/
theorem point (r : Fin 512) (e : Fin 1024) :
    outsAt0 m c t (ix2 r e) = result m c (ix2 ⟨t.val * 512 + r.val, by omega⟩ e : S65536x1024.Idx) := by
  have hx : (fun l => (iblk m c 0 t : Vec Ideal S512x1024 .f32) (ix2 r l)) = _ :=
    funext fun l => (block0 m c t ht r l).trans (V0 m c _ l)
  have hoa : (fun k => (iblk m c 1 t : Vec Ideal S512x512 .bf16) (ix2 r k)) = _ :=
    funext fun k => (block1 m c t ht r k).trans (V1 m c _ k)
  have hob : (fun k => (iblk m c 2 t : Vec Ideal S512x512 .bf16) (ix2 r k)) = _ :=
    funext fun k => (block2 m c t ht r k).trans (V2 m c _ k)
  have hza : (fun k => (X0_3 m c t : Vec Ideal S512x512 .bf16) (ix2 r k)) = _ :=
    funext fun k => (block3 m c t ht r k).trans (V3 m c _ _)
  have hzb : (fun k => (X0_4 m c t : Vec Ideal S512x512 .bf16) (ix2 r k)) = _ :=
    funext fun k => (block4 m c t ht r k).trans (V3 m c _ _)
  have hga : (fun k => (X0_5 m c t : Vec Ideal S512x1024 .bf16) (ix2 r k)) = _ :=
    funext fun k => (block5 m c t ht r k).trans (V3 m c _ _)
  have hgb : (fun k => (X0_6 m c t : Vec Ideal S512x1024 .bf16) (ix2 r k)) = _ :=
    funext fun k => (block6 m c t ht r k).trans (V3 m c _ _)
  have hwa : (fun k l => (iblk m c 7 t : Vec Ideal S512x1024 .bf16) (ix2 k l)) = _ :=
    funext fun k => funext fun l => (block7 m c t k l).trans (V5 m c k l)
  have hwb : (fun k l => (iblk m c 8 t : Vec Ideal S512x1024 .bf16) (ix2 k l)) = _ :=
    funext fun k => funext fun l => (block8 m c t k l).trans (V7 m c k l)
  have hw : (fun k l => (iblk m c 9 t : Vec Ideal S1024x1024 .bf16) (ix2 k l)) = _ :=
    funext fun k => funext fun l => (block9 m c t k l).trans (V9 m c k l)
  have hg : (fun l => (iblk m c 10 t : Vec Ideal S1x1024 .f32) (ix2 0 l)) = _ :=
    funext fun l => (block10 m c t l).trans (V10 m c l)
  rw [outs_eq, pay1_apply]
  simp only [pay2_apply]
  rw [hx, hoa, hob, hza, hzb, hga, hgb, hwa, hwb, hw, hg]
  rfl

/-- After the run the kernel's output array is the result. -/
theorem final (c : Dev nD) : (dats m 0 c).arrAt 11 cfg0.N = result m c := by
  refine (dats m 0 c).arrAt_eq_of_covers 11 _ (by decide +kernel) fun t hf y => ?_
  have ht : t.val < 128 := t.isLt
  blk_simp
  rw [after0_11]
  idx_vars y
  exact (point m c t ht y0 y1).trans (congrArg (result m c) (place11 t ht y0 y1).symm)

end Kernel

/-! ## The reference -/

section Ref
open Cert.MsReferenceIdeal Cert.MsReferenceIdeal.Read

variable (x : Vec Ideal S16x4096x1024 .f32) (oa ob : Vec Ideal S16x4096x512 .bf16) (p : Vec Ideal S16x4096x5376 .bf16)
  (wa wb : Vec Ideal S1x512x1024 .f32) (w : Vec Ideal S1x1024x1024 .f32) (g : Vec Ideal S1024 .f32)

/-- The gated sum of the projections. -/
theorem R29 (b : Fin 16) (n : Fin 4096) (d : Fin 1024) : val_main_v29 (F := Ideal) oa ob p wa wb (ix3 b n d)
    = merged (fun k => oa (ix3 b n k)) (fun k => ob (ix3 b n k)) (fun k => p (ix3 b n ⟨1536 + k.val, by omega⟩))
      (fun k => p (ix3 b n ⟨2560 + k.val, by omega⟩)) (fun k => p (ix3 b n ⟨3072 + k.val, by omega⟩))
      (fun k => p (ix3 b n ⟨4096 + k.val, by omega⟩)) (fun k l => wa (ix3 0 k l)) (fun k l => wb (ix3 0 k l)) d := by
  unfold val_main_v29 val_main_v21 val_main_v28 val_main_v20 val_main_v27 val_main_v19 val_main_v26 val_main_v18 val_main_v25
    val_main_v17 val_main_v24 val_main_v16 val_main_v23 val_main_v15 val_main_v22 val_main_v10 val_main_v14 val_main_v8 val_main_v12
    val_main_v9 val_main_v13 val_main_v7 val_main_v11 val_main_call0_v5 val_main_call1_v5 val_main_call0_v4 val_main_call1_v4
    val_main_call0_v3 val_main_call1_v3 val_main_call0_v2 val_main_call1_v2 val_main_call0_v1 val_main_call1_v1
    val_main_call0_v0 val_main_call1_v0 val_main_v6 val_main_v5 val_main_v4 val_main_v3 val_main_v2 val_main_v1 val_main_v0
    val_main_cst val_main_cst_0 val_main_cst_1 val_main_cst_2 val_main_call0_cst val_main_call1_cst val_main_call0_cst_0 val_main_call1_cst_0
  pointwise
  rfl

/-- The residual row. -/
theorem R32 (b : Fin 16) (n : Fin 4096) (d : Fin 1024) : val_main_v32 (F := Ideal) x oa ob p wa wb w (ix3 b n d)
    = resid (fun l => x (ix3 b n l)) (fun l => val_main_v29 (F := Ideal) oa ob p wa wb (ix3 b n l)) (fun k l => w (ix3 0 k l)) d := by
  unfold val_main_v32 val_main_v31 val_main_v30
  pointwise
  rfl

/-- The result. -/
theorem R46 (r : Fin 65536) (e : Fin 1024) : val_main_v46 (F := Ideal) x oa ob p wa wb w g (ix2 r e)
    = rms (fun l => val_main_v32 (F := Ideal) x oa ob p wa wb w (ix3 ⟨r.val / 4096, by omega⟩ ⟨r.val % 4096, by omega⟩ l))
      (fun l => g (ix1 l)) e := by
  unfold val_main_v46 val_main_v45 val_main_v44 val_main_v43 val_main_v42 val_main_v41 val_main_v40 val_main_v39 val_main_v38
    val_main_v37 val_main_v36 val_main_v35 val_main_v34 val_main_v33 val_main_cst_3 val_main_cst_4 val_main_cst_5
  pointwise
  rfl

/-- So the reference's result is the kernel's. -/
theorem reference_eq : val_main_v46 (F := Ideal) x oa ob p wa wb w g = fun i : S65536x1024.Idx =>
    have h : (i 0).val < 65536 := (i 0).isLt
    mix (fun l => x (ix3 ⟨(i 0).val / 4096, by omega⟩ ⟨(i 0).val % 4096, by omega⟩ l))
      (fun k => oa (ix3 ⟨(i 0).val / 4096, by omega⟩ ⟨(i 0).val % 4096, by omega⟩ k))
      (fun k => ob (ix3 ⟨(i 0).val / 4096, by omega⟩ ⟨(i 0).val % 4096, by omega⟩ k))
      (fun k => p (ix3 ⟨(i 0).val / 4096, by omega⟩ ⟨(i 0).val % 4096, by omega⟩ k))
      (fun k l => wa (ix3 0 k l)) (fun k l => wb (ix3 0 k l)) (fun k l => w (ix3 0 k l)) (fun l => g (ix1 l)) (i 1) := by
  funext i
  idx_vars i
  rw [R46]
  simp only [R32, R29]
  rfl

end Ref

end Cert.MsValue
end
-- ==== Proof.MsClaim.lean ====
module

public import proofs.«01_k».proof.Defs
public import proofs.«01_k».proof.Proof.Gen.MsKernel.Frame
public import proofs.«01_k».proof.Proof.Gen.MsReferenceIdeal.Run
public import proofs.«01_k».proof.Proof.MsValue
public import Idealize.ShloMosaic.Lib.Quiescent

@[expose] public section

noncomputable section

namespace Cert.MsClaim

open Idealize.ShloMosaic Idealize.ShloMosaic.TcCoe Idealize.SL.Sem

/-- The mixer kernel at the sample's shapes runs to its end and leaves its arguments as they were. -/
theorem frame_kernel : Cert.quiescent_MsKernel := fun m g _ => Cert.MsKernel.Gen.frame m g

/-- So does its idealization. -/
theorem frame_ideal : Cert.quiescent_MsKernelIdeal := fun m g _ => Cert.MsKernelIdeal.Gen.frame m g

/-- So does the reference. -/
theorem frame_reference : Cert.quiescent_MsReferenceIdeal := fun m g _ =>
  (θ_run Cert.MsReferenceIdeal.defs _ _).mono (fun r h => ⟨fun c => (h c).2, sem_eq_zero_of_no_sems (by decide) r.2⟩)
    (Cert.MsReferenceIdeal.Value.run (F := Ideal) m g)

/-- From equal arguments the reference's result is the kernel's. -/
theorem reference_result (m : (ℓ : Loc Cert.MsKernelIdeal.nD Cert.MsKernelIdeal.τ Cert.MsKernelIdeal.sig) → Buf (Elt Ideal) ℓ)
    (m' : (ℓ : Loc Cert.MsReferenceIdeal.nD Cert.MsReferenceIdeal.τ Cert.MsReferenceIdeal.sig) → Buf (Elt Ideal) ℓ)
    (c : Dev Cert.MsKernelIdeal.nD)
    (h0 : m' ((c.tc : Thread Cert.MsReferenceIdeal.nD Cert.MsReferenceIdeal.τ).loc Cert.MsReferenceIdeal.main_arg0)
      = m ((c.tc : Thread Cert.MsKernelIdeal.nD Cert.MsKernelIdeal.τ).loc Cert.MsKernelIdeal.main_arg0))
    (h1 : m' ((c.tc : Thread Cert.MsReferenceIdeal.nD Cert.MsReferenceIdeal.τ).loc Cert.MsReferenceIdeal.main_arg1)
      = m ((c.tc : Thread Cert.MsKernelIdeal.nD Cert.MsKernelIdeal.τ).loc Cert.MsKernelIdeal.main_arg1))
    (h2 : m' ((c.tc : Thread Cert.MsReferenceIdeal.nD Cert.MsReferenceIdeal.τ).loc Cert.MsReferenceIdeal.main_arg2)
      = m ((c.tc : Thread Cert.MsKernelIdeal.nD Cert.MsKernelIdeal.τ).loc Cert.MsKernelIdeal.main_arg2))
    (h3 : m' ((c.tc : Thread Cert.MsReferenceIdeal.nD Cert.MsReferenceIdeal.τ).loc Cert.MsReferenceIdeal.main_arg3)
      = m ((c.tc : Thread Cert.MsKernelIdeal.nD Cert.MsKernelIdeal.τ).loc Cert.MsKernelIdeal.main_arg3))
    (h4 : m' ((c.tc : Thread Cert.MsReferenceIdeal.nD Cert.MsReferenceIdeal.τ).loc Cert.MsReferenceIdeal.main_arg4)
      = m ((c.tc : Thread Cert.MsKernelIdeal.nD Cert.MsKernelIdeal.τ).loc Cert.MsKernelIdeal.main_arg4))
    (h5 : m' ((c.tc : Thread Cert.MsReferenceIdeal.nD Cert.MsReferenceIdeal.τ).loc Cert.MsReferenceIdeal.main_arg5)
      = m ((c.tc : Thread Cert.MsKernelIdeal.nD Cert.MsKernelIdeal.τ).loc Cert.MsKernelIdeal.main_arg5))
    (h6 : m' ((c.tc : Thread Cert.MsReferenceIdeal.nD Cert.MsReferenceIdeal.τ).loc Cert.MsReferenceIdeal.main_arg6)
      = m ((c.tc : Thread Cert.MsKernelIdeal.nD Cert.MsKernelIdeal.τ).loc Cert.MsKernelIdeal.main_arg6))
    (h7 : m' ((c.tc : Thread Cert.MsReferenceIdeal.nD Cert.MsReferenceIdeal.τ).loc Cert.MsReferenceIdeal.main_arg7)
      = m ((c.tc : Thread Cert.MsKernelIdeal.nD Cert.MsKernelIdeal.τ).loc Cert.MsKernelIdeal.main_arg7)) :
    Cert.MsReferenceIdeal.Value.res_main_v46 (F := Ideal) m' c = Cert.MsValue.result m c := by
  rw [Cert.MsReferenceIdeal.Read.val_main_v46_eq, h0, h1, h2, h3, h4, h5, h6, h7]
  exact Cert.MsValue.reference_eq _ _ _ _ _ _ _ _

/-- Over the extended reals the kernel's result is the reference's. -/
theorem algebraic : Cert.algebraic_MsKernelIdeal_MsReferenceIdeal := fun m g m' g' _ h =>
  ⟨fun c => Cert.MsValue.result m c,
    (θ_run Cert.MsKernelIdeal.defs _ _).mono (fun r hr c => ⟨(hr c).1.trans (Cert.MsValue.final m c), (hr c).2⟩)
      (Cert.MsKernelIdeal.Value.run_blocks (F := Ideal) m g),
    (θ_run Cert.MsReferenceIdeal.defs _ _).mono
      (fun r hr c => ⟨(hr c).1.trans (reference_result m m' c
        (h c).1 (h c).2.1 (h c).2.2.1 (h c).2.2.2.1 (h c).2.2.2.2.1 (h c).2.2.2.2.2.1 (h c).2.2.2.2.2.2.1 (h c).2.2.2.2.2.2.2), (hr c).2⟩)
      (Cert.MsReferenceIdeal.Value.run (F := Ideal) m' g')⟩

end Cert.MsClaim
end
-- ==== Proof.WsHead.lean ====
module

public import proofs.«01_k».proof.Proof.WaMath
public import proofs.«01_k».proof.Proof.Gen.WsKernelIdeal.Value
public import Idealize.ShloMosaic.Lib.Pipeline.ValueKit
public import Idealize.ShloMosaic.Lib.StableHlo.ReadAt
public import Idealize.ShloMosaic.Lib.Pointwise
public import Idealize.ShloMosaic.Lib.Tactic

@[expose] public section

/-!
# One head of the windowed attention's kernel, at the sample's shapes

The kernel's body computes its eight heads one after the other, each by the same operations on its
own columns.  This file names those operations, reads them at an element, and shows that each of the
eight stores is them.
-/

noncomputable section

namespace Cert.WsHead

open Idealize.ShloMosaic Idealize.ShloMosaic.TcCoe Idealize.SL.Sem
open scoped BigOperators
open Cert.WsKernelIdeal Cert.WsKernelIdeal.Gen Cert.WaMath

/-- The scores against one block of keys. -/
def scores (q k : Vec Ideal S1x128x64 .bf16) (b : Vec Ideal S1x1x128x128 .f32) : FVec Ideal S128x128 .f32 :=
  addf (matmul (φ₁ := .bf16) (φ₂ := .bf16) dot_S128x64_S128x64_S128x128_1_1_0_0_n_n none (shapeCast S128x64 q shapeCasts_S1x128x64_S128x64)
    (shapeCast S128x64 k shapeCasts_S1x128x64_S128x64) (constant S128x128 .f32 0x00000000#32))
    (shapeCast S128x128 b shapeCasts_S1x1x128x128_S128x128)

/-- The scores against the meta keys. -/
def metaScores (q : Vec Ideal S1x128x64 .bf16) (k : Vec Ideal S16x64 .bf16) (b : Vec Ideal S1x1x128x16 .f32) : FVec Ideal S128x16 .f32 :=
  addf (matmul (φ₁ := .bf16) (φ₂ := .bf16) dot_S128x64_S16x64_S128x16_1_1_0_0_n_n none (shapeCast S128x64 q shapeCasts_S1x128x64_S128x64)
    k (constant S128x16 .f32 0x00000000#32)) (shapeCast S128x16 b shapeCasts_S1x1x128x16_S128x16)

/-- The largest score of a row. -/
def most (s : FVec Ideal S128x128 .f32) : FVec Ideal S128x1 .f32 :=
  shapeCast S128x1 (multiReduction .maximumf [1] S128 s 0xFF800000#32 reduces_S128x128_S128 (.inl rfl) rfl) shapeCasts_S128_S128x1

/-- The largest meta score of a row. -/
def metaMost (s : FVec Ideal S128x16 .f32) : FVec Ideal S128x1 .f32 :=
  shapeCast S128x1 (multiReduction .maximumf [1] S128 s 0xFF800000#32 reduces_S128x16_S128 (.inl rfl) rfl) shapeCasts_S128_S128x1

/-- The rows' maxima. -/
def maxima (s0 s1 s2 : FVec Ideal S128x128 .f32) (b : FVec Ideal S128x16 .f32) (z : Elt Ideal .f32) : FVec Ideal S128x1 .f32 :=
  maximumf (maximumf (maximumf (maximumf (metaMost b) (broadcast S128x1 z)) (most s0)) (most s1)) (most s2)

/-- The weights of a block. -/
def weights (s : FVec Ideal S128x128 .f32) (M : FVec Ideal S128x1 .f32) : FVec Ideal S128x128 .f32 :=
  exp (subf s (broadcastTo S128x128 M broadcasts_S128x1_S128x128))

/-- The weights of the meta tokens. -/
def metaWeights (s : FVec Ideal S128x16 .f32) (M : FVec Ideal S128x1 .f32) : FVec Ideal S128x16 .f32 :=
  exp (subf s (broadcastTo S128x16 M broadcasts_S128x1_S128x16))

/-- The rows' sums of a block's weights. -/
def total (p : FVec Ideal S128x128 .f32) : FVec Ideal S128x1 .f32 :=
  shapeCast S128x1 (multiReduction .add [1] S128 p 0x00000000#32 reduces_S128x128_S128 (.inl rfl) rfl) shapeCasts_S128_S128x1

/-- The rows' sums of the meta tokens' weights. -/
def metaTotal (p : FVec Ideal S128x16 .f32) : FVec Ideal S128x1 .f32 :=
  shapeCast S128x1 (multiReduction .add [1] S128 p 0x00000000#32 reduces_S128x16_S128 (.inl rfl) rfl) shapeCasts_S128_S128x1

/-- A block's weights times its values. -/
def weighed (p : FVec Ideal S128x128 .f32) (v : Vec Ideal S1x128x64 .bf16) : FVec Ideal S128x64 .f32 :=
  matmul (φ₁ := .bf16) (φ₂ := .bf16) dot_S128x128_S128x64_S128x64_1_0_0_1_n_n none (truncf .bf16 p bitsLt_bf16_f32)
    (shapeCast S128x64 v shapeCasts_S1x128x64_S128x64) (constant S128x64 .f32 0x00000000#32)

/-- The meta tokens' weights times their values. -/
def metaWeighed (p : FVec Ideal S128x16 .f32) (v : Vec Ideal S16x64 .bf16) : FVec Ideal S128x64 .f32 :=
  matmul (φ₁ := .bf16) (φ₂ := .bf16) dot_S128x16_S16x64_S128x64_1_0_0_1_n_n none (truncf .bf16 p bitsLt_bf16_f32) v (constant S128x64 .f32 0x00000000#32)

/-- The attention from the scores `s0`, `s1`, `s2`, `b`, the sink `z`, the maxima `M` and the values. -/
def attention (s0 s1 s2 : FVec Ideal S128x128 .f32) (b : FVec Ideal S128x16 .f32) (z : Elt Ideal .f32) (M : FVec Ideal S128x1 .f32)
    (w : Vec Ideal S16x64 .bf16) (v0 v1 v2 : Vec Ideal S1x128x64 .bf16) : FVec Ideal S1x128x64 .bf16 :=
  shapeCast S1x128x64 (truncf .bf16 (divf
    (addf (addf (addf (metaWeighed (metaWeights b M) w) (weighed (weights s0 M) v0)) (weighed (weights s1 M) v1)) (weighed (weights s2 M) v2))
    (broadcastTo S128x64
      (addf (addf (addf (addf (metaTotal (metaWeights b M)) (exp (subf (broadcast S128x1 z) M))) (total (weights s0 M)))
        (total (weights s1 M))) (total (weights s2 M))) broadcasts_S128x1_S128x64)) bitsLt_bf16_f32) shapeCasts_S128x64_S1x128x64

/-- One head: of the queries `q`, the keys `k0`, `k1`, `k2`, the meta keys `k`, the biases, the sink `z` and the values. -/
def head (q k0 k1 k2 : Vec Ideal S1x128x64 .bf16) (k : Vec Ideal S16x64 .bf16) (b0 b1 b2 : Vec Ideal S1x1x128x128 .f32)
    (b : Vec Ideal S1x1x128x16 .f32) (z : Elt Ideal .f32) (w : Vec Ideal S16x64 .bf16) (v0 v1 v2 : Vec Ideal S1x128x64 .bf16) :
    FVec Ideal S1x128x64 .bf16 :=
  attention (scores q k0 b0) (scores q k1 b1) (scores q k2 b2) (metaScores q k b) z
    (maxima (scores q k0 b0) (scores q k1 b1) (scores q k2 b2) (metaScores q k b) z) w v0 v1 v2

theorem neg_inf : Ideal.ofBits FTy.f32 0xFF800000#32 = ⊥ := by
  simp [Ideal.ofBits, Ideal.ieee]

theorem scores_apply (q k b) (r j : Fin 128) : scores q k b (ix2 r j) = (∑ d, q (ix3 0 r d) * k (ix3 0 j d)) + b (ix4 0 0 r j) := by
  pointwise [scores]

theorem metaScores_apply (q k b) (r : Fin 128) (j : Fin 16) :
    metaScores q k b (ix2 r j) = (∑ d, q (ix3 0 r d) * k (ix2 j d)) + b (ix4 0 0 r j) := by
  pointwise [metaScores]

theorem maxima_apply (s0 s1 s2 b z) (r : Fin 128) : maxima s0 s1 s2 b z (ix2 r 0)
    = top3 (fun j => s0 (ix2 r j)) (fun j => s1 (ix2 r j)) (fun j => s2 (ix2 r j)) (fun j => b (ix2 r j)) z := by
  pointwise [maxima, most, metaMost]
  simp only [neg_inf]
  rfl

theorem attention_apply (s0 s1 s2 b z M w v0 v1 v2) (r : Fin 128) (d : Fin 64)
    (hM : M (ix2 r 0) = top3 (fun j => s0 (ix2 r j)) (fun j => s1 (ix2 r j)) (fun j => s2 (ix2 r j)) (fun j => b (ix2 r j)) z) :
    attention s0 s1 s2 b z M w v0 v1 v2 (ix3 0 r d)
      = pieced (fun j => s0 (ix2 r j)) (fun j => s1 (ix2 r j)) (fun j => s2 (ix2 r j)) (fun j => b (ix2 r j)) z
        (fun j => v0 (ix3 0 j d)) (fun j => v1 (ix3 0 j d)) (fun j => v2 (ix3 0 j d)) (fun j => w (ix2 j d)) := by
  unfold pieced
  dsimp only
  rw [← hM]
  pointwise [attention, metaWeighed, weighed, total, metaTotal, weights, metaWeights]

/-- One head at an element. -/
theorem head_apply (q k0 k1 k2 k b0 b1 b2 b z w v0 v1 v2) (r : Fin 128) (d : Fin 64) :
    head q k0 k1 k2 k b0 b1 b2 b z w v0 v1 v2 (ix3 0 r d)
      = pieced (fun j => (∑ e, q (ix3 0 r e) * k0 (ix3 0 j e)) + b0 (ix4 0 0 r j))
        (fun j => (∑ e, q (ix3 0 r e) * k1 (ix3 0 j e)) + b1 (ix4 0 0 r j))
        (fun j => (∑ e, q (ix3 0 r e) * k2 (ix3 0 j e)) + b2 (ix4 0 0 r j))
        (fun j => (∑ e, q (ix3 0 r e) * k (ix2 j e)) + b (ix4 0 0 r j)) z
        (fun j => v0 (ix3 0 j d)) (fun j => v1 (ix3 0 j d)) (fun j => v2 (ix3 0 j d)) (fun j => w (ix2 j d)) := by
  unfold head
  rw [attention_apply (hM := maxima_apply ..)]
  simp only [scores_apply, metaScores_apply]

end Cert.WsHead
end
-- ==== Proof.WsBlocks.lean ====
module

public import proofs.«01_k».proof.Proof.WsHead

@[expose] public section

/-!
# What the windowed attention's kernel leaves at a grid point, at the sample's shapes

The eight heads' stores together, read at an element, and the blocks they are computed from as parts
of the arrays.
-/

noncomputable section

namespace Cert.WsBlocks

open Idealize.ShloMosaic Idealize.ShloMosaic.TcCoe Idealize.SL.Sem
open scoped BigOperators
open Cert.WsKernelIdeal Cert.WsKernelIdeal.Gen Cert.WaMath Cert.WsHead

/-! ## Loads of one head's columns -/

theorem load_q (X : Vec Ideal S1x128x512 .bf16) (H : Fin 8) (o : ℕ) (inb) (r : Fin 128) (e : Fin 64) (ho : o = 64 * H.val) :
    View.ld X (Rect.unit ![0, 0, o] ![1, 128, 64] inb) (ix3 0 r e : S1x128x64.Idx) = X (ix3 0 r ⟨64 * H.val + e.val, by omega⟩) := by
  subst ho
  exact View.ld_unit_apply_of X _ _ inb _ _ (by intro a; fin_cases a <;> simp)

theorem load_k (X : Vec Ideal S1x128x128 .bf16) (H : Fin 8) (o : ℕ) (inb) (r : Fin 128) (e : Fin 64) (ho : o = 64 * (H.val / 4)) :
    View.ld X (Rect.unit ![0, 0, o] ![1, 128, 64] inb) (ix3 0 r e : S1x128x64.Idx) = X (ix3 0 r ⟨64 * (H.val / 4) + e.val, by omega⟩) := by
  subst ho
  exact View.ld_unit_apply_of X _ _ inb _ _ (by intro a; fin_cases a <;> simp)

theorem load_m (X : Vec Ideal S16x128 .bf16) (H : Fin 8) (o : ℕ) (inb) (r : Fin 16) (e : Fin 64) (ho : o = 64 * (H.val / 4)) :
    View.ld X (Rect.unit ![0, o] ![16, 64] inb) (ix2 r e : S16x64.Idx) = X (ix2 r ⟨64 * (H.val / 4) + e.val, by omega⟩) := by
  subst ho
  exact View.ld_unit_apply_of X _ _ inb _ _ (by intro a; fin_cases a <;> simp)

theorem load_b0 (X : Vec Ideal S1x8x128x384 .f32) (H : Fin 8) (h : ℕ) (inb) (r j : Fin 128) (hh : h = H.val) :
    View.ld X (Rect.unit ![0, h, 0, 0] ![1, 1, 128, 128] inb) (ix4 0 0 r j : S1x1x128x128.Idx) = X (ix4 0 H r ⟨j.val, by omega⟩) := by
  subst hh
  exact View.ld_unit_apply_of X _ _ inb _ _ (by intro a; fin_cases a <;> simp)

theorem load_b1 (X : Vec Ideal S1x8x128x384 .f32) (H : Fin 8) (h : ℕ) (inb) (r j : Fin 128) (hh : h = H.val) :
    View.ld X (Rect.unit ![0, h, 0, 128] ![1, 1, 128, 128] inb) (ix4 0 0 r j : S1x1x128x128.Idx) = X (ix4 0 H r ⟨128 + j.val, by omega⟩) := by
  subst hh
  exact View.ld_unit_apply_of X _ _ inb _ _ (by intro a; fin_cases a <;> simp)

theorem load_b2 (X : Vec Ideal S1x8x128x384 .f32) (H : Fin 8) (h : ℕ) (inb) (r j : Fin 128) (hh : h = H.val) :
    View.ld X (Rect.unit ![0, h, 0, 256] ![1, 1, 128, 128] inb) (ix4 0 0 r j : S1x1x128x128.Idx) = X (ix4 0 H r ⟨256 + j.val, by omega⟩) := by
  subst hh
  exact View.ld_unit_apply_of X _ _ inb _ _ (by intro a; fin_cases a <;> simp)

theorem load_b (X : Vec Ideal S1x8x128x16 .f32) (H : Fin 8) (h : ℕ) (inb) (r : Fin 128) (j : Fin 16) (hh : h = H.val) :
    View.ld X (Rect.unit ![0, h, 0, 0] ![1, 1, 128, 16] inb) (ix4 0 0 r j : S1x1x128x16.Idx) = X (ix4 0 H r j) := by
  subst hh
  exact View.ld_unit_apply_of X _ _ inb _ _ (by intro a; fin_cases a <;> simp)

theorem load_z (X : Vec Ideal S8 .f32) (H : Fin 8) (h : ℕ) (inb) (x) (hh : h = H.val) :
    View.ld X (Rect.unit ![h] ![1] inb) x = X (ix1 H) := by
  subst hh
  refine View.ld_unit_apply_of X _ _ inb _ _ (by intro a; fin_cases a; have := (x 0).isLt; simp at this; simp)

/-! ## The eight stores together -/

/-- One head's attention of the query row `r`, from the blocks: `q` the queries, `k0`, `k1`, `k2` and `v0`, `v1`, `v2` the
    keys and values of the block before, the block itself and the block after, `k` and `w` those of the meta tokens. -/
def blockOut (z : Vec Ideal S8 .f32) (q : Vec Ideal S1x128x512 .bf16) (k0 k1 k2 v0 v1 v2 : Vec Ideal S1x128x128 .bf16)
    (k w : Vec Ideal S16x128 .bf16) (b : Vec Ideal S1x8x128x384 .f32) (g : Vec Ideal S1x8x128x16 .f32) (r : Fin 128) (H : Fin 8)
    (d : Fin 64) : EReal :=
  let col : Fin 64 → Fin 128 := fun e => ⟨64 * (H.val / 4) + e.val, by omega⟩
  let Q : Fin 64 → EReal := fun e => q (ix3 0 r ⟨64 * H.val + e.val, by omega⟩)
  pieced (fun j => (∑ e, Q e * k0 (ix3 0 j (col e))) + b (ix4 0 H r ⟨j.val, by omega⟩))
    (fun j => (∑ e, Q e * k1 (ix3 0 j (col e))) + b (ix4 0 H r ⟨128 + j.val, by omega⟩))
    (fun j => (∑ e, Q e * k2 (ix3 0 j (col e))) + b (ix4 0 H r ⟨256 + j.val, by omega⟩))
    (fun j => (∑ e, Q e * k (ix2 j (col e))) + g (ix4 0 H r j)) (z (ix1 H))
    (fun j => v0 (ix3 0 j (col d))) (fun j => v1 (ix3 0 j (col d))) (fun j => v2 (ix3 0 j (col d))) (fun j => w (ix2 j (col d)))

/-- A head's output at an element, from its operands' elements. -/
theorem head_of {q k0 k1 k2 k b0 b1 b2 b z w v0 v1 v2} {r : Fin 128} {d : Fin 64} {q' : Fin 64 → EReal}
    {k0' k1' k2' : Fin 128 → Fin 64 → EReal} {k' : Fin 16 → Fin 64 → EReal} {b0' b1' b2' : Fin 128 → EReal} {b' : Fin 16 → EReal}
    {z' : EReal} {v0' v1' v2' : Fin 128 → EReal} {w' : Fin 16 → EReal}
    (hq : ∀ e, q (ix3 0 r e : S1x128x64.Idx) = q' e) (hk0 : ∀ j e, k0 (ix3 0 j e : S1x128x64.Idx) = k0' j e)
    (hk1 : ∀ j e, k1 (ix3 0 j e : S1x128x64.Idx) = k1' j e) (hk2 : ∀ j e, k2 (ix3 0 j e : S1x128x64.Idx) = k2' j e)
    (hk : ∀ j e, k (ix2 j e : S16x64.Idx) = k' j e) (hb0 : ∀ j, b0 (ix4 0 0 r j : S1x1x128x128.Idx) = b0' j)
    (hb1 : ∀ j, b1 (ix4 0 0 r j : S1x1x128x128.Idx) = b1' j) (hb2 : ∀ j, b2 (ix4 0 0 r j : S1x1x128x128.Idx) = b2' j)
    (hb : ∀ j, b (ix4 0 0 r j : S1x1x128x16.Idx) = b' j) (hz : z = z') (hv0 : ∀ j, v0 (ix3 0 j d : S1x128x64.Idx) = v0' j)
    (hv1 : ∀ j, v1 (ix3 0 j d : S1x128x64.Idx) = v1' j) (hv2 : ∀ j, v2 (ix3 0 j d : S1x128x64.Idx) = v2' j)
    (hw : ∀ j, w (ix2 j d : S16x64.Idx) = w' j) :
    head q k0 k1 k2 k b0 b1 b2 b z w v0 v1 v2 (ix3 0 r d)
      = pieced (fun j => (∑ e, q' e * k0' j e) + b0' j) (fun j => (∑ e, q' e * k1' j e) + b1' j)
        (fun j => (∑ e, q' e * k2' j e) + b2' j) (fun j => (∑ e, q' e * k' j e) + b' j) z' v0' v1' v2' w' := by
  rw [head_apply]
  simp only [hq, hk0, hk1, hk2, hk, hb0, hb1, hb2, hb, hz, hv0, hv1, hv2, hw]

variable (m : (ℓ : Loc nD τ sig) → Buf (Elt Ideal) ℓ)

/-- What a grid point leaves in its output block, at an element. -/
theorem outs_apply (c : Dev nD) (t : Fin cfg0.N) (r : Fin 128) (H : Fin 8) (d : Fin 64) :
    (outsAt0 m c t : Vec Ideal S1x128x512 .bf16) (ix3 0 r ⟨64 * H.val + d.val, by omega⟩)
      = blockOut (iblk m c 0 t) (X0_1 m c t) (iblk m c 2 t) (iblk m c 3 t) (iblk m c 4 t) (iblk m c 5 t) (iblk m c 6 t) (iblk m c 7 t)
        (iblk m c 8 t) (iblk m c 9 t) (iblk m c 10 t) (iblk m c 11 t) r H d := by
  unfold outsAt0
  frame_out
  canon_tiles x h
  all_goals
    idx_vars x
    try dsimp only at h2
    refine Eq.trans (show _ = head _ _ _ _ _ _ _ _ _ _ _ _ _ _ _ from rfl) ?_
    obtain rfl : x0 = 0 := Subsingleton.elim _ _
    obtain rfl : r = x1 := Fin.ext h1
    obtain rfl : d = x2 := Fin.ext (by omega)
    refine (head_of (fun e => load_q _ H _ _ _ e ?_) (fun j e => load_k _ H _ _ j e ?_) (fun j e => load_k _ H _ _ j e ?_)
      (fun j e => load_k _ H _ _ j e ?_) (fun j e => load_m _ H _ _ j e ?_) (fun j => load_b0 _ H _ _ _ j ?_)
      (fun j => load_b1 _ H _ _ _ j ?_) (fun j => load_b2 _ H _ _ _ j ?_) (fun j => load_b _ H _ _ _ j ?_) (load_z _ H _ _ _ ?_)
      (fun j => load_k _ H _ _ j d ?_) (fun j => load_k _ H _ _ j d ?_) (fun j => load_k _ H _ _ j d ?_)
      (fun j => load_m _ H _ _ j d ?_)).trans ?_
    all_goals first | omega | rfl

/-! ## The blocks -/

/-- The windows' block indices: grid point `t` is block `t / 16` of sequence `t % 16`. -/
theorem idx : ∀ t : Fin cfg0.N, win0_0.index t = ![0] ∧ win0_1.index t = ![t.val % 16, t.val / 16, 4]
    ∧ win0_2.index t = ![t.val % 16, t.val / 16 - 1, 40] ∧ win0_3.index t = ![t.val % 16, t.val / 16, 40]
    ∧ win0_4.index t = ![t.val % 16, min (t.val / 16 + 1) 31, 40] ∧ win0_5.index t = ![t.val % 16, t.val / 16 - 1, 41]
    ∧ win0_6.index t = ![t.val % 16, t.val / 16, 41] ∧ win0_7.index t = ![t.val % 16, min (t.val / 16 + 1) 31, 41]
    ∧ win0_8.index t = ![0, 40] ∧ win0_9.index t = ![0, 41]
    ∧ win0_10.index t = ![if t.val / 16 = 0 then 0 else if t.val / 16 = 31 then 2 else 1, 0, 0, 0]
    ∧ win0_11.index t = ![t.val / 16, 0, 0, 0] ∧ win0_12.index t = ![t.val % 16, t.val / 16, 0] :=
  (by decide +kernel : ∀ t : Fin grid0.N, win0_0.index t = ![0] ∧ win0_1.index t = ![t.val % 16, t.val / 16, 4]
    ∧ win0_2.index t = ![t.val % 16, t.val / 16 - 1, 40] ∧ win0_3.index t = ![t.val % 16, t.val / 16, 40]
    ∧ win0_4.index t = ![t.val % 16, min (t.val / 16 + 1) 31, 40] ∧ win0_5.index t = ![t.val % 16, t.val / 16 - 1, 41]
    ∧ win0_6.index t = ![t.val % 16, t.val / 16, 41] ∧ win0_7.index t = ![t.val % 16, min (t.val / 16 + 1) 31, 41]
    ∧ win0_8.index t = ![0, 40] ∧ win0_9.index t = ![0, 41]
    ∧ win0_10.index t = ![if t.val / 16 = 0 then 0 else if t.val / 16 = 31 then 2 else 1, 0, 0, 0]
    ∧ win0_11.index t = ![t.val / 16, 0, 0, 0] ∧ win0_12.index t = ![t.val % 16, t.val / 16, 0])

variable (c : Dev nD)

/-- The projections the kernel reads. -/
abbrev proj : Vec Ideal S16x4096x5376 .bf16 := m ((c : Thread nD τ).loc main_arg0)
/-- The meta tokens' projections. -/
abbrev metaProj : Vec Ideal S16x5376 .bf16 := m ((c : Thread nD τ).loc main_arg1)

theorem Vproj (i) : (V m c main_arg0 : Vec Ideal S16x4096x5376 .bf16) i = proj m c i := by
  unfold V
  after_reads_at

theorem VmetaProj (i) : (V m c main_arg1 : Vec Ideal S16x5376 .bf16) i = metaProj m c i := by
  unfold V
  after_reads_at

theorem Vsink (H : Fin 8) : (V m c main_v112 : Vec Ideal S8 .f32) (ix1 H)
    = (m ((c : Thread nD τ).loc main_arg3) : Vec Ideal S1x8 .f32) (ix2 0 H) := by
  unfold V
  after_reads_at

theorem block0 (t : Fin cfg0.N) (H : Fin 8) : (iblk m c 0 t : Vec Ideal S8 .f32) (ix1 H)
    = (V m c main_v112 : Vec Ideal S8 .f32) (ix1 H) := by
  blk_ext [iblk, idx t]

variable (t : Fin cfg0.N) (ht : t.val < 512)

theorem block1 (r : Fin 128) (e : Fin 512) : (X0_1 m c t : Vec Ideal S1x128x512 .bf16) (ix3 0 r e)
    = (V m c main_arg0 : Vec Ideal S16x4096x5376 .bf16)
      (ix3 ⟨t.val % 16, by omega⟩ ⟨t.val / 16 * 128 + r.val, by omega⟩ ⟨2048 + e.val, by omega⟩) := by
  unfold X0_1 Pipeline.Window.fill
  rw [dif_pos (moved0_1 t _)]
  blk_ext [iblk, idx t]

theorem block2 (r e : Fin 128) : (iblk m c 2 t : Vec Ideal S1x128x128 .bf16) (ix3 0 r e)
    = (V m c main_arg0 : Vec Ideal S16x4096x5376 .bf16)
      (ix3 ⟨t.val % 16, by omega⟩ ⟨(t.val / 16 - 1) * 128 + r.val, by omega⟩ ⟨5120 + e.val, by omega⟩) := by
  blk_ext [iblk, idx t]

theorem block3 (r e : Fin 128) : (iblk m c 3 t : Vec Ideal S1x128x128 .bf16) (ix3 0 r e)
    = (V m c main_arg0 : Vec Ideal S16x4096x5376 .bf16)
      (ix3 ⟨t.val % 16, by omega⟩ ⟨t.val / 16 * 128 + r.val, by omega⟩ ⟨5120 + e.val, by omega⟩) := by
  blk_ext [iblk, idx t]

theorem block4 (r e : Fin 128) : (iblk m c 4 t : Vec Ideal S1x128x128 .bf16) (ix3 0 r e)
    = (V m c main_arg0 : Vec Ideal S16x4096x5376 .bf16)
      (ix3 ⟨t.val % 16, by omega⟩ ⟨min (t.val / 16 + 1) 31 * 128 + r.val, by omega⟩ ⟨5120 + e.val, by omega⟩) := by
  blk_ext [iblk, idx t]

theorem block5 (r e : Fin 128) : (iblk m c 5 t : Vec Ideal S1x128x128 .bf16) (ix3 0 r e)
    = (V m c main_arg0 : Vec Ideal S16x4096x5376 .bf16)
      (ix3 ⟨t.val % 16, by omega⟩ ⟨(t.val / 16 - 1) * 128 + r.val, by omega⟩ ⟨5248 + e.val, by omega⟩) := by
  blk_ext [iblk, idx t]

theorem block6 (r e : Fin 128) : (iblk m c 6 t : Vec Ideal S1x128x128 .bf16) (ix3 0 r e)
    = (V m c main_arg0 : Vec Ideal S16x4096x5376 .bf16)
      (ix3 ⟨t.val % 16, by omega⟩ ⟨t.val / 16 * 128 + r.val, by omega⟩ ⟨5248 + e.val, by omega⟩) := by
  blk_ext [iblk, idx t]

theorem block7 (r e : Fin 128) : (iblk m c 7 t : Vec Ideal S1x128x128 .bf16) (ix3 0 r e)
    = (V m c main_arg0 : Vec Ideal S16x4096x5376 .bf16)
      (ix3 ⟨t.val % 16, by omega⟩ ⟨min (t.val / 16 + 1) 31 * 128 + r.val, by omega⟩ ⟨5248 + e.val, by omega⟩) := by
  blk_ext [iblk, idx t]

theorem block8 (j : Fin 16) (e : Fin 128) : (iblk m c 8 t : Vec Ideal S16x128 .bf16) (ix2 j e)
    = (V m c main_arg1 : Vec Ideal S16x5376 .bf16) (ix2 j ⟨5120 + e.val, by omega⟩) := by
  blk_ext [iblk, idx t]

theorem block9 (j : Fin 16) (e : Fin 128) : (iblk m c 9 t : Vec Ideal S16x128 .bf16) (ix2 j e)
    = (V m c main_arg1 : Vec Ideal S16x5376 .bf16) (ix2 j ⟨5248 + e.val, by omega⟩) := by
  blk_ext [iblk, idx t]

/-- Which of the three bias tables block `n` of a sequence reads: the first, a middle one's, the last's. -/
def kind (n : ℕ) : Fin 3 := if n = 0 then 0 else if n = 31 then 2 else 1

theorem kind_val (n : ℕ) : (if n = 0 then 0 else if n = 31 then 2 else 1 : ℕ) = (kind n).val := by
  unfold kind
  split_ifs <;> rfl

theorem idx10 : win0_10.index t = ![(kind (t.val / 16)).val, 0, 0, 0] := by
  rw [← kind_val]
  exact (idx t).2.2.2.2.2.2.2.2.2.2.1

theorem block10 (H : Fin 8) (r : Fin 128) (j : Fin 384) : (iblk m c 10 t : Vec Ideal S1x8x128x384 .f32) (ix4 0 H r j)
    = (V m c main_v63 : Vec Ideal S3x8x128x384 .f32) (ix4 (kind (t.val / 16)) H r j) := by
  have e := idx10 t
  generalize kind (t.val / 16) = k at e ⊢
  blk_ext [iblk, e]

theorem block11 (H : Fin 8) (r : Fin 128) (j : Fin 16) : (iblk m c 11 t : Vec Ideal S1x8x128x16 .f32) (ix4 0 H r j)
    = (V m c main_v111 : Vec Ideal S32x8x128x16 .f32) (ix4 ⟨t.val / 16, by omega⟩ H r j) := by
  blk_ext [iblk, idx t]

theorem place12 (r : Fin 128) (j : Fin 512) : (win0_12.blk t).view.emb (ix3 0 r j : S1x128x512.Idx)
    = (ix3 ⟨t.val % 16, by omega⟩ ⟨t.val / 16 * 128 + r.val, by omega⟩ j : S16x4096x512.Idx) := by
  blk_ext [idx t]

end Cert.WsBlocks
end
-- ==== Proof.WsSpec.lean ====
module

public import proofs.«01_k».proof.Proof.WaMath

@[expose] public section

/-!
# The windowed attention of one query, at the sample's shapes

The attention as a function of the projections `P`, the meta tokens' projections `W`, the band's and
the meta tokens' position biases `A` and `G` and the sinks `Z`: what both programs compute.
-/

noncomputable section

namespace Cert.WsSpec

open Cert.WaMath
open scoped BigOperators

/-- Band position `k` of block `n` lies in the sequence. -/
def Inside (n : Fin 32) (k : Fin 384) : Prop := 128 ≤ n.val * 128 + k.val ∧ n.val * 128 + k.val < 4224

/-- Band position `k` is within 128 positions of the block's row `r`. -/
def Near (r : Fin 128) (k : Fin 384) : Prop := r.val ≤ k.val ∧ k.val ≤ r.val + 256

instance (n k) : Decidable (Inside n k) := by unfold Inside; infer_instance
instance (r k) : Decidable (Near r k) := by unfold Near; infer_instance

variable (P : Fin 16 → Fin 4096 → Fin 5376 → EReal) (W : Fin 16 → Fin 5376 → EReal) (A : Fin 128 → Fin 384 → Fin 8 → EReal)
  (G : Fin 32 → Fin 128 → Fin 16 → Fin 8 → EReal) (Z : Fin 8 → EReal)

/-- Column `c` of the band around block `n`: zero outside the sequence. -/
def band (b : Fin 16) (n : Fin 32) (k : Fin 384) (c : Fin 5376) : EReal :=
  if h : Inside n k then P b ⟨n.val * 128 + k.val - 128, by have := h.1; have := h.2; omega⟩ c else 0

/-- The query's score of a band position. -/
def score (b : Fin 16) (n : Fin 32) (r : Fin 128) (H : Fin 8) (k : Fin 384) : EReal :=
  if Near r k ∧ Inside n k then
    (∑ e : Fin 64, P b ⟨n.val * 128 + r.val, by omega⟩ ⟨2048 + (64 * H.val + e.val), by omega⟩
      * band P b n k ⟨5120 + (64 * (H.val / 4) + e.val), by omega⟩) + A r k H
  else ⊥

/-- The query's score of a meta token. -/
def metaScore (b : Fin 16) (n : Fin 32) (r : Fin 128) (H : Fin 8) (j : Fin 16) : EReal :=
  (∑ e : Fin 64, P b ⟨n.val * 128 + r.val, by omega⟩ ⟨2048 + (64 * H.val + e.val), by omega⟩
    * W j ⟨5120 + (64 * (H.val / 4) + e.val), by omega⟩) + G n r j H

/-- The windowed attention of one query, at element `d` of head `H`. -/
def windowed (b : Fin 16) (n : Fin 32) (r : Fin 128) (H : Fin 8) (d : Fin 64) : EReal :=
  attend (score P A b n r H) (metaScore P W G b n r H) (Z H)
    (fun k => band P b n k ⟨5248 + (64 * (H.val / 4) + d.val), by omega⟩) (fun j => W j ⟨5248 + (64 * (H.val / 4) + d.val), by omega⟩)

end Cert.WsSpec
end
-- ==== Proof.WsRef.lean ====
module

public import proofs.«01_k».proof.Proof.WsSpec
public import Idealize.ShloMosaic.Lib.KernelVsHost
public import proofs.«01_k».proof.Proof.Gen.WsReferenceIdeal.Run

@[expose] public section

/-!
# The windowed attention's reference at an element, at the sample's shapes

The reference program's value, read down to the softmax of one query's row of 401 scores.
-/

noncomputable section

namespace Cert.WsRef

open Idealize.ShloMosaic Idealize.ShloMosaic.TcCoe Idealize.SL.Sem Idealize.ShloMosaic.StableHlo
open scoped BigOperators
open Cert.WsReferenceIdeal Cert.WsReferenceIdeal.Gen Cert.WsReferenceIdeal.Value Cert.WaMath Cert.WsSpec

variable (V0 : Valuation τ sig (Elt Ideal))

/-- The projections. -/
abbrev P : Vec Ideal S16x4096x5376 .bf16 := V0 (Proc.devRef .tc main_arg0)
/-- The meta tokens' projections. -/
abbrev W : Vec Ideal S16x5376 .bf16 := V0 (Proc.devRef .tc main_arg1)
/-- The position biases. -/
abbrev T : Vec Ideal S32x8 .f32 := V0 (Proc.devRef .tc main_arg2)
/-- The sinks. -/
abbrev K : Vec Ideal S1x8 .f32 := V0 (Proc.devRef .tc main_arg3)

theorem neg_inf : Ideal.ofBits FTy.f32 0xFF800000#32 = ⊥ := by simp [Ideal.ofBits, Ideal.ieee]

theorem zero_word : (FloatOps.sitofp FTy.f32 0#32 : Ideal .f32) = 0 := by
  show (((0#32 : BitVec 32).toInt : ℝ) : EReal) = 0
  norm_num

/-! ## Queries, keys and values -/

theorem q_apply (b : Fin 16) (n : Fin 32) (q : Fin 128) (g : Fin 2) (h : Fin 4) (e : Fin 64) :
    (res_main_v8 V0 : FVec Ideal S16x32x128x2x4x64 .f32) (ix6 b n q g h e)
      = P V0 (ix3 b ⟨n.val * 128 + q.val, by omega⟩ ⟨2048 + ((g.val * 4 + h.val) * 64 + e.val), by omega⟩) := by
  unfold res_main_v8 res_main_v0
  pointwise
  exact congrArg (P V0) (congrArg (ix3 b _) (Fin.ext (by dsimp only; omega)))

theorem k_apply (b : Fin 16) (p : Fin 34) (q : Fin 128) (g : Fin 2) (e : Fin 64) :
    (res_main_v10 V0 : FVec Ideal S16x34x128x2x64 .f32) (ix5 b p q g e)
      = if h : 128 ≤ p.val * 128 + q.val ∧ p.val * 128 + q.val - 128 < 4096 then
          P V0 (ix3 b ⟨p.val * 128 + q.val - 128, by omega⟩ ⟨5120 + (g.val * 64 + e.val), by omega⟩) else 0 := by
  unfold res_main_v10 res_main_v0
  pointwise
  rw [zero_word]

theorem v_apply (b : Fin 16) (p : Fin 34) (q : Fin 128) (g : Fin 2) (e : Fin 64) :
    (res_main_v16 V0 : FVec Ideal S16x34x128x2x64 .f32) (ix5 b p q g e)
      = if h : 128 ≤ p.val * 128 + q.val ∧ p.val * 128 + q.val - 128 < 4096 then
          P V0 (ix3 b ⟨p.val * 128 + q.val - 128, by omega⟩ ⟨5248 + (g.val * 64 + e.val), by omega⟩) else 0 := by
  unfold res_main_v16 res_main_v0
  pointwise
  rw [zero_word]

/-- Three consecutive blocks of a padded array, joined. -/
def joined (X : FVec Ideal S16x34x128x2x64 .f32) : FVec Ideal S16x32x384x2x64 .f32 :=
  concatenate S16x32x384x2x64 2
    [⟨S16x32x128x2x64, extractStridedSlice S16x32x128x2x64 ![0, 0, 0, 0, 0] X slices_S16x34x128x2x64_S16x32x128x2x64_0_0_0_0_0⟩,
     ⟨S16x32x128x2x64, extractStridedSlice S16x32x128x2x64 ![0, 1, 0, 0, 0] X slices_S16x34x128x2x64_S16x32x128x2x64_0_1_0_0_0⟩,
     ⟨S16x32x128x2x64, extractStridedSlice S16x32x128x2x64 ![0, 2, 0, 0, 0] X slices_S16x34x128x2x64_S16x32x128x2x64_0_2_0_0_0⟩]
    concatenates_S16x32x128x2x64_S16x32x128x2x64_S16x32x128x2x64_S16x32x384x2x64_d2

theorem joined_apply (X : FVec Ideal S16x34x128x2x64 .f32) (b : Fin 16) (n : Fin 32) (k : Fin 384) (g : Fin 2) (e : Fin 64) :
    joined X (ix5 b n k g e) = X (ix5 b ⟨n.val + k.val / 128, by omega⟩ ⟨k.val % 128, by omega⟩ g e) := by
  have key (p p' : Fin 34) (q q' : Fin 128) (hp : p.val = p'.val) (hq : q.val = q'.val) :
      X (ix5 b p q g e) = X (ix5 b p' q' g e) := by
    rw [Fin.ext hp, Fin.ext hq]
  pointwise [joined]
  split
  · exact key _ _ _ _ (by dsimp only; omega) (by dsimp only; omega)
  · split
    · exact key _ _ _ _ (by dsimp only; omega) (by dsimp only; omega)
    · exact key _ _ _ _ (by dsimp only; omega) (by dsimp only; omega)

/-! ## Scores -/

theorem band_apply (M : IVec S32x128x384 1) (X : FVec Ideal S16x32x384x2x64 .f32) (Y : FVec Ideal S16x32x128x2x4x64 .f32)
    (B : FVec Ideal S128x384x8 .f32) (b : Fin 16) (n : Fin 32) (g : Fin 2) (h : Fin 4) (q : Fin 128) (k : Fin 384) :
    (select (broadcastInDim S16x32x2x4x128x384 ![1, 2, 3, 4, 5] bcast_S32x1x1x128x384_S16x32x2x4x128x384_1_2_3_4_5 (broadcastInDim S32x1x1x128x384 ![0, 3, 4] bcast_S32x128x384_S32x1x1x128x384_0_3_4 M)) (addf (transpose S16x32x2x4x128x384 [0, 1, 2, 5, 4, 3] (Host.dotGeneral dot_S16x32x384x2x64_S16x32x128x2x4x64_S16x32x2x384x128x4_4_5_2_24_013_013 none X Y) transposes_S16x32x2x384x128x4_S16x32x2x4x128x384_0_1_2_5_4_3) (broadcastInDim S16x32x2x4x128x384 ![0, 1, 2, 3, 4, 5] bcast_S1x1x2x4x128x384_S16x32x2x4x128x384_0_1_2_3_4_5 (broadcastInDim S1x1x2x4x128x384 ![2, 3, 4, 5] bcast_S2x4x128x384_S1x1x2x4x128x384_2_3_4_5 (transpose S2x4x128x384 [2, 3, 0, 1] (shapeCast _ B shapeCasts_S128x384x8_S128x384x2x4) transposes_S128x384x2x4_S2x4x128x384_2_3_0_1)))) (broadcastInDim S16x32x2x4x128x384 ![] bcast_S_S16x32x2x4x128x384 (id (constant S_ .f32 0xFF800000#32))) : FVec Ideal S16x32x2x4x128x384 .f32) (ix6 b n g h q k)
      = Scalar.select (M (ix3 n q k)) ((∑ e : Fin 64, X (ix5 b n k g e) * Y (ix6 b n q g h e)) + B (ix3 q k ⟨g.val * 4 + h.val, by omega⟩)) ⊥ := by
  pointwise
  exact congrArg _ neg_inf

theorem meta_apply (X : FVec Ideal S16x2x64 .f32) (Y : FVec Ideal S16x32x128x2x4x64 .f32) (B : FVec Ideal S32x128x16x8 .f32)
    (b : Fin 16) (n : Fin 32) (g : Fin 2) (h : Fin 4) (q : Fin 128) (k : Fin 16) :
    (addf (transpose S16x32x2x4x128x16 [2, 3, 0, 5, 4, 1] (Host.dotGeneral dot_S16x2x64_S16x32x128x2x4x64_S2x16x16x32x128x4_2_5_0_0124_1_3 none X Y) transposes_S2x16x16x32x128x4_S16x32x2x4x128x16_2_3_0_5_4_1) (broadcastInDim S16x32x2x4x128x16 ![0, 1, 2, 3, 4, 5] bcast_S1x32x2x4x128x16_S16x32x2x4x128x16_0_1_2_3_4_5 (broadcastInDim S1x32x2x4x128x16 ![1, 2, 3, 4, 5] bcast_S32x2x4x128x16_S1x32x2x4x128x16_1_2_3_4_5 (transpose S32x2x4x128x16 [0, 3, 4, 1, 2] (shapeCast _ B shapeCasts_S32x128x16x8_S32x128x16x2x4) transposes_S32x128x16x2x4_S32x2x4x128x16_0_3_4_1_2))) : FVec Ideal S16x32x2x4x128x16 .f32) (ix6 b n g h q k)
      = (∑ e : Fin 64, X (ix3 k g e) * Y (ix6 b n q g h e)) + B (ix4 n q k ⟨g.val * 4 + h.val, by omega⟩) := by
  pointwise

theorem joined_row (X : FVec Ideal S16x32x2x4x128x384 .f32) (Y : FVec Ideal S16x32x2x4x128x16 .f32) (Z : FVec Ideal S16x32x2x4x128x1 .f32) (hc)
    (b : Fin 16) (n : Fin 32) (g : Fin 2) (h : Fin 4) (q : Fin 128) (k : Fin 401) :
    (concatenate S16x32x2x4x128x401 5 [⟨S16x32x2x4x128x384, X⟩, ⟨S16x32x2x4x128x16, Y⟩, ⟨S16x32x2x4x128x1, Z⟩] hc : FVec Ideal S16x32x2x4x128x401 .f32) (ix6 b n g h q k)
      = row (fun j => X (ix6 b n g h q j)) (fun j => Y (ix6 b n g h q j)) (Z (ix6 b n g h q 0)) k := by
  unfold row
  pointwise
  split
  · rfl
  · split
    · rw [dif_pos (by omega)]
    · rw [dif_neg (by omega)]
      exact congrArg (fun i => Z (ix6 b n g h q i)) (Subsingleton.elim _ _)

/-! ## The softmax -/

theorem max_apply (X : FVec Ideal S16x32x2x4x128x401 .f32) (b : Fin 16) (n : Fin 32) (g : Fin 2) (h : Fin 4) (q : Fin 128) :
    Host.reduce (FloatOps.maximumf (F := Ideal) (φ := .f32)) X (constant S_ .f32 0xFF800000#32) reducesTo_S16x32x2x4x128x401_S16x32x2x4x128_d5 h_S_ (ix5 b n g h q)
      = peak fun k => X (ix6 b n g h q k) := by
  rw [hostReduce_maximumf_eq_multiReduction X _ reducesTo_S16x32x2x4x128x401_S16x32x2x4x128_d5 h_S_ (by decide) (by decide) (by decide),
    Ideal.multiReduction_maximumf_single]
  unfold peak
  refine (congrArg (fun z => Finset.fold max z _ _) neg_inf).trans ?_
  refine congrArg (fun f => Finset.fold max ⊥ f Finset.univ) (funext fun k => ?_)
  exact congrArg X (funext fun a => Fin.ext (by match a with | ⟨0, _⟩ => rfl | ⟨1, _⟩ => rfl | ⟨2, _⟩ => rfl | ⟨3, _⟩ => rfl | ⟨4, _⟩ => rfl | ⟨5, _⟩ => rfl))

theorem sum_apply (X : FVec Ideal S16x32x2x4x128x401 .f32) (b : Fin 16) (n : Fin 32) (g : Fin 2) (h : Fin 4) (q : Fin 128) :
    Host.reduceAdd X (constant S_ .f32 0x00000000#32) reducesTo_S16x32x2x4x128x401_S16x32x2x4x128_d5 h_S_ (ix5 b n g h q)
      = ∑ k : Fin 401, X (ix6 b n g h q k) := by
  simp only [Host.reduceAdd, Ideal.hostReduceAdd_def]
  rw [Ideal.hostReduceAdd_single reducesTo_S16x32x2x4x128x401_S16x32x2x4x128_d5 (by decide)]
  refine (congrArg (· + _) (show _ = (0 : EReal) by pointwise)).trans ((zero_add _).trans (Finset.sum_congr rfl fun k _ => ?_))
  exact congrArg X (funext fun a => Fin.ext (by match a with | ⟨0, _⟩ => rfl | ⟨1, _⟩ => rfl | ⟨2, _⟩ => rfl | ⟨3, _⟩ => rfl | ⟨4, _⟩ => rfl | ⟨5, _⟩ => rfl))

theorem exp_apply (X : FVec Ideal S16x32x2x4x128x401 .f32) (Y : FVec Ideal S16x32x2x4x128 .f32) (b : Fin 16) (n : Fin 32) (g : Fin 2) (h : Fin 4) (q : Fin 128) (k : Fin 401) :
    (Host.exp (subf X (broadcastInDim S16x32x2x4x128x401 ![0, 1, 2, 3, 4, 5] bcast_S16x32x2x4x128x1_S16x32x2x4x128x401_0_1_2_3_4_5 (broadcastInDim S16x32x2x4x128x1 ![0, 1, 2, 3, 4] bcast_S16x32x2x4x128_S16x32x2x4x128x1_0_1_2_3_4 (maximumf (broadcastInDim S16x32x2x4x128 ![] bcast_S_S16x32x2x4x128 (constant S_ .f32 0xFF800000#32)) Y)))) : FVec Ideal S16x32x2x4x128x401 .f32) (ix6 b n g h q k)
      = Ideal.exp (X (ix6 b n g h q k) - max ⊥ (Y (ix5 b n g h q))) := by
  pointwise
  rw [neg_inf]

theorem div_apply (X : FVec Ideal S16x32x2x4x128x401 .f32) (Y : FVec Ideal S16x32x2x4x128 .f32) (b : Fin 16) (n : Fin 32) (g : Fin 2) (h : Fin 4) (q : Fin 128) (k : Fin 401) :
    (Host.divf X (broadcastInDim S16x32x2x4x128x401 ![0, 1, 2, 3, 4, 5] bcast_S16x32x2x4x128x1_S16x32x2x4x128x401_0_1_2_3_4_5 (broadcastInDim S16x32x2x4x128x1 ![0, 1, 2, 3, 4] bcast_S16x32x2x4x128_S16x32x2x4x128x1_0_1_2_3_4 Y)) : FVec Ideal S16x32x2x4x128x401 .f32) (ix6 b n g h q k)
      = Ideal.div (X (ix6 b n g h q k)) (Y (ix5 b n g h q)) := by
  pointwise

/-! ## The result -/

theorem out_apply (X : FVec Ideal S16x32x384x2x64 .f32) (Y : FVec Ideal S16x2x64 .f32) (Q : FVec Ideal S16x32x2x4x128x401 .f32) (b : Fin 16) (n : Fin 32) (g : Fin 2) (h : Fin 4) (q : Fin 128) (d : Fin 64) :
    (addf (transpose S16x32x128x2x4x64 [0, 1, 5, 2, 4, 3] (Host.dotGeneral dot_S16x32x384x2x64_S16x32x2x4x128x384_S16x32x2x64x4x128_2_5_4_34_013_012 none X (extractStridedSlice S16x32x2x4x128x384 ![0, 0, 0, 0, 0, 0] Q slices_S16x32x2x4x128x401_S16x32x2x4x128x384_0_0_0_0_0_0)) transposes_S16x32x2x64x4x128_S16x32x128x2x4x64_0_1_5_2_4_3) (transpose S16x32x128x2x4x64 [2, 3, 5, 0, 4, 1] (Host.dotGeneral dot_S16x2x64_S16x32x2x4x128x16_S2x64x16x32x4x128_0_5_2_0134_1_2 none Y (extractStridedSlice S16x32x2x4x128x16 ![0, 0, 0, 0, 0, 384] Q slices_S16x32x2x4x128x401_S16x32x2x4x128x16_0_0_0_0_0_384)) transposes_S2x64x16x32x4x128_S16x32x128x2x4x64_2_3_5_0_4_1) : FVec Ideal S16x32x128x2x4x64 .f32) (ix6 b n q g h d)
      = (∑ k : Fin 384, X (ix5 b n k g d) * Q (ix6 b n g h q ⟨k.val, by omega⟩)) + ∑ j : Fin 16, Y (ix3 j g d) * Q (ix6 b n g h q ⟨384 + j.val, by omega⟩) := by
  pointwise

/-! ## The mask -/

theorem near_word : ∀ (q : Fin 128) (k : Fin 384),
    IntOp.cmpi .sle (IntOp.absi (IntOp.subi (IntOp.subi (BitVec.ofNat 32 k.val) 128#32) (BitVec.ofNat 32 q.val))) 128#32
      = if Near q k then 1#1 else 0#1 := by
  decide +kernel

theorem inside_word : ∀ (n : Fin 32) (k : Fin 384),
    IntOp.andi (IntOp.cmpi .sge (IntOp.subi (IntOp.addi (IntOp.muli (BitVec.ofNat 32 n.val) 128#32) (BitVec.ofNat 32 k.val)) 128#32) 0#32)
        (IntOp.cmpi .slt (IntOp.subi (IntOp.addi (IntOp.muli (BitVec.ofNat 32 n.val) 128#32) (BitVec.ofNat 32 k.val)) 128#32) 4096#32)
      = if Inside n k then 1#1 else 0#1 := by
  decide +kernel

/-- The mask keeps the positions of the sequence within 128 of the query. -/
theorem mask_apply (n : Fin 32) (q : Fin 128) (k : Fin 384) :
    (andi (broadcastInDim S32x128x384 ![0, 1, 2] bcast_S1x128x384_S32x128x384_0_1_2 (broadcastInDim S1x128x384 ![1, 2] bcast_S128x384_S1x128x384_1_2 (cmpi .sle (absi (res_main_v30 V0)) (broadcastInDim S128x384 ![] bcast_S_S128x384 (constantI S_ 32 128#32))))) (broadcastInDim S32x128x384 ![0, 1, 2] bcast_S32x1x384_S32x128x384_0_1_2 (broadcastInDim S32x1x384 ![0, 2] bcast_S32x384_S32x1x384_0_2 (andi (cmpi .sge (res_main_v39 V0) (broadcastInDim S32x384 ![] bcast_S_S32x384 (constantI S_ 32 0#32))) (cmpi .slt (res_main_v39 V0) (broadcastInDim S32x384 ![] bcast_S_S32x384 (constantI S_ 32 4096#32)))))) : IVec S32x128x384 1) (ix3 n q k)
      = if Near q k ∧ Inside n k then 1#1 else 0#1 := by
  pointwise [res_main_v30, res_main_v39, res_main_v21, res_main_v22, res_main_v23]
  rw [near_word, inside_word]
  by_cases h : Near q k <;> by_cases h' : Inside n k <;> simp [h, h', IntOp.andi]

/-! ## The whole reference -/

/-- The position biases the program reads for the band, by row, band position and head. -/
def bandBias : FVec Ideal S128x384x8 .f32 :=
  Host.gather gather_S32x8_S128x384x1_S128x384x8_2_0_n_n_0_2_18 (T V0) (broadcastInDim S128x384x1 ![0, 1] bcast_S128x384_S128x384x1_0_1 (select (cmpi .slt (res_main_v76 V0) (broadcastInDim S128x384 ![] bcast_S_S128x384 (constantI S_ 32 0#32))) (addi (res_main_v76 V0) (broadcastInDim S128x384 ![] bcast_S_S128x384 (constantI S_ 32 32#32))) (res_main_v76 V0)))

/-- The position biases the program reads for the meta tokens, by block, row, token and head. -/
def metaBias : FVec Ideal S32x128x16x8 .f32 :=
  Host.gather gather_S32x8_S32x128x16x1_S32x128x16x8_3_0_n_n_0_3_18 (T V0) (broadcastInDim S32x128x16x1 ![0, 1, 2] bcast_S32x128x16_S32x128x16x1_0_1_2 (select (cmpi .slt (res_main_v124 V0) (broadcastInDim S32x128x16 ![] bcast_S_S32x128x16 (constantI S_ 32 0#32))) (addi (res_main_v124 V0) (broadcastInDim S32x128x16 ![] bcast_S_S32x128x16 (constantI S_ 32 32#32))) (res_main_v124 V0)))

abbrev fP : Fin 16 → Fin 4096 → Fin 5376 → EReal := fun b i c => P V0 (ix3 b i c)
abbrev fW : Fin 16 → Fin 5376 → EReal := fun j c => W V0 (ix2 j c)
abbrev fA : Fin 128 → Fin 384 → Fin 8 → EReal := fun r k H => bandBias V0 (ix3 r k H)
abbrev fG : Fin 32 → Fin 128 → Fin 16 → Fin 8 → EReal := fun n r j H => metaBias V0 (ix4 n r j H)
abbrev fZ : Fin 8 → EReal := fun H => K V0 (ix2 0 H)

theorem joined_k (b : Fin 16) (n : Fin 32) (k : Fin 384) (g : Fin 2) (e : Fin 64) :
    joined (res_main_v10 V0) (ix5 b n k g e) = band (fP V0) b n k ⟨5120 + (g.val * 64 + e.val), by omega⟩ := by
  rw [joined_apply, k_apply]
  unfold band
  have e1 : (n.val + k.val / 128) * 128 + k.val % 128 = n.val * 128 + k.val := by omega
  by_cases h : Inside n k
  · have h1 := h.1
    have h2 := h.2
    rw [dif_pos h, dif_pos (by dsimp only; omega)]
    exact congrArg (fun i => P V0 (ix3 b i _)) (Fin.ext (by dsimp only; omega))
  · rw [dif_neg h, dif_neg (by dsimp only; unfold Inside at h; omega)]

theorem joined_v (b : Fin 16) (n : Fin 32) (k : Fin 384) (g : Fin 2) (e : Fin 64) :
    joined (res_main_v16 V0) (ix5 b n k g e) = band (fP V0) b n k ⟨5248 + (g.val * 64 + e.val), by omega⟩ := by
  rw [joined_apply, v_apply]
  unfold band
  have e1 : (n.val + k.val / 128) * 128 + k.val % 128 = n.val * 128 + k.val := by omega
  by_cases h : Inside n k
  · have h1 := h.1
    have h2 := h.2
    rw [dif_pos h, dif_pos (by dsimp only; omega)]
    exact congrArg (fun i => P V0 (ix3 b i _)) (Fin.ext (by dsimp only; omega))
  · rw [dif_neg h, dif_neg (by dsimp only; unfold Inside at h; omega)]

/-- The pair of a head: its group and its place in the group. -/
theorem pair (H : Fin 8) (g : Fin 2) (h : Fin 4) (e : H.val = g.val * 4 + h.val) : H.val / 4 = g.val := by omega

/-- One query's row of scores is the band's, the meta tokens' and the sink's. -/
theorem row_apply (b : Fin 16) (n : Fin 32) (g : Fin 2) (h : Fin 4) (q : Fin 128) (H : Fin 8) (hH : H.val = g.val * 4 + h.val) (k : Fin 401) :
    (res_main_v154 V0 : FVec Ideal S16x32x2x4x128x401 .f32) (ix6 b n g h q k)
      = row (score (fP V0) (fA V0) b n q H) (metaScore (fP V0) (fW V0) (fG V0) b n q H) (fZ V0 H) k := by
  have hg : H.val / 4 = g.val := pair H g h hH
  unfold res_main_v154
  refine (joined_row _ _ _ _ b n g h q k).trans ?_
  congr 1
  · funext j
    refine (band_apply _ (joined (res_main_v10 V0)) _ (bandBias V0) b n g h q j).trans ?_
    rw [mask_apply]
    unfold score
    by_cases hm : Near q j ∧ Inside n j
    · rw [if_pos hm, if_pos hm]
      refine congrArg₂ (· + ·) (Finset.sum_congr rfl fun e _ => ?_) (congrArg (fun i => bandBias V0 (ix3 q j i)) (Fin.ext hH.symm))
      rw [joined_k, q_apply, mul_comm]
      congr 2
      · exact congrArg (ix3 b _) (Fin.ext (by dsimp only; omega))
      · exact Fin.ext (by dsimp only; omega)
    · rw [if_neg hm, if_neg hm]
      rfl
  · funext j
    refine (meta_apply _ _ (metaBias V0) b n g h q j).trans ?_
    unfold metaScore
    refine congrArg₂ (· + ·) (Finset.sum_congr rfl fun e _ => ?_) (congrArg (fun i => metaBias V0 (ix4 n q j i)) (Fin.ext hH.symm))
    rw [q_apply, mul_comm]
    congr 1
    · exact congrArg (fun i => P V0 (ix3 b _ i)) (Fin.ext (by dsimp only; omega))
    · pointwise [res_main_v1]
      exact congrArg (fun i => W V0 (ix2 j i)) (Fin.ext (by dsimp only; omega))
  · pointwise
    exact congrArg (fun i => K V0 (ix2 0 i)) (Fin.ext hH.symm)

end Cert.WsRef
end
-- ==== Proof.WsTables.lean ====
module

public import proofs.«01_k».proof.Proof.WsBlocks
public import proofs.«01_k».proof.Proof.WsRef

@[expose] public section

/-!
# The bias tables the windowed attention's host fills are the reference's, at the sample's shapes
-/

noncomputable section

namespace Cert.WsTables

open Idealize.ShloMosaic Idealize.ShloMosaic.TcCoe Idealize.SL.Sem Idealize.ShloMosaic.StableHlo
open scoped BigOperators
open Cert.WsKernelIdeal Cert.WsKernelIdeal.Gen Cert.WsKernelIdeal.Value Cert.WaMath Cert.WsSpec Cert.WsBlocks

variable (m : (ℓ : Loc nD τ sig) → Buf (Elt Ideal) ℓ)
variable (c : Dev nD)

variable (V0 : Valuation Cert.WsReferenceIdeal.τ Cert.WsReferenceIdeal.sig (Elt Ideal))
variable (hT : WsRef.T V0 = (m ((c : Thread nD τ).loc main_arg2) : Vec Ideal S32x8 .f32))

include hT in
/-- The meta tokens' table the kernel reads, against the reference's. -/
theorem meta_table (n : Fin 32) (H : Fin 8) (r : Fin 128) (j : Fin 16) :
    (V m c main_v111 : FVec Ideal S32x8x128x16 .f32) (ix4 n H r j) = WsRef.metaBias V0 (ix4 n r j H) := by
  unfold V
  after_reads_at
  unfold WsRef.metaBias
  rw [hT]
  rfl

theorem minus_inf : (constant S_ FTy.f32 4286578688#32 : FVec Ideal S_ .f32) ix0 = ⊥ := WsRef.neg_inf

include hT in
/-- The bias table of the first block. -/
theorem table_first (H : Fin 8) (r : Fin 128) (k : Fin 384) :
    (V m c main_v63 : FVec Ideal S3x8x128x384 .f32) (ix4 0 H r k)
      = if Near r k ∧ 128 ≤ k.val then WsRef.bandBias V0 (ix3 r k H) else ⊥ := by
  unfold V
  after_reads_at
  after_reads_at
  generalize hg : Host.gather _ _ _ = G
  have hG : G = WsRef.bandBias V0 := by
    rw [← hg]
    unfold WsRef.bandBias
    rw [hT]
    rfl
  clear hg
  subst hG
  rw [WsRef.near_word]
  generalize hw : IntOp.cmpi CmpIPredicate.ne (Scalar.select _ _ _) 0#32 = w
  have hw' : w = if 128 ≤ k.val then 1#1 else 0#1 := by
    rw [← hw]
    clear hw hT w
    revert k
    decide +kernel
  rw [hw']
  by_cases h : Near r k <;> by_cases h' : 128 ≤ k.val <;> simp [h, h', IntOp.andi, Scalar.select, minus_inf]

include hT in
/-- The bias table of the every middle block. -/
theorem table_middle (H : Fin 8) (r : Fin 128) (k : Fin 384) :
    (V m c main_v63 : FVec Ideal S3x8x128x384 .f32) (ix4 1 H r k)
      = if Near r k then WsRef.bandBias V0 (ix3 r k H) else ⊥ := by
  unfold V
  after_reads_at
  after_reads_at
  generalize hg : Host.gather _ _ _ = G
  have hG : G = WsRef.bandBias V0 := by
    rw [← hg]
    unfold WsRef.bandBias
    rw [hT]
    rfl
  clear hg
  subst hG
  rw [WsRef.near_word]
  by_cases h : Near r k <;> simp [h, Scalar.select, minus_inf]

include hT in
/-- The bias table of the last block. -/
theorem table_last (H : Fin 8) (r : Fin 128) (k : Fin 384) :
    (V m c main_v63 : FVec Ideal S3x8x128x384 .f32) (ix4 2 H r k)
      = if Near r k ∧ k.val < 256 then WsRef.bandBias V0 (ix3 r k H) else ⊥ := by
  unfold V
  after_reads_at
  after_reads_at
  generalize hg : Host.gather _ _ _ = G
  have hG : G = WsRef.bandBias V0 := by
    rw [← hg]
    unfold WsRef.bandBias
    rw [hT]
    rfl
  clear hg
  subst hG
  rw [WsRef.near_word]
  generalize hw : IntOp.cmpi CmpIPredicate.ne (Scalar.select _ _ _) 2#32 = w
  have hw' : w = if k.val < 256 then 1#1 else 0#1 := by
    rw [← hw]
    clear hw hT w
    revert k
    decide +kernel
  rw [hw']
  by_cases h : Near r k <;> by_cases h' : k.val < 256 <;> simp [h, h', IntOp.andi, Scalar.select, minus_inf]

end Cert.WsTables
end
-- ==== Proof.WsRefResult.lean ====
module

public import proofs.«01_k».proof.Proof.WsRef

@[expose] public section

/-!
# The windowed attention's reference is the attention of every query, at the sample's shapes
-/

noncomputable section

namespace Cert.WsRef

open Idealize.ShloMosaic Idealize.ShloMosaic.TcCoe Idealize.SL.Sem Idealize.ShloMosaic.StableHlo
open scoped BigOperators
open Cert.WsReferenceIdeal Cert.WsReferenceIdeal.Gen Cert.WsReferenceIdeal.Value Cert.WaMath Cert.WsSpec

variable (V0 : Valuation τ sig (Elt Ideal))

/-- The weights of a row before division. -/
theorem weight_apply (b : Fin 16) (n : Fin 32) (g : Fin 2) (h : Fin 4) (q : Fin 128) (H : Fin 8) (hH : H.val = g.val * 4 + h.val) (k : Fin 401) :
    (res_main_v161 V0 : FVec Ideal S16x32x2x4x128x401 .f32) (ix6 b n g h q k)
      = Ideal.exp (row (score (fP V0) (fA V0) b n q H) (metaScore (fP V0) (fW V0) (fG V0) b n q H) (fZ V0 H) k
        - max ⊥ (peak (row (score (fP V0) (fA V0) b n q H) (metaScore (fP V0) (fW V0) (fG V0) b n q H) (fZ V0 H)))) := by
  unfold res_main_v161
  refine (exp_apply _ _ b n g h q k).trans ?_
  rw [max_apply]
  simp only [row_apply V0 b n g h q H hH]

/-- The weights of a row. -/
theorem softmax_apply (b : Fin 16) (n : Fin 32) (g : Fin 2) (h : Fin 4) (q : Fin 128) (H : Fin 8) (hH : H.val = g.val * 4 + h.val) (k : Fin 401) :
    (res_main_v165 V0 : FVec Ideal S16x32x2x4x128x401 .f32) (ix6 b n g h q k)
      = Ideal.div ((res_main_v161 V0 : FVec Ideal S16x32x2x4x128x401 .f32) (ix6 b n g h q k))
        (∑ j, (res_main_v161 V0 : FVec Ideal S16x32x2x4x128x401 .f32) (ix6 b n g h q j)) := by
  unfold res_main_v165
  refine (div_apply _ _ b n g h q k).trans ?_
  rw [sum_apply]

/-- The weighted values, as the program composes them. -/
def combined (X : FVec Ideal S16x32x384x2x64 .f32) (Y : FVec Ideal S16x5376 .f32) (Q : FVec Ideal S16x32x2x4x128x401 .f32) : FVec Ideal S16x4096x512 .bf16 :=
  truncf .bf16 (shapeCast _ (addf (transpose S16x32x128x2x4x64 [0, 1, 5, 2, 4, 3] (Host.dotGeneral dot_S16x32x384x2x64_S16x32x2x4x128x384_S16x32x2x64x4x128_2_5_4_34_013_012 none X (extractStridedSlice S16x32x2x4x128x384 ![0, 0, 0, 0, 0, 0] Q slices_S16x32x2x4x128x401_S16x32x2x4x128x384_0_0_0_0_0_0)) transposes_S16x32x2x64x4x128_S16x32x128x2x4x64_0_1_5_2_4_3) (transpose S16x32x128x2x4x64 [2, 3, 5, 0, 4, 1] (Host.dotGeneral dot_S16x2x64_S16x32x2x4x128x16_S2x64x16x32x4x128_0_5_2_0134_1_2 none (shapeCast _ (extractStridedSlice S16x128 ![0, 5248] Y slices_S16x5376_S16x128_0_5248) shapeCasts_S16x128_S16x2x64) (extractStridedSlice S16x32x2x4x128x16 ![0, 0, 0, 0, 0, 384] Q slices_S16x32x2x4x128x401_S16x32x2x4x128x16_0_0_0_0_0_384)) transposes_S2x64x16x32x4x128_S16x32x128x2x4x64_2_3_5_0_4_1)) shapeCasts_S16x32x128x2x4x64_S16x4096x512) bitsLt_bf16_f32

/-- The reference's result, as the program composes it. -/
def result : FVec Ideal S16x4096x512 .bf16 := combined (joined (res_main_v16 V0)) (res_main_v1 V0) (res_main_v165 V0)

theorem reshape_apply (X : FVec Ideal S16x32x128x2x4x64 .f32) (b : Fin 16) (n : Fin 32) (r : Fin 128) (H : Fin 8) (d : Fin 64) :
    (truncf .bf16 (shapeCast S16x4096x512 X shapeCasts_S16x32x128x2x4x64_S16x4096x512) bitsLt_bf16_f32 : FVec Ideal S16x4096x512 .bf16)
        (ix3 b ⟨n.val * 128 + r.val, by omega⟩ ⟨64 * H.val + d.val, by omega⟩)
      = X (ix6 b n r ⟨H.val / 4, by omega⟩ ⟨H.val % 4, by omega⟩ d) := by
  refine (show _ = shapeCast S16x4096x512 X shapeCasts_S16x32x128x2x4x64_S16x4096x512 _ from rfl).trans ?_
  refine shapeCast_apply X _ _ _ ?_
  rw [Shape.rowMajor_val_three, Shape.rowMajor_val_six]
  show ((((b.val * 32 + n.val) * 128 + r.val) * 2 + H.val / 4) * 4 + H.val % 4) * 64 + d.val
    = (b.val * 4096 + (n.val * 128 + r.val)) * 512 + (64 * H.val + d.val)
  omega

/-- The reference's result at an element is the windowed attention of its query. -/
theorem result_apply (b : Fin 16) (n : Fin 32) (r : Fin 128) (H : Fin 8) (d : Fin 64) :
    result V0 (ix3 b ⟨n.val * 128 + r.val, by omega⟩ ⟨64 * H.val + d.val, by omega⟩)
      = windowed (fP V0) (fW V0) (fA V0) (fG V0) (fZ V0) b n r H d := by
  have hH : H.val = (⟨H.val / 4, by omega⟩ : Fin 2).val * 4 + (⟨H.val % 4, by omega⟩ : Fin 4).val := by dsimp only; omega
  unfold result combined
  refine (reshape_apply _ b n r H d).trans ?_
  refine (out_apply _ _ _ b n _ _ r d).trans ?_
  unfold windowed attend
  refine congrArg₂ (· + ·) (Finset.sum_congr rfl fun k _ => ?_) (Finset.sum_congr rfl fun j _ => ?_)
  · rw [joined_v, softmax_apply V0 b n _ _ r H hH]
    simp only [weight_apply V0 b n _ _ r H hH]
    refine congrArg₂ (· * ·) (congrArg (band (fP V0) b n k) (Fin.ext (by dsimp only; omega))) rfl
  · rw [softmax_apply V0 b n _ _ r H hH]
    simp only [weight_apply V0 b n _ _ r H hH]
    refine congrArg₂ (· * ·) ?_ rfl
    pointwise [res_main_v1]
    exact congrArg (fun i => W V0 (ix2 j i)) (Fin.ext (by dsimp only; omega))

end Cert.WsRef
end
-- ==== Proof.WsValue.lean ====
module

public import proofs.«01_k».proof.Proof.WsTables
public import proofs.«01_k».proof.Proof.WsRefResult

@[expose] public section

/-!
# The windowed attention's kernel computes the reference's result, at the sample's shapes

From equal and finite arguments. Where a position lies outside the sequence the kernel's bias is minus infinity,
so that its score is, and its weight zero, whatever the block read there.
-/

noncomputable section

namespace Cert.WsValue

open Idealize.ShloMosaic Idealize.ShloMosaic.TcCoe Idealize.SL.Sem Idealize.ShloMosaic.StableHlo
open scoped BigOperators
open Cert.WsKernelIdeal Cert.WsKernelIdeal.Gen Cert.WsKernelIdeal.Value Cert.WaMath Cert.WsSpec Cert.WsBlocks

/-! ## Scores -/

/-- Neither infinity. -/
def Finite (x : EReal) : Prop := x ≠ ⊤ ∧ x ≠ ⊥

theorem mul_ne_top {x y : EReal} (hx : Finite x) (hy : Finite y) : x * y ≠ ⊤ := by
  lift x to ℝ using hx
  lift y to ℝ using hy
  rw [← EReal.coe_mul]
  exact EReal.coe_ne_top _

theorem dot_ne_top {f g : Fin 64 → EReal} (hf : ∀ e, Finite (f e)) (hg : ∀ e, Finite (g e)) {a : EReal} (ha : Finite a) :
    (∑ e, f e * g e) + a ≠ ⊤ :=
  EReal.add_ne_top (sum_ne_top _ fun e => mul_ne_top (hf e) (hg e)) ha.1

section Score

variable (P : Fin 16 → Fin 4096 → Fin 5376 → EReal) (W : Fin 16 → Fin 5376 → EReal) (A : Fin 128 → Fin 384 → Fin 8 → EReal)
  (G : Fin 32 → Fin 128 → Fin 16 → Fin 8 → EReal)

theorem band_inside (b : Fin 16) (n : Fin 32) (k : Fin 384) (col : Fin 5376) (h : Inside n k) (i : Fin 4096)
    (hi : i.val = n.val * 128 + k.val - 128) : band P b n k col = P b i col := by
  unfold band
  rw [dif_pos h]
  exact congrArg (fun i => P b i col) (Fin.ext hi.symm)

theorem score_of (b : Fin 16) (n : Fin 32) (r : Fin 128) (H : Fin 8) (k : Fin 384) (i : Fin 4096)
    (hi : Inside n k → i.val = n.val * 128 + k.val - 128) :
    (∑ e : Fin 64, P b ⟨n.val * 128 + r.val, by omega⟩ ⟨2048 + (64 * H.val + e.val), by omega⟩
      * P b i ⟨5120 + (64 * (H.val / 4) + e.val), by omega⟩) + (if Near r k ∧ Inside n k then A r k H else ⊥)
    = score P A b n r H k := by
  unfold score
  by_cases h : Near r k ∧ Inside n k
  · rw [if_pos h, if_pos h]
    refine congrArg (· + A r k H) (Finset.sum_congr rfl fun e _ => ?_)
    rw [band_inside P b n k _ h.2 i (hi h.2)]
  · rw [if_neg h, if_neg h, EReal.add_bot]

variable (hP : ∀ b i col, Finite (P b i col)) (hW : ∀ j col, Finite (W j col)) (hA : ∀ r k H, Finite (A r k H))
  (hG : ∀ n r j H, Finite (G n r j H))

include hP in
theorem band_finite (b : Fin 16) (n : Fin 32) (k : Fin 384) (col : Fin 5376) : Finite (band P b n k col) := by
  unfold band
  split
  · exact hP _ _ _
  · exact ⟨EReal.zero_ne_top, EReal.zero_ne_bot⟩

include hP hA in
theorem score_ne_top (b : Fin 16) (n : Fin 32) (r : Fin 128) (H : Fin 8) (k : Fin 384) : score P A b n r H k ≠ ⊤ := by
  unfold score
  split
  · exact dot_ne_top (fun e => hP _ _ _) (fun e => band_finite P hP _ _ _ _) (hA _ _ _)
  · exact bot_ne_top

include hP hW hG in
theorem metaScore_ne_top (b : Fin 16) (n : Fin 32) (r : Fin 128) (H : Fin 8) (j : Fin 16) : metaScore P W G b n r H j ≠ ⊤ := by
  unfold metaScore
  exact dot_ne_top (fun e => hP _ _ _) (fun e => hW _ _) (hG _ _ _ _)

end Score

theorem pieced_congr {s0 s1 s2 v0 v1 v2 s0' s1' s2' v0' v1' v2' : Fin 128 → EReal} {b b' w w' : Fin 16 → EReal} {z z' : EReal}
    (h0 : ∀ j, s0 j = s0' j) (h1 : ∀ j, s1 j = s1' j) (h2 : ∀ j, s2 j = s2' j) (hb : ∀ j, b j = b' j) (hz : z = z')
    (g0 : ∀ j, v0 j = v0' j) (g1 : ∀ j, v1 j = v1' j) (g2 : ∀ j, v2 j = v2' j) (hw : ∀ j, w j = w' j) :
    pieced s0 s1 s2 b z v0 v1 v2 w = pieced s0' s1' s2' b' z' v0' v1' v2' w' := by
  obtain rfl := funext h0
  obtain rfl := funext h1
  obtain rfl := funext h2
  obtain rfl := funext hb
  obtain rfl := hz
  obtain rfl := funext g0
  obtain rfl := funext g1
  obtain rfl := funext g2
  obtain rfl := funext hw
  rfl

/-- The token the kernel reads at band position `k` of block `n`: the blocks before the first and after the last are
those themselves. -/
def token (n : Fin 32) (k : Fin 384) : Fin 4096 :=
  if h : k.val < 128 then ⟨(n.val - 1) * 128 + k.val, by omega⟩
  else if h' : k.val < 256 then ⟨n.val * 128 + (k.val - 128), by omega⟩
  else ⟨min (n.val + 1) 31 * 128 + (k.val - 256), by omega⟩

theorem token_first (n : Fin 32) (j : Fin 128) : token n ⟨128 * (0 : Fin 3).val + j.val, by simp; omega⟩ = ⟨(n.val - 1) * 128 + j.val, by omega⟩ := by
  unfold token
  apply Fin.ext
  simp

theorem token_middle (n : Fin 32) (j : Fin 128) : token n ⟨128 * (1 : Fin 3).val + j.val, by simp; omega⟩ = ⟨n.val * 128 + j.val, by omega⟩ := by
  unfold token
  apply Fin.ext
  have h : ¬ 128 * (1 : Fin 3).val + j.val < 128 := by simp
  have h' : 128 * (1 : Fin 3).val + j.val < 256 := by simp; omega
  rw [dif_neg h, dif_pos h']
  simp

theorem token_last (n : Fin 32) (j : Fin 128) : token n ⟨128 * (2 : Fin 3).val + j.val, by simp; omega⟩
    = ⟨min (n.val + 1) 31 * 128 + j.val, by omega⟩ := by
  unfold token
  apply Fin.ext
  have h : ¬ 128 * (2 : Fin 3).val + j.val < 128 := by simp; omega
  have h' : ¬ 128 * (2 : Fin 3).val + j.val < 256 := by simp
  rw [dif_neg h, dif_neg h']
  simp

theorem token_inside (n : Fin 32) (k : Fin 384) (h : Inside n k) : (token n k).val = n.val * 128 + k.val - 128 := by
  have h1 := h.1
  have h2 := h.2
  unfold token
  split
  · dsimp only; omega
  · split
    · dsimp only; omega
    · dsimp only; omega

variable (m : (ℓ : Loc nD τ sig) → Buf (Elt Ideal) ℓ)
variable (c : Dev nD)
variable (V0 : Valuation Cert.WsReferenceIdeal.τ Cert.WsReferenceIdeal.sig (Elt Ideal))
variable (hT : WsRef.T V0 = (m ((c : Thread nD τ).loc main_arg2) : Vec Ideal S32x8 .f32))

include hT in
/-- The bias table of a block: the position's bias within 128 of the query and inside the sequence. -/
theorem table (n : Fin 32) (H : Fin 8) (r : Fin 128) (k : Fin 384) :
    (V m c main_v63 : FVec Ideal S3x8x128x384 .f32) (ix4 (kind n.val) H r k)
      = if Near r k ∧ Inside n k then WsRef.bandBias V0 (ix3 r k H) else ⊥ := by
  have first := WsTables.table_first m c V0 hT H r k
  have middle := WsTables.table_middle m c V0 hT H r k
  have last := WsTables.table_last m c V0 hT H r k
  generalize (V m c main_v63 : FVec Ideal S3x8x128x384 .f32) = X at *
  generalize WsRef.bandBias V0 (ix3 r k H) = a at *
  by_cases h0 : n.val = 0
  · have e : kind n.val = 0 := by unfold kind; rw [if_pos h0]
    rw [e, first]
    exact if_congr (and_congr_right fun _ => by unfold Inside; omega) rfl rfl
  · by_cases h1 : n.val = 31
    · have e : kind n.val = 2 := by unfold kind; rw [if_neg h0, if_pos h1]
      rw [e, last]
      exact if_congr (and_congr_right fun _ => by unfold Inside; omega) rfl rfl
    · have e : kind n.val = 1 := by unfold kind; rw [if_neg h0, if_neg h1]
      rw [e, middle]
      exact if_congr ⟨fun h => ⟨h, by unfold Inside; omega⟩, And.left⟩ rfl rfl

variable (hP0 : WsRef.P V0 = proj m c) (hW0 : WsRef.W V0 = metaProj m c)
  (hK : WsRef.K V0 = (m ((c : Thread nD τ).loc main_arg3) : Vec Ideal S1x8 .f32))
variable (fin0 : ∀ i, Finite (WsRef.P V0 i)) (fin1 : ∀ i, Finite (WsRef.W V0 i)) (fin2 : ∀ i, Finite (WsRef.T V0 i))
  (fin3 : ∀ i, Finite (WsRef.K V0 i))

include fin2 in
theorem bandBias_finite (r : Fin 128) (k : Fin 384) (H : Fin 8) : Finite (WsRef.fA V0 r k H) := fin2 _

include fin2 in
theorem metaBias_finite (n : Fin 32) (r : Fin 128) (j : Fin 16) (H : Fin 8) : Finite (WsRef.fG V0 n r j H) := fin2 _

include hT hP0 hW0 hK fin0 fin1 fin2 fin3 in
/-- What a grid point leaves in its block, at an element: the windowed attention of its query. -/
theorem point (t : Fin cfg0.N) (ht : t.val < 512) (r : Fin 128) (H : Fin 8) (d : Fin 64) :
    (outsAt0 m c t : Vec Ideal S1x128x512 .bf16) (ix3 0 r ⟨64 * H.val + d.val, by omega⟩)
      = windowed (WsRef.fP V0) (WsRef.fW V0) (WsRef.fA V0) (WsRef.fG V0) (WsRef.fZ V0) ⟨t.val % 16, by omega⟩ ⟨t.val / 16, by omega⟩ r H d := by
  have hq : ∀ e : Fin 64, (X0_1 m c t : Vec Ideal S1x128x512 .bf16) (ix3 0 r ⟨64 * H.val + e.val, by omega⟩)
      = WsRef.fP V0 ⟨t.val % 16, by omega⟩ ⟨t.val / 16 * 128 + r.val, by omega⟩ ⟨2048 + (64 * H.val + e.val), by omega⟩ :=
    fun e => (block1 m c t ht r _).trans ((Vproj m c _).trans (congrFun hP0 _).symm)
  have hi : ∀ k, score (WsRef.fP V0) (WsRef.fA V0) ⟨t.val % 16, by omega⟩ ⟨t.val / 16, by omega⟩ r H k = ⊥
      ∨ WsRef.fP V0 ⟨t.val % 16, by omega⟩ (token ⟨t.val / 16, by omega⟩ k) ⟨5248 + (64 * (H.val / 4) + d.val), by omega⟩
        = band (WsRef.fP V0) ⟨t.val % 16, by omega⟩ ⟨t.val / 16, by omega⟩ k ⟨5248 + (64 * (H.val / 4) + d.val), by omega⟩ := by
    intro k
    by_cases h : Inside ⟨t.val / 16, by omega⟩ k
    · exact Or.inr (band_inside _ _ _ _ _ h _ (token_inside _ _ h)).symm
    · refine Or.inl ?_
      unfold score
      rw [if_neg fun h' => h h'.2]
  rw [outs_apply]
  unfold blockOut windowed
  dsimp only
  refine Eq.trans (pieced_congr (fun j => ?_) (fun j => ?_) (fun j => ?_) (fun j => ?_) ?_ (fun j => ?_) (fun j => ?_) (fun j => ?_) (fun j => ?_))
    (pieced_eq _ _ _ _ (fun k => WsRef.fP V0 ⟨t.val % 16, by omega⟩ (token ⟨t.val / 16, by omega⟩ k) ⟨5248 + (64 * (H.val / 4) + d.val), by omega⟩) _
      (score_ne_top _ _ (fun _ _ _ => fin0 _) (bandBias_finite V0 fin2) _ _ _ _)
      (metaScore_ne_top _ _ _ (fun _ _ _ => fin0 _) (fun _ _ => fin1 _) (metaBias_finite V0 fin2) _ _ _ _)
      (fin3 _).1 (fin3 _).2 hi)
  · refine Eq.trans ?_ (score_of (WsRef.fP V0) (WsRef.fA V0) ⟨t.val % 16, by omega⟩ ⟨t.val / 16, by omega⟩ r H ⟨128 * (0 : Fin 3).val + j.val, by simp; omega⟩
      (token ⟨t.val / 16, by omega⟩ _) (token_inside _ _))
    rw [token_first]
    refine congrArg₂ (· + ·) (Finset.sum_congr rfl fun e _ => congrArg₂ (· * ·) (hq e)
      ((block2 m c t ht j _).trans ((Vproj m c _).trans (congrFun hP0 _).symm))) ?_
    refine (congrArg (fun k => (iblk m c 10 t : Vec Ideal S1x8x128x384 .f32) (ix4 0 H r k)) (Fin.ext (by simp))).trans
      ((block10 m c t H r _).trans (table m c V0 hT ⟨t.val / 16, by omega⟩ H r _))
  · refine Eq.trans ?_ (score_of (WsRef.fP V0) (WsRef.fA V0) ⟨t.val % 16, by omega⟩ ⟨t.val / 16, by omega⟩ r H ⟨128 * (1 : Fin 3).val + j.val, by simp; omega⟩
      (token ⟨t.val / 16, by omega⟩ _) (token_inside _ _))
    rw [token_middle]
    refine congrArg₂ (· + ·) (Finset.sum_congr rfl fun e _ => congrArg₂ (· * ·) (hq e)
      ((block3 m c t ht j _).trans ((Vproj m c _).trans (congrFun hP0 _).symm))) ?_
    refine (congrArg (fun k => (iblk m c 10 t : Vec Ideal S1x8x128x384 .f32) (ix4 0 H r k)) (Fin.ext (by simp))).trans
      ((block10 m c t H r _).trans (table m c V0 hT ⟨t.val / 16, by omega⟩ H r _))
  · refine Eq.trans ?_ (score_of (WsRef.fP V0) (WsRef.fA V0) ⟨t.val % 16, by omega⟩ ⟨t.val / 16, by omega⟩ r H ⟨128 * (2 : Fin 3).val + j.val, by simp; omega⟩
      (token ⟨t.val / 16, by omega⟩ _) (token_inside _ _))
    rw [token_last]
    refine congrArg₂ (· + ·) (Finset.sum_congr rfl fun e _ => congrArg₂ (· * ·) (hq e)
      ((block4 m c t j _).trans ((Vproj m c _).trans (congrFun hP0 _).symm))) ?_
    refine (congrArg (fun k => (iblk m c 10 t : Vec Ideal S1x8x128x384 .f32) (ix4 0 H r k)) (Fin.ext (by simp))).trans
      ((block10 m c t H r _).trans (table m c V0 hT ⟨t.val / 16, by omega⟩ H r _))
  · unfold metaScore
    refine congrArg₂ (· + ·) (Finset.sum_congr rfl fun e _ => congrArg₂ (· * ·) (hq e)
      ((block8 m c t j _).trans ((VmetaProj m c _).trans (congrFun hW0 _).symm))) ?_
    exact (block11 m c t ht H r j).trans (WsTables.meta_table m c V0 hT _ H r j)
  · exact (block0 m c t H).trans ((Vsink m c H).trans (congrFun hK _).symm)
  · refine Eq.trans ?_ (show WsRef.fP V0 ⟨t.val % 16, by omega⟩ (token ⟨t.val / 16, by omega⟩ ⟨128 * (0 : Fin 3).val + j.val, by simp; omega⟩)
      ⟨5248 + (64 * (H.val / 4) + d.val), by omega⟩ = _ from rfl)
    rw [token_first]
    exact (block5 m c t ht j _).trans ((Vproj m c _).trans (congrFun hP0 _).symm)
  · refine Eq.trans ?_ (show WsRef.fP V0 ⟨t.val % 16, by omega⟩ (token ⟨t.val / 16, by omega⟩ ⟨128 * (1 : Fin 3).val + j.val, by simp; omega⟩)
      ⟨5248 + (64 * (H.val / 4) + d.val), by omega⟩ = _ from rfl)
    rw [token_middle]
    exact (block6 m c t ht j _).trans ((Vproj m c _).trans (congrFun hP0 _).symm)
  · refine Eq.trans ?_ (show WsRef.fP V0 ⟨t.val % 16, by omega⟩ (token ⟨t.val / 16, by omega⟩ ⟨128 * (2 : Fin 3).val + j.val, by simp; omega⟩)
      ⟨5248 + (64 * (H.val / 4) + d.val), by omega⟩ = _ from rfl)
    rw [token_last]
    exact (block7 m c t j _).trans ((Vproj m c _).trans (congrFun hP0 _).symm)
  · exact (block9 m c t j _).trans ((VmetaProj m c _).trans (congrFun hW0 _).symm)

include hT hP0 hW0 hK fin0 fin1 fin2 fin3 in
/-- The same, against the reference's result. -/
theorem point_result (t : Fin cfg0.N) (ht : t.val < 512) (r : Fin 128) (j : Fin 512) :
    (outsAt0 m c t : Vec Ideal S1x128x512 .bf16) (ix3 0 r j)
      = WsRef.result V0 (ix3 ⟨t.val % 16, by omega⟩ ⟨t.val / 16 * 128 + r.val, by omega⟩ j) := by
  obtain ⟨H, d, rfl⟩ : ∃ (H : Fin 8) (d : Fin 64), j = ⟨64 * H.val + d.val, by omega⟩ :=
    ⟨⟨j.val / 64, by omega⟩, ⟨j.val % 64, by omega⟩, Fin.ext (by dsimp only; omega)⟩
  exact (point m c V0 hT hP0 hW0 hK fin0 fin1 fin2 fin3 t ht r H d).trans
    (WsRef.result_apply V0 ⟨t.val % 16, by omega⟩ ⟨t.val / 16, by omega⟩ r H d).symm

include hT hP0 hW0 hK fin0 fin1 fin2 fin3 in
/-- After the run the kernel's output array is the reference's result. -/
theorem final : (dats m 0 c).arrAt 12 cfg0.N = WsRef.result V0 := by
  refine (dats m 0 c).arrAt_eq_of_covers 12 _ (by decide +kernel) fun t hf y => ?_
  have ht : t.val < 512 := t.isLt
  blk_simp
  rw [after0_12]
  idx_vars y
  obtain rfl : y0 = 0 := Subsingleton.elim _ _
  exact (point_result m c V0 hT hP0 hW0 hK fin0 fin1 fin2 fin3 t ht y1 y2).trans
    (congrArg (WsRef.result V0) (place12 t ht y1 y2).symm)

end Cert.WsValue
end
-- ==== Proof.WsClaim.lean ====
module

public import proofs.«01_k».proof.Defs
public import proofs.«01_k».proof.Proof.Gen.WsKernel.Frame
public import proofs.«01_k».proof.Proof.Gen.WsKernelIdeal.Value
public import proofs.«01_k».proof.Proof.Gen.WsReferenceIdeal.Run
public import proofs.«01_k».proof.Proof.WsValue
public import Idealize.ShloMosaic.Lib.Quiescent

@[expose] public section

/-!
# The claims about the windowed attention at the sample's shapes
-/

noncomputable section

namespace Cert.WsClaim

open Idealize.ShloMosaic Idealize.ShloMosaic.TcCoe Idealize.SL.Sem Idealize.ShloMosaic.StableHlo

/-- The side conditions of the precondition's program. -/
theorem facts_finite_sample : Cert.Pre_finite_sample.Facts where
  bitsLt_bf16_f32 := by decide
  bcast_S_S16x4096x5376 := by decide
  bcast_S_S16x5376 := by decide
  bcast_S_S32x8 := by decide
  bcast_S_S1x8 := by decide

instance : Cert.Pre_finite_sample.Facts := facts_finite_sample

/-- The windowed attention's kernel runs to its end and leaves its arguments as they were. -/
theorem frame_kernel : Cert.quiescent_WsKernel := fun m g _ => Cert.WsKernel.Gen.frame m g

/-- So does its idealization. -/
theorem frame_ideal : Cert.quiescent_WsKernelIdeal := fun m g _ => Cert.WsKernelIdeal.Gen.frame m g

/-- So does its idealization, from finite arguments. -/
theorem frame_ideal_finite_sample : Cert.quiescent_WsKernelIdeal_pre_finite_sample := fun m g _ => Cert.WsKernelIdeal.Gen.frame m g

/-- So does the reference. -/
theorem frame_reference : Cert.quiescent_WsReferenceIdeal := fun m g _ =>
  (θ_run Cert.WsReferenceIdeal.defs _ _).mono (fun r h => ⟨fun c => (h c).2, sem_eq_zero_of_no_sems (by decide) r.2⟩)
    (Cert.WsReferenceIdeal.Value.run (F := Ideal) m g)

/-- So does the reference, from finite arguments. -/
theorem frame_reference_finite_sample : Cert.quiescent_WsReferenceIdeal_pre_finite_sample := fun m g _ => frame_reference m g trivial

/-- A number whose absolute value is below infinity is neither infinity. -/
theorem finite_of {x : EReal} (h : Ideal.cmp .olt (max x (-x)) (Ideal.ofBits FTy.f32 0x7F800000#32) = 1#1) : WsValue.Finite x := by
  have e : Ideal.ofBits FTy.f32 0x7F800000#32 = ⊤ := by simp [Ideal.ofBits, Ideal.ieee]
  rw [e] at h
  constructor
  · rintro rfl
    simp [Ideal.cmp] at h
  · rintro rfl
    simp [Ideal.cmp] at h

/-- From equal and finite arguments the kernel's output array is the reference's result. -/
theorem final (m : (ℓ : Loc Cert.WsKernelIdeal.nD Cert.WsKernelIdeal.τ Cert.WsKernelIdeal.sig) → Buf (Elt Ideal) ℓ)
    (m' : (ℓ : Loc Cert.WsReferenceIdeal.nD Cert.WsReferenceIdeal.τ Cert.WsReferenceIdeal.sig) → Buf (Elt Ideal) ℓ)
    (hpre : Cert.Pre_WsKernelIdeal_finite_sample m)
    (c : Dev Cert.WsKernelIdeal.nD)
    (h0 : m' ((c.tc : Thread Cert.WsReferenceIdeal.nD Cert.WsReferenceIdeal.τ).loc Cert.WsReferenceIdeal.main_arg0)
      = m ((c.tc : Thread Cert.WsKernelIdeal.nD Cert.WsKernelIdeal.τ).loc Cert.WsKernelIdeal.main_arg0))
    (h1 : m' ((c.tc : Thread Cert.WsReferenceIdeal.nD Cert.WsReferenceIdeal.τ).loc Cert.WsReferenceIdeal.main_arg1)
      = m ((c.tc : Thread Cert.WsKernelIdeal.nD Cert.WsKernelIdeal.τ).loc Cert.WsKernelIdeal.main_arg1))
    (h2 : m' ((c.tc : Thread Cert.WsReferenceIdeal.nD Cert.WsReferenceIdeal.τ).loc Cert.WsReferenceIdeal.main_arg2)
      = m ((c.tc : Thread Cert.WsKernelIdeal.nD Cert.WsKernelIdeal.τ).loc Cert.WsKernelIdeal.main_arg2))
    (h3 : m' ((c.tc : Thread Cert.WsReferenceIdeal.nD Cert.WsReferenceIdeal.τ).loc Cert.WsReferenceIdeal.main_arg3)
      = m ((c.tc : Thread Cert.WsKernelIdeal.nD Cert.WsKernelIdeal.τ).loc Cert.WsKernelIdeal.main_arg3)) :
    (Cert.WsKernelIdeal.Gen.dats m 0 c).arrAt 12 Cert.WsKernelIdeal.cfg0.N = WsRef.result (launchContents m' c) :=
  WsValue.final m c (launchContents m' c) h2 h0 h1 h3
    (fun i => (congrArg WsValue.Finite (congrFun h0 i)).mpr (finite_of (congrFun (hpre c).1 i)))
    (fun i => (congrArg WsValue.Finite (congrFun h1 i)).mpr (finite_of (congrFun (hpre c).2.1 i)))
    (fun i => (congrArg WsValue.Finite (congrFun h2 i)).mpr (finite_of (congrFun (hpre c).2.2.1 i)))
    (fun i => (congrArg WsValue.Finite (congrFun h3 i)).mpr (finite_of (congrFun (hpre c).2.2.2 i)))

/-- Over the extended reals, from finite arguments, the kernel's result is the reference's. -/
theorem algebraic : Cert.algebraic_WsKernelIdeal_WsReferenceIdeal_pre_finite_sample := fun m g m' g' hpre h =>
  ⟨fun c => WsRef.result (launchContents m' c),
    (θ_run Cert.WsKernelIdeal.defs _ _).mono
      (fun r hr c => ⟨(hr c).1.trans (final m m' hpre c (h c).1 (h c).2.1 (h c).2.2.1 (h c).2.2.2), (hr c).2⟩)
      (Cert.WsKernelIdeal.Value.run_blocks (F := Ideal) m g),
    (θ_run Cert.WsReferenceIdeal.defs _ _).mono
      (fun r hr c => ⟨(hr c).1, (hr c).2⟩)
      (Cert.WsReferenceIdeal.Value.run (F := Ideal) m' g')⟩

end Cert.WsClaim
end
-- ==== Proof.lean ====
/- The claims about the calls taken from the layer, together: each call's claims are proved in its own module
   (Proof/NpClaim.lean the norm and the input projections, Proof/MxClaim.lean the gates, the output projections, the
   residual and the final norm, Proof/WaClaim.lean the windowed attention, each at the prompt's shapes;
   Proof/NsClaim.lean, Proof/MsClaim.lean and Proof/WsClaim.lean the same at the sample's shapes). -/
module

public import proofs.«01_k».proof.Defs
public import proofs.«01_k».proof.Proof.NpClaim
public import proofs.«01_k».proof.Proof.MxClaim
public import proofs.«01_k».proof.Proof.WaClaim
public import proofs.«01_k».proof.Proof.NsClaim
public import proofs.«01_k».proof.Proof.MsClaim
public import proofs.«01_k».proof.Proof.WsClaim

@[expose] public section

noncomputable section

namespace Cert.Proof

/-- Every claim stated. -/
theorem claim : Cert.Claim := ⟨Cert.NpKernel.Gen.facts, Cert.NpKernelIdeal.Gen.facts, Cert.NpReferenceIdeal.Gen.facts,
  Cert.MxKernel.Gen.facts, Cert.MxKernelIdeal.Gen.facts, Cert.MxReferenceIdeal.Gen.facts,
  Cert.WaKernel.Gen.facts, Cert.WaKernelIdeal.Gen.facts, Cert.WaReferenceIdeal.Gen.facts,
  Cert.NsKernel.Gen.facts, Cert.NsKernelIdeal.Gen.facts, Cert.NsReferenceIdeal.Gen.facts,
  Cert.MsKernel.Gen.facts, Cert.MsKernelIdeal.Gen.facts, Cert.MsReferenceIdeal.Gen.facts,
  Cert.WsKernel.Gen.facts, Cert.WsKernelIdeal.Gen.facts, Cert.WsReferenceIdeal.Gen.facts,
  WaClaim.facts_finite, WsClaim.facts_finite_sample,
  NpClaim.frame_kernel, NpClaim.frame_ideal, NpClaim.frame_reference,
  MxClaim.frame_kernel, MxClaim.frame_ideal, MxClaim.frame_reference,
  WaClaim.frame_kernel, WaClaim.frame_ideal, WaClaim.frame_ideal_finite, WaClaim.frame_reference, WaClaim.frame_reference_finite,
  NsClaim.frame_kernel, NsClaim.frame_ideal, NsClaim.frame_reference,
  MsClaim.frame_kernel, MsClaim.frame_ideal, MsClaim.frame_reference,
  WsClaim.frame_kernel, WsClaim.frame_ideal, WsClaim.frame_ideal_finite_sample, WsClaim.frame_reference,
  WsClaim.frame_reference_finite_sample,
  trivial, NpClaim.algebraic, trivial, MxClaim.algebraic, trivial, WaClaim.algebraic,
  trivial, NsClaim.algebraic, trivial, MsClaim.algebraic, trivial, WsClaim.algebraic⟩

end Cert.Proof

end
